-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelKV (m : (ℓ : Loc Cert.KernelKV.nD Cert.KernelKV.τ Cert.KernelKV.sig) → Buf (Elt Bits) ℓ) : Prop :=
  True

def Pre_KernelKVIdeal (m : (ℓ : Loc Cert.KernelKVIdeal.nD Cert.KernelKVIdeal.τ Cert.KernelKVIdeal.sig) → Buf (Elt Ideal) ℓ) : Prop :=
  True

def Pre_KernelKVIdeal_tame_kv [hPre_tame_kv : Cert.Pre_tame_kv.Facts] (m : (ℓ : Loc Cert.KernelKVIdeal.nD Cert.KernelKVIdeal.τ Cert.KernelKVIdeal.sig) → Buf (Elt Ideal) ℓ) : Prop :=
  ∀ c : Dev Cert.KernelKVIdeal.nD,
    (Cert.Pre_tame_kv.fn (F := Ideal) (m ((c.tc : Thread Cert.KernelKVIdeal.nD Cert.KernelKVIdeal.τ).loc Cert.KernelKVIdeal.main_arg0)) (m ((c.tc : Thread Cert.KernelKVIdeal.nD Cert.KernelKVIdeal.τ).loc Cert.KernelKVIdeal.main_arg1))) = (fun _ => 1#1)

def Pre_ReferenceKVIdeal (m : (ℓ : Loc Cert.ReferenceKVIdeal.nD Cert.ReferenceKVIdeal.τ Cert.ReferenceKVIdeal.sig) → Buf (Elt Ideal) ℓ) : Prop :=
  True

def Pre_ReferenceKVIdeal_tame_kv [hPre_tame_kv : Cert.Pre_tame_kv.Facts] (m : (ℓ : Loc Cert.ReferenceKVIdeal.nD Cert.ReferenceKVIdeal.τ Cert.ReferenceKVIdeal.sig) → Buf (Elt Ideal) ℓ) : Prop :=
  ∀ c : Dev Cert.ReferenceKVIdeal.nD,
    (Cert.Pre_tame_kv.fn (F := Ideal) (m ((c.tc : Thread Cert.ReferenceKVIdeal.nD Cert.ReferenceKVIdeal.τ).loc Cert.ReferenceKVIdeal.main_arg0)) (m ((c.tc : Thread Cert.ReferenceKVIdeal.nD Cert.ReferenceKVIdeal.τ).loc Cert.ReferenceKVIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0))
      ∧ r.2.sem = fun _ => 0)

def quiescent_KernelKV [hKernelKV : Cert.KernelKV.Facts] : Prop :=
  ∀ (m : (ℓ : Loc Cert.KernelKV.nD Cert.KernelKV.τ Cert.KernelKV.sig) → Buf (Elt Bits) ℓ) (g : Dev Cert.KernelKV.nD → PrngReg), Pre_KernelKV m →
    θ_run (Cert.KernelKV.defs (F := Bits)) (onTc (τ := Cert.KernelKV.τ) (Cert.KernelKV.main (F := Bits))) ⟨m, fun _ => 0, g⟩ (fun r => (∀ c : Dev Cert.KernelKV.nD,
      r.2.mem ((c.tc : Thread Cert.KernelKV.nD Cert.KernelKV.τ).loc Cert.KernelKV.main_arg0) = m ((c.tc : Thread Cert.KernelKV.nD Cert.KernelKV.τ).loc Cert.KernelKV.main_arg0)
      ∧ r.2.mem ((c.tc : Thread Cert.KernelKV.nD Cert.KernelKV.τ).loc Cert.KernelKV.main_arg1) = m ((c.tc : Thread Cert.KernelKV.nD Cert.KernelKV.τ).loc Cert.KernelKV.main_arg1))
      ∧ r.2.sem = fun _ => 0)

def quiescent_KernelKVIdeal [hKernelKVIdeal : Cert.KernelKVIdeal.Facts] : Prop :=
  ∀ (m : (ℓ : Loc Cert.KernelKVIdeal.nD Cert.KernelKVIdeal.τ Cert.KernelKVIdeal.sig) → Buf (Elt Ideal) ℓ) (g : Dev Cert.KernelKVIdeal.nD → PrngReg), Pre_KernelKVIdeal m →
    θ_run (Cert.KernelKVIdeal.defs (F := Ideal)) (onTc (τ := Cert.KernelKVIdeal.τ) (Cert.KernelKVIdeal.main (F := Ideal))) ⟨m, fun _ => 0, g⟩ (fun r => (∀ c : Dev Cert.KernelKVIdeal.nD,
      r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
      ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1))
      ∧ r.2.sem = fun _ => 0)

def quiescent_KernelKVIdeal_pre_tame_kv [hKernelKVIdeal : Cert.KernelKVIdeal.Facts] [hPre_tame_kv : Cert.Pre_tame_kv.Facts] : Prop :=
  ∀ (m : (ℓ : Loc Cert.KernelKVIdeal.nD Cert.KernelKVIdeal.τ Cert.KernelKVIdeal.sig) → Buf (Elt Ideal) ℓ) (g : Dev Cert.KernelKVIdeal.nD → PrngReg), Pre_KernelKVIdeal_tame_kv m →
    θ_run (Cert.KernelKVIdeal.defs (F := Ideal)) (onTc (τ := Cert.KernelKVIdeal.τ) (Cert.KernelKVIdeal.main (F := Ideal))) ⟨m, fun _ => 0, g⟩ (fun r => (∀ c : Dev Cert.KernelKVIdeal.nD,
      r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
      ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1))
      ∧ r.2.sem = fun _ => 0)

def quiescent_ReferenceKVIdeal [hReferenceKVIdeal : Cert.ReferenceKVIdeal.Facts] : Prop :=
  ∀ (m : (ℓ : Loc Cert.ReferenceKVIdeal.nD Cert.ReferenceKVIdeal.τ Cert.ReferenceKVIdeal.sig) → Buf (Elt Ideal) ℓ) (g : Dev Cert.ReferenceKVIdeal.nD → PrngReg), Pre_ReferenceKVIdeal m →
    θ_run (Cert.ReferenceKVIdeal.defs (F := Ideal)) (onTc (τ := Cert.ReferenceKVIdeal.τ) (Cert.ReferenceKVIdeal.main (F := Ideal))) ⟨m, fun _ => 0, g⟩ (fun r => (∀ c : Dev Cert.ReferenceKVIdeal.nD,
      r.2.mem ((c.tc : Thread Cert.ReferenceKVIdeal.nD Cert.ReferenceKVIdeal.τ).loc Cert.ReferenceKVIdeal.main_arg0) = m ((c.tc : Thread Cert.ReferenceKVIdeal.nD Cert.ReferenceKVIdeal.τ).loc Cert.ReferenceKVIdeal.main_arg0)
      ∧ r.2.mem ((c.tc : Thread Cert.ReferenceKVIdeal.nD Cert.ReferenceKVIdeal.τ).loc Cert.ReferenceKVIdeal.main_arg1) = m ((c.tc : Thread Cert.ReferenceKVIdeal.nD Cert.ReferenceKVIdeal.τ).loc Cert.ReferenceKVIdeal.main_arg1))
      ∧ r.2.sem = fun _ => 0)

def quiescent_ReferenceKVIdeal_pre_tame_kv [hReferenceKVIdeal : Cert.ReferenceKVIdeal.Facts] [hPre_tame_kv : Cert.Pre_tame_kv.Facts] : Prop :=
  ∀ (m : (ℓ : Loc Cert.ReferenceKVIdeal.nD Cert.ReferenceKVIdeal.τ Cert.ReferenceKVIdeal.sig) → Buf (Elt Ideal) ℓ) (g : Dev Cert.ReferenceKVIdeal.nD → PrngReg), Pre_ReferenceKVIdeal_tame_kv m →
    θ_run (Cert.ReferenceKVIdeal.defs (F := Ideal)) (onTc (τ := Cert.ReferenceKVIdeal.τ) (Cert.ReferenceKVIdeal.main (F := Ideal))) ⟨m, fun _ => 0, g⟩ (fun r => (∀ c : Dev Cert.ReferenceKVIdeal.nD,
      r.2.mem ((c.tc : Thread Cert.ReferenceKVIdeal.nD Cert.ReferenceKVIdeal.τ).loc Cert.ReferenceKVIdeal.main_arg0) = m ((c.tc : Thread Cert.ReferenceKVIdeal.nD Cert.ReferenceKVIdeal.τ).loc Cert.ReferenceKVIdeal.main_arg0)
      ∧ r.2.mem ((c.tc : Thread Cert.ReferenceKVIdeal.nD Cert.ReferenceKVIdeal.τ).loc Cert.ReferenceKVIdeal.main_arg1) = m ((c.tc : Thread Cert.ReferenceKVIdeal.nD Cert.ReferenceKVIdeal.τ).loc Cert.ReferenceKVIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)) →
    ∃ (v0 : (c : Dev Cert.KernelQIdeal.nD) → Buf (Elt Ideal) ((c.tc : Thread Cert.KernelQIdeal.nD Cert.KernelQIdeal.τ).loc Cert.KernelQIdeal.main_v0_0)) (v1 : (c : Dev Cert.KernelQIdeal.nD) → Buf (Elt Ideal) ((c.tc : Thread Cert.KernelQIdeal.nD Cert.KernelQIdeal.τ).loc Cert.KernelQIdeal.main_v0_1)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v0_0) = v0 c
          ∧ r.2.mem ((c.tc : Thread Cert.KernelQIdeal.nD Cert.KernelQIdeal.τ).loc Cert.KernelQIdeal.main_v0_1) = v1 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v16) = v0 c
          ∧ r.2.mem ((c.tc : Thread Cert.ReferenceQIdeal.nD Cert.ReferenceQIdeal.τ).loc Cert.ReferenceQIdeal.main_v11) = v1 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0))

def preserves_KernelKV_KernelKVIdeal : Prop :=
  True

def algebraic_KernelKVIdeal_ReferenceKVIdeal_pre_tame_kv [hKernelKVIdeal : Cert.KernelKVIdeal.Facts] [hReferenceKVIdeal : Cert.ReferenceKVIdeal.Facts] [hPre_tame_kv : Cert.Pre_tame_kv.Facts] : Prop :=
  ∀ (m : (ℓ : Loc Cert.KernelKVIdeal.nD Cert.KernelKVIdeal.τ Cert.KernelKVIdeal.sig) → Buf (Elt Ideal) ℓ) (g : Dev Cert.KernelKVIdeal.nD → PrngReg)
    (m' : (ℓ : Loc Cert.ReferenceKVIdeal.nD Cert.ReferenceKVIdeal.τ Cert.ReferenceKVIdeal.sig) → Buf (Elt Ideal) ℓ) (g' : Dev Cert.ReferenceKVIdeal.nD → PrngReg), Pre_KernelKVIdeal_tame_kv m →
    (∀ c : Dev Cert.KernelKVIdeal.nD,
      m' ((c.tc : Thread Cert.ReferenceKVIdeal.nD Cert.ReferenceKVIdeal.τ).loc Cert.ReferenceKVIdeal.main_arg0) = m ((c.tc : Thread Cert.KernelKVIdeal.nD Cert.KernelKVIdeal.τ).loc Cert.KernelKVIdeal.main_arg0)
      ∧ m' ((c.tc : Thread Cert.ReferenceKVIdeal.nD Cert.ReferenceKVIdeal.τ).loc Cert.ReferenceKVIdeal.main_arg1) = m ((c.tc : Thread Cert.KernelKVIdeal.nD Cert.KernelKVIdeal.τ).loc Cert.KernelKVIdeal.main_arg1)) →
    ∃ (v0 : (c : Dev Cert.KernelKVIdeal.nD) → Buf (Elt Ideal) ((c.tc : Thread Cert.KernelKVIdeal.nD Cert.KernelKVIdeal.τ).loc Cert.KernelKVIdeal.main_v0_0)) (v1 : (c : Dev Cert.KernelKVIdeal.nD) → Buf (Elt Ideal) ((c.tc : Thread Cert.KernelKVIdeal.nD Cert.KernelKVIdeal.τ).loc Cert.KernelKVIdeal.main_v0_1)) (v2 : (c : Dev Cert.KernelKVIdeal.nD) → Buf (Elt Ideal) ((c.tc : Thread Cert.KernelKVIdeal.nD Cert.KernelKVIdeal.τ).loc Cert.KernelKVIdeal.main_v0_2)) (v3 : (c : Dev Cert.KernelKVIdeal.nD) → Buf (Elt Ideal) ((c.tc : Thread Cert.KernelKVIdeal.nD Cert.KernelKVIdeal.τ).loc Cert.KernelKVIdeal.main_v0_3)) (v4 : (c : Dev Cert.KernelKVIdeal.nD) → Buf (Elt Ideal) ((c.tc : Thread Cert.KernelKVIdeal.nD Cert.KernelKVIdeal.τ).loc Cert.KernelKVIdeal.main_v0_4)),
      θ_run (Cert.KernelKVIdeal.defs (F := Ideal)) (onTc (τ := Cert.KernelKVIdeal.τ) (Cert.KernelKVIdeal.main (F := Ideal))) ⟨m, fun _ => 0, g⟩ (fun r => ∀ c : Dev Cert.KernelKVIdeal.nD,
          r.2.mem ((c.tc : Thread Cert.KernelKVIdeal.nD Cert.KernelKVIdeal.τ).loc Cert.KernelKVIdeal.main_v0_0) = v0 c
          ∧ r.2.mem ((c.tc : Thread Cert.KernelKVIdeal.nD Cert.KernelKVIdeal.τ).loc Cert.KernelKVIdeal.main_v0_1) = v1 c
          ∧ r.2.mem ((c.tc : Thread Cert.KernelKVIdeal.nD Cert.KernelKVIdeal.τ).loc Cert.KernelKVIdeal.main_v0_2) = v2 c
          ∧ r.2.mem ((c.tc : Thread Cert.KernelKVIdeal.nD Cert.KernelKVIdeal.τ).loc Cert.KernelKVIdeal.main_v0_3) = v3 c
          ∧ r.2.mem ((c.tc : Thread Cert.KernelKVIdeal.nD Cert.KernelKVIdeal.τ).loc Cert.KernelKVIdeal.main_v0_4) = v4 c
          ∧ r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
          ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1))
      ∧ θ_run (Cert.ReferenceKVIdeal.defs (F := Ideal)) (onTc (τ := Cert.ReferenceKVIdeal.τ) (Cert.ReferenceKVIdeal.main (F := Ideal))) ⟨m', fun _ => 0, g'⟩ (fun r => ∀ c : Dev Cert.ReferenceKVIdeal.nD,
          r.2.mem ((c.tc : Thread Cert.ReferenceKVIdeal.nD Cert.ReferenceKVIdeal.τ).loc Cert.ReferenceKVIdeal.main_v49_0) = v0 c
          ∧ r.2.mem ((c.tc : Thread Cert.ReferenceKVIdeal.nD Cert.ReferenceKVIdeal.τ).loc Cert.ReferenceKVIdeal.main_v37) = v1 c
          ∧ r.2.mem ((c.tc : Thread Cert.ReferenceKVIdeal.nD Cert.ReferenceKVIdeal.τ).loc Cert.ReferenceKVIdeal.main_v49_1) = v2 c
          ∧ r.2.mem ((c.tc : Thread Cert.ReferenceKVIdeal.nD Cert.ReferenceKVIdeal.τ).loc Cert.ReferenceKVIdeal.main_v36) = v3 c
          ∧ r.2.mem ((c.tc : Thread Cert.ReferenceKVIdeal.nD Cert.ReferenceKVIdeal.τ).loc Cert.ReferenceKVIdeal.main_v49_2) = v4 c
          ∧ r.2.mem ((c.tc : Thread Cert.ReferenceKVIdeal.nD Cert.ReferenceKVIdeal.τ).loc Cert.ReferenceKVIdeal.main_arg0) = m' ((c.tc : Thread Cert.ReferenceKVIdeal.nD Cert.ReferenceKVIdeal.τ).loc Cert.ReferenceKVIdeal.main_arg0)
          ∧ r.2.mem ((c.tc : Thread Cert.ReferenceKVIdeal.nD Cert.ReferenceKVIdeal.τ).loc Cert.ReferenceKVIdeal.main_arg1) = m' ((c.tc : Thread Cert.ReferenceKVIdeal.nD Cert.ReferenceKVIdeal.τ).loc Cert.ReferenceKVIdeal.main_arg1))

def Claim : Prop :=
  ∃ (hKernel : Cert.Kernel.Facts) (hKernelIdeal : Cert.KernelIdeal.Facts) (hReferenceIdeal : Cert.ReferenceIdeal.Facts) (hKernelQ : Cert.KernelQ.Facts) (hKernelQIdeal : Cert.KernelQIdeal.Facts) (hReferenceQIdeal : Cert.ReferenceQIdeal.Facts) (hKernelKV : Cert.KernelKV.Facts) (hKernelKVIdeal : Cert.KernelKVIdeal.Facts) (hReferenceKVIdeal : Cert.ReferenceKVIdeal.Facts) (hPre_tame : Cert.Pre_tame.Facts) (hPre_tame_kv : Cert.Pre_tame_kv.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelKV (hKernelKV := hKernelKV)
    ∧ quiescent_KernelKVIdeal (hKernelKVIdeal := hKernelKVIdeal)
    ∧ quiescent_KernelKVIdeal_pre_tame_kv (hKernelKVIdeal := hKernelKVIdeal) (hPre_tame_kv := hPre_tame_kv)
    ∧ quiescent_ReferenceKVIdeal (hReferenceKVIdeal := hReferenceKVIdeal)
    ∧ quiescent_ReferenceKVIdeal_pre_tame_kv (hReferenceKVIdeal := hReferenceKVIdeal) (hPre_tame_kv := hPre_tame_kv)
    ∧ preserves_Kernel_KernelIdeal
    ∧ algebraic_KernelIdeal_ReferenceIdeal_pre_tame (hKernelIdeal := hKernelIdeal) (hReferenceIdeal := hReferenceIdeal) (hPre_tame := hPre_tame)
    ∧ preserves_KernelQ_KernelQIdeal
    ∧ algebraic_KernelQIdeal_ReferenceQIdeal (hKernelQIdeal := hKernelQIdeal) (hReferenceQIdeal := hReferenceQIdeal)
    ∧ preserves_KernelKV_KernelKVIdeal
    ∧ algebraic_KernelKVIdeal_ReferenceKVIdeal_pre_tame_kv (hKernelKVIdeal := hKernelKVIdeal) (hReferenceKVIdeal := hReferenceKVIdeal) (hPre_tame_kv := hPre_tame_kv)
-- ==== Pre_tame.lean ====
abbrev S8x4096x1024 : Shape := ⟨3, ![8, 4096, 1024]⟩
abbrev S8x8x4096 : Shape := ⟨3, ![8, 8, 4096]⟩
abbrev S8x4096x256 : Shape := ⟨3, ![8, 4096, 256]⟩
abbrev S8x2x4096 : Shape := ⟨3, ![8, 2, 4096]⟩
abbrev S8x2x128x4096 : Shape := ⟨4, ![8, 2, 128, 4096]⟩
abbrev S8x2x128 : Shape := ⟨3, ![8, 2, 128]⟩
abbrev S8x2x4x4096 : Shape := ⟨4, ![8, 2, 4, 4096]⟩
abbrev S8x2x1x4096 : Shape := ⟨4, ![8, 2, 1, 4096]⟩
abbrev S_ : Shape := ⟨0, ![]⟩

class Facts : Prop where
  shapeCasts_S8x8x4096_S8x2x4x4096 : S8x8x4096.ShapeCasts S8x2x4x4096
  bcast_S8x2x4096_S8x2x1x4096_0_1_3 : S8x2x4096.BroadcastsInDim S8x2x1x4096 (![0, 1, 3] : Fin 3 → Fin S8x2x1x4096.rank)
  bcast_S_S8x2x4x4096 : S_.BroadcastsInDim S8x2x4x4096 (![] : Fin 0 → Fin S8x2x4x4096.rank)
  bcast_S_S8x2x1x4096 : S_.BroadcastsInDim S8x2x1x4096 (![] : Fin 0 → Fin S8x2x1x4096.rank)
  bcast_S8x2x1x4096_S8x2x4x4096_0_1_2_3 : S8x2x1x4096.BroadcastsInDim S8x2x4x4096 (![0, 1, 2, 3] : Fin 4 → Fin S8x2x4x4096.rank)

variable [Facts]

def fn {F : FTy → Type} [FloatOps F] (main_arg0 : IVec S8x4096x1024 8) (main_arg1 : FVec F S8x8x4096 .f32) (main_arg2 : IVec S8x4096x256 8) (main_arg3 : FVec F S8x2x4096 .f32) (main_arg4 : FVec F S8x2x128x4096 .fp8e4m3) (main_arg5 : FVec F S8x2x128 .f32) : IVec S8x2x4x4096 1 :=
  let main_v0 : FVec F S8x2x4x4096 .f32 := shapeCast S8x2x4x4096 main_arg1 shapeCasts_S8x8x4096_S8x2x4x4096
  let main_v1 : FVec F S8x2x1x4096 .f32 := broadcastInDim S8x2x1x4096 ![0, 1, 3] bcast_S8x2x4096_S8x2x1x4096_0_1_3 main_arg3
  let main_cst : FVec F S_ .f32 := constant S_ .f32 0x00000000#32
  let main_v2 : FVec F S8x2x4x4096 .f32 := broadcastInDim S8x2x4x4096 ![] bcast_S_S8x2x4x4096 main_cst
  let main_v3 : IVec S8x2x4x4096 1 := cmpf .ogt main_v0 main_v2
  let main_cst_0 : FVec F S_ .f32 := constant S_ .f32 0x7F800000#32
  let main_v4 : FVec F S8x2x4x4096 .f32 := broadcastInDim S8x2x4x4096 ![] bcast_S_S8x2x4x4096 main_cst_0
  let main_v5 : IVec S8x2x4x4096 1 := cmpf .olt main_v0 main_v4
  let main_v6 : IVec S8x2x4x4096 1 := andi main_v3 main_v5
  let main_cst_1 : FVec F S_ .f32 := constant S_ .f32 0xFF800000#32
  let main_v7 : FVec F S8x2x1x4096 .f32 := broadcastInDim S8x2x1x4096 ![] bcast_S_S8x2x1x4096 main_cst_1
  let main_v8 : IVec S8x2x1x4096 1 := cmpf .ogt main_v1 main_v7
  let main_v9 : IVec S8x2x4x4096 1 := broadcastInDim S8x2x4x4096 ![0, 1, 2, 3] bcast_S8x2x1x4096_S8x2x4x4096_0_1_2_3 main_v8
  let main_v10 : IVec S8x2x4x4096 1 := andi main_v6 main_v9
  let main_cst_2 : FVec F S_ .f32 := constant S_ .f32 0x7F800000#32
  let main_v11 : FVec F S8x2x1x4096 .f32 := broadcastInDim S8x2x1x4096 ![] bcast_S_S8x2x1x4096 main_cst_2
  let main_v12 : IVec S8x2x1x4096 1 := cmpf .olt main_v1 main_v11
  let main_v13 : IVec S8x2x4x4096 1 := broadcastInDim S8x2x4x4096 ![0, 1, 2, 3] bcast_S8x2x1x4096_S8x2x4x4096_0_1_2_3 main_v12
  let main_v14 : IVec S8x2x4x4096 1 := andi main_v10 main_v13
  main_v14
-- ==== Pre_tame_kv.lean ====
abbrev S8x4096x256 : Shape := ⟨3, ![8, 4096, 256]⟩
abbrev S_ : Shape := ⟨0, ![]⟩
abbrev S8x256 : Shape := ⟨2, ![8, 256]⟩

class Facts : Prop where
  bitsLt_bf16_f32 : FTy.bits .bf16 < FTy.bits .f32
  reducesTo_S8x4096x256_S8x256_d1 : S8x4096x256.ReducesTo [1] S8x256
  h_S_ : 0 < S_.numel
  bcast_S_S8x256 : S_.BroadcastsInDim S8x256 (![] : Fin 0 → Fin S8x256.rank)

variable [Facts]

def fn {F : FTy → Type} [FloatOps F] (main_arg0 : FVec F S8x4096x256 .bf16) (main_arg1 : FVec F S8x4096x256 .bf16) : IVec S8x256 1 :=
  let main_v0 : FVec F S8x4096x256 .f32 := (extf .f32 · bitsLt_bf16_f32) main_arg1
  let main_v1 : FVec F S8x4096x256 .f32 := Host.absf main_v0
  let main_cst : FVec F S_ .f32 := constant S_ .f32 0xFF800000#32
  let main_v2 : FVec F S8x256 .f32 := (fun x v => Host.reduce FloatOps.maximumf x v reducesTo_S8x4096x256_S8x256_d1 h_S_) main_v1 main_cst
  let main_cst_0 : FVec F S_ .f32 := constant S_ .f32 0x00000000#32
  let main_v3 : FVec F S8x256 .f32 := broadcastInDim S8x256 ![] bcast_S_S8x256 main_cst_0
  let main_v4 : IVec S8x256 1 := cmpf .oeq main_v2 main_v3
  let main_cst_1 : FVec F S_ .f32 := constant S_ .f32 0x05000000#32
  let main_v5 : FVec F S8x256 .f32 := broadcastInDim S8x256 ![] bcast_S_S8x256 main_cst_1
  let main_v6 : IVec S8x256 1 := cmpf .oge main_v2 main_v5
  let main_cst_2 : FVec F S_ .f32 := constant S_ .f32 0x7F7F0000#32
  let main_v7 : FVec F S8x256 .f32 := broadcastInDim S8x256 ![] bcast_S_S8x256 main_cst_2
  let main_v8 : IVec S8x256 1 := cmpf .ole main_v2 main_v7
  let main_v9 : IVec S8x256 1 := andi main_v6 main_v8
  let main_v10 : IVec S8x256 1 := ori main_v4 main_v9
  main_v10
-- ==== Kernel.lean ====
abbrev S8x4096x1024 : Shape := ⟨3, ![8, 4096, 1024]⟩
abbrev S8x8x4096 : Shape := ⟨3, ![8, 8, 4096]⟩
abbrev S8x4096x256 : Shape := ⟨3, ![8, 4096, 256]⟩
abbrev S8x2x4096 : Shape := ⟨3, ![8, 2, 4096]⟩
abbrev S8x2x128x4096 : Shape := ⟨4, ![8, 2, 128, 4096]⟩
abbrev S8x2x128 : Shape := ⟨3, ![8, 2, 128]⟩
abbrev S1x256x512 : Shape := ⟨3, ![1, 256, 512]⟩
abbrev S1x8x256 : Shape := ⟨3, ![1, 8, 256]⟩
abbrev S1x4096x128 : Shape := ⟨3, ![1, 4096, 128]⟩
abbrev S1x2x4096 : Shape := ⟨3, ![1, 2, 4096]⟩
abbrev S1x1x128x4096 : Shape := ⟨4, ![1, 1, 128, 4096]⟩
abbrev S1x2x128 : Shape := ⟨3, ![1, 2, 128]⟩
abbrev S4096x128 : Shape := ⟨2, ![4096, 128]⟩
abbrev S128x1024 : Shape := ⟨2, ![128, 1024]⟩
abbrev S4096x1024 : Shape := ⟨2, ![4096, 1024]⟩
abbrev S1x256x128 : Shape := ⟨3, ![1, 256, 128]⟩
abbrev S256x128 : Shape := ⟨2, ![256, 128]⟩
abbrev S1x1x256 : Shape := ⟨3, ![1, 1, 256]⟩
abbrev S1x256 : Shape := ⟨2, ![1, 256]⟩
abbrev S128x256 : Shape := ⟨2, ![128, 256]⟩
abbrev S1x1024 : Shape := ⟨2, ![1, 1024]⟩
abbrev S8x1024 : Shape := ⟨2, ![8, 1024]⟩
abbrev S256x1024 : Shape := ⟨2, ![256, 1024]⟩
abbrev S32x8x1024 : Shape := ⟨3, ![32, 8, 1024]⟩
abbrev S1024 : Shape := ⟨1, ![1024]⟩
abbrev S1x1x128x256 : Shape := ⟨4, ![1, 1, 128, 256]⟩
abbrev S1x1x128 : Shape := ⟨3, ![1, 1, 128]⟩
abbrev S1x128 : Shape := ⟨2, ![1, 128]⟩

abbrev nBuf : Space → Nat
  | .hbm => 7
  | .vmem => 18
  | .smem => 0
  | _ => 0

abbrev bufTy : (tb : Table) → Fin (tcTables nBuf tb) → BufTy
  | .hbm, ⟨0, _⟩ => ⟨S8x4096x1024, .i8⟩
  | .hbm, ⟨1, _⟩ => ⟨S8x8x4096, .f32⟩
  | .hbm, ⟨2, _⟩ => ⟨S8x4096x256, .i8⟩
  | .hbm, ⟨3, _⟩ => ⟨S8x2x4096, .f32⟩
  | .hbm, ⟨4, _⟩ => ⟨S8x2x128x4096, .fp8e4m3⟩
  | .hbm, ⟨5, _⟩ => ⟨S8x2x128, .f32⟩
  | .hbm, ⟨6, _⟩ => ⟨S8x4096x1024, .bf16⟩
  | .local _ .vmem, ⟨0, _⟩ => ⟨S1x256x512, .i8⟩
  | .local _ .vmem, ⟨1, _⟩ => ⟨S1x256x512, .i8⟩
  | .local _ .vmem, ⟨2, _⟩ => ⟨S1x8x256, .f32⟩
  | .local _ .vmem, ⟨3, _⟩ => ⟨S1x8x256, .f32⟩
  | .local _ .vmem, ⟨4, _⟩ => ⟨S1x4096x128, .i8⟩
  | .local _ .vmem, ⟨5, _⟩ => ⟨S1x4096x128, .i8⟩
  | .local _ .vmem, ⟨6, _⟩ => ⟨S1x2x4096, .f32⟩
  | .local _ .vmem, ⟨7, _⟩ => ⟨S1x2x4096, .f32⟩
  | .local _ .vmem, ⟨8, _⟩ => ⟨S1x1x128x4096, .fp8e4m3⟩
  | .local _ .vmem, ⟨9, _⟩ => ⟨S1x1x128x4096, .fp8e4m3⟩
  | .local _ .vmem, ⟨10, _⟩ => ⟨S1x2x128, .f32⟩
  | .local _ .vmem, ⟨11, _⟩ => ⟨S1x2x128, .f32⟩
  | .local _ .vmem, ⟨12, _⟩ => ⟨S1x256x512, .bf16⟩
  | .local _ .vmem, ⟨13, _⟩ => ⟨S1x256x512, .bf16⟩
  | .local _ .vmem, ⟨14, _⟩ => ⟨S4096x128, .bf16⟩
  | .local _ .vmem, ⟨15, _⟩ => ⟨S4096x128, .f32⟩
  | .local _ .vmem, ⟨16, _⟩ => ⟨S128x1024, .bf16⟩
  | .local _ .vmem, ⟨17, _⟩ => ⟨S4096x1024, .f32⟩
  | _, _ => ⟨S8x4096x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_73 : BitVec 32 := 0#32
  let c16_i32 : BitVec 32 := 16#32
  let v164 : BitVec 32 := Scalar.addi c0_i32_73 c16_i32
  let c1_i32_74 : BitVec 32 := 1#32
  ⟨c0_i32_73, v164, c1_i32_74⟩
def k0_mult1 (k0_t1 : Fin k0_t1_loop.trips) : BitVec 32 :=
  let c0_i32_73 : BitVec 32 := 0#32
  let c1_i32_74 : BitVec 32 := 1#32
  let arg14 : BitVec 32 := Scf.iv c0_i32_73 c1_i32_74 k0_t1
  let c256_i32_76 : BitVec 32 := 256#32
  let v165 : BitVec 32 := Scalar.muli arg14 c256_i32_76
  v165
def k0_off1 (k0_t1 : Fin k0_t1_loop.trips) : Fin 3 → Nat :=
  let c0_77 : Index := 0#32
  let c0_i32_73 : BitVec 32 := 0#32
  let c1_i32_74 : BitVec 32 := 1#32
  let arg14 : BitVec 32 := Scf.iv c0_i32_73 c1_i32_74 k0_t1
  let c256_i32_76 : BitVec 32 := 256#32
  let v165 : BitVec 32 := Scalar.muli arg14 c256_i32_76
  let v166 : BitVec 32 := v165
  let v167 : Index := Scalar.indexCast v166
  let c0_78 : Index := 0#32
  ![0, v167.toNat, 0]
def k0_off2 (k0_t1 : Fin k0_t1_loop.trips) : Fin 2 → Nat :=
  let c0_i32_73 : BitVec 32 := 0#32
  let c1_i32_74 : BitVec 32 := 1#32
  let arg14 : BitVec 32 := Scf.iv c0_i32_73 c1_i32_74 k0_t1
  let c256_i32_76 : BitVec 32 := 256#32
  let v165 : BitVec 32 := Scalar.muli arg14 c256_i32_76
  let v166 : BitVec 32 := v165
  let v171 : Index := Scalar.indexCast v166
  let c0_79 : Index := 0#32
  ![v171.toNat, 0]
def k0_off3 (i : grid0.Coords) (k0_t1 : Fin k0_t1_loop.trips) : Fin 3 → Nat :=
  let c0_80 : Index := 0#32
  let arg1 : BitVec 32 := BitVec.ofNat 32 (i 1).val
  let v175 : Index := Scalar.indexCast arg1
  let c0_i32_73 : BitVec 32 := 0#32
  let c1_i32_74 : BitVec 32 := 1#32
  let arg14 : BitVec 32 := Scf.iv c0_i32_73 c1_i32_74 k0_t1
  let c256_i32_76 : BitVec 32 := 256#32
  let v165 : BitVec 32 := Scalar.muli arg14 c256_i32_76
  let v166 : BitVec 32 := v165
  let v176 : Index := Scalar.indexCast v166
  ![0, v175.toNat, v176.toNat]
def k0_off4 (i : grid0.Coords) (c0_i32_5 : BitVec 32) : Fin 3 → Nat :=
  let c0_6 : Index := 0#32
  let arg1 : BitVec 32 := BitVec.ofNat 32 (i 1).val
  let c4_i32 : BitVec 32 := 4#32
  let v11 : BitVec 32 := Scalar.muli arg1 c4_i32
  let v12 : BitVec 32 := Scalar.addi v11 c0_i32_5
  let v13 : Index := Scalar.indexCast v12
  let c0_7 : Index := 0#32
  ![0, v13.toNat, 0]
@[reducible] def k0_t2_loop (i : grid0.Coords) : Scf.Loop 32 :=
  let c0_i32_31 : BitVec 32 := 0#32
  let arg2 : BitVec 32 := BitVec.ofNat 32 (i 2).val
  let v65 : BitVec 32 := Scalar.subi arg2 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_33 : BitVec 32 := 1#32
  ⟨c0_i32_31, v69, c1_i32_33⟩
def k0_mult2 (i : grid0.Coords) (k0_t2 : Fin (k0_t2_loop i).trips) : BitVec 32 :=
  let c0_i32_31 : BitVec 32 := 0#32
  let c1_i32_33 : BitVec 32 := 1#32
  let arg14 : BitVec 32 := Scf.iv c0_i32_31 c1_i32_33 k0_t2
  let c256_i32_73 : BitVec 32 := 256#32
  let v164 : BitVec 32 := Scalar.muli arg14 c256_i32_73
  v164
def k0_off5 (i : grid0.Coords) (k0_t2 : Fin (k0_t2_loop i).trips) : Fin 2 → Nat :=
  let c0_i32_31 : BitVec 32 := 0#32
  let c1_i32_33 : BitVec 32 := 1#32
  let arg14 : BitVec 32 := Scf.iv c0_i32_31 c1_i32_33 k0_t2
  let c256_i32_73 : BitVec 32 := 256#32
  let v164 : BitVec 32 := Scalar.muli arg14 c256_i32_73
  let v165 : BitVec 32 := v164
  let v166 : Index := Scalar.indexCast v165
  let c0_74 : Index := 0#32
  ![v166.toNat, 0]
def k0_off6 (i : grid0.Coords) (k0_t2 : Fin (k0_t2_loop i).trips) : Fin 2 → Nat :=
  let c0_i32_31 : BitVec 32 := 0#32
  let c1_i32_33 : BitVec 32 := 1#32
  let arg14 : BitVec 32 := Scf.iv c0_i32_31 c1_i32_33 k0_t2
  let c256_i32_73 : BitVec 32 := 256#32
  let v164 : BitVec 32 := Scalar.muli arg14 c256_i32_73
  let v165 : BitVec 32 := v164
  let v174 : Index := Scalar.indexCast v165
  let c0_79 : Index := 0#32
  ![v174.toNat, 0]
@[reducible] def k0_t3_loop (i : grid0.Coords) : Scf.Loop 32 :=
  let c0_i32_31 : BitVec 32 := 0#32
  let arg2 : BitVec 32 := BitVec.ofNat 32 (i 2).val
  let v65 : BitVec 32 := Scalar.subi arg2 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let v66 : BitVec 32 := Scalar.addi c0_i32_31 v65
  let c1_i32_34 : BitVec 32 := 1#32
  ⟨v69, v66, c1_i32_34⟩
def k0_mult3 (i : grid0.Coords) (k0_t3 : Fin (k0_t3_loop i).trips) : BitVec 32 :=
  let c0_i32_31 : BitVec 32 := 0#32
  let arg2 : BitVec 32 := BitVec.ofNat 32 (i 2).val
  let v65 : BitVec 32 := Scalar.subi arg2 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg14 : BitVec 32 := Scf.iv v69 c1_i32_34 k0_t3
  let c256_i32_73 : BitVec 32 := 256#32
  let v164 : BitVec 32 := Scalar.muli arg14 c256_i32_73
  v164
def k0_off7 (i : grid0.Coords) (k0_t3 : Fin (k0_t3_loop i).trips) : Fin 2 → Nat :=
  let c0_i32_31 : BitVec 32 := 0#32
  let arg2 : BitVec 32 := BitVec.ofNat 32 (i 2).val
  let v65 : BitVec 32 := Scalar.subi arg2 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg14 : BitVec 32 := Scf.iv v69 c1_i32_34 k0_t3
  let c256_i32_73 : BitVec 32 := 256#32
  let v164 : BitVec 32 := Scalar.muli arg14 c256_i32_73
  let v165 : BitVec 32 := v164
  let v166 : Index := Scalar.indexCast v165
  let c0_74 : Index := 0#32
  ![v166.toNat, 0]
def k0_off8 (i : grid0.Coords) (k0_t3 : Fin (k0_t3_loop i).trips) : Fin 2 → Nat :=
  let c0_i32_31 : BitVec 32 := 0#32
  let arg2 : BitVec 32 := BitVec.ofNat 32 (i 2).val
  let v65 : BitVec 32 := Scalar.subi arg2 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg14 : BitVec 32 := Scf.iv v69 c1_i32_34 k0_t3
  let c256_i32_73 : BitVec 32 := 256#32
  let v164 : BitVec 32 := Scalar.muli arg14 c256_i32_73
  let v165 : BitVec 32 := v164
  let v174 : Index := Scalar.indexCast v165
  let c0_79 : Index := 0#32
  ![v174.toNat, 0]
def k0_mult4 (i : grid0.Coords) : BitVec 32 :=
  let arg2 : BitVec 32 := BitVec.ofNat 32 (i 2).val
  let c256_i32 : BitVec 32 := 256#32
  let v72 : BitVec 32 := Scalar.muli arg2 c256_i32
  v72
def k0_off9 (i : grid0.Coords) : Fin 2 → Nat :=
  let arg2 : BitVec 32 := BitVec.ofNat 32 (i 2).val
  let c256_i32 : BitVec 32 := 256#32
  let v72 : BitVec 32 := Scalar.muli arg2 c256_i32
  let v73 : BitVec 32 := v72
  let v74 : Index := Scalar.indexCast v73
  let c0_35 : Index := 0#32
  ![v74.toNat, 0]
def k0_off10 (i : grid0.Coords) : Fin 2 → Nat :=
  let arg2 : BitVec 32 := BitVec.ofNat 32 (i 2).val
  let c256_i32 : BitVec 32 := 256#32
  let v72 : BitVec 32 := Scalar.muli arg2 c256_i32
  let v73 : BitVec 32 := v72
  let v103 : Index := Scalar.indexCast v73
  let c0_47 : Index := 0#32
  ![v103.toNat, 0]
@[reducible] def k0_t4_loop (i : grid0.Coords) : Scf.Loop 32 :=
  let c0_i32_54 : BitVec 32 := 0#32
  let arg2 : BitVec 32 := BitVec.ofNat 32 (i 2).val
  let c1_i32_51 : BitVec 32 := 1#32
  let v115 : BitVec 32 := Scalar.addi arg2 c1_i32_51
  let v118 : BitVec 32 := Scalar.subi v115 c0_i32_54
  let c1_i32_55 : BitVec 32 := 1#32
  let v120 : BitVec 32 := Scalar.divsi v118 c1_i32_55
  let v121 : BitVec 32 := Scalar.muli v120 c1_i32_55
  let v122 : BitVec 32 := Scalar.addi c0_i32_54 v121
  let c1_i32_56 : BitVec 32 := 1#32
  ⟨c0_i32_54, v122, c1_i32_56⟩
def k0_mult5 (i : grid0.Coords) (k0_t4 : Fin (k0_t4_loop i).trips) : BitVec 32 :=
  let c0_i32_54 : BitVec 32 := 0#32
  let c1_i32_56 : BitVec 32 := 1#32
  let arg14 : BitVec 32 := Scf.iv c0_i32_54 c1_i32_56 k0_t4
  let c256_i32_73 : BitVec 32 := 256#32
  let v164 : BitVec 32 := Scalar.muli arg14 c256_i32_73
  v164
def k0_off11 (i : grid0.Coords) (k0_t4 : Fin (k0_t4_loop i).trips) : Fin 2 → Nat :=
  let c0_i32_54 : BitVec 32 := 0#32
  let c1_i32_56 : BitVec 32 := 1#32
  let arg14 : BitVec 32 := Scf.iv c0_i32_54 c1_i32_56 k0_t4
  let c256_i32_73 : BitVec 32 := 256#32
  let v164 : BitVec 32 := Scalar.muli arg14 c256_i32_73
  let v165 : BitVec 32 := v164
  let v166 : Index := Scalar.indexCast v165
  let c0_74 : Index := 0#32
  ![v166.toNat, 0]
def k0_off12 (i : grid0.Coords) (k0_t4 : Fin (k0_t4_loop i).trips) : Fin 4 → Nat :=
  let c0_77 : Index := 0#32
  let c0_78 : Index := 0#32
  let c0_79 : Index := 0#32
  let c0_i32_54 : BitVec 32 := 0#32
  let c1_i32_56 : BitVec 32 := 1#32
  let arg14 : BitVec 32 := Scf.iv c0_i32_54 c1_i32_56 k0_t4
  let c256_i32_73 : BitVec 32 := 256#32
  let v164 : BitVec 32 := Scalar.muli arg14 c256_i32_73
  let v165 : BitVec 32 := v164
  let v179 : Index := Scalar.indexCast v165
  ![0, 0, 0, v179.toNat]
@[reducible] def k0_t5_loop (i : grid0.Coords) : Scf.Loop 32 :=
  let c0_i32_54 : BitVec 32 := 0#32
  let arg2 : BitVec 32 := BitVec.ofNat 32 (i 2).val
  let c1_i32_51 : BitVec 32 := 1#32
  let v115 : BitVec 32 := Scalar.addi arg2 c1_i32_51
  let v118 : BitVec 32 := Scalar.subi v115 c0_i32_54
  let c1_i32_55 : BitVec 32 := 1#32
  let v120 : BitVec 32 := Scalar.divsi v118 c1_i32_55
  let v121 : BitVec 32 := Scalar.muli v120 c1_i32_55
  let v122 : BitVec 32 := Scalar.addi c0_i32_54 v121
  let v119 : BitVec 32 := Scalar.addi c0_i32_54 v118
  let c1_i32_57 : BitVec 32 := 1#32
  ⟨v122, v119, c1_i32_57⟩
def k0_mult6 (i : grid0.Coords) (k0_t5 : Fin (k0_t5_loop i).trips) : BitVec 32 :=
  let c0_i32_54 : BitVec 32 := 0#32
  let arg2 : BitVec 32 := BitVec.ofNat 32 (i 2).val
  let c1_i32_51 : BitVec 32 := 1#32
  let v115 : BitVec 32 := Scalar.addi arg2 c1_i32_51
  let v118 : BitVec 32 := Scalar.subi v115 c0_i32_54
  let c1_i32_55 : BitVec 32 := 1#32
  let v120 : BitVec 32 := Scalar.divsi v118 c1_i32_55
  let v121 : BitVec 32 := Scalar.muli v120 c1_i32_55
  let v122 : BitVec 32 := Scalar.addi c0_i32_54 v121
  let c1_i32_57 : BitVec 32 := 1#32
  let arg14 : BitVec 32 := Scf.iv v122 c1_i32_57 k0_t5
  let c256_i32_73 : BitVec 32 := 256#32
  let v164 : BitVec 32 := Scalar.muli arg14 c256_i32_73
  v164
def k0_off13 (i : grid0.Coords) (k0_t5 : Fin (k0_t5_loop i).trips) : Fin 2 → Nat :=
  let c0_i32_54 : BitVec 32 := 0#32
  let arg2 : BitVec 32 := BitVec.ofNat 32 (i 2).val
  let c1_i32_51 : BitVec 32 := 1#32
  let v115 : BitVec 32 := Scalar.addi arg2 c1_i32_51
  let v118 : BitVec 32 := Scalar.subi v115 c0_i32_54
  let c1_i32_55 : BitVec 32 := 1#32
  let v120 : BitVec 32 := Scalar.divsi v118 c1_i32_55
  let v121 : BitVec 32 := Scalar.muli v120 c1_i32_55
  let v122 : BitVec 32 := Scalar.addi c0_i32_54 v121
  let c1_i32_57 : BitVec 32 := 1#32
  let arg14 : BitVec 32 := Scf.iv v122 c1_i32_57 k0_t5
  let c256_i32_73 : BitVec 32 := 256#32
  let v164 : BitVec 32 := Scalar.muli arg14 c256_i32_73
  let v165 : BitVec 32 := v164
  let v166 : Index := Scalar.indexCast v165
  let c0_74 : Index := 0#32
  ![v166.toNat, 0]
def k0_off14 (i : grid0.Coords) (k0_t5 : Fin (k0_t5_loop i).trips) : Fin 4 → Nat :=
  let c0_77 : Index := 0#32
  let c0_78 : Index := 0#32
  let c0_79 : Index := 0#32
  let c0_i32_54 : BitVec 32 := 0#32
  let arg2 : BitVec 32 := BitVec.ofNat 32 (i 2).val
  let c1_i32_51 : BitVec 32 := 1#32
  let v115 : BitVec 32 := Scalar.addi arg2 c1_i32_51
  let v118 : BitVec 32 := Scalar.subi v115 c0_i32_54
  let c1_i32_55 : BitVec 32 := 1#32
  let v120 : BitVec 32 := Scalar.divsi v118 c1_i32_55
  let v121 : BitVec 32 := Scalar.muli v120 c1_i32_55
  let v122 : BitVec 32 := Scalar.addi c0_i32_54 v121
  let c1_i32_57 : BitVec 32 := 1#32
  let arg14 : BitVec 32 := Scf.iv v122 c1_i32_57 k0_t5
  let c256_i32_73 : BitVec 32 := 256#32
  let v164 : BitVec 32 := Scalar.muli arg14 c256_i32_73
  let v165 : BitVec 32 := v164
  let v179 : Index := Scalar.indexCast v165
  ![0, 0, 0, v179.toNat]
def k0_off15 (i : grid0.Coords) : Fin 3 → Nat :=
  let c0_59 : Index := 0#32
  let arg1 : BitVec 32 := BitVec.ofNat 32 (i 1).val
  let v129 : Index := Scalar.indexCast arg1
  let c0_60 : Index := 0#32
  ![0, v129.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4096x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x128x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x4096x1024 : Shape := ⟨3, ![8, 4096, 1024]⟩
abbrev S8x8x4096 : Shape := ⟨3, ![8, 8, 4096]⟩
abbrev S8x4096x256 : Shape := ⟨3, ![8, 4096, 256]⟩
abbrev S8x2x4096 : Shape := ⟨3, ![8, 2, 4096]⟩
abbrev S8x2x128x4096 : Shape := ⟨4, ![8, 2, 128, 4096]⟩
abbrev S8x2x128 : Shape := ⟨3, ![8, 2, 128]⟩
abbrev S8x4096x2x4x128 : Shape := ⟨5, ![8, 4096, 2, 4, 128]⟩
abbrev S8x4096x2x128 : Shape := ⟨4, ![8, 4096, 2, 128]⟩
abbrev S8x2x4x4096 : Shape := ⟨4, ![8, 2, 4, 4096]⟩
abbrev S8x2x4096x4096x4 : Shape := ⟨5, ![8, 2, 4096, 4096, 4]⟩
abbrev S8x2x4x4096x4096 : Shape := ⟨5, ![8, 2, 4, 4096, 4096]⟩
abbrev S8x2x4x4096x1 : Shape := ⟨5, ![8, 2, 4, 4096, 1]⟩
abbrev S8x2x1x1x4096 : Shape := ⟨5, ![8, 2, 1, 1, 4096]⟩
abbrev S4096x4096 : Shape := ⟨2, ![4096, 4096]⟩
abbrev S_ : Shape := ⟨0, ![]⟩
abbrev S8x2x4x4096x128 : Shape := ⟨5, ![8, 2, 4, 4096, 128]⟩
abbrev S8x2x1x1x128 : Shape := ⟨5, ![8, 2, 1, 1, 128]⟩

abbrev nBuf : Space → Nat
  | .hbm => 55
  | .vmem => 6
  | .smem => 0
  | _ => 0

abbrev bufTy : (tb : Table) → Fin (tcTables nBuf tb) → BufTy
  | .hbm, ⟨0, _⟩ => ⟨S8x4096x1024, .i8⟩
  | .hbm, ⟨1, _⟩ => ⟨S8x8x4096, .f32⟩
  | .hbm, ⟨2, _⟩ => ⟨S8x4096x256, .i8⟩
  | .hbm, ⟨3, _⟩ => ⟨S8x2x4096, .f32⟩
  | .hbm, ⟨4, _⟩ => ⟨S8x2x128x4096, .fp8e4m3⟩
  | .hbm, ⟨5, _⟩ => ⟨S8x2x128, .f32⟩
  | .hbm, ⟨6, _⟩ => ⟨S8x4096x1024, .bf16⟩
  | .hbm, ⟨7, _⟩ => ⟨S8x4096x256, .bf16⟩
  | .hbm, ⟨8, _⟩ => ⟨S8x2x128x4096, .f32⟩
  | .hbm, ⟨9, _⟩ => ⟨S8x4096x2x4x128, .bf16⟩
  | .hbm, ⟨10, _⟩ => ⟨S8x4096x2x128, .bf16⟩
  | .hbm, ⟨11, _⟩ => ⟨S8x2x4x4096, .f32⟩
  | .hbm, ⟨12, _⟩ => ⟨S8x2x4096x4096x4, .f32⟩
  | .hbm, ⟨13, _⟩ => ⟨S8x2x4x4096x4096, .f32⟩
  | .hbm, ⟨14, _⟩ => ⟨S8x2x4x4096x1, .f32⟩
  | .hbm, ⟨15, _⟩ => ⟨S8x2x4x4096x4096, .f32⟩
  | .hbm, ⟨16, _⟩ => ⟨S8x2x4x4096x4096, .f32⟩
  | .hbm, ⟨17, _⟩ => ⟨S8x2x1x1x4096, .f32⟩
  | .hbm, ⟨18, _⟩ => ⟨S8x2x4x4096x4096, .f32⟩
  | .hbm, ⟨19, _⟩ => ⟨S8x2x4x4096x4096, .f32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S8x2x4x4096x4096, .i1⟩
  | .hbm, ⟨26, _⟩ => ⟨S8x2x4x4096x4096, .f32⟩
  | .hbm, ⟨27, _⟩ => ⟨S8x2x4x4096x4096, .f32⟩
  | .hbm, ⟨28, _⟩ => ⟨S_, .f32⟩
  | .hbm, ⟨29, _⟩ => ⟨S8x2x4x4096, .f32⟩
  | .hbm, ⟨30, _⟩ => ⟨S8x2x4x4096x1, .f32⟩
  | .hbm, ⟨31, _⟩ => ⟨S8x2x4x4096x4096, .f32⟩
  | .hbm, ⟨32, _⟩ => ⟨S8x2x4x4096x4096, .f32⟩
  | .hbm, ⟨33, _⟩ => ⟨S8x2x4x4096x4096, .f32⟩
  | .hbm, ⟨34, _⟩ => ⟨S_, .f32⟩
  | .hbm, ⟨35, _⟩ => ⟨S8x2x4x4096, .f32⟩
  | .hbm, ⟨36, _⟩ => ⟨S_, .f32⟩
  | .hbm, ⟨37, _⟩ => ⟨S8x2x4x4096x4096, .f32⟩
  | .hbm, ⟨38, _⟩ => ⟨S8x2x4x4096x4096, .f32⟩
  | .hbm, ⟨39, _⟩ => ⟨S_, .f32⟩
  | .hbm, ⟨40, _⟩ => ⟨S8x2x4x4096x4096, .f32⟩
  | .hbm, ⟨41, _⟩ => ⟨S8x2x4x4096x4096, .f32⟩
  | .hbm, ⟨42, _⟩ => ⟨S8x2x4x4096x128, .f32⟩
  | .hbm, ⟨43, _⟩ => ⟨S_, .f32⟩
  | .hbm, ⟨44, _⟩ => ⟨S8x2x4x4096x128, .f32⟩
  | .hbm, ⟨45, _⟩ => ⟨S8x2x4x4096x128, .f32⟩
  | .hbm, ⟨46, _⟩ => ⟨S8x2x1x1x128, .f32⟩
  | .hbm, ⟨47, _⟩ => ⟨S8x2x4x4096x128, .f32⟩
  | .hbm, ⟨48, _⟩ => ⟨S8x2x4x4096x128, .f32⟩
  | .hbm, ⟨49, _⟩ => ⟨S8x2x4x4096x1, .f32⟩
  | .hbm, ⟨50, _⟩ => ⟨S8x2x4x4096x128, .f32⟩
  | .hbm, ⟨51, _⟩ => ⟨S8x2x4x4096x128, .f32⟩
  | .hbm, ⟨52, _⟩ => ⟨S8x2x4x4096x128, .bf16⟩
  | .hbm, ⟨53, _⟩ => ⟨S8x4096x2x4x128, .bf16⟩
  | .hbm, ⟨54, _⟩ => ⟨S8x4096x1024, .bf16⟩
  | .local _ .vmem, ⟨0, _⟩ => ⟨S8x4096x1024, .i8⟩
  | .local _ .vmem, ⟨1, _⟩ => ⟨S8x4096x256, .i8⟩
  | .local _ .vmem, ⟨2, _⟩ => ⟨S8x2x128x4096, .fp8e4m3⟩
  | .local _ .vmem, ⟨3, _⟩ => ⟨S8x4096x1024, .bf16⟩
  | .local _ .vmem, ⟨4, _⟩ => ⟨S8x4096x256, .bf16⟩
  | .local _ .vmem, ⟨5, _⟩ => ⟨S8x2x128x4096, .f32⟩
  | _, _ => ⟨S8x4096x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x4096x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x256 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2x128x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2x128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelQ.lean ====
abbrev S8x4096x1024 : Shape := ⟨3, ![8, 4096, 1024]⟩
abbrev S8x8x4096 : Shape := ⟨3, ![8, 8, 4096]⟩
abbrev S1x512x1024 : Shape := ⟨3, ![1, 512, 1024]⟩
abbrev S1x8x512 : Shape := ⟨3, ![1, 8, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S8x512 : Shape := ⟨2, ![8, 512]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .i8⟩
  | .hbm, ⟨2, _⟩ => ⟨S8x8x4096, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .i8⟩
  | .local _ .vmem, ⟨3, _⟩ => ⟨S1x512x1024, .i8⟩
  | .local _ .vmem, ⟨4, _⟩ => ⟨S1x8x512, .f32⟩
  | .local _ .vmem, ⟨5, _⟩ => ⟨S1x8x512, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQIdeal.lean ====
abbrev S8x4096x1024 : Shape := ⟨3, ![8, 4096, 1024]⟩
abbrev S8x4096x8x128 : Shape := ⟨4, ![8, 4096, 8, 128]⟩
abbrev S_ : Shape := ⟨0, ![]⟩
abbrev S8x4096x8 : Shape := ⟨3, ![8, 4096, 8]⟩
abbrev S8x8x4096 : Shape := ⟨3, ![8, 8, 4096]⟩
abbrev S8x4096x8x1 : Shape := ⟨4, ![8, 4096, 8, 1]⟩

abbrev nBuf : Space → Nat
  | .hbm => 24
  | .vmem => 2
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S8x4096x8x128, .f32⟩
  | .hbm, ⟨3, _⟩ => ⟨S_, .f32⟩
  | .hbm, ⟨4, _⟩ => ⟨S8x4096x8x128, .f32⟩
  | .hbm, ⟨5, _⟩ => ⟨S8x4096x8x128, .f32⟩
  | .hbm, ⟨6, _⟩ => ⟨S8x4096x8x128, .f32⟩
  | .hbm, ⟨7, _⟩ => ⟨S_, .f32⟩
  | .hbm, ⟨8, _⟩ => ⟨S8x4096x8, .f32⟩
  | .hbm, ⟨9, _⟩ => ⟨S_, .f32⟩
  | .hbm, ⟨10, _⟩ => ⟨S8x4096x8, .f32⟩
  | .hbm, ⟨11, _⟩ => ⟨S8x4096x8, .i1⟩
  | .hbm, ⟨12, _⟩ => ⟨S_, .f32⟩
  | .hbm, ⟨13, _⟩ => ⟨S8x4096x8, .f32⟩
  | .hbm, ⟨14, _⟩ => ⟨S8x4096x8, .f32⟩
  | .hbm, ⟨15, _⟩ => ⟨S_, .f32⟩
  | .hbm, ⟨16, _⟩ => ⟨S8x4096x8, .f32⟩
  | .hbm, ⟨17, _⟩ => ⟨S8x4096x8, .f32⟩
  | .hbm, ⟨18, _⟩ => ⟨S8x8x4096, .f32⟩
  | .hbm, ⟨19, _⟩ => ⟨S8x4096x8x1, .f32⟩
  | .hbm, ⟨20, _⟩ => ⟨S8x4096x8x128, .f32⟩
  | .hbm, ⟨21, _⟩ => ⟨S8x4096x8x128, .f32⟩
  | .hbm, ⟨22, _⟩ => ⟨S8x4096x1024, .f32⟩
  | .hbm, ⟨23, _⟩ => ⟨S8x4096x1024, .i8⟩
  | .local _ .vmem, ⟨0, _⟩ => ⟨S8x4096x1024, .f32⟩
  | .local _ .vmem, ⟨1, _⟩ => ⟨S8x4096x1024, .i8⟩
  | _, _ => ⟨S8x4096x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x1024 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelKV.lean ====
abbrev S8x4096x256 : Shape := ⟨3, ![8, 4096, 256]⟩
abbrev S8x2x4096 : Shape := ⟨3, ![8, 2, 4096]⟩
abbrev S8x2x128 : Shape := ⟨3, ![8, 2, 128]⟩
abbrev S8x2x128x4096 : Shape := ⟨4, ![8, 2, 128, 4096]⟩
abbrev S1x4096x256 : Shape := ⟨3, ![1, 4096, 256]⟩
abbrev S1x2x4096 : Shape := ⟨3, ![1, 2, 4096]⟩
abbrev S1x2x128 : Shape := ⟨3, ![1, 2, 128]⟩
abbrev S1x2x128x4096 : Shape := ⟨4, ![1, 2, 128, 4096]⟩
abbrev S8x256 : Shape := ⟨2, ![8, 256]⟩
abbrev S1x512x256 : Shape := ⟨3, ![1, 512, 256]⟩
abbrev S512x256 : Shape := ⟨2, ![512, 256]⟩
abbrev S64x8x256 : Shape := ⟨3, ![64, 8, 256]⟩
abbrev S256 : Shape := ⟨1, ![256]⟩
abbrev S1x256 : Shape := ⟨2, ![1, 256]⟩
abbrev S1x128 : Shape := ⟨2, ![1, 128]⟩
abbrev S1x1x128 : Shape := ⟨3, ![1, 1, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1x1x128x512 : Shape := ⟨4, ![1, 1, 128, 512]⟩
abbrev S2x512 : Shape := ⟨2, ![2, 512]⟩
abbrev S1x2x512 : Shape := ⟨3, ![1, 2, 512]⟩

abbrev nBuf : Space → Nat
  | .hbm => 7
  | .vmem => 14
  | .smem => 0
  | _ => 0

abbrev bufTy : (tb : Table) → Fin (tcTables nBuf tb) → BufTy
  | .hbm, ⟨0, _⟩ => ⟨S8x4096x256, .bf16⟩
  | .hbm, ⟨1, _⟩ => ⟨S8x4096x256, .bf16⟩
  | .hbm, ⟨2, _⟩ => ⟨S8x4096x256, .i8⟩
  | .hbm, ⟨3, _⟩ => ⟨S8x2x4096, .f32⟩
  | .hbm, ⟨4, _⟩ => ⟨S8x4096x256, .fp8e4m3⟩
  | .hbm, ⟨5, _⟩ => ⟨S8x2x128, .f32⟩
  | .hbm, ⟨6, _⟩ => ⟨S8x2x128x4096, .fp8e4m3⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .i8⟩
  | .local _ .vmem, ⟨5, _⟩ => ⟨S1x4096x256, .i8⟩
  | .local _ .vmem, ⟨6, _⟩ => ⟨S1x2x4096, .f32⟩
  | .local _ .vmem, ⟨7, _⟩ => ⟨S1x2x4096, .f32⟩
  | .local _ .vmem, ⟨8, _⟩ => ⟨S1x4096x256, .fp8e4m3⟩
  | .local _ .vmem, ⟨9, _⟩ => ⟨S1x4096x256, .fp8e4m3⟩
  | .local _ .vmem, ⟨10, _⟩ => ⟨S1x2x128, .f32⟩
  | .local _ .vmem, ⟨11, _⟩ => ⟨S1x2x128, .f32⟩
  | .local _ .vmem, ⟨12, _⟩ => ⟨S1x2x128x4096, .fp8e4m3⟩
  | .local _ .vmem, ⟨13, _⟩ => ⟨S1x2x128x4096, .fp8e4m3⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v107 : BitVec 32 := Scalar.muli arg8 c512_i32
  v107
def k0_off1 (k0_t1 : Fin k0_t1_loop.trips) : Fin 3 → Nat :=
  let c0_35 : Index := 0#32
  let c0_i32 : BitVec 32 := 0#32
  let c1_i32 : BitVec 32 := 1#32
  let arg8 : BitVec 32 := Scf.iv c0_i32 c1_i32 k0_t1
  let c512_i32 : BitVec 32 := 512#32
  let v107 : BitVec 32 := Scalar.muli arg8 c512_i32
  let v108 : BitVec 32 := v107
  let v109 : Index := Scalar.indexCast v108
  let c0_36 : Index := 0#32
  ![0, v109.toNat, 0]
@[reducible] def k0_t2_loop : Scf.Loop 32 :=
  let c0_i32_31 : BitVec 32 := 0#32
  let c8_i32_32 : BitVec 32 := 8#32
  let v106 : BitVec 32 := Scalar.addi c0_i32_31 c8_i32_32
  let c1_i32_33 : BitVec 32 := 1#32
  ⟨c0_i32_31, v106, c1_i32_33⟩
def k0_mult2 (k0_t2 : Fin k0_t2_loop.trips) : BitVec 32 :=
  let c0_i32_31 : BitVec 32 := 0#32
  let c1_i32_33 : BitVec 32 := 1#32
  let arg8 : BitVec 32 := Scf.iv c0_i32_31 c1_i32_33 k0_t2
  let c512_i32 : BitVec 32 := 512#32
  let v107 : BitVec 32 := Scalar.muli arg8 c512_i32
  v107
def k0_off2 (k0_t2 : Fin k0_t2_loop.trips) : Fin 3 → Nat :=
  let c0_35 : Index := 0#32
  let c0_i32_31 : BitVec 32 := 0#32
  let c1_i32_33 : BitVec 32 := 1#32
  let arg8 : BitVec 32 := Scf.iv c0_i32_31 c1_i32_33 k0_t2
  let c512_i32 : BitVec 32 := 512#32
  let v107 : BitVec 32 := Scalar.muli arg8 c512_i32
  let v108 : BitVec 32 := v107
  let v109 : Index := Scalar.indexCast v108
  let c0_36 : Index := 0#32
  ![0, v109.toNat, 0]
def k0_off3 (k0_t2 : Fin k0_t2_loop.trips) : Fin 4 → Nat :=
  let c0_51 : Index := 0#32
  let c0_52 : Index := 0#32
  let c0_53 : Index := 0#32
  let c0_i32_31 : BitVec 32 := 0#32
  let c1_i32_33 : BitVec 32 := 1#32
  let arg8 : BitVec 32 := Scf.iv c0_i32_31 c1_i32_33 k0_t2
  let c512_i32 : BitVec 32 := 512#32
  let v107 : BitVec 32 := Scalar.muli arg8 c512_i32
  let v108 : BitVec 32 := v107
  let v156 : Index := Scalar.indexCast v108
  ![0, 0, 0, v156.toNat]
def k0_off4 (k0_t2 : Fin k0_t2_loop.trips) : Fin 3 → Nat :=
  let c0_54 : Index := 0#32
  let c0_i32_31 : BitVec 32 := 0#32
  let c1_i32_33 : BitVec 32 := 1#32
  let arg8 : BitVec 32 := Scf.iv c0_i32_31 c1_i32_33 k0_t2
  let c512_i32 : BitVec 32 := 512#32
  let v107 : BitVec 32 := Scalar.muli arg8 c512_i32
  let v108 : BitVec 32 := v107
  let v160 : Index := Scalar.indexCast v108
  let c128 : Index := 128#32
  ![0, v160.toNat, 128]
def k0_off5 (k0_t2 : Fin k0_t2_loop.trips) : Fin 4 → Nat :=
  let c0_69 : Index := 0#32
  let c1_70 : Index := 1#32
  let c0_71 : Index := 0#32
  let c0_i32_31 : BitVec 32 := 0#32
  let c1_i32_33 : BitVec 32 := 1#32
  let arg8 : BitVec 32 := Scf.iv c0_i32_31 c1_i32_33 k0_t2
  let c512_i32 : BitVec 32 := 512#32
  let v107 : BitVec 32 := Scalar.muli arg8 c512_i32
  let v108 : BitVec 32 := v107
  let v207 : Index := Scalar.indexCast v108
  ![0, 1, 0, v207.toNat]
def k0_off6 (k0_t2 : Fin k0_t2_loop.trips) : Fin 3 → Nat :=
  let c0_75 : Index := 0#32
  let c0_76 : Index := 0#32
  let c0_i32_31 : BitVec 32 := 0#32
  let c1_i32_33 : BitVec 32 := 1#32
  let arg8 : BitVec 32 := Scf.iv c0_i32_31 c1_i32_33 k0_t2
  let c512_i32 : BitVec 32 := 512#32
  let v107 : BitVec 32 := Scalar.muli arg8 c512_i32
  let v108 : BitVec 32 := v107
  let v225 : Index := Scalar.indexCast v108
  ![0, 0, v225.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceKVIdeal.lean ====
abbrev S8x4096x256 : Shape := ⟨3, ![8, 4096, 256]⟩
abbrev S8x4096x2x128 : Shape := ⟨4, ![8, 4096, 2, 128]⟩
abbrev S_ : Shape := ⟨0, ![]⟩
abbrev S8x2x128 : Shape := ⟨3, ![8, 2, 128]⟩
abbrev S8x1x2x128 : Shape := ⟨4, ![8, 1, 2, 128]⟩
abbrev S8x4096x2 : Shape := ⟨3, ![8, 4096, 2]⟩
abbrev S253 : Shape := ⟨1, ![253]⟩
abbrev S8x2x128x1 : Shape := ⟨4, ![8, 2, 128, 1]⟩
abbrev S1x1x1x253 : Shape := ⟨4, ![1, 1, 1, 253]⟩
abbrev S8x2x128x253 : Shape := ⟨4, ![8, 2, 128, 253]⟩
abbrev S8x2x4096 : Shape := ⟨3, ![8, 2, 4096]⟩
abbrev S8x4096x2x1 : Shape := ⟨4, ![8, 4096, 2, 1]⟩
abbrev S8x2x128x4096 : Shape := ⟨4, ![8, 2, 128, 4096]⟩

abbrev nBuf : Space → Nat
  | .hbm => 74
  | .vmem => 6
  | .smem => 0
  | _ => 0

abbrev bufTy : (tb : Table) → Fin (tcTables nBuf tb) → BufTy
  | .hbm, ⟨0, _⟩ => ⟨S8x4096x256, .bf16⟩
  | .hbm, ⟨1, _⟩ => ⟨S8x4096x256, .bf16⟩
  | .hbm, ⟨2, _⟩ => ⟨S8x4096x256, .f32⟩
  | .hbm, ⟨3, _⟩ => ⟨S8x4096x2x128, .f32⟩
  | .hbm, ⟨4, _⟩ => ⟨S_, .f32⟩
  | .hbm, ⟨5, _⟩ => ⟨S8x2x128, .f32⟩
  | .hbm, ⟨6, _⟩ => ⟨S8x1x2x128, .f32⟩
  | .hbm, ⟨7, _⟩ => ⟨S_, .f32⟩
  | .hbm, ⟨8, _⟩ => ⟨S8x1x2x128, .f32⟩
  | .hbm, ⟨9, _⟩ => ⟨S8x1x2x128, .f32⟩
  | .hbm, ⟨10, _⟩ => ⟨S8x4096x2x128, .f32⟩
  | .hbm, ⟨11, _⟩ => ⟨S8x4096x2x128, .f32⟩
  | .hbm, ⟨12, _⟩ => ⟨S8x4096x2x128, .f32⟩
  | .hbm, ⟨13, _⟩ => ⟨S_, .f32⟩
  | .hbm, ⟨14, _⟩ => ⟨S8x4096x2, .f32⟩
  | .hbm, ⟨15, _⟩ => ⟨S_, .f32⟩
  | .hbm, ⟨16, _⟩ => ⟨S8x4096x2, .f32⟩
  | .hbm, ⟨17, _⟩ => ⟨S8x4096x2, .i1⟩
  | .hbm, ⟨18, _⟩ => ⟨S_, .f32⟩
  | .hbm, ⟨19, _⟩ => ⟨S8x4096x2, .f32⟩
  | .hbm, ⟨20, _⟩ => ⟨S8x4096x2, .f32⟩
  | .hbm, ⟨21, _⟩ => ⟨S_, .f32⟩
  | .hbm, ⟨22, _⟩ => ⟨S8x4096x2, .f32⟩
  | .hbm, ⟨23, _⟩ => ⟨S8x4096x2, .f32⟩
  | .hbm, ⟨24, _⟩ => ⟨S8x4096x256, .f32⟩
  | .hbm, ⟨25, _⟩ => ⟨S8x4096x2x128, .f32⟩
  | .hbm, ⟨26, _⟩ => ⟨S8x4096x2x128, .f32⟩
  | .hbm, ⟨27, _⟩ => ⟨S_, .f32⟩
  | .hbm, ⟨28, _⟩ => ⟨S8x2x128, .f32⟩
  | .hbm, ⟨29, _⟩ => ⟨S253, .i32⟩
  | .hbm, ⟨30, _⟩ => ⟨S253, .f32⟩
  | .hbm, ⟨31, _⟩ => ⟨S_, .f32⟩
  | .hbm, ⟨32, _⟩ => ⟨S253, .f32⟩
  | .hbm, ⟨33, _⟩ => ⟨S253, .f32⟩
  | .hbm, ⟨34, _⟩ => ⟨S_, .f32⟩
  | .hbm, ⟨35, _⟩ => ⟨S253, .f32⟩
  | .hbm, ⟨36, _⟩ => ⟨S253, .f32⟩
  | .hbm, ⟨37, _⟩ => ⟨S_, .f32⟩
  | .hbm, ⟨38, _⟩ => ⟨S8x2x128, .f32⟩
  | .hbm, ⟨39, _⟩ => ⟨S8x2x128, .f32⟩
  | .hbm, ⟨40, _⟩ => ⟨S8x2x128x1, .f32⟩
  | .hbm, ⟨41, _⟩ => ⟨S1x1x1x253, .f32⟩
  | .hbm, ⟨42, _⟩ => ⟨S8x2x128x253, .f32⟩
  | .hbm, ⟨43, _⟩ => ⟨S8x2x128x253, .f32⟩
  | .hbm, ⟨44, _⟩ => ⟨S8x2x128x253, .i1⟩
  | .hbm, ⟨45, _⟩ => ⟨S_, .f32⟩
  | .hbm, ⟨46, _⟩ => ⟨S_, .f32⟩
  | .hbm, ⟨47, _⟩ => ⟨S8x2x128x253, .f32⟩
  | .hbm, ⟨48, _⟩ => ⟨S8x2x128x253, .f32⟩
  | .hbm, ⟨49, _⟩ => ⟨S8x2x128x253, .f32⟩
  | .hbm, ⟨50, _⟩ => ⟨S_, .f32⟩
  | .hbm, ⟨51, _⟩ => ⟨S8x2x128, .f32⟩
  | .hbm, ⟨52, _⟩ => ⟨S8x2x128, .i1⟩
  | .hbm, ⟨53, _⟩ => ⟨S_, .f32⟩
  | .hbm, ⟨54, _⟩ => ⟨S8x2x128, .f32⟩
  | .hbm, ⟨55, _⟩ => ⟨S_, .f32⟩
  | .hbm, ⟨56, _⟩ => ⟨S8x2x128, .f32⟩
  | .hbm, ⟨57, _⟩ => ⟨S8x2x128, .f32⟩
  | .hbm, ⟨58, _⟩ => ⟨S8x2x4096, .f32⟩
  | .hbm, ⟨59, _⟩ => ⟨S_, .f32⟩
  | .hbm, ⟨60, _⟩ => ⟨S8x2x128, .f32⟩
  | .hbm, ⟨61, _⟩ => ⟨S8x2x128, .f32⟩
  | .hbm, ⟨62, _⟩ => ⟨S8x1x2x128, .f32⟩
  | .hbm, ⟨63, _⟩ => ⟨S8x4096x2x128, .f32⟩
  | .hbm, ⟨64, _⟩ => ⟨S8x4096x2x128, .f32⟩
  | .hbm, ⟨65, _⟩ => ⟨S8x4096x2x1, .f32⟩
  | .hbm, ⟨66, _⟩ => ⟨S8x4096x2x128, .f32⟩
  | .hbm, ⟨67, _⟩ => ⟨S8x4096x2x128, .f32⟩
  | .hbm, ⟨68, _⟩ => ⟨S8x4096x256, .f32⟩
  | .hbm, ⟨69, _⟩ => ⟨S8x4096x256, .f32⟩
  | .hbm, ⟨70, _⟩ => ⟨S8x2x128x4096, .f32⟩
  | .hbm, ⟨71, _⟩ => ⟨S8x4096x256, .i8⟩
  | .hbm, ⟨72, _⟩ => ⟨S8x4096x256, .fp8e4m3⟩
  | .hbm, ⟨73, _⟩ => ⟨S8x2x128x4096, .fp8e4m3⟩
  | .local _ .vmem, ⟨0, _⟩ => ⟨S8x4096x256, .f32⟩
  | .local _ .vmem, ⟨1, _⟩ => ⟨S8x4096x256, .f32⟩
  | .local _ .vmem, ⟨2, _⟩ => ⟨S8x2x128x4096, .f32⟩
  | .local _ .vmem, ⟨3, _⟩ => ⟨S8x4096x256, .i8⟩
  | .local _ .vmem, ⟨4, _⟩ => ⟨S8x4096x256, .fp8e4m3⟩
  | .local _ .vmem, ⟨5, _⟩ => ⟨S8x2x128x4096, .fp8e4m3⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_cst_12 : Ref sig .tc := ⟨.hbm, 55, rfl⟩
abbrev main_call2_v0 : Ref sig .tc := ⟨.hbm, 56, rfl⟩
abbrev main_v36 : Ref sig .tc := ⟨.hbm, 57, rfl⟩
abbrev main_v37 : Ref sig .tc := ⟨.hbm, 58, rfl⟩
abbrev main_cst_13 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49_0 : Ref sig .tc := ⟨.hbm, 71, rfl⟩
abbrev main_v49_1 : Ref sig .tc := ⟨.hbm, 72, rfl⟩
abbrev main_v49_2 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2x128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2x128x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Model.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Body

open Idealize.ShloMosaic Idealize.ShloMosaic.TcCoe
open Cert.KernelIdeal.Gen

/-! ## What one grid point computes, as functions of its blocks

The grid point's key/value head is `h` and its query block is `qi`. -/

variable {F : FTy → Type} [FloatOps F] [Named F]

section Windows

variable {α : Type}

/-- Rows `256 k … 256 k + 255` of a matrix of 4096 rows (`k` counts modulo 16). -/
def rows (w : ℕ) (X : (⟨2, ![4096, w]⟩ : Shape).Idx → α) (k : ℕ) : (⟨2, ![256, w]⟩ : Shape).Idx → α :=
  VecWindow.window X ![256 * (k % 16), 0] ![256, w] (by
    intro a; fin_cases a
    · show 256 * (k % 16) + 256 ≤ 4096; omega
    · show 0 + w ≤ w; omega)

/-- Keys `256 k … 256 k + 255` of the block of key codes. -/
def keyTile (X : S1x4096x128.Idx → α) (k : ℕ) : S1x256x128.Idx → α :=
  VecWindow.window X ![0, 256 * (k % 16), 0] ![1, 256, 128] (by
    intro a; fin_cases a
    · show 0 + 1 ≤ 1; omega
    · show 256 * (k % 16) + 256 ≤ 4096; omega
    · show 0 + 128 ≤ 128; omega)

/-- The scales of those keys, of head `h`. -/
def keyScaleTile (X : S1x2x4096.Idx → α) (h : Fin 2) (k : ℕ) : S1x1x256.Idx → α :=
  VecWindow.window X ![0, h.val, 256 * (k % 16)] ![1, 1, 256] (by
    intro a; fin_cases a
    · show 0 + 1 ≤ 1; omega
    · show h.val + 1 ≤ 2; omega
    · show 256 * (k % 16) + 256 ≤ 4096; omega)

/-- Columns `256 k … 256 k + 255` of the transposed values. -/
def valTile (X : S1x1x128x4096.Idx → α) (k : ℕ) : S1x1x128x256.Idx → α :=
  VecWindow.window X ![0, 0, 0, 256 * (k % 16)] ![1, 1, 128, 256] (by
    intro a; fin_cases a
    · show 0 + 1 ≤ 1; omega
    · show 0 + 1 ≤ 1; omega
    · show 0 + 128 ≤ 128; omega
    · show 256 * (k % 16) + 256 ≤ 4096; omega)

/-- The query codes of head `g` of the group. -/
def queryHead (X : S1x256x512.Idx → α) (g : Fin 4) : S1x256x128.Idx → α :=
  VecWindow.window X ![0, 0, 128 * g.val] ![1, 256, 128] (by
    intro a; fin_cases a
    · show 0 + 1 ≤ 1; omega
    · show 0 + 256 ≤ 256; omega
    · show 128 * g.val + 128 ≤ 512; omega)

/-- The query scales of head `g` of the group of `h`. -/
def queryScale (X : S1x8x256.Idx → α) (h : Fin 2) (g : Fin 4) : S1x1x256.Idx → α :=
  VecWindow.window X ![0, 4 * h.val + g.val, 0] ![1, 1, 256] (by
    intro a; fin_cases a
    · show 0 + 1 ≤ 1; omega
    · show 4 * h.val + g.val + 1 ≤ 8; omega
    · show 0 + 256 ≤ 256; omega)

/-- The value scales of head `h`. -/
def valScale (X : S1x2x128.Idx → α) (h : Fin 2) : S1x1x128.Idx → α :=
  VecWindow.window X ![0, h.val, 0] ![1, 1, 128] (by
    intro a; fin_cases a
    · show 0 + 1 ≤ 1; omega
    · show h.val + 1 ≤ 2; omega
    · show 0 + 128 ≤ 128; omega)

end Windows

/-- The transposed queries of the group, one head after another, as the four stores leave them. -/
def queries (X3 : Vec F S1x256x512 .i8) : Vec F S128x1024 .bf16 :=
  View.canon (Val := Elt F) (s := S128x1024) (e := .bf16)
    [⟨Rect.unit (s := S128x1024) ![0, 768] S128x256.size inb_S128x1024_S128x256_0_768, k0_pay11 (queryHead X3 3)⟩,
     ⟨Rect.unit (s := S128x1024) ![0, 512] S128x256.size inb_S128x1024_S128x256_0_512, k0_pay10 (queryHead X3 2)⟩,
     ⟨Rect.unit (s := S128x1024) ![0, 256] S128x256.size inb_S128x1024_S128x256_0_256, k0_pay7 (queryHead X3 1)⟩,
     ⟨Rect.unit (s := S128x1024) ![0, 0] S128x256.size inb_S128x1024_S128x256_0_0, k0_pay5 (queryHead X3 0)⟩]

/-- The queries' scales times the base-2 logarithm of e, as one row. -/
def scales (X4 : Vec F S1x8x256 .f32) (h : Fin 2) : FVec F S1x1024 .f32 :=
  k0_pay12 (k0_pay6 (queryScale X4 h 0)) (k0_pay8 (queryScale X4 h 1)) k0_pay9 (queryScale X4 h 2) (queryScale X4 h 3)

/-- The running row maxima (eight partial ones per column) over the first `k` tiles of keys. -/
def maxes (K : ℕ → Vec F S256x128 .bf16) (Q : Vec F S128x1024 .bf16) (S : ℕ → Vec F S256x128 .f32) : ℕ → FVec F S8x1024 .f32
  | 0 => k0_pay13
  | k + 1 => k0_pay16 (maxes K Q S k) (K k) Q (S k)

/-- The scores of the first `qi` tiles unmasked, of tile `qi` under the causal mask. -/
def scores (K : ℕ → Vec F S256x128 .bf16) (Q : Vec F S128x1024 .bf16) (S : ℕ → Vec F S256x128 .f32) (qi : ℕ) (j : ℕ) : FVec F S256x1024 .f32 :=
  if j = qi then k0_pay21 (K j) Q (S j) else k0_pay15 (K j) Q (S j)

/-- The running denominators (eight partial ones per column) and the running weighted sums of the values over the first
    `k` tiles. -/
def sums (v63 : FVec F S1x1024 .f32) (v71 v108 : FVec F S8x1024 .f32) (T : ℕ → Vec F S256x1024 .f32)
    (V : ℕ → Vec F S1x1x128x256 .fp8e4m3) : ℕ → FVec F S8x1024 .f32 × FVec F S128x1024 .f32
  | 0 => (k0_pay24, k0_pay25)
  | k + 1 => (k0_pay27 v63 v71 v108 (sums v63 v71 v108 T V k).1 (T k), k0_pay28 v63 v71 v108 (sums v63 v71 v108 T V k).2 (T k) (V k))

section Point

variable (X3 : Vec F S1x256x512 .i8) (X4 : Vec F S1x8x256 .f32) (X5 : Vec F S1x4096x128 .i8) (X6 : Vec F S1x2x4096 .f32)
  (X7 : Vec F S1x1x128x4096 .fp8e4m3) (X8 : Vec F S1x2x128 .f32) (h : Fin 2) (qi : ℕ)

/-- The widened keys of tile `j`, and their scales along the rows. -/
def keys (j : ℕ) : Vec F S256x128 .bf16 := k0_pay3 (keyTile X5 j)
def keyScales (j : ℕ) : Vec F S256x128 .f32 := k0_pay4 (keyScaleTile X6 h j)

/-- The scores, the maxima before and in the masked tile, and the final sums of the grid point. -/
def pointScores : ℕ → FVec F S256x1024 .f32 := scores (keys X5) (queries X3) (keyScales X6 h) qi
def pointMax : FVec F S8x1024 .f32 := maxes (keys X5) (queries X3) (keyScales X6 h) qi
def pointMaskedMax : FVec F S8x1024 .f32 := k0_pay22 (keys X5 qi) (queries X3) (keyScales X6 h qi)
def pointSums : FVec F S8x1024 .f32 × FVec F S128x1024 .f32 :=
  sums (scales X4 h) (pointMax X3 X5 X6 h qi) (pointMaskedMax X3 X5 X6 h qi) (pointScores X3 X5 X6 h qi) (valTile X7) (qi + 1)

/-- The result block, as the four stores leave it. -/
def result : Vec F S1x256x512 .bf16 :=
  View.canon (Val := Elt F) (s := S1x256x512) (e := .bf16)
    [⟨Rect.unit (s := S1x256x512) ![0, 0, 384] S1x256x128.size inb_S1x256x512_S1x256x128_0_0_384,
        k0_pay2 (k0_pay32 (pointSums X3 X4 X5 X6 X7 h qi).1 (pointSums X3 X4 X5 X6 X7 h qi).2) (k0_pay33 (valScale X8 h))⟩,
     ⟨Rect.unit (s := S1x256x512) ![0, 0, 256] S1x256x128.size inb_S1x256x512_S1x256x128_0_0_256,
        k0_pay1 (k0_pay33 (valScale X8 h)) (k0_pay36 (pointSums X3 X4 X5 X6 X7 h qi).1 (pointSums X3 X4 X5 X6 X7 h qi).2)⟩,
     ⟨Rect.unit (s := S1x256x512) ![0, 0, 128] S1x256x128.size inb_S1x256x512_S1x256x128_0_0_128,
        k0_pay35 (pointSums X3 X4 X5 X6 X7 h qi).1 (pointSums X3 X4 X5 X6 X7 h qi).2 (valScale X8 h)⟩,
     ⟨Rect.unit (s := S1x256x512) ![0, 0, 0] S1x256x128.size inb_S1x256x512_S1x256x128_0_0_0,
        k0_pay34 (pointSums X3 X4 X5 X6 X7 h qi).1 (pointSums X3 X4 X5 X6 X7 h qi).2 (valScale X8 h)⟩]

end Point

end Cert.KernelIdeal.Body

end
-- ==== Proof.Parts.lean ====
module

public import proofs.«01_k».proof.Proof.Model
public import Idealize.ShloMosaic.Lib.WritesUnit
public import Idealize.ShloMosaic.Lib.Exec
public import Idealize.ShloMosaic.Lib.Tactic

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! ## Tiles of rows after a store of one tile -/

section Rows

variable {w : ℕ} {e : EltTy} (v : View sig .tc .vmem (⟨2, ![4096, w]⟩ : Shape) e) (f : v.ty.Contents (Elt F))

/-- A load of the 256 rows at `256 k` is tile `k`. -/
theorem readAt_rows {off : Fin 2 → ℕ} (inb : ∀ a, off a + (⟨2, ![256, w]⟩ : Shape).size a ≤ (⟨2, ![4096, w]⟩ : Shape).size a) (k : ℕ) (hk : k < 16)
    (hoff : off = ![256 * k, 0]) :
    v.readAt (Elt F) (Rect.unit (s := ⟨2, ![4096, w]⟩) off (⟨2, ![256, w]⟩ : Shape).size inb).toLoadRect f = rows w (v.read (Elt F) f) k :=
  View.readAt_unit v f inb (by rw [hoff, Nat.mod_eq_of_lt hk]) _

/-- Storing tile `k` leaves it there … -/
theorem rows_store_same {off : Fin 2 → ℕ} (inb : ∀ a, off a + (⟨2, ![256, w]⟩ : Shape).size a ≤ (⟨2, ![4096, w]⟩ : Shape).size a) (k : ℕ) (hk : k < 16)
    (hoff : off = ![256 * k, 0]) (p : (⟨2, ![256, w]⟩ : Shape).Idx → Elt F e) :
    rows w (v.read (Elt F) (v.writes (Elt F) f [⟨Rect.unit (s := ⟨2, ![4096, w]⟩) off (⟨2, ![256, w]⟩ : Shape).size inb, p⟩])) k = p := by
  rw [View.read_writes_cons_put v f inb p [] (off' := ![256 * (k % 16), 0]) (by rw [hoff, Nat.mod_eq_of_lt hk])]
  exact VecWindow.window_put_same _ _ _ _ _

/-- … and the other tiles as they were. -/
theorem rows_store_other {off : Fin 2 → ℕ} (inb : ∀ a, off a + (⟨2, ![256, w]⟩ : Shape).size a ≤ (⟨2, ![4096, w]⟩ : Shape).size a) (k j : ℕ) (hk : k < 16)
    (hj : j < 16) (hne : j ≠ k) (hoff : off = ![256 * k, 0]) (p : (⟨2, ![256, w]⟩ : Shape).Idx → Elt F e) :
    rows w (v.read (Elt F) (v.writes (Elt F) f [⟨Rect.unit (s := ⟨2, ![4096, w]⟩) off (⟨2, ![256, w]⟩ : Shape).size inb, p⟩])) j
      = rows w (v.read (Elt F) f) j := by
  rw [View.read_writes_cons_put v f inb p [] (off' := ![256 * (k % 16), 0]) (by rw [hoff, Nat.mod_eq_of_lt hk])]
  refine VecWindow.window_put_of_disjoint _ _ _ _ _ _ _ (0 : Fin 2) ?_
  show 256 * (j % 16) + 256 ≤ 256 * (k % 16) ∨ 256 * (k % 16) + 256 ≤ 256 * (j % 16)
  rw [Nat.mod_eq_of_lt hk, Nat.mod_eq_of_lt hj]; omega

/-- A load of the whole is what the view reads. -/
theorem readAt_whole {s : Shape} {e : EltTy} (v : View sig .tc .vmem s e) (f : v.ty.Contents (Elt F)) {off : Fin s.rank → ℕ} (inb : ∀ a, off a + s.size a ≤ s.size a) :
    v.readAt (Elt F) (Rect.unit off s.size inb).toLoadRect f = v.read (Elt F) f :=
  View.readAt_full v f inb

end Rows

section Reads

/-- The loads of one query head, of its scales and of the value scales read the block's windows. -/
theorem readAt_head (v : View sig .tc .vmem S1x256x512 .i8) (f : v.ty.Contents (Elt F)) {off : Fin 3 → ℕ} (inb : ∀ a, off a + S1x256x128.size a ≤ S1x256x512.size a) (g : Fin 4)
    (hoff : off = ![0, 0, 128 * g.val]) :
    v.readAt (Elt F) (Rect.unit (s := S1x256x512) off S1x256x128.size inb).toLoadRect f = queryHead (v.read (Elt F) f) g :=
  View.readAt_unit v f inb hoff _

theorem readAt_qscale (v : View sig .tc .vmem S1x8x256 .f32) (f : v.ty.Contents (Elt F)) {off : Fin 3 → ℕ} (inb : ∀ a, off a + S1x1x256.size a ≤ S1x8x256.size a) (h : Fin 2) (g : Fin 4)
    (hoff : off = ![0, 4 * h.val + g.val, 0]) :
    v.readAt (Elt F) (Rect.unit (s := S1x8x256) off S1x1x256.size inb).toLoadRect f = queryScale (v.read (Elt F) f) h g :=
  View.readAt_unit v f inb hoff _

theorem readAt_vscale (v : View sig .tc .vmem S1x2x128 .f32) (f : v.ty.Contents (Elt F)) {off : Fin 3 → ℕ} (inb : ∀ a, off a + S1x1x128.size a ≤ S1x2x128.size a) (h : Fin 2)
    (hoff : off = ![0, h.val, 0]) :
    v.readAt (Elt F) (Rect.unit (s := S1x2x128) off S1x1x128.size inb).toLoadRect f = valScale (v.read (Elt F) f) h :=
  View.readAt_unit v f inb hoff _

theorem readAt_values (v : View sig .tc .vmem S1x1x128x4096 .fp8e4m3) (f : v.ty.Contents (Elt F)) {off : Fin 4 → ℕ} (inb : ∀ a, off a + S1x1x128x256.size a ≤ S1x1x128x4096.size a) (k : ℕ) (hk : k < 16)
    (hoff : off = ![0, 0, 0, 256 * k]) :
    v.readAt (Elt F) (Rect.unit (s := S1x1x128x4096) off S1x1x128x256.size inb).toLoadRect f = valTile (v.read (Elt F) f) k :=
  View.readAt_unit v f inb (by rw [hoff, Nat.mod_eq_of_lt hk]) _

end Reads

/-! ## The loops' trip counts -/

theorem t1_trips : k0_t1_loop.trips = 16 := by decide +kernel
theorem t2_trips (i : grid0.Coords) : (k0_t2_loop i).trips = (i 2).val := by
  have h : ∀ q : Fin 16, (⟨0#32, Scalar.addi 0#32 (Scalar.muli (Scalar.divsi (Scalar.subi (BitVec.ofNat 32 q.val) 0#32) 1#32) 1#32), 1#32⟩ : Scf.Loop 32).trips = q.val := by
    decide +kernel
  exact h (i 2)
theorem t3_trips (i : grid0.Coords) : (k0_t3_loop i).trips = 0 := Nat.le_zero.1 (k0_t3_abs i).2.1
theorem t5_trips (i : grid0.Coords) : (k0_t5_loop i).trips = 0 := Nat.le_zero.1 (k0_t5_abs i).2.1
theorem t4_trips (i : grid0.Coords) : (k0_t4_loop i).trips = (i 2).val + 1 := by
  have h : ∀ q : Fin 16, (⟨0#32, Scalar.addi 0#32 (Scalar.muli (Scalar.divsi (Scalar.subi (Scalar.addi (BitVec.ofNat 32 q.val) 1#32) 0#32) 1#32) 1#32), 1#32⟩ : Scf.Loop 32).trips = q.val + 1 := by
    decide +kernel
  exact h (i 2)

theorem coord1_lt (i : grid0.Coords) : (i 1).val < 2 := (i 1).isLt
theorem coord2_lt (i : grid0.Coords) : (i 2).val < 16 := (i 2).isLt

/-! ## The body's four parts -/

section Parts

variable (𝒱 : Variants) (c : Dev nD) (bd : Option 𝒱.V) (E : Set ℕ) (i : grid0.Coords) (arg3 : Memref sig .tc .vmem S1x256x512 .i8) (harg3 : arg3.IsWhole) (arg4 : Memref sig .tc .vmem S1x8x256 .f32) (harg4 : arg4.IsWhole) (arg5 : Memref sig .tc .vmem S1x4096x128 .i8) (harg5 : arg5.IsWhole) (arg6 : Memref sig .tc .vmem S1x2x4096 .f32) (harg6 : arg6.IsWhole) (arg7 : Memref sig .tc .vmem S1x1x128x4096 .fp8e4m3) (harg7 : arg7.IsWhole) (arg8 : Memref sig .tc .vmem S1x2x128 .f32) (harg8 : arg8.IsWhole) (arg9 : Memref sig .tc .vmem S1x256x512 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S128x1024 .bf16) (harg12 : arg12.IsWhole) (arg13 : Memref sig .tc .vmem S4096x1024 .f32) (harg13 : arg13.IsWhole)

/-- The scratch matrix of scores before trip `k` of the first loop of part 3. -/
def ScoresTo (K : ℕ → Vec F S256x128 .bf16) (Q : Vec F S128x1024 .bf16) (S : ℕ → Vec F S256x128 .f32) (k : ℕ) (X : Vec F S4096x1024 .f32) : Prop :=
  ∀ j, j < k → rows 1024 X j = k0_pay15 (K j) Q (S j)

/-- The invariant of the loop over the unmasked tiles. -/
abbrev inv2 (f10 : BufTy.Contents (Elt F) arg10.view.ty) (f11 : BufTy.Contents (Elt F) arg11.view.ty) (f12 : BufTy.Contents (Elt F) arg12.view.ty) (k : ℕ) (acc : FVec F S8x1024 .f32) : sProp 𝕄 :=
  iprop((arg10.view.loc (c : Thread nD τ) ↦[arg10.view.set]{fullShare} f10) ∗ (arg11.view.loc (c : Thread nD τ) ↦[arg11.view.set]{fullShare} f11)
    ∗ (arg12.view.loc (c : Thread nD τ) ↦[arg12.view.set]{fullShare} f12)
    ∗ (∃ f13, (arg13.view.loc (c : Thread nD τ) ↦[arg13.view.set]{fullShare} f13)
        ∗ ⌜ScoresTo (rows 128 (arg10.view.read (Elt F) f10)) (arg12.view.read (Elt F) f12) (rows 128 (arg11.view.read (Elt F) f11)) k (arg13.view.read (Elt F) f13)⌝)
    ∗ ⌜acc = maxes (rows 128 (arg10.view.read (Elt F) f10)) (arg12.view.read (Elt F) f12) (rows 128 (arg11.view.read (Elt F) f11)) k⌝)

theorem step2 (arg2 : BitVec 32) (v64 : FVec F S8x1024 .f32) (c0_i32_31 : BitVec 32) (v65 : BitVec 32) (c1_i32_32 : BitVec 32)
    (f10 : BufTy.Contents (Elt F) arg10.view.ty) (f11 : BufTy.Contents (Elt F) arg11.view.ty) (f12 : BufTy.Contents (Elt F) arg12.view.ty)
    (k : Fin (k0_t2_loop i).trips) (acc : FVec F S8x1024 .f32) :
    inv2 c arg10 arg11 arg12 arg13 f10 f11 f12 k.val acc
      ⊢ wp frame (wpE (defs₀ (F := F)) 𝒱 (c : Thread nD τ) bd) E (k0_t2_body (F := F) i arg3 harg3 arg4 harg4 arg5 harg5 arg6 harg6 arg7 harg7 arg8 harg8 arg9 harg9 arg10 harg10 arg11 harg11 arg12 harg12 arg13 harg13 arg2 v64 c0_i32_31 v65 c1_i32_32 k acc)
          (inv2 c arg10 arg11 arg12 arg13 f10 f11 f12 (k.val + 1)) := by
  have hk : k.val < 16 := by exact (k.isLt.trans_eq (t2_trips i)).trans (coord2_lt i)
  unfold k0_t2_body
  iintro ⟨H10, H11, H12, ⟨%f13, H13, %h13⟩, %hacc⟩
  subst hacc
  sl_exec
  sl_step
  rw [readAt_rows arg10.view f10 _ k.val hk (k0_off5_eq i k), readAt_rows arg11.view f11 _ k.val hk (k0_off5_eq i k), readAt_whole]
  isplitl [H10]; · iexact H10
  isplitl [H11]; · iexact H11
  isplitl [H12]; · iexact H12
  isplitl [H13]
  · iexists _; isplitl [H13]; · iexact H13
    ipureintro
    intro j hj
    by_cases hjk : j = k.val
    · subst hjk
      exact rows_store_same arg13.view f13 _ k.val hk (k0_off6_eq i k) _
    · rw [rows_store_other arg13.view f13 _ k.val j hk (by omega) hjk (k0_off6_eq i k)]
      exact h13 j (by omega)
  ipureintro; rfl

/-- Part 3: the scores of tiles `0 … qi` stand in the scratch matrix, and the maxima are returned. -/
theorem part3 (arg2 : BitVec 32) (c0_i32_31 : BitVec 32) (v65 : BitVec 32) (c1_i32_32 : BitVec 32)
    (f10 : BufTy.Contents (Elt F) arg10.view.ty) (f11 : BufTy.Contents (Elt F) arg11.view.ty) (f12 : BufTy.Contents (Elt F) arg12.view.ty) (f13 : BufTy.Contents (Elt F) arg13.view.ty) :
    iprop((arg10.view.loc (c : Thread nD τ) ↦[arg10.view.set]{fullShare} f10) ∗ (arg11.view.loc (c : Thread nD τ) ↦[arg11.view.set]{fullShare} f11)
      ∗ (arg12.view.loc (c : Thread nD τ) ↦[arg12.view.set]{fullShare} f12) ∗ (arg13.view.loc (c : Thread nD τ) ↦[arg13.view.set]{fullShare} f13))
      ⊢ (wp frame (wpE (defs₀ (F := F)) 𝒱 (c : Thread nD τ) bd) E (k0_part3 (F := F) i arg3 harg3 arg4 harg4 arg5 harg5 arg6 harg6 arg7 harg7 arg8 harg8 arg9 harg9 arg10 harg10 arg11 harg11 arg12 harg12 arg13 harg13 arg2 k0_pay13 c0_i32_31 v65 c1_i32_32)
          fun r => iprop((arg10.view.loc (c : Thread nD τ) ↦[arg10.view.set]{fullShare} f10) ∗ (arg11.view.loc (c : Thread nD τ) ↦[arg11.view.set]{fullShare} f11)
            ∗ (arg12.view.loc (c : Thread nD τ) ↦[arg12.view.set]{fullShare} f12)
            ∗ (∃ f13', (arg13.view.loc (c : Thread nD τ) ↦[arg13.view.set]{fullShare} f13')
                ∗ ⌜∀ j, j ≤ (i 2).val → rows 1024 (arg13.view.read (Elt F) f13') j
                    = scores (rows 128 (arg10.view.read (Elt F) f10)) (arg12.view.read (Elt F) f12) (rows 128 (arg11.view.read (Elt F) f11)) (i 2).val j⌝)
            ∗ ⌜r = ⟨maxes (rows 128 (arg10.view.read (Elt F) f10)) (arg12.view.read (Elt F) f12) (rows 128 (arg11.view.read (Elt F) f11)) (i 2).val,
                k0_pay22 (rows 128 (arg10.view.read (Elt F) f10) (i 2).val) (arg12.view.read (Elt F) f12) (rows 128 (arg11.view.read (Elt F) f11) (i 2).val)⟩⌝) : sProp 𝕄) := by
  have hq : (i 2).val < 16 := coord2_lt i
  rw [k0_part3_eq_skeleton]
  unfold k0_part3_skel
  unfold Scf.Loop.for
  iintro ⟨H10, H11, H12, H13⟩
  iapply (Scf.wp_for_bind frame (wpE (defs₀ (F := F)) 𝒱 (c : Thread nD τ) bd) E (k0_t2_loop i).lb (k0_t2_loop i).ub (k0_t2_loop i).st (k0_t2_ok i) k0_pay13 _
    (inv2 c arg10 arg11 arg12 arg13 f10 f11 f12) (step2 𝒱 c bd E i arg3 harg3 arg4 harg4 arg5 harg5 arg6 harg6 arg7 harg7 arg8 harg8 arg9 harg9 arg10 harg10 arg11 harg11 arg12 harg12 arg13 harg13 arg2 k0_pay13 c0_i32_31 v65 c1_i32_32 f10 f11 f12)) $$ [H10 H11 H12 H13]
  · isplitl [H10]; · iexact H10
    isplitl [H11]; · iexact H11
    isplitl [H12]; · iexact H12
    isplitl [H13]
    · iexists f13; isplitl [H13]; · iexact H13
      ipureintro; exact fun j hj => absurd hj (Nat.not_lt_zero j)
    ipureintro; rfl
  iintro %acc ⟨H10, H11, H12, ⟨%f13', H13, %h13⟩, %hacc⟩
  have hT : Scf.trips (k0_t2_loop i).lb (k0_t2_loop i).ub (k0_t2_loop i).st = (i 2).val := t2_trips i
  rw [hT] at h13 hacc
  iapply (Scf.wp_for_bind frame (wpE (defs₀ (F := F)) 𝒱 (c : Thread nD τ) bd) E (k0_t3_loop i).lb (k0_t3_loop i).ub (k0_t3_loop i).st (k0_t3_ok i) acc _
    (fun _ a => iprop(⌜a = acc⌝)) (fun k => absurd (k.isLt.trans_eq (t3_trips i)) (Nat.not_lt_zero _))) $$ []
  · ipureintro; rfl
  iintro %acc' %hacc'
  subst hacc'
  sl_exec
  sl_step
  rw [readAt_rows arg10.view f10 _ (i 2).val hq (k0_off9_eq i), readAt_rows arg11.view f11 _ (i 2).val hq (k0_off9_eq i), readAt_whole]
  isplitl [H10]; · iexact H10
  isplitl [H11]; · iexact H11
  isplitl [H12]; · iexact H12
  isplitl [H13]
  · iexists _; isplitl [H13]; · iexact H13
    ipureintro
    intro j hj
    unfold scores
    by_cases hjk : j = (i 2).val
    · subst hjk
      rw [if_pos rfl]
      exact rows_store_same arg13.view f13' _ (i 2).val hq (k0_off10_eq i) _
    · rw [if_neg hjk, rows_store_other arg13.view f13' _ (i 2).val j hq (by omega) hjk (k0_off10_eq i)]
      exact h13 j (by omega)
  ipureintro
  rw [hacc]

/-- Tiles `0 … k-1` of the widened keys and of their scales stand in the two scratch matrices. -/
def FilledTo (X5 : Vec F S1x4096x128 .i8) (X6 : Vec F S1x2x4096 .f32) (h : Fin 2) (k : ℕ) (X10 : Vec F S4096x128 .bf16) (X11 : Vec F S4096x128 .f32) : Prop :=
  ∀ j, j < k → rows 128 X10 j = keys X5 j ∧ rows 128 X11 j = keyScales X6 h j

/-- The invariant of the loop that widens the keys. -/
abbrev inv1 (f5 : BufTy.Contents (Elt F) arg5.view.ty) (f6 : BufTy.Contents (Elt F) arg6.view.ty) (k : ℕ) (_ : PUnit.{1}) : sProp 𝕄 :=
  iprop((arg5.view.loc (c : Thread nD τ) ↦[arg5.view.set]{fullShare} f5) ∗ (arg6.view.loc (c : Thread nD τ) ↦[arg6.view.set]{fullShare} f6)
    ∗ (∃ f10 f11, (arg10.view.loc (c : Thread nD τ) ↦[arg10.view.set]{fullShare} f10) ∗ (arg11.view.loc (c : Thread nD τ) ↦[arg11.view.set]{fullShare} f11)
        ∗ ⌜FilledTo (arg5.view.read (Elt F) f5) (arg6.view.read (Elt F) f6) (i 1) k (arg10.view.read (Elt F) f10) (arg11.view.read (Elt F) f11)⌝))

theorem step1 (hc : k0_cond1 i = 1#1) (f5 : BufTy.Contents (Elt F) arg5.view.ty) (f6 : BufTy.Contents (Elt F) arg6.view.ty)
    (k : Fin k0_t1_loop.trips) (acc : PUnit) :
    inv1 c i arg5 arg6 arg10 arg11 f5 f6 k.val acc
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 hc k acc)
          (inv1 c i arg5 arg6 arg10 arg11 f5 f6 (k.val + 1)) := by
  have hk : k.val < 16 := k.isLt.trans_eq t1_trips
  unfold k0_t1_body
  iintro ⟨H5, H6, ⟨%f10, %f11, H10, H11, %hf⟩⟩
  sl_exec
  sl_step
  isplitl [H5]; · iexact H5
  isplitl [H6]; · iexact H6
  iexists _, _
  isplitl [H10]; · iexact H10
  isplitl [H11]; · iexact H11
  ipureintro
  intro j hj
  by_cases hjk : j = k.val
  · subst hjk
    rw [rows_store_same arg10.view f10 _ k.val hk (k0_off2_eq k), rows_store_same arg11.view f11 _ k.val hk (k0_off2_eq k)]
    constructor
    · exact congrArg k0_pay3 (View.readAt_unit arg5.view f5 _ (by rw [k0_off1_eq k, Nat.mod_eq_of_lt hk]) _)
    · exact congrArg k0_pay4 (View.readAt_unit arg6.view f6 _ (by rw [k0_off3_eq i k, Nat.mod_eq_of_lt hk]) _)
  · rw [rows_store_other arg10.view f10 _ k.val j hk (by omega) hjk (k0_off2_eq k), rows_store_other arg11.view f11 _ k.val j hk (by omega) hjk (k0_off2_eq k)]
    exact hf j (by omega)

/-- Part 1: the key scratch is filled at the first query block of a head and untouched elsewhere; two heads of the
    queries are stored, and their scales read. -/
theorem part1 (f3 : BufTy.Contents (Elt F) arg3.view.ty) (f4 : BufTy.Contents (Elt F) arg4.view.ty) (f5 : BufTy.Contents (Elt F) arg5.view.ty) (f6 : BufTy.Contents (Elt F) arg6.view.ty) (f10 : BufTy.Contents (Elt F) arg10.view.ty) (f11 : BufTy.Contents (Elt F) arg11.view.ty) (f12 : BufTy.Contents (Elt F) arg12.view.ty) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ (wp frame (wpE (defs₀ (F := F)) 𝒱 (c : Thread nD τ) bd) E (k0_part1 (F := F) i arg3 harg3 arg4 harg4 arg5 harg5 arg6 harg6 arg7 harg7 arg8 harg8 arg9 harg9 arg10 harg10 arg11 harg11 arg12 harg12 arg13 harg13)
          fun r => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)
            ∗ (∃ f10' f11', (arg10.view.loc (c : Thread nD τ) ↦[arg10.view.set]{fullShare} f10') ∗ (arg11.view.loc (c : Thread nD τ) ↦[arg11.view.set]{fullShare} f11')
                ∗ ⌜(k0_cond1 i = 1#1 → FilledTo (arg5.view.read (Elt F) f5) (arg6.view.read (Elt F) f6) (i 1) 16 (arg10.view.read (Elt F) f10') (arg11.view.read (Elt F) f11'))
                    ∧ (k0_cond1 i ≠ 1#1 → f10' = f10 ∧ f11' = f11)⌝)
            ∗ (arg12.view.loc (c : Thread nD τ) ↦[arg12.view.set]{fullShare} arg12.view.writes (Elt F) f12
                [⟨Rect.unit (s := S128x1024) ![0, 256] S128x256.size inb_S128x1024_S128x256_0_256, k0_pay7 (queryHead (arg3.view.read (Elt F) f3) 1)⟩,
                 ⟨Rect.unit (s := S128x1024) ![0, 0] S128x256.size inb_S128x1024_S128x256_0_0, k0_pay5 (queryHead (arg3.view.read (Elt F) f3) 0)⟩])
            ∗ ⌜r = ⟨BitVec.ofNat 32 (i 1).val, BitVec.ofNat 32 (i 2).val, k0_pay6 (queryScale (arg4.view.read (Elt F) f4) (i 1) 0), k0_pay8 (queryScale (arg4.view.read (Elt F) f4) (i 1) 1), k0_pay9⟩⌝) : sProp 𝕄) := by
  rw [k0_part1_eq_skeleton]
  unfold k0_part1_skel
  by_cases hc : k0_cond1 i = 1#1
  · rw [dif_pos hc]
    unfold Scf.Loop.for
    iintro ⟨H3, H4, H5, H6, H10, H11, H12⟩
    iapply (Scf.wp_for_bind frame (wpE (defs₀ (F := F)) 𝒱 (c : Thread nD τ) bd) E k0_t1_loop.lb k0_t1_loop.ub k0_t1_loop.st (k0_t1_ok i hc) ⟨⟩ _
      (inv1 c i arg5 arg6 arg10 arg11 f5 f6) (step1 𝒱 c bd E i arg3 harg3 arg4 harg4 arg5 harg5 arg6 harg6 arg7 harg7 arg8 harg8 arg9 harg9 arg10 harg10 arg11 harg11 arg12 harg12 arg13 harg13 hc f5 f6)) $$ [H5 H6 H10 H11]
    · isplitl [H5]; · iexact H5
      isplitl [H6]; · iexact H6
      iexists f10, f11
      isplitl [H10]; · iexact H10
      isplitl [H11]; · iexact H11
      ipureintro; exact fun j hj => absurd hj (Nat.not_lt_zero j)
    iintro %_ ⟨H5, H6, ⟨%f10', %f11', H10, H11, %hf⟩⟩
    have hT : Scf.trips k0_t1_loop.lb k0_t1_loop.ub k0_t1_loop.st = 16 := t1_trips
    rw [hT] at hf
    sl_exec
    sl_step
    rw [readAt_head arg3.view f3 (off := ![0, 0, 0]) inb_S1x256x512_S1x256x128_0_0_0 0 rfl, readAt_head arg3.view f3 (off := ![0, 0, 128]) inb_S1x256x512_S1x256x128_0_0_128 1 rfl, readAt_qscale arg4.view f4 (off := k0_off4 i 0#32) (k0_off4_inb i 0) (i 1) 0 (k0_off4_eq i 0), readAt_qscale arg4.view f4 (off := k0_off4 i 1#32) (k0_off4_inb i 1) (i 1) 1 (k0_off4_eq i 1)]
    isplitl [H3]; · iexact H3
    isplitl [H4]; · iexact H4
    isplitl [H5]; · iexact H5
    isplitl [H6]; · iexact H6
    isplitl [H10 H11]
    · iexists f10', f11'
      isplitl [H10]; · iexact H10
      isplitl [H11]; · iexact H11
      ipureintro; exact ⟨fun _ => hf, fun h => absurd hc h⟩
    isplitl [H12]; · iexact H12
    ipureintro; rfl
  · rw [dif_neg hc]
    iintro ⟨H3, H4, H5, H6, H10, H11, H12⟩
    sl_exec
    sl_step
    rw [readAt_head arg3.view f3 (off := ![0, 0, 0]) inb_S1x256x512_S1x256x128_0_0_0 0 rfl, readAt_head arg3.view f3 (off := ![0, 0, 128]) inb_S1x256x512_S1x256x128_0_0_128 1 rfl, readAt_qscale arg4.view f4 (off := k0_off4 i 0#32) (k0_off4_inb i 0) (i 1) 0 (k0_off4_eq i 0), readAt_qscale arg4.view f4 (off := k0_off4 i 1#32) (k0_off4_inb i 1) (i 1) 1 (k0_off4_eq i 1)]
    isplitl [H3]; · iexact H3
    isplitl [H4]; · iexact H4
    isplitl [H5]; · iexact H5
    isplitl [H6]; · iexact H6
    isplitl [H10 H11]
    · iexists f10, f11
      isplitl [H10]; · iexact H10
      isplitl [H11]; · iexact H11
      ipureintro; exact ⟨fun h => absurd h hc, fun _ => ⟨rfl, rfl⟩⟩
    isplitl [H12]; · iexact H12
    ipureintro; rfl

/-- Part 2: the other two heads of the queries are stored; the row of scales is complete. -/
theorem part2 (f3 : BufTy.Contents (Elt F) arg3.view.ty) (f4 : BufTy.Contents (Elt F) arg4.view.ty) (f12 : BufTy.Contents (Elt F) arg12.view.ty) :
    iprop((arg3.view.loc (c : Thread nD τ) ↦[arg3.view.set]{fullShare} f3) ∗ (arg4.view.loc (c : Thread nD τ) ↦[arg4.view.set]{fullShare} f4)
      ∗ (arg12.view.loc (c : Thread nD τ) ↦[arg12.view.set]{fullShare} arg12.view.writes (Elt F) f12
                [⟨Rect.unit (s := S128x1024) ![0, 256] S128x256.size inb_S128x1024_S128x256_0_256, k0_pay7 (queryHead (arg3.view.read (Elt F) f3) 1)⟩,
                 ⟨Rect.unit (s := S128x1024) ![0, 0] S128x256.size inb_S128x1024_S128x256_0_0, k0_pay5 (queryHead (arg3.view.read (Elt F) f3) 0)⟩]))
      ⊢ (wp frame (wpE (defs₀ (F := F)) 𝒱 (c : Thread nD τ) bd) E (k0_part2 (F := F) i arg3 harg3 arg4 harg4 arg5 harg5 arg6 harg6 arg7 harg7 arg8 harg8 arg9 harg9 arg10 harg10 arg11 harg11 arg12 harg12 arg13 harg13 (BitVec.ofNat 32 (i 1).val) (BitVec.ofNat 32 (i 2).val) (k0_pay6 (queryScale (arg4.view.read (Elt F) f4) (i 1) 0)) (k0_pay8 (queryScale (arg4.view.read (Elt F) f4) (i 1) 1)) k0_pay9)
          fun r => iprop((arg3.view.loc (c : Thread nD τ) ↦[arg3.view.set]{fullShare} f3) ∗ (arg4.view.loc (c : Thread nD τ) ↦[arg4.view.set]{fullShare} f4)
            ∗ (∃ f12', (arg12.view.loc (c : Thread nD τ) ↦[arg12.view.set]{fullShare} f12') ∗ ⌜(arg12.view.read (Elt F) f12') = queries (arg3.view.read (Elt F) f3)⌝)
            ∗ ⌜r = ⟨scales (arg4.view.read (Elt F) f4) (i 1), k0_pay13, 0#32, Scalar.subi (BitVec.ofNat 32 (i 2).val) 0#32, 1#32⟩⌝) : sProp 𝕄) := by
  rw [k0_part2_eq_skeleton]
  unfold k0_part2_skel
  iintro ⟨H3, H4, H12⟩
  sl_exec
  sl_step
  rw [readAt_head arg3.view f3 (off := ![0, 0, 256]) inb_S1x256x512_S1x256x128_0_0_256 2 rfl, readAt_head arg3.view f3 (off := ![0, 0, 384]) inb_S1x256x512_S1x256x128_0_0_384 3 rfl, readAt_qscale arg4.view f4 (off := k0_off4 i 2#32) (k0_off4_inb i 2) (i 1) 2 (k0_off4_eq i 2), readAt_qscale arg4.view f4 (off := k0_off4 i 3#32) (k0_off4_inb i 3) (i 1) 3 (k0_off4_eq i 3)]
  isplitl [H3]; · iexact H3
  isplitl [H4]; · iexact H4
  isplitl [H12]
  · iexists _; isplitl [H12]; · iexact H12
    ipureintro
    exact View.read_writes_eq_canon _ _ _ (View.cover_of_tiledL _ S128x256.size (by sl_kernel_rfl))
  ipureintro; rfl

/-- The sums over the first `n` tiles look only at those tiles. -/
theorem sums_congr (v63 : FVec F S1x1024 .f32) (v71 v108 : FVec F S8x1024 .f32) (T T' : ℕ → Vec F S256x1024 .f32)
    (V : ℕ → Vec F S1x1x128x256 .fp8e4m3) (n : ℕ) (h : ∀ j, j < n → T j = T' j) : sums v63 v71 v108 T V n = sums v63 v71 v108 T' V n := by
  induction n with
  | zero => rfl
  | succ n ih => unfold sums; rw [ih fun j hj => h j (by omega), h n (by omega)]

/-- The maxima before the masked tile look only at the tiles before it. -/
theorem maxes_congr (K K' : ℕ → Vec F S256x128 .bf16) (Q : Vec F S128x1024 .bf16) (S S' : ℕ → Vec F S256x128 .f32) (n : ℕ)
    (hK : ∀ j, j < n → K j = K' j) (hS : ∀ j, j < n → S j = S' j) : maxes K Q S n = maxes K' Q S' n := by
  induction n with
  | zero => rfl
  | succ n ih => unfold maxes; rw [ih (fun j hj => hK j (by omega)) (fun j hj => hS j (by omega)), hK n (by omega), hS n (by omega)]

/-- The invariant of the loop over the tiles of exponentials. -/
abbrev inv4 (v63 : FVec F S1x1024 .f32) (v71 v108 : FVec F S8x1024 .f32) (f7 : BufTy.Contents (Elt F) arg7.view.ty) (f13 : BufTy.Contents (Elt F) arg13.view.ty) (k : ℕ) (acc : FVec F S8x1024 .f32 × FVec F S128x1024 .f32) : sProp 𝕄 :=
  iprop((arg7.view.loc (c : Thread nD τ) ↦[arg7.view.set]{fullShare} f7) ∗ (arg13.view.loc (c : Thread nD τ) ↦[arg13.view.set]{fullShare} f13) ∗ ⌜acc = (sums v63 v71 v108 (rows 1024 (arg13.view.read (Elt F) f13)) (valTile (arg7.view.read (Elt F) f7)) k)⌝)

theorem step4 (arg1 arg2 : BitVec 32) (v63 : FVec F S1x1024 .f32) (v71 v108 : FVec F S8x1024 .f32) (f7 : BufTy.Contents (Elt F) arg7.view.ty) (f13 : BufTy.Contents (Elt F) arg13.view.ty)
    (k : Fin (k0_t4_loop i).trips) (acc : FVec F S8x1024 .f32 × FVec F S128x1024 .f32) :
    inv4 c arg7 arg13 v63 v71 v108 f7 f13 k.val acc
      ⊢ wp frame (wpE (defs₀ (F := F)) 𝒱 (c : Thread nD τ) bd) E (k0_t4_body (F := F) i arg3 harg3 arg4 harg4 arg5 harg5 arg6 harg6 arg7 harg7 arg8 harg8 arg9 harg9 arg10 harg10 arg11 harg11 arg12 harg12 arg13 harg13 arg1 arg2 v63 v71 v108 k acc)
          (inv4 c arg7 arg13 v63 v71 v108 f7 f13 (k.val + 1)) := by
  have hk : k.val < 16 := by have h1 := k.isLt.trans_eq (t4_trips i); have h2 := coord2_lt i; omega
  unfold k0_t4_body
  iintro ⟨H7, H13, %hacc⟩
  subst hacc
  sl_exec
  sl_step
  rw [readAt_rows arg13.view f13 _ k.val hk (k0_off11_eq i k), readAt_values arg7.view f7 _ k.val hk (k0_off12_eq i k)]
  isplitl [H7]; · iexact H7
  isplitl [H13]; · iexact H13
  ipureintro; rfl

/-- Part 4: the sums over tiles `0 … qi`, the value scales, and the first two heads of the result stored. -/
theorem part4 (arg1 arg2 : BitVec 32) (v63 : FVec F S1x1024 .f32) (v71 v108 : FVec F S8x1024 .f32) (f7 : BufTy.Contents (Elt F) arg7.view.ty) (f8 : BufTy.Contents (Elt F) arg8.view.ty) (f9 : BufTy.Contents (Elt F) arg9.view.ty) (f13 : BufTy.Contents (Elt F) arg13.view.ty) :
    iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg13.view.loc (c : Thread nD τ) ↦[arg13.view.set]{fullShare} f13))
      ⊢ (wp frame (wpE (defs₀ (F := F)) 𝒱 (c : Thread nD τ) bd) E (k0_part4 (F := F) i arg3 harg3 arg4 harg4 arg5 harg5 arg6 harg6 arg7 harg7 arg8 harg8 arg9 harg9 arg10 harg10 arg11 harg11 arg12 harg12 arg13 harg13 arg1 arg2 v63 v71 v108)
          fun r => iprop((arg7.view.loc (c : Thread nD τ) ↦[arg7.view.set]{fullShare} f7) ∗ (arg8.view.loc (c : Thread nD τ) ↦[arg8.view.set]{fullShare} f8) ∗ (arg13.view.loc (c : Thread nD τ) ↦[arg13.view.set]{fullShare} f13)
            ∗ (arg9.view.loc (c : Thread nD τ) ↦[arg9.view.set]{fullShare} arg9.view.writes (Elt F) f9
                [⟨Rect.unit (s := S1x256x512) ![0, 0, 128] S1x256x128.size inb_S1x256x512_S1x256x128_0_0_128, k0_pay35 (sums v63 v71 v108 (rows 1024 (arg13.view.read (Elt F) f13)) (valTile (arg7.view.read (Elt F) f7)) ((i 2).val + 1)).1 (sums v63 v71 v108 (rows 1024 (arg13.view.read (Elt F) f13)) (valTile (arg7.view.read (Elt F) f7)) ((i 2).val + 1)).2 (valScale (arg8.view.read (Elt F) f8) (i 1))⟩,
                 ⟨Rect.unit (s := S1x256x512) ![0, 0, 0] S1x256x128.size inb_S1x256x512_S1x256x128_0_0_0, k0_pay34 (sums v63 v71 v108 (rows 1024 (arg13.view.read (Elt F) f13)) (valTile (arg7.view.read (Elt F) f7)) ((i 2).val + 1)).1 (sums v63 v71 v108 (rows 1024 (arg13.view.read (Elt F) f13)) (valTile (arg7.view.read (Elt F) f7)) ((i 2).val + 1)).2 (valScale (arg8.view.read (Elt F) f8) (i 1))⟩])
            ∗ ⌜r = ⟨k0_pay32 (sums v63 v71 v108 (rows 1024 (arg13.view.read (Elt F) f13)) (valTile (arg7.view.read (Elt F) f7)) ((i 2).val + 1)).1 (sums v63 v71 v108 (rows 1024 (arg13.view.read (Elt F) f13)) (valTile (arg7.view.read (Elt F) f7)) ((i 2).val + 1)).2, k0_pay33 (valScale (arg8.view.read (Elt F) f8) (i 1)), k0_pay36 (sums v63 v71 v108 (rows 1024 (arg13.view.read (Elt F) f13)) (valTile (arg7.view.read (Elt F) f7)) ((i 2).val + 1)).1 (sums v63 v71 v108 (rows 1024 (arg13.view.read (Elt F) f13)) (valTile (arg7.view.read (Elt F) f7)) ((i 2).val + 1)).2⟩⌝) : sProp 𝕄) := by
  rw [k0_part4_eq_skeleton]
  unfold k0_part4_skel
  unfold Scf.Loop.for
  iintro ⟨H7, H8, H9, H13⟩
  iapply (Scf.wp_for_bind frame (wpE (defs₀ (F := F)) 𝒱 (c : Thread nD τ) bd) E (k0_t4_loop i).lb (k0_t4_loop i).ub (k0_t4_loop i).st (k0_t4_ok i) (k0_pay24, k0_pay25) _
    (inv4 c arg7 arg13 v63 v71 v108 f7 f13) (step4 𝒱 c bd E i arg3 harg3 arg4 harg4 arg5 harg5 arg6 harg6 arg7 harg7 arg8 harg8 arg9 harg9 arg10 harg10 arg11 harg11 arg12 harg12 arg13 harg13 arg1 arg2 v63 v71 v108 f7 f13)) $$ [H7 H13]
  · isplitl [H7]; · iexact H7
    isplitl [H13]; · iexact H13
    ipureintro; rfl
  iintro %acc ⟨H7, H13, %hacc⟩
  have hT : Scf.trips (k0_t4_loop i).lb (k0_t4_loop i).ub (k0_t4_loop i).st = (i 2).val + 1 := t4_trips i
  rw [hT] at hacc
  obtain ⟨a1, a2⟩ := acc
  iapply (Scf.wp_for_bind frame (wpE (defs₀ (F := F)) 𝒱 (c : Thread nD τ) bd) E (k0_t5_loop i).lb (k0_t5_loop i).ub (k0_t5_loop i).st (k0_t5_ok i) (a1, a2) _
    (fun _ a => iprop(⌜a = (a1, a2)⌝)) (fun k => absurd (k.isLt.trans_eq (t5_trips i)) (Nat.not_lt_zero _))) $$ []
  · ipureintro; rfl
  iintro %acc' %hacc'
  subst hacc'
  sl_exec
  sl_step
  rw [readAt_vscale arg8.view f8 (off := k0_off15 i) (k0_off15_inb i) (i 1) (k0_off15_eq i)]
  obtain ⟨h1, h2⟩ : a1 = (sums v63 v71 v108 (rows 1024 (arg13.view.read (Elt F) f13)) (valTile (arg7.view.read (Elt F) f7)) ((i 2).val + 1)).1 ∧ a2 = (sums v63 v71 v108 (rows 1024 (arg13.view.read (Elt F) f13)) (valTile (arg7.view.read (Elt F) f7)) ((i 2).val + 1)).2 := ⟨congrArg Prod.fst hacc, congrArg Prod.snd hacc⟩
  rw [h1, h2]
  isplitl [H7]; · iexact H7
  isplitl [H8]; · iexact H8
  isplitl [H13]; · iexact H13
  isplitl [H9]; · iexact H9
  ipureintro; rfl

/-- The whole body: with the key scratch filled already where this grid point does not fill it, the result block is
    `result` of the blocks, and the key scratch is filled afterwards. -/
theorem body (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (hfill : k0_cond1 i ≠ 1#1 → FilledTo (arg5.view.read (Elt F) f5) (arg6.view.read (Elt F) f6) (i 1) 16 (arg10.view.read (Elt F) f10) (arg11.view.read (Elt F) f11)) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))
      ⊢ (wp frame (wpE (defs₀ (F := F)) 𝒱 (c : Thread nD τ) bd) E (cc0_attend (F := F) i arg3 harg3 arg4 harg4 arg5 harg5 arg6 harg6 arg7 harg7 arg8 harg8 arg9 harg9 arg10 harg10 arg11 harg11 arg12 harg12 arg13 harg13)
          fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
            ∗ (∃ f9', (arg9.view.loc (c : Thread nD τ) ↦[arg9.view.set]{fullShare} f9') ∗ ⌜(arg9.view.read (Elt F) f9') = result (arg3.view.read (Elt F) f3) (arg4.view.read (Elt F) f4) (arg5.view.read (Elt F) f5) (arg6.view.read (Elt F) f6) (arg7.view.read (Elt F) f7) (arg8.view.read (Elt F) f8) (i 1) (i 2).val⌝)
            ∗ (∃ f10' f11', (arg10.view.loc (c : Thread nD τ) ↦[arg10.view.set]{fullShare} f10') ∗ (arg11.view.loc (c : Thread nD τ) ↦[arg11.view.set]{fullShare} f11') ∗ ⌜FilledTo (arg5.view.read (Elt F) f5) (arg6.view.read (Elt F) f6) (i 1) 16 (arg10.view.read (Elt F) f10') (arg11.view.read (Elt F) f11')⌝)
            ∗ (∃ f12', (arg12.view.loc (c : Thread nD τ) ↦[arg12.view.set]{fullShare} f12')) ∗ (∃ f13', (arg13.view.loc (c : Thread nD τ) ↦[arg13.view.set]{fullShare} f13'))) : sProp 𝕄) := by
  have hq : (i 2).val < 16 := coord2_lt i
  rw [cc0_attend_eq_skeleton]
  unfold cc0_attend_skel
  iintro ⟨H3, H4, H5, H6, H7, H8, H9, H10, H11, H12, H13⟩
  rw [wp_bind]
  iapply wp_wand_r
  isplitl [H3 H4 H5 H6 H10 H11 H12]
  · iapply (part1 𝒱 c bd E i arg3 harg3 arg4 harg4 arg5 harg5 arg6 harg6 arg7 harg7 arg8 harg8 arg9 harg9 arg10 harg10 arg11 harg11 arg12 harg12 arg13 harg13 f3 f4 f5 f6 f10 f11 f12)
    isplitl [H3]; · iexact H3
    isplitl [H4]; · iexact H4
    isplitl [H5]; · iexact H5
    isplitl [H6]; · iexact H6
    isplitl [H10]; · iexact H10
    isplitl [H11]; · iexact H11
    iexact H12
  iintro %r ⟨H3, H4, H5, H6, ⟨%f10', %f11', H10, H11, %hf⟩, H12, %hr⟩
  subst hr
  have hfull : FilledTo (arg5.view.read (Elt F) f5) (arg6.view.read (Elt F) f6) (i 1) 16 (arg10.view.read (Elt F) f10') (arg11.view.read (Elt F) f11') := by
    by_cases hc : k0_cond1 i = 1#1
    · exact hf.1 hc
    · obtain ⟨rfl, rfl⟩ := hf.2 hc
      exact hfill hc
  rw [wp_bind]
  iapply wp_wand_r
  isplitl [H3 H4 H12]
  · iapply (part2 𝒱 c bd E i arg3 harg3 arg4 harg4 arg5 harg5 arg6 harg6 arg7 harg7 arg8 harg8 arg9 harg9 arg10 harg10 arg11 harg11 arg12 harg12 arg13 harg13 f3 f4 f12)
    isplitl [H3]; · iexact H3
    isplitl [H4]; · iexact H4
    iexact H12
  iintro %r ⟨H3, H4, ⟨%f12', H12, %hQ⟩, %hr⟩
  subst hr
  rw [wp_bind]
  iapply wp_wand_r
  isplitl [H10 H11 H12 H13]
  · iapply (part3 𝒱 c bd E i arg3 harg3 arg4 harg4 arg5 harg5 arg6 harg6 arg7 harg7 arg8 harg8 arg9 harg9 arg10 harg10 arg11 harg11 arg12 harg12 arg13 harg13 _ _ _ _ f10' f11' f12' f13)
    isplitl [H10]; · iexact H10
    isplitl [H11]; · iexact H11
    isplitl [H12]; · iexact H12
    iexact H13
  iintro %r ⟨H10, H11, H12, ⟨%f13', H13, %hS⟩, %hr⟩
  subst hr
  rw [wp_bind]
  iapply wp_wand_r
  isplitl [H7 H8 H9 H13]
  · iapply (part4 𝒱 c bd E i arg3 harg3 arg4 harg4 arg5 harg5 arg6 harg6 arg7 harg7 arg8 harg8 arg9 harg9 arg10 harg10 arg11 harg11 arg12 harg12 arg13 harg13 _ _ _ _ _ f7 f8 f9 f13')
    isplitl [H7]; · iexact H7
    isplitl [H8]; · iexact H8
    isplitl [H9]; · iexact H9
    iexact H13
  iintro %r ⟨H7, H8, H13, H9, %hr⟩
  subst hr
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]
  · iexists _; isplitl [H9]; · iexact H9
    ipureintro
    have hm : maxes (rows 128 (arg10.view.read (Elt F) f10')) (arg12.view.read (Elt F) f12') (rows 128 (arg11.view.read (Elt F) f11')) (i 2).val = pointMax (arg3.view.read (Elt F) f3) (arg5.view.read (Elt F) f5) (arg6.view.read (Elt F) f6) (i 1) (i 2).val := by
      rw [hQ]; exact maxes_congr _ _ _ _ _ _ (fun j hj => (hfull j (by omega)).1) (fun j hj => (hfull j (by omega)).2)
    have hm' : k0_pay22 (rows 128 (arg10.view.read (Elt F) f10') (i 2).val) (arg12.view.read (Elt F) f12') (rows 128 (arg11.view.read (Elt F) f11') (i 2).val) = pointMaskedMax (arg3.view.read (Elt F) f3) (arg5.view.read (Elt F) f5) (arg6.view.read (Elt F) f6) (i 1) (i 2).val := by
      rw [hQ, (hfull _ hq).1, (hfull _ hq).2]; rfl
    have hs : sums (scales (arg4.view.read (Elt F) f4) (i 1)) (pointMax (arg3.view.read (Elt F) f3) (arg5.view.read (Elt F) f5) (arg6.view.read (Elt F) f6) (i 1) (i 2).val) (pointMaskedMax (arg3.view.read (Elt F) f3) (arg5.view.read (Elt F) f5) (arg6.view.read (Elt F) f6) (i 1) (i 2).val) (rows 1024 (arg13.view.read (Elt F) f13')) (valTile (arg7.view.read (Elt F) f7)) ((i 2).val + 1)
        = pointSums (arg3.view.read (Elt F) f3) (arg4.view.read (Elt F) f4) (arg5.view.read (Elt F) f5) (arg6.view.read (Elt F) f6) (arg7.view.read (Elt F) f7) (i 1) (i 2).val :=
      sums_congr _ _ _ _ _ _ _ fun j hj => by
        rw [hS j (by omega), hQ]
        show scores _ _ _ _ _ = scores _ _ _ _ _
        unfold scores
        rw [(hfull j (by omega)).1, (hfull j (by omega)).2]
    rw [hm, hm', hs]
    exact View.read_writes_eq_canon _ _ _ (View.cover_of_tiledL _ S1x256x128.size (by sl_kernel_rfl))
  isplitl [H10 H11]
  · iexists f10', f11'
    isplitl [H10]; · iexact H10
    isplitl [H11]; · iexact H11
    ipureintro; exact hfull
  isplitl [H12]
  · iexists _; iexact H12
  iexists _; iexact H13

end Parts

end Cert.KernelIdeal.Body

end
-- ==== Proof.Whole.lean ====
module

public import proofs.«01_k».proof.Proof.Parts
public import Idealize.ShloMosaic.Lib.Pipeline.FrameBody
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The body on owned memrefs -/

section Body

variable (𝒱 : Variants) (c : Dev nD) (bd : Option 𝒱.V) (E : Set ℕ) (i : grid0.Coords) (arg3 : Memref sig .tc .vmem S1x256x512 .i8) (harg3 : arg3.IsWhole) (arg4 : Memref sig .tc .vmem S1x8x256 .f32) (harg4 : arg4.IsWhole) (arg5 : Memref sig .tc .vmem S1x4096x128 .i8) (harg5 : arg5.IsWhole) (arg6 : Memref sig .tc .vmem S1x2x4096 .f32) (harg6 : arg6.IsWhole) (arg7 : Memref sig .tc .vmem S1x1x128x4096 .fp8e4m3) (harg7 : arg7.IsWhole) (arg8 : Memref sig .tc .vmem S1x2x128 .f32) (harg8 : arg8.IsWhole) (arg9 : Memref sig .tc .vmem S1x256x512 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S128x1024 .bf16) (harg12 : arg12.IsWhole) (arg13 : Memref sig .tc .vmem S4096x1024 .f32) (harg13 : arg13.IsWhole)

/-- `body`, of memrefs owned at the values they read. -/
theorem body_owns (X3 : Vec F S1x256x512 .i8) (X4 : Vec F S1x8x256 .f32) (X5 : Vec F S1x4096x128 .i8) (X6 : Vec F S1x2x4096 .f32) (X7 : Vec F S1x1x128x4096 .fp8e4m3) (X8 : Vec F S1x2x128 .f32) (X9 : Vec F S1x256x512 .bf16) (X10 : Vec F S4096x128 .bf16) (X11 : Vec F S4096x128 .f32) (X12 : Vec F S128x1024 .bf16) (X13 : Vec F S4096x1024 .f32)
    (hfill : k0_cond1 i ≠ 1#1 → FilledTo X5 X6 (i 1) 16 X10 X11) :
    iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13)
      ⊢ (wp frame (wpE (defs₀ (F := F)) 𝒱 (c : Thread nD τ) bd) E (cc0_attend (F := F) i arg3 harg3 arg4 harg4 arg5 harg5 arg6 harg6 arg7 harg7 arg8 harg8 arg9 harg9 arg10 harg10 arg11 harg11 arg12 harg12 arg13 harg13)
          fun _ => iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8
            ∗ owns (c : Thread nD τ) arg9 fullShare (result X3 X4 X5 X6 X7 X8 (i 1) (i 2).val)
            ∗ (∃ X10' X11', owns (c : Thread nD τ) arg10 fullShare X10' ∗ owns (c : Thread nD τ) arg11 fullShare X11' ∗ ⌜FilledTo X5 X6 (i 1) 16 X10' X11'⌝)
            ∗ (∃ X12', owns (c : Thread nD τ) arg12 fullShare X12') ∗ (∃ X13', owns (c : Thread nD τ) arg13 fullShare X13')) : sProp 𝕄) := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  subst h3 h4 h5 h6 h7 h8 h9 h10 h11 h12 h13
  iapply wp_wand_r
  isplitl [H3 H4 H5 H6 H7 H8 H9 H10 H11 H12 H13]
  · iapply (body 𝒱 c bd E i arg3 harg3 arg4 harg4 arg5 harg5 arg6 harg6 arg7 harg7 arg8 harg8 arg9 harg9 arg10 harg10 arg11 harg11 arg12 harg12 arg13 harg13 f3 f4 f5 f6 f7 f8 f9 f10 f11 f12 f13 hfill)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %r ⟨H3, H4, H5, H6, H7, H8, ⟨%f9', H9, %h9⟩, ⟨%f10', %f11', H10, H11, %hf⟩, ⟨%f12', H12⟩, ⟨%f13', H13⟩⟩
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact h9
  isplitl [H10 H11]
  · iexists _, _
    isplitl [H10]
    · iexists _; isplitr; swap; · iexact H10
      ipureintro; rfl
    isplitl [H11]
    · iexists _; isplitr; swap; · iexact H11
      ipureintro; rfl
    ipureintro; exact hf
  isplitl [H12]
  · iexists _, _; isplitr; swap; · iexact H12
    ipureintro; rfl
  iexists _, _; isplitr; swap; · iexact H13
  ipureintro; rfl

end Body

/-! ## The proof data -/

variable (m : (ℓ : Loc nD τ sig) → Buf (Elt F) ℓ) (ρ : Dev nD → PrngReg)

/-- The blocks of the six arguments at a grid point. -/
abbrev blk3 (c : Dev nD) (t : Fin cfg0.N) : Vec F S1x256x512 .i8 := iblk m c 0 t
abbrev blk4 (c : Dev nD) (t : Fin cfg0.N) : Vec F S1x8x256 .f32 := iblk m c 1 t
abbrev blk5 (c : Dev nD) (t : Fin cfg0.N) : Vec F S1x4096x128 .i8 := iblk m c 2 t
abbrev blk6 (c : Dev nD) (t : Fin cfg0.N) : Vec F S1x2x4096 .f32 := iblk m c 3 t
abbrev blk7 (c : Dev nD) (t : Fin cfg0.N) : Vec F S1x1x128x4096 .fp8e4m3 := iblk m c 4 t
abbrev blk8 (c : Dev nD) (t : Fin cfg0.N) : Vec F S1x2x128 .f32 := iblk m c 5 t

/-- The block of the result that the body writes at a grid point. -/
def outBlk (c : Dev nD) (t : Fin cfg0.N) : Vec F S1x256x512 .bf16 :=
  result (blk3 m c t) (blk4 m c t) (blk5 m c t) (blk6 m c t) (blk7 m c t) (blk8 m c t) (grid0.coords t 1) (grid0.coords t 2).val

/-- The key scratch after the first `n` grid points: filled from the blocks of the last of them. -/
def Held (c : Dev nD) (n : ℕ) (X10 : Vec F S4096x128 .bf16) (X11 : Vec F S4096x128 .f32) : Prop :=
  ∀ t : Fin cfg0.N, t.val + 1 = n → FilledTo (blk5 m c t) (blk6 m c t) (grid0.coords t 1) 16 X10 X11

/-- What the body carries from point to point: the key scratch, and the other scratch at anything. -/
def Φk (c : Dev nD) (n : ℕ) : sProp 𝕄 :=
  iprop((∃ X10 X11, owns (c : Thread nD τ) (Memref.whole cc0_scratch0) fullShare X10 ∗ owns (c : Thread nD τ) (Memref.whole cc0_scratch1) fullShare X11 ∗ ⌜Held m c n X10 X11⌝)
    ∗ (∃ X12, owns (c : Thread nD τ) (Memref.whole cc0_scratch2) fullShare X12) ∗ (∃ X13, owns (c : Thread nD τ) (Memref.whole cc0_scratch3) fullShare X13) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Φk m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## Within one head the blocks of keys do not change -/

/-- A block not fetched at a point is the block of the point before. -/
theorem blk5_prev (c : Dev nD) (t : Fin cfg0.N) (h : t.val % 16 ≠ 0) :
    blk5 m c t = blk5 m c ⟨t.val - 1, Nat.lt_of_le_of_lt (Nat.sub_le _ _) t.isLt⟩ := by
  have hf : (cfg0.win 2).fetch t = false := Bool.eq_false_iff.mpr fun h' => h ((fetch0_2 t).mp h')
  have e := (dats m 0 c).before_unfetched_in 2 rfl t hf (fun _ => rfl) (iblk m c 2 t)
  rw [before0_2] at e
  refine e.trans ?_
  unfold Dat.kept
  rw [after0_2]
  rfl

theorem blk6_prev (c : Dev nD) (t : Fin cfg0.N) (h : t.val % 32 ≠ 0) :
    blk6 m c t = blk6 m c ⟨t.val - 1, Nat.lt_of_le_of_lt (Nat.sub_le _ _) t.isLt⟩ := by
  have hf : (cfg0.win 3).fetch t = false := Bool.eq_false_iff.mpr fun h' => h ((fetch0_3 t).mp h')
  have e := (dats m 0 c).before_unfetched_in 3 rfl t hf (fun _ => rfl) (iblk m c 3 t)
  rw [before0_3] at e
  refine e.trans ?_
  unfold Dat.kept
  rw [after0_3]
  rfl

theorem cond_ne (t : Fin grid0.N) : k0_cond1 (grid0.coords t) ≠ 1#1 → t.val % 16 ≠ 0 := by
  have h : ∀ t : Fin grid0.N, k0_cond1 (grid0.coords t) ≠ 1#1 → t.val % 16 ≠ 0 := by decide +kernel
  exact h t

theorem head_prev (t : Fin grid0.N) : t.val % 16 ≠ 0 →
    grid0.coords t 1 = grid0.coords ⟨t.val - 1, Nat.lt_of_le_of_lt (Nat.sub_le _ _) t.isLt⟩ 1 := by
  have h : ∀ t : Fin grid0.N, t.val % 16 ≠ 0 →
    grid0.coords t 1 = grid0.coords ⟨t.val - 1, Nat.lt_of_le_of_lt (Nat.sub_le _ _) t.isLt⟩ 1 := by decide +kernel
  exact h t

/-- Where the body does not fill the key scratch, it is filled already with this point's blocks. -/
theorem held_here (c : Dev nD) (t : Fin cfg0.N) (X10 : Vec F S4096x128 .bf16) (X11 : Vec F S4096x128 .f32) (h : Held m c t.val X10 X11)
    (hc : k0_cond1 (grid0.coords t) ≠ 1#1) : FilledTo (blk5 m c t) (blk6 m c t) (grid0.coords t 1) 16 X10 X11 := by
  have h16 := cond_ne t hc
  rw [blk5_prev m c t h16, blk6_prev m c t (by omega), head_prev t h16]
  exact h _ (by show t.val - 1 + 1 = t.val; omega)

theorem held_next (c : Dev nD) (t : Fin cfg0.N) (X10 : Vec F S4096x128 .bf16) (X11 : Vec F S4096x128 .f32)
    (h : FilledTo (blk5 m c t) (blk6 m c t) (grid0.coords t 1) 16 X10 X11) : Held m c (t.val + 1) X10 X11 := by
  intro t' ht'
  obtain rfl : t' = t := Fin.ext (by omega)
  exact h

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Φk m c (t.val + 1) from rfl, show (dats m 0 c).Φ t.castSucc = Φk m c t.val from rfl,
    show (dats m 0 c).owesAt () t.succ = (dats m 0 c).owesAt () t.castSucc from rfl,
    after0_0, after0_1, after0_2, after0_3, after0_4, after0_5, after0_6]
  unfold Φk
  iintro ⟨⟨⟨%X10, %X11, H10, H11, %hH⟩, ⟨%X12, H12⟩, ⟨%X13, H13⟩, Hr⟩, Ho, ⟨%d0, H3⟩, ⟨%d1, H4⟩, ⟨%d2, H5⟩, ⟨%d3, H6⟩, ⟨%d4, H7⟩, ⟨%d5, H8⟩, ⟨%d6, H9⟩⟩
  iapply wp_wand_r
  isplitl [H3 H4 H5 H6 H7 H8 H9 H10 H11 H12 H13]
  · iapply (body_owns Variants.none c none Set.univ (grid0.coords t) _ _ _ _ _ _ _ _ _ _ _ _ _ _ _ _ _ _ _ _ _ _
      (blk3 m c t) (blk4 m c t) (blk5 m c t) (blk6 m c t) (blk7 m c t) (blk8 m c t) _ X10 X11 X12 X13 (held_here m c t X10 X11 hH))
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %r ⟨H3, H4, H5, H6, H7, H8, H9, ⟨%X10', %X11', H10, H11, %hf⟩, H12, H13⟩
  isplitl [H10 H11 H12 H13 Hr]
  · isplitl [H10 H11]
    · iexists X10', X11'
      isplitl [H10]; · iexact H10
      isplitl [H11]; · iexact H11
      ipureintro; exact held_next m c t X10' X11' hf
    isplitl [H12]; · iexact H12
    isplitl [H13]; · iexact H13
    iexact Hr
  isplitl [Ho]; · iexact Ho
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point the scratch holds anything; -/
theorem start (c : Dev nD) : Pipeline.ΦA spec0 c ⊢ (dats m 0 c).Φ 0 := by
  rw [show (dats m 0 c).Φ 0 = Φk m c 0 from rfl]
  unfold Pipeline.ΦA Φk
  rw [scopedRest0_eq]
  iintro ⟨⟨⟨%f0, H0⟩, ⟨%f1, H1⟩, ⟨%f2, H2⟩, ⟨%f3, H3⟩⟩, Hr⟩
  isplitl [H0 H1]
  · iexists f0, f1
    isplitl [H0]; · rw [owns_whole]; iexact H0
    isplitl [H1]; · rw [owns_whole]; iexact H1
    ipureintro; exact fun t ht => absurd ht (Nat.succ_ne_zero _)
  isplitl [H2]; · iexists f2; rw [owns_whole]; iexact H2
  isplitl [H3]; · iexists f3; rw [owns_whole]; iexact H3
  iexact Hr

/-- after the last one what it holds is forgotten. -/
theorem finish (c : Dev nD) : (dats m 0 c).Φ (Fin.last cfg0.N) ⊢ Pipeline.ΦA spec0 c := by
  rw [show (dats m 0 c).Φ (Fin.last cfg0.N) = Φk m c cfg0.N from rfl]
  unfold Pipeline.ΦA Φk
  rw [scopedRest0_eq]
  iintro ⟨⟨%f0, %f1, H0, H1, -⟩, ⟨%f2, H2⟩, ⟨%f3, H3⟩, Hr⟩
  isplitl [H0 H1 H2 H3]
  · isplitl [H0]; · iexists f0; rw [← owns_whole]; iexact H0
    isplitl [H1]; · iexists f1; rw [← owns_whole]; iexact H1
    isplitl [H2]; · iexists f2; rw [← owns_whole]; iexact H2
    iexists f3; rw [← owns_whole]; iexact H3
  iexact Hr

set_option backward.isDefEq.respectTransparency.types false in
set_option maxHeartbeats 800000 in
/-- Every run ends with the arrays at what the proof data says, and every counter at zero. -/
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := start m) (hout := finish m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they were, and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.KernelIdeal.Body

end
-- ==== Proof.BitsModel.lean ====
module

public import proofs.«01_k».proof.Proof.Gen.Kernel.Frame
public import proofs.«01_k».proof.Proof.Gen.Kernel.Skeleton
public import Idealize.ShloMosaic.Lib.VecWindow

@[expose] public section

set_option maxRecDepth 16384

noncomputable section

namespace Cert.Kernel.Body

open Idealize.ShloMosaic Idealize.ShloMosaic.TcCoe
open Cert.Kernel.Gen

/-! ## What one grid point computes, as functions of its blocks

The grid point's key/value head is `h` and its query block is `qi`. -/

variable {F : FTy → Type} [FloatOps F]

section Windows

variable {α : Type}

/-- Rows `256 k … 256 k + 255` of a matrix of 4096 rows (`k` counts modulo 16). -/
def rows (w : ℕ) (X : (⟨2, ![4096, w]⟩ : Shape).Idx → α) (k : ℕ) : (⟨2, ![256, w]⟩ : Shape).Idx → α :=
  VecWindow.window X ![256 * (k % 16), 0] ![256, w] (by
    intro a; fin_cases a
    · show 256 * (k % 16) + 256 ≤ 4096; omega
    · show 0 + w ≤ w; omega)

/-- Keys `256 k … 256 k + 255` of the block of key codes. -/
def keyTile (X : S1x4096x128.Idx → α) (k : ℕ) : S1x256x128.Idx → α :=
  VecWindow.window X ![0, 256 * (k % 16), 0] ![1, 256, 128] (by
    intro a; fin_cases a
    · show 0 + 1 ≤ 1; omega
    · show 256 * (k % 16) + 256 ≤ 4096; omega
    · show 0 + 128 ≤ 128; omega)

/-- The scales of those keys, of head `h`. -/
def keyScaleTile (X : S1x2x4096.Idx → α) (h : Fin 2) (k : ℕ) : S1x1x256.Idx → α :=
  VecWindow.window X ![0, h.val, 256 * (k % 16)] ![1, 1, 256] (by
    intro a; fin_cases a
    · show 0 + 1 ≤ 1; omega
    · show h.val + 1 ≤ 2; omega
    · show 256 * (k % 16) + 256 ≤ 4096; omega)

/-- Columns `256 k … 256 k + 255` of the transposed values. -/
def valTile (X : S1x1x128x4096.Idx → α) (k : ℕ) : S1x1x128x256.Idx → α :=
  VecWindow.window X ![0, 0, 0, 256 * (k % 16)] ![1, 1, 128, 256] (by
    intro a; fin_cases a
    · show 0 + 1 ≤ 1; omega
    · show 0 + 1 ≤ 1; omega
    · show 0 + 128 ≤ 128; omega
    · show 256 * (k % 16) + 256 ≤ 4096; omega)

/-- The query codes of head `g` of the group. -/
def queryHead (X : S1x256x512.Idx → α) (g : Fin 4) : S1x256x128.Idx → α :=
  VecWindow.window X ![0, 0, 128 * g.val] ![1, 256, 128] (by
    intro a; fin_cases a
    · show 0 + 1 ≤ 1; omega
    · show 0 + 256 ≤ 256; omega
    · show 128 * g.val + 128 ≤ 512; omega)

/-- The query scales of head `g` of the group of `h`. -/
def queryScale (X : S1x8x256.Idx → α) (h : Fin 2) (g : Fin 4) : S1x1x256.Idx → α :=
  VecWindow.window X ![0, 4 * h.val + g.val, 0] ![1, 1, 256] (by
    intro a; fin_cases a
    · show 0 + 1 ≤ 1; omega
    · show 4 * h.val + g.val + 1 ≤ 8; omega
    · show 0 + 256 ≤ 256; omega)

/-- The value scales of head `h`. -/
def valScale (X : S1x2x128.Idx → α) (h : Fin 2) : S1x1x128.Idx → α :=
  VecWindow.window X ![0, h.val, 0] ![1, 1, 128] (by
    intro a; fin_cases a
    · show 0 + 1 ≤ 1; omega
    · show h.val + 1 ≤ 2; omega
    · show 0 + 128 ≤ 128; omega)

end Windows

/-- The transposed queries of the group, one head after another, as the four stores leave them. -/
def queries (X3 : Vec F S1x256x512 .i8) : Vec F S128x1024 .bf16 :=
  View.canon (Val := Elt F) (s := S128x1024) (e := .bf16)
    [⟨Rect.unit (s := S128x1024) ![0, 768] S128x256.size inb_S128x1024_S128x256_0_768, k0_pay11 (queryHead X3 3)⟩,
     ⟨Rect.unit (s := S128x1024) ![0, 512] S128x256.size inb_S128x1024_S128x256_0_512, k0_pay10 (queryHead X3 2)⟩,
     ⟨Rect.unit (s := S128x1024) ![0, 256] S128x256.size inb_S128x1024_S128x256_0_256, k0_pay7 (queryHead X3 1)⟩,
     ⟨Rect.unit (s := S128x1024) ![0, 0] S128x256.size inb_S128x1024_S128x256_0_0, k0_pay5 (queryHead X3 0)⟩]

/-- The queries' scales times the base-2 logarithm of e, as one row. -/
def scales (X4 : Vec F S1x8x256 .f32) (h : Fin 2) : FVec F S1x1024 .f32 :=
  k0_pay12 (k0_pay6 (queryScale X4 h 0)) (k0_pay8 (queryScale X4 h 1)) k0_pay9 (queryScale X4 h 2) (queryScale X4 h 3)

/-- The running row maxima (eight partial ones per column) over the first `k` tiles of keys. -/
def maxes (K : ℕ → Vec F S256x128 .bf16) (Q : Vec F S128x1024 .bf16) (S : ℕ → Vec F S256x128 .f32) : ℕ → FVec F S8x1024 .f32
  | 0 => k0_pay13
  | k + 1 => k0_pay16 (maxes K Q S k) (K k) Q (S k)

/-- The scores of the first `qi` tiles unmasked, of tile `qi` under the causal mask. -/
def scores (K : ℕ → Vec F S256x128 .bf16) (Q : Vec F S128x1024 .bf16) (S : ℕ → Vec F S256x128 .f32) (qi : ℕ) (j : ℕ) : FVec F S256x1024 .f32 :=
  if j = qi then k0_pay21 (K j) Q (S j) else k0_pay15 (K j) Q (S j)

/-- The running denominators (eight partial ones per column) and the running weighted sums of the values over the first
    `k` tiles. -/
def sums (v63 : FVec F S1x1024 .f32) (v71 v108 : FVec F S8x1024 .f32) (T : ℕ → Vec F S256x1024 .f32)
    (V : ℕ → Vec F S1x1x128x256 .fp8e4m3) : ℕ → FVec F S8x1024 .f32 × FVec F S128x1024 .f32
  | 0 => (k0_pay24, k0_pay25)
  | k + 1 => (k0_pay27 v63 v71 v108 (sums v63 v71 v108 T V k).1 (T k), k0_pay28 v63 v71 v108 (sums v63 v71 v108 T V k).2 (T k) (V k))

section Point

variable (X3 : Vec F S1x256x512 .i8) (X4 : Vec F S1x8x256 .f32) (X5 : Vec F S1x4096x128 .i8) (X6 : Vec F S1x2x4096 .f32)
  (X7 : Vec F S1x1x128x4096 .fp8e4m3) (X8 : Vec F S1x2x128 .f32) (h : Fin 2) (qi : ℕ)

/-- The widened keys of tile `j`, and their scales along the rows. -/
def keys (j : ℕ) : Vec F S256x128 .bf16 := k0_pay3 (keyTile X5 j)
def keyScales (j : ℕ) : Vec F S256x128 .f32 := k0_pay4 (keyScaleTile X6 h j)

/-- The scores, the maxima before and in the masked tile, and the final sums of the grid point. -/
def pointScores : ℕ → FVec F S256x1024 .f32 := scores (keys X5) (queries X3) (keyScales X6 h) qi
def pointMax : FVec F S8x1024 .f32 := maxes (keys X5) (queries X3) (keyScales X6 h) qi
def pointMaskedMax : FVec F S8x1024 .f32 := k0_pay22 (keys X5 qi) (queries X3) (keyScales X6 h qi)
def pointSums : FVec F S8x1024 .f32 × FVec F S128x1024 .f32 :=
  sums (scales X4 h) (pointMax X3 X5 X6 h qi) (pointMaskedMax X3 X5 X6 h qi) (pointScores X3 X5 X6 h qi) (valTile X7) (qi + 1)

/-- The result block, as the four stores leave it. -/
def result : Vec F S1x256x512 .bf16 :=
  View.canon (Val := Elt F) (s := S1x256x512) (e := .bf16)
    [⟨Rect.unit (s := S1x256x512) ![0, 0, 384] S1x256x128.size inb_S1x256x512_S1x256x128_0_0_384,
        k0_pay2 (k0_pay32 (pointSums X3 X4 X5 X6 X7 h qi).1 (pointSums X3 X4 X5 X6 X7 h qi).2) (k0_pay33 (valScale X8 h))⟩,
     ⟨Rect.unit (s := S1x256x512) ![0, 0, 256] S1x256x128.size inb_S1x256x512_S1x256x128_0_0_256,
        k0_pay1 (k0_pay33 (valScale X8 h)) (k0_pay36 (pointSums X3 X4 X5 X6 X7 h qi).1 (pointSums X3 X4 X5 X6 X7 h qi).2)⟩,
     ⟨Rect.unit (s := S1x256x512) ![0, 0, 128] S1x256x128.size inb_S1x256x512_S1x256x128_0_0_128,
        k0_pay35 (pointSums X3 X4 X5 X6 X7 h qi).1 (pointSums X3 X4 X5 X6 X7 h qi).2 (valScale X8 h)⟩,
     ⟨Rect.unit (s := S1x256x512) ![0, 0, 0] S1x256x128.size inb_S1x256x512_S1x256x128_0_0_0,
        k0_pay34 (pointSums X3 X4 X5 X6 X7 h qi).1 (pointSums X3 X4 X5 X6 X7 h qi).2 (valScale X8 h)⟩]

end Point

end Cert.Kernel.Body

end
-- ==== Proof.BitsParts.lean ====
module

public import proofs.«01_k».proof.Proof.BitsModel
public import Idealize.ShloMosaic.Lib.WritesUnit
public import Idealize.ShloMosaic.Lib.Exec
public import Idealize.ShloMosaic.Lib.Tactic

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

/-! ## Tiles of rows after a store of one tile -/

section Rows

variable {w : ℕ} {e : EltTy} (v : View sig .tc .vmem (⟨2, ![4096, w]⟩ : Shape) e) (f : v.ty.Contents (Elt F))

/-- A load of the 256 rows at `256 k` is tile `k`. -/
theorem readAt_rows {off : Fin 2 → ℕ} (inb : ∀ a, off a + (⟨2, ![256, w]⟩ : Shape).size a ≤ (⟨2, ![4096, w]⟩ : Shape).size a) (k : ℕ) (hk : k < 16)
    (hoff : off = ![256 * k, 0]) :
    v.readAt (Elt F) (Rect.unit (s := ⟨2, ![4096, w]⟩) off (⟨2, ![256, w]⟩ : Shape).size inb).toLoadRect f = rows w (v.read (Elt F) f) k :=
  View.readAt_unit v f inb (by rw [hoff, Nat.mod_eq_of_lt hk]) _

/-- Storing tile `k` leaves it there … -/
theorem rows_store_same {off : Fin 2 → ℕ} (inb : ∀ a, off a + (⟨2, ![256, w]⟩ : Shape).size a ≤ (⟨2, ![4096, w]⟩ : Shape).size a) (k : ℕ) (hk : k < 16)
    (hoff : off = ![256 * k, 0]) (p : (⟨2, ![256, w]⟩ : Shape).Idx → Elt F e) :
    rows w (v.read (Elt F) (v.writes (Elt F) f [⟨Rect.unit (s := ⟨2, ![4096, w]⟩) off (⟨2, ![256, w]⟩ : Shape).size inb, p⟩])) k = p := by
  rw [View.read_writes_cons_put v f inb p [] (off' := ![256 * (k % 16), 0]) (by rw [hoff, Nat.mod_eq_of_lt hk])]
  exact VecWindow.window_put_same _ _ _ _ _

/-- … and the other tiles as they were. -/
theorem rows_store_other {off : Fin 2 → ℕ} (inb : ∀ a, off a + (⟨2, ![256, w]⟩ : Shape).size a ≤ (⟨2, ![4096, w]⟩ : Shape).size a) (k j : ℕ) (hk : k < 16)
    (hj : j < 16) (hne : j ≠ k) (hoff : off = ![256 * k, 0]) (p : (⟨2, ![256, w]⟩ : Shape).Idx → Elt F e) :
    rows w (v.read (Elt F) (v.writes (Elt F) f [⟨Rect.unit (s := ⟨2, ![4096, w]⟩) off (⟨2, ![256, w]⟩ : Shape).size inb, p⟩])) j
      = rows w (v.read (Elt F) f) j := by
  rw [View.read_writes_cons_put v f inb p [] (off' := ![256 * (k % 16), 0]) (by rw [hoff, Nat.mod_eq_of_lt hk])]
  refine VecWindow.window_put_of_disjoint _ _ _ _ _ _ _ (0 : Fin 2) ?_
  show 256 * (j % 16) + 256 ≤ 256 * (k % 16) ∨ 256 * (k % 16) + 256 ≤ 256 * (j % 16)
  rw [Nat.mod_eq_of_lt hk, Nat.mod_eq_of_lt hj]; omega

/-- A load of the whole is what the view reads. -/
theorem readAt_whole {s : Shape} {e : EltTy} (v : View sig .tc .vmem s e) (f : v.ty.Contents (Elt F)) {off : Fin s.rank → ℕ} (inb : ∀ a, off a + s.size a ≤ s.size a) :
    v.readAt (Elt F) (Rect.unit off s.size inb).toLoadRect f = v.read (Elt F) f :=
  View.readAt_full v f inb

end Rows

section Reads

/-- The loads of one query head, of its scales and of the value scales read the block's windows. -/
theorem readAt_head (v : View sig .tc .vmem S1x256x512 .i8) (f : v.ty.Contents (Elt F)) {off : Fin 3 → ℕ} (inb : ∀ a, off a + S1x256x128.size a ≤ S1x256x512.size a) (g : Fin 4)
    (hoff : off = ![0, 0, 128 * g.val]) :
    v.readAt (Elt F) (Rect.unit (s := S1x256x512) off S1x256x128.size inb).toLoadRect f = queryHead (v.read (Elt F) f) g :=
  View.readAt_unit v f inb hoff _

theorem readAt_qscale (v : View sig .tc .vmem S1x8x256 .f32) (f : v.ty.Contents (Elt F)) {off : Fin 3 → ℕ} (inb : ∀ a, off a + S1x1x256.size a ≤ S1x8x256.size a) (h : Fin 2) (g : Fin 4)
    (hoff : off = ![0, 4 * h.val + g.val, 0]) :
    v.readAt (Elt F) (Rect.unit (s := S1x8x256) off S1x1x256.size inb).toLoadRect f = queryScale (v.read (Elt F) f) h g :=
  View.readAt_unit v f inb hoff _

theorem readAt_vscale (v : View sig .tc .vmem S1x2x128 .f32) (f : v.ty.Contents (Elt F)) {off : Fin 3 → ℕ} (inb : ∀ a, off a + S1x1x128.size a ≤ S1x2x128.size a) (h : Fin 2)
    (hoff : off = ![0, h.val, 0]) :
    v.readAt (Elt F) (Rect.unit (s := S1x2x128) off S1x1x128.size inb).toLoadRect f = valScale (v.read (Elt F) f) h :=
  View.readAt_unit v f inb hoff _

theorem readAt_values (v : View sig .tc .vmem S1x1x128x4096 .fp8e4m3) (f : v.ty.Contents (Elt F)) {off : Fin 4 → ℕ} (inb : ∀ a, off a + S1x1x128x256.size a ≤ S1x1x128x4096.size a) (k : ℕ) (hk : k < 16)
    (hoff : off = ![0, 0, 0, 256 * k]) :
    v.readAt (Elt F) (Rect.unit (s := S1x1x128x4096) off S1x1x128x256.size inb).toLoadRect f = valTile (v.read (Elt F) f) k :=
  View.readAt_unit v f inb (by rw [hoff, Nat.mod_eq_of_lt hk]) _

end Reads

/-! ## The loops' trip counts -/

theorem t1_trips : k0_t1_loop.trips = 16 := by decide +kernel
theorem t2_trips (i : grid0.Coords) : (k0_t2_loop i).trips = (i 2).val := by
  have h : ∀ q : Fin 16, (⟨0#32, Scalar.addi 0#32 (Scalar.muli (Scalar.divsi (Scalar.subi (BitVec.ofNat 32 q.val) 0#32) 1#32) 1#32), 1#32⟩ : Scf.Loop 32).trips = q.val := by
    decide +kernel
  exact h (i 2)
theorem t3_trips (i : grid0.Coords) : (k0_t3_loop i).trips = 0 := Nat.le_zero.1 (k0_t3_abs i).2.1
theorem t5_trips (i : grid0.Coords) : (k0_t5_loop i).trips = 0 := Nat.le_zero.1 (k0_t5_abs i).2.1
theorem t4_trips (i : grid0.Coords) : (k0_t4_loop i).trips = (i 2).val + 1 := by
  have h : ∀ q : Fin 16, (⟨0#32, Scalar.addi 0#32 (Scalar.muli (Scalar.divsi (Scalar.subi (Scalar.addi (BitVec.ofNat 32 q.val) 1#32) 0#32) 1#32) 1#32), 1#32⟩ : Scf.Loop 32).trips = q.val + 1 := by
    decide +kernel
  exact h (i 2)

theorem coord1_lt (i : grid0.Coords) : (i 1).val < 2 := (i 1).isLt
theorem coord2_lt (i : grid0.Coords) : (i 2).val < 16 := (i 2).isLt

/-! ## The body's four parts -/

section Parts

variable (𝒱 : Variants) (c : Dev nD) (bd : Option 𝒱.V) (E : Set ℕ) (i : grid0.Coords) (arg3 : Memref sig .tc .vmem S1x256x512 .i8) (harg3 : arg3.IsWhole) (arg4 : Memref sig .tc .vmem S1x8x256 .f32) (harg4 : arg4.IsWhole) (arg5 : Memref sig .tc .vmem S1x4096x128 .i8) (harg5 : arg5.IsWhole) (arg6 : Memref sig .tc .vmem S1x2x4096 .f32) (harg6 : arg6.IsWhole) (arg7 : Memref sig .tc .vmem S1x1x128x4096 .fp8e4m3) (harg7 : arg7.IsWhole) (arg8 : Memref sig .tc .vmem S1x2x128 .f32) (harg8 : arg8.IsWhole) (arg9 : Memref sig .tc .vmem S1x256x512 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S128x1024 .bf16) (harg12 : arg12.IsWhole) (arg13 : Memref sig .tc .vmem S4096x1024 .f32) (harg13 : arg13.IsWhole)

/-- The scratch matrix of scores before trip `k` of the first loop of part 3. -/
def ScoresTo (K : ℕ → Vec F S256x128 .bf16) (Q : Vec F S128x1024 .bf16) (S : ℕ → Vec F S256x128 .f32) (k : ℕ) (X : Vec F S4096x1024 .f32) : Prop :=
  ∀ j, j < k → rows 1024 X j = k0_pay15 (K j) Q (S j)

/-- The invariant of the loop over the unmasked tiles. -/
abbrev inv2 (f10 : BufTy.Contents (Elt F) arg10.view.ty) (f11 : BufTy.Contents (Elt F) arg11.view.ty) (f12 : BufTy.Contents (Elt F) arg12.view.ty) (k : ℕ) (acc : FVec F S8x1024 .f32) : sProp 𝕄 :=
  iprop((arg10.view.loc (c : Thread nD τ) ↦[arg10.view.set]{fullShare} f10) ∗ (arg11.view.loc (c : Thread nD τ) ↦[arg11.view.set]{fullShare} f11)
    ∗ (arg12.view.loc (c : Thread nD τ) ↦[arg12.view.set]{fullShare} f12)
    ∗ (∃ f13, (arg13.view.loc (c : Thread nD τ) ↦[arg13.view.set]{fullShare} f13)
        ∗ ⌜ScoresTo (rows 128 (arg10.view.read (Elt F) f10)) (arg12.view.read (Elt F) f12) (rows 128 (arg11.view.read (Elt F) f11)) k (arg13.view.read (Elt F) f13)⌝)
    ∗ ⌜acc = maxes (rows 128 (arg10.view.read (Elt F) f10)) (arg12.view.read (Elt F) f12) (rows 128 (arg11.view.read (Elt F) f11)) k⌝)

theorem step2 (arg2 : BitVec 32) (v64 : FVec F S8x1024 .f32) (c0_i32_31 : BitVec 32) (v65 : BitVec 32) (c1_i32_32 : BitVec 32)
    (f10 : BufTy.Contents (Elt F) arg10.view.ty) (f11 : BufTy.Contents (Elt F) arg11.view.ty) (f12 : BufTy.Contents (Elt F) arg12.view.ty)
    (k : Fin (k0_t2_loop i).trips) (acc : FVec F S8x1024 .f32) :
    inv2 c arg10 arg11 arg12 arg13 f10 f11 f12 k.val acc
      ⊢ wp frame (wpE (defs₀ (F := F)) 𝒱 (c : Thread nD τ) bd) E (k0_t2_body (F := F) i arg3 harg3 arg4 harg4 arg5 harg5 arg6 harg6 arg7 harg7 arg8 harg8 arg9 harg9 arg10 harg10 arg11 harg11 arg12 harg12 arg13 harg13 arg2 v64 c0_i32_31 v65 c1_i32_32 k acc)
          (inv2 c arg10 arg11 arg12 arg13 f10 f11 f12 (k.val + 1)) := by
  have hk : k.val < 16 := by exact (k.isLt.trans_eq (t2_trips i)).trans (coord2_lt i)
  unfold k0_t2_body
  iintro ⟨H10, H11, H12, ⟨%f13, H13, %h13⟩, %hacc⟩
  subst hacc
  sl_exec
  sl_step
  rw [readAt_rows arg10.view f10 _ k.val hk (k0_off5_eq i k), readAt_rows arg11.view f11 _ k.val hk (k0_off5_eq i k), readAt_whole]
  isplitl [H10]; · iexact H10
  isplitl [H11]; · iexact H11
  isplitl [H12]; · iexact H12
  isplitl [H13]
  · iexists _; isplitl [H13]; · iexact H13
    ipureintro
    intro j hj
    by_cases hjk : j = k.val
    · subst hjk
      exact rows_store_same arg13.view f13 _ k.val hk (k0_off6_eq i k) _
    · rw [rows_store_other arg13.view f13 _ k.val j hk (by omega) hjk (k0_off6_eq i k)]
      exact h13 j (by omega)
  ipureintro; rfl

/-- Part 3: the scores of tiles `0 … qi` stand in the scratch matrix, and the maxima are returned. -/
theorem part3 (arg2 : BitVec 32) (c0_i32_31 : BitVec 32) (v65 : BitVec 32) (c1_i32_32 : BitVec 32)
    (f10 : BufTy.Contents (Elt F) arg10.view.ty) (f11 : BufTy.Contents (Elt F) arg11.view.ty) (f12 : BufTy.Contents (Elt F) arg12.view.ty) (f13 : BufTy.Contents (Elt F) arg13.view.ty) :
    iprop((arg10.view.loc (c : Thread nD τ) ↦[arg10.view.set]{fullShare} f10) ∗ (arg11.view.loc (c : Thread nD τ) ↦[arg11.view.set]{fullShare} f11)
      ∗ (arg12.view.loc (c : Thread nD τ) ↦[arg12.view.set]{fullShare} f12) ∗ (arg13.view.loc (c : Thread nD τ) ↦[arg13.view.set]{fullShare} f13))
      ⊢ (wp frame (wpE (defs₀ (F := F)) 𝒱 (c : Thread nD τ) bd) E (k0_part3 (F := F) i arg3 harg3 arg4 harg4 arg5 harg5 arg6 harg6 arg7 harg7 arg8 harg8 arg9 harg9 arg10 harg10 arg11 harg11 arg12 harg12 arg13 harg13 arg2 k0_pay13 c0_i32_31 v65 c1_i32_32)
          fun r => iprop((arg10.view.loc (c : Thread nD τ) ↦[arg10.view.set]{fullShare} f10) ∗ (arg11.view.loc (c : Thread nD τ) ↦[arg11.view.set]{fullShare} f11)
            ∗ (arg12.view.loc (c : Thread nD τ) ↦[arg12.view.set]{fullShare} f12)
            ∗ (∃ f13', (arg13.view.loc (c : Thread nD τ) ↦[arg13.view.set]{fullShare} f13')
                ∗ ⌜∀ j, j ≤ (i 2).val → rows 1024 (arg13.view.read (Elt F) f13') j
                    = scores (rows 128 (arg10.view.read (Elt F) f10)) (arg12.view.read (Elt F) f12) (rows 128 (arg11.view.read (Elt F) f11)) (i 2).val j⌝)
            ∗ ⌜r = ⟨maxes (rows 128 (arg10.view.read (Elt F) f10)) (arg12.view.read (Elt F) f12) (rows 128 (arg11.view.read (Elt F) f11)) (i 2).val,
                k0_pay22 (rows 128 (arg10.view.read (Elt F) f10) (i 2).val) (arg12.view.read (Elt F) f12) (rows 128 (arg11.view.read (Elt F) f11) (i 2).val)⟩⌝) : sProp 𝕄) := by
  have hq : (i 2).val < 16 := coord2_lt i
  rw [k0_part3_eq_skeleton]
  unfold k0_part3_skel
  unfold Scf.Loop.for
  iintro ⟨H10, H11, H12, H13⟩
  iapply (Scf.wp_for_bind frame (wpE (defs₀ (F := F)) 𝒱 (c : Thread nD τ) bd) E (k0_t2_loop i).lb (k0_t2_loop i).ub (k0_t2_loop i).st (k0_t2_ok i) k0_pay13 _
    (inv2 c arg10 arg11 arg12 arg13 f10 f11 f12) (step2 𝒱 c bd E i arg3 harg3 arg4 harg4 arg5 harg5 arg6 harg6 arg7 harg7 arg8 harg8 arg9 harg9 arg10 harg10 arg11 harg11 arg12 harg12 arg13 harg13 arg2 k0_pay13 c0_i32_31 v65 c1_i32_32 f10 f11 f12)) $$ [H10 H11 H12 H13]
  · isplitl [H10]; · iexact H10
    isplitl [H11]; · iexact H11
    isplitl [H12]; · iexact H12
    isplitl [H13]
    · iexists f13; isplitl [H13]; · iexact H13
      ipureintro; exact fun j hj => absurd hj (Nat.not_lt_zero j)
    ipureintro; rfl
  iintro %acc ⟨H10, H11, H12, ⟨%f13', H13, %h13⟩, %hacc⟩
  have hT : Scf.trips (k0_t2_loop i).lb (k0_t2_loop i).ub (k0_t2_loop i).st = (i 2).val := t2_trips i
  rw [hT] at h13 hacc
  iapply (Scf.wp_for_bind frame (wpE (defs₀ (F := F)) 𝒱 (c : Thread nD τ) bd) E (k0_t3_loop i).lb (k0_t3_loop i).ub (k0_t3_loop i).st (k0_t3_ok i) acc _
    (fun _ a => iprop(⌜a = acc⌝)) (fun k => absurd (k.isLt.trans_eq (t3_trips i)) (Nat.not_lt_zero _))) $$ []
  · ipureintro; rfl
  iintro %acc' %hacc'
  subst hacc'
  sl_exec
  sl_step
  rw [readAt_rows arg10.view f10 _ (i 2).val hq (k0_off9_eq i), readAt_rows arg11.view f11 _ (i 2).val hq (k0_off9_eq i), readAt_whole]
  isplitl [H10]; · iexact H10
  isplitl [H11]; · iexact H11
  isplitl [H12]; · iexact H12
  isplitl [H13]
  · iexists _; isplitl [H13]; · iexact H13
    ipureintro
    intro j hj
    unfold scores
    by_cases hjk : j = (i 2).val
    · subst hjk
      rw [if_pos rfl]
      exact rows_store_same arg13.view f13' _ (i 2).val hq (k0_off10_eq i) _
    · rw [if_neg hjk, rows_store_other arg13.view f13' _ (i 2).val j hq (by omega) hjk (k0_off10_eq i)]
      exact h13 j (by omega)
  ipureintro
  rw [hacc]

/-- Tiles `0 … k-1` of the widened keys and of their scales stand in the two scratch matrices. -/
def FilledTo (X5 : Vec F S1x4096x128 .i8) (X6 : Vec F S1x2x4096 .f32) (h : Fin 2) (k : ℕ) (X10 : Vec F S4096x128 .bf16) (X11 : Vec F S4096x128 .f32) : Prop :=
  ∀ j, j < k → rows 128 X10 j = keys X5 j ∧ rows 128 X11 j = keyScales X6 h j

/-- The invariant of the loop that widens the keys. -/
abbrev inv1 (f5 : BufTy.Contents (Elt F) arg5.view.ty) (f6 : BufTy.Contents (Elt F) arg6.view.ty) (k : ℕ) (_ : PUnit.{1}) : sProp 𝕄 :=
  iprop((arg5.view.loc (c : Thread nD τ) ↦[arg5.view.set]{fullShare} f5) ∗ (arg6.view.loc (c : Thread nD τ) ↦[arg6.view.set]{fullShare} f6)
    ∗ (∃ f10 f11, (arg10.view.loc (c : Thread nD τ) ↦[arg10.view.set]{fullShare} f10) ∗ (arg11.view.loc (c : Thread nD τ) ↦[arg11.view.set]{fullShare} f11)
        ∗ ⌜FilledTo (arg5.view.read (Elt F) f5) (arg6.view.read (Elt F) f6) (i 1) k (arg10.view.read (Elt F) f10) (arg11.view.read (Elt F) f11)⌝))

theorem step1 (hc : k0_cond1 i = 1#1) (f5 : BufTy.Contents (Elt F) arg5.view.ty) (f6 : BufTy.Contents (Elt F) arg6.view.ty)
    (k : Fin k0_t1_loop.trips) (acc : PUnit) :
    inv1 c i arg5 arg6 arg10 arg11 f5 f6 k.val acc
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 hc k acc)
          (inv1 c i arg5 arg6 arg10 arg11 f5 f6 (k.val + 1)) := by
  have hk : k.val < 16 := k.isLt.trans_eq t1_trips
  unfold k0_t1_body
  iintro ⟨H5, H6, ⟨%f10, %f11, H10, H11, %hf⟩⟩
  sl_exec
  sl_step
  isplitl [H5]; · iexact H5
  isplitl [H6]; · iexact H6
  iexists _, _
  isplitl [H10]; · iexact H10
  isplitl [H11]; · iexact H11
  ipureintro
  intro j hj
  by_cases hjk : j = k.val
  · subst hjk
    rw [rows_store_same arg10.view f10 _ k.val hk (k0_off2_eq k), rows_store_same arg11.view f11 _ k.val hk (k0_off2_eq k)]
    constructor
    · exact congrArg k0_pay3 (View.readAt_unit arg5.view f5 _ (by rw [k0_off1_eq k, Nat.mod_eq_of_lt hk]) _)
    · exact congrArg k0_pay4 (View.readAt_unit arg6.view f6 _ (by rw [k0_off3_eq i k, Nat.mod_eq_of_lt hk]) _)
  · rw [rows_store_other arg10.view f10 _ k.val j hk (by omega) hjk (k0_off2_eq k), rows_store_other arg11.view f11 _ k.val j hk (by omega) hjk (k0_off2_eq k)]
    exact hf j (by omega)

/-- Part 1: the key scratch is filled at the first query block of a head and untouched elsewhere; two heads of the
    queries are stored, and their scales read. -/
theorem part1 (f3 : BufTy.Contents (Elt F) arg3.view.ty) (f4 : BufTy.Contents (Elt F) arg4.view.ty) (f5 : BufTy.Contents (Elt F) arg5.view.ty) (f6 : BufTy.Contents (Elt F) arg6.view.ty) (f10 : BufTy.Contents (Elt F) arg10.view.ty) (f11 : BufTy.Contents (Elt F) arg11.view.ty) (f12 : BufTy.Contents (Elt F) arg12.view.ty) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ (wp frame (wpE (defs₀ (F := F)) 𝒱 (c : Thread nD τ) bd) E (k0_part1 (F := F) i arg3 harg3 arg4 harg4 arg5 harg5 arg6 harg6 arg7 harg7 arg8 harg8 arg9 harg9 arg10 harg10 arg11 harg11 arg12 harg12 arg13 harg13)
          fun r => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)
            ∗ (∃ f10' f11', (arg10.view.loc (c : Thread nD τ) ↦[arg10.view.set]{fullShare} f10') ∗ (arg11.view.loc (c : Thread nD τ) ↦[arg11.view.set]{fullShare} f11')
                ∗ ⌜(k0_cond1 i = 1#1 → FilledTo (arg5.view.read (Elt F) f5) (arg6.view.read (Elt F) f6) (i 1) 16 (arg10.view.read (Elt F) f10') (arg11.view.read (Elt F) f11'))
                    ∧ (k0_cond1 i ≠ 1#1 → f10' = f10 ∧ f11' = f11)⌝)
            ∗ (arg12.view.loc (c : Thread nD τ) ↦[arg12.view.set]{fullShare} arg12.view.writes (Elt F) f12
                [⟨Rect.unit (s := S128x1024) ![0, 256] S128x256.size inb_S128x1024_S128x256_0_256, k0_pay7 (queryHead (arg3.view.read (Elt F) f3) 1)⟩,
                 ⟨Rect.unit (s := S128x1024) ![0, 0] S128x256.size inb_S128x1024_S128x256_0_0, k0_pay5 (queryHead (arg3.view.read (Elt F) f3) 0)⟩])
            ∗ ⌜r = ⟨BitVec.ofNat 32 (i 1).val, BitVec.ofNat 32 (i 2).val, k0_pay6 (queryScale (arg4.view.read (Elt F) f4) (i 1) 0), k0_pay8 (queryScale (arg4.view.read (Elt F) f4) (i 1) 1), k0_pay9⟩⌝) : sProp 𝕄) := by
  rw [k0_part1_eq_skeleton]
  unfold k0_part1_skel
  by_cases hc : k0_cond1 i = 1#1
  · rw [dif_pos hc]
    unfold Scf.Loop.for
    iintro ⟨H3, H4, H5, H6, H10, H11, H12⟩
    iapply (Scf.wp_for_bind frame (wpE (defs₀ (F := F)) 𝒱 (c : Thread nD τ) bd) E k0_t1_loop.lb k0_t1_loop.ub k0_t1_loop.st (k0_t1_ok i hc) ⟨⟩ _
      (inv1 c i arg5 arg6 arg10 arg11 f5 f6) (step1 𝒱 c bd E i arg3 harg3 arg4 harg4 arg5 harg5 arg6 harg6 arg7 harg7 arg8 harg8 arg9 harg9 arg10 harg10 arg11 harg11 arg12 harg12 arg13 harg13 hc f5 f6)) $$ [H5 H6 H10 H11]
    · isplitl [H5]; · iexact H5
      isplitl [H6]; · iexact H6
      iexists f10, f11
      isplitl [H10]; · iexact H10
      isplitl [H11]; · iexact H11
      ipureintro; exact fun j hj => absurd hj (Nat.not_lt_zero j)
    iintro %_ ⟨H5, H6, ⟨%f10', %f11', H10, H11, %hf⟩⟩
    have hT : Scf.trips k0_t1_loop.lb k0_t1_loop.ub k0_t1_loop.st = 16 := t1_trips
    rw [hT] at hf
    sl_exec
    sl_step
    rw [readAt_head arg3.view f3 (off := ![0, 0, 0]) inb_S1x256x512_S1x256x128_0_0_0 0 rfl, readAt_head arg3.view f3 (off := ![0, 0, 128]) inb_S1x256x512_S1x256x128_0_0_128 1 rfl, readAt_qscale arg4.view f4 (off := k0_off4 i 0#32) (k0_off4_inb i 0) (i 1) 0 (k0_off4_eq i 0), readAt_qscale arg4.view f4 (off := k0_off4 i 1#32) (k0_off4_inb i 1) (i 1) 1 (k0_off4_eq i 1)]
    isplitl [H3]; · iexact H3
    isplitl [H4]; · iexact H4
    isplitl [H5]; · iexact H5
    isplitl [H6]; · iexact H6
    isplitl [H10 H11]
    · iexists f10', f11'
      isplitl [H10]; · iexact H10
      isplitl [H11]; · iexact H11
      ipureintro; exact ⟨fun _ => hf, fun h => absurd hc h⟩
    isplitl [H12]; · iexact H12
    ipureintro; rfl
  · rw [dif_neg hc]
    iintro ⟨H3, H4, H5, H6, H10, H11, H12⟩
    sl_exec
    sl_step
    rw [readAt_head arg3.view f3 (off := ![0, 0, 0]) inb_S1x256x512_S1x256x128_0_0_0 0 rfl, readAt_head arg3.view f3 (off := ![0, 0, 128]) inb_S1x256x512_S1x256x128_0_0_128 1 rfl, readAt_qscale arg4.view f4 (off := k0_off4 i 0#32) (k0_off4_inb i 0) (i 1) 0 (k0_off4_eq i 0), readAt_qscale arg4.view f4 (off := k0_off4 i 1#32) (k0_off4_inb i 1) (i 1) 1 (k0_off4_eq i 1)]
    isplitl [H3]; · iexact H3
    isplitl [H4]; · iexact H4
    isplitl [H5]; · iexact H5
    isplitl [H6]; · iexact H6
    isplitl [H10 H11]
    · iexists f10, f11
      isplitl [H10]; · iexact H10
      isplitl [H11]; · iexact H11
      ipureintro; exact ⟨fun h => absurd h hc, fun _ => ⟨rfl, rfl⟩⟩
    isplitl [H12]; · iexact H12
    ipureintro; rfl

/-- Part 2: the other two heads of the queries are stored; the row of scales is complete. -/
theorem part2 (f3 : BufTy.Contents (Elt F) arg3.view.ty) (f4 : BufTy.Contents (Elt F) arg4.view.ty) (f12 : BufTy.Contents (Elt F) arg12.view.ty) :
    iprop((arg3.view.loc (c : Thread nD τ) ↦[arg3.view.set]{fullShare} f3) ∗ (arg4.view.loc (c : Thread nD τ) ↦[arg4.view.set]{fullShare} f4)
      ∗ (arg12.view.loc (c : Thread nD τ) ↦[arg12.view.set]{fullShare} arg12.view.writes (Elt F) f12
                [⟨Rect.unit (s := S128x1024) ![0, 256] S128x256.size inb_S128x1024_S128x256_0_256, k0_pay7 (queryHead (arg3.view.read (Elt F) f3) 1)⟩,
                 ⟨Rect.unit (s := S128x1024) ![0, 0] S128x256.size inb_S128x1024_S128x256_0_0, k0_pay5 (queryHead (arg3.view.read (Elt F) f3) 0)⟩]))
      ⊢ (wp frame (wpE (defs₀ (F := F)) 𝒱 (c : Thread nD τ) bd) E (k0_part2 (F := F) i arg3 harg3 arg4 harg4 arg5 harg5 arg6 harg6 arg7 harg7 arg8 harg8 arg9 harg9 arg10 harg10 arg11 harg11 arg12 harg12 arg13 harg13 (BitVec.ofNat 32 (i 1).val) (BitVec.ofNat 32 (i 2).val) (k0_pay6 (queryScale (arg4.view.read (Elt F) f4) (i 1) 0)) (k0_pay8 (queryScale (arg4.view.read (Elt F) f4) (i 1) 1)) k0_pay9)
          fun r => iprop((arg3.view.loc (c : Thread nD τ) ↦[arg3.view.set]{fullShare} f3) ∗ (arg4.view.loc (c : Thread nD τ) ↦[arg4.view.set]{fullShare} f4)
            ∗ (∃ f12', (arg12.view.loc (c : Thread nD τ) ↦[arg12.view.set]{fullShare} f12') ∗ ⌜(arg12.view.read (Elt F) f12') = queries (arg3.view.read (Elt F) f3)⌝)
            ∗ ⌜r = ⟨scales (arg4.view.read (Elt F) f4) (i 1), k0_pay13, 0#32, Scalar.subi (BitVec.ofNat 32 (i 2).val) 0#32, 1#32⟩⌝) : sProp 𝕄) := by
  rw [k0_part2_eq_skeleton]
  unfold k0_part2_skel
  iintro ⟨H3, H4, H12⟩
  sl_exec
  sl_step
  rw [readAt_head arg3.view f3 (off := ![0, 0, 256]) inb_S1x256x512_S1x256x128_0_0_256 2 rfl, readAt_head arg3.view f3 (off := ![0, 0, 384]) inb_S1x256x512_S1x256x128_0_0_384 3 rfl, readAt_qscale arg4.view f4 (off := k0_off4 i 2#32) (k0_off4_inb i 2) (i 1) 2 (k0_off4_eq i 2), readAt_qscale arg4.view f4 (off := k0_off4 i 3#32) (k0_off4_inb i 3) (i 1) 3 (k0_off4_eq i 3)]
  isplitl [H3]; · iexact H3
  isplitl [H4]; · iexact H4
  isplitl [H12]
  · iexists _; isplitl [H12]; · iexact H12
    ipureintro
    exact View.read_writes_eq_canon _ _ _ (View.cover_of_tiledL _ S128x256.size (by sl_kernel_rfl))
  ipureintro; rfl

/-- The sums over the first `n` tiles look only at those tiles. -/
theorem sums_congr (v63 : FVec F S1x1024 .f32) (v71 v108 : FVec F S8x1024 .f32) (T T' : ℕ → Vec F S256x1024 .f32)
    (V : ℕ → Vec F S1x1x128x256 .fp8e4m3) (n : ℕ) (h : ∀ j, j < n → T j = T' j) : sums v63 v71 v108 T V n = sums v63 v71 v108 T' V n := by
  induction n with
  | zero => rfl
  | succ n ih => unfold sums; rw [ih fun j hj => h j (by omega), h n (by omega)]

/-- The maxima before the masked tile look only at the tiles before it. -/
theorem maxes_congr (K K' : ℕ → Vec F S256x128 .bf16) (Q : Vec F S128x1024 .bf16) (S S' : ℕ → Vec F S256x128 .f32) (n : ℕ)
    (hK : ∀ j, j < n → K j = K' j) (hS : ∀ j, j < n → S j = S' j) : maxes K Q S n = maxes K' Q S' n := by
  induction n with
  | zero => rfl
  | succ n ih => unfold maxes; rw [ih (fun j hj => hK j (by omega)) (fun j hj => hS j (by omega)), hK n (by omega), hS n (by omega)]

/-- The invariant of the loop over the tiles of exponentials. -/
abbrev inv4 (v63 : FVec F S1x1024 .f32) (v71 v108 : FVec F S8x1024 .f32) (f7 : BufTy.Contents (Elt F) arg7.view.ty) (f13 : BufTy.Contents (Elt F) arg13.view.ty) (k : ℕ) (acc : FVec F S8x1024 .f32 × FVec F S128x1024 .f32) : sProp 𝕄 :=
  iprop((arg7.view.loc (c : Thread nD τ) ↦[arg7.view.set]{fullShare} f7) ∗ (arg13.view.loc (c : Thread nD τ) ↦[arg13.view.set]{fullShare} f13) ∗ ⌜acc = (sums v63 v71 v108 (rows 1024 (arg13.view.read (Elt F) f13)) (valTile (arg7.view.read (Elt F) f7)) k)⌝)

theorem step4 (arg1 arg2 : BitVec 32) (v63 : FVec F S1x1024 .f32) (v71 v108 : FVec F S8x1024 .f32) (f7 : BufTy.Contents (Elt F) arg7.view.ty) (f13 : BufTy.Contents (Elt F) arg13.view.ty)
    (k : Fin (k0_t4_loop i).trips) (acc : FVec F S8x1024 .f32 × FVec F S128x1024 .f32) :
    inv4 c arg7 arg13 v63 v71 v108 f7 f13 k.val acc
      ⊢ wp frame (wpE (defs₀ (F := F)) 𝒱 (c : Thread nD τ) bd) E (k0_t4_body (F := F) i arg3 harg3 arg4 harg4 arg5 harg5 arg6 harg6 arg7 harg7 arg8 harg8 arg9 harg9 arg10 harg10 arg11 harg11 arg12 harg12 arg13 harg13 arg1 arg2 v63 v71 v108 k acc)
          (inv4 c arg7 arg13 v63 v71 v108 f7 f13 (k.val + 1)) := by
  have hk : k.val < 16 := by have h1 := k.isLt.trans_eq (t4_trips i); have h2 := coord2_lt i; omega
  unfold k0_t4_body
  iintro ⟨H7, H13, %hacc⟩
  subst hacc
  sl_exec
  sl_step
  rw [readAt_rows arg13.view f13 _ k.val hk (k0_off11_eq i k), readAt_values arg7.view f7 _ k.val hk (k0_off12_eq i k)]
  isplitl [H7]; · iexact H7
  isplitl [H13]; · iexact H13
  ipureintro; rfl

/-- Part 4: the sums over tiles `0 … qi`, the value scales, and the first two heads of the result stored. -/
theorem part4 (arg1 arg2 : BitVec 32) (v63 : FVec F S1x1024 .f32) (v71 v108 : FVec F S8x1024 .f32) (f7 : BufTy.Contents (Elt F) arg7.view.ty) (f8 : BufTy.Contents (Elt F) arg8.view.ty) (f9 : BufTy.Contents (Elt F) arg9.view.ty) (f13 : BufTy.Contents (Elt F) arg13.view.ty) :
    iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg13.view.loc (c : Thread nD τ) ↦[arg13.view.set]{fullShare} f13))
      ⊢ (wp frame (wpE (defs₀ (F := F)) 𝒱 (c : Thread nD τ) bd) E (k0_part4 (F := F) i arg3 harg3 arg4 harg4 arg5 harg5 arg6 harg6 arg7 harg7 arg8 harg8 arg9 harg9 arg10 harg10 arg11 harg11 arg12 harg12 arg13 harg13 arg1 arg2 v63 v71 v108)
          fun r => iprop((arg7.view.loc (c : Thread nD τ) ↦[arg7.view.set]{fullShare} f7) ∗ (arg8.view.loc (c : Thread nD τ) ↦[arg8.view.set]{fullShare} f8) ∗ (arg13.view.loc (c : Thread nD τ) ↦[arg13.view.set]{fullShare} f13)
            ∗ (arg9.view.loc (c : Thread nD τ) ↦[arg9.view.set]{fullShare} arg9.view.writes (Elt F) f9
                [⟨Rect.unit (s := S1x256x512) ![0, 0, 128] S1x256x128.size inb_S1x256x512_S1x256x128_0_0_128, k0_pay35 (sums v63 v71 v108 (rows 1024 (arg13.view.read (Elt F) f13)) (valTile (arg7.view.read (Elt F) f7)) ((i 2).val + 1)).1 (sums v63 v71 v108 (rows 1024 (arg13.view.read (Elt F) f13)) (valTile (arg7.view.read (Elt F) f7)) ((i 2).val + 1)).2 (valScale (arg8.view.read (Elt F) f8) (i 1))⟩,
                 ⟨Rect.unit (s := S1x256x512) ![0, 0, 0] S1x256x128.size inb_S1x256x512_S1x256x128_0_0_0, k0_pay34 (sums v63 v71 v108 (rows 1024 (arg13.view.read (Elt F) f13)) (valTile (arg7.view.read (Elt F) f7)) ((i 2).val + 1)).1 (sums v63 v71 v108 (rows 1024 (arg13.view.read (Elt F) f13)) (valTile (arg7.view.read (Elt F) f7)) ((i 2).val + 1)).2 (valScale (arg8.view.read (Elt F) f8) (i 1))⟩])
            ∗ ⌜r = ⟨k0_pay32 (sums v63 v71 v108 (rows 1024 (arg13.view.read (Elt F) f13)) (valTile (arg7.view.read (Elt F) f7)) ((i 2).val + 1)).1 (sums v63 v71 v108 (rows 1024 (arg13.view.read (Elt F) f13)) (valTile (arg7.view.read (Elt F) f7)) ((i 2).val + 1)).2, k0_pay33 (valScale (arg8.view.read (Elt F) f8) (i 1)), k0_pay36 (sums v63 v71 v108 (rows 1024 (arg13.view.read (Elt F) f13)) (valTile (arg7.view.read (Elt F) f7)) ((i 2).val + 1)).1 (sums v63 v71 v108 (rows 1024 (arg13.view.read (Elt F) f13)) (valTile (arg7.view.read (Elt F) f7)) ((i 2).val + 1)).2⟩⌝) : sProp 𝕄) := by
  rw [k0_part4_eq_skeleton]
  unfold k0_part4_skel
  unfold Scf.Loop.for
  iintro ⟨H7, H8, H9, H13⟩
  iapply (Scf.wp_for_bind frame (wpE (defs₀ (F := F)) 𝒱 (c : Thread nD τ) bd) E (k0_t4_loop i).lb (k0_t4_loop i).ub (k0_t4_loop i).st (k0_t4_ok i) (k0_pay24, k0_pay25) _
    (inv4 c arg7 arg13 v63 v71 v108 f7 f13) (step4 𝒱 c bd E i arg3 harg3 arg4 harg4 arg5 harg5 arg6 harg6 arg7 harg7 arg8 harg8 arg9 harg9 arg10 harg10 arg11 harg11 arg12 harg12 arg13 harg13 arg1 arg2 v63 v71 v108 f7 f13)) $$ [H7 H13]
  · isplitl [H7]; · iexact H7
    isplitl [H13]; · iexact H13
    ipureintro; rfl
  iintro %acc ⟨H7, H13, %hacc⟩
  have hT : Scf.trips (k0_t4_loop i).lb (k0_t4_loop i).ub (k0_t4_loop i).st = (i 2).val + 1 := t4_trips i
  rw [hT] at hacc
  obtain ⟨a1, a2⟩ := acc
  iapply (Scf.wp_for_bind frame (wpE (defs₀ (F := F)) 𝒱 (c : Thread nD τ) bd) E (k0_t5_loop i).lb (k0_t5_loop i).ub (k0_t5_loop i).st (k0_t5_ok i) (a1, a2) _
    (fun _ a => iprop(⌜a = (a1, a2)⌝)) (fun k => absurd (k.isLt.trans_eq (t5_trips i)) (Nat.not_lt_zero _))) $$ []
  · ipureintro; rfl
  iintro %acc' %hacc'
  subst hacc'
  sl_exec
  sl_step
  rw [readAt_vscale arg8.view f8 (off := k0_off15 i) (k0_off15_inb i) (i 1) (k0_off15_eq i)]
  obtain ⟨h1, h2⟩ : a1 = (sums v63 v71 v108 (rows 1024 (arg13.view.read (Elt F) f13)) (valTile (arg7.view.read (Elt F) f7)) ((i 2).val + 1)).1 ∧ a2 = (sums v63 v71 v108 (rows 1024 (arg13.view.read (Elt F) f13)) (valTile (arg7.view.read (Elt F) f7)) ((i 2).val + 1)).2 := ⟨congrArg Prod.fst hacc, congrArg Prod.snd hacc⟩
  rw [h1, h2]
  isplitl [H7]; · iexact H7
  isplitl [H8]; · iexact H8
  isplitl [H13]; · iexact H13
  isplitl [H9]; · iexact H9
  ipureintro; rfl

/-- The whole body: with the key scratch filled already where this grid point does not fill it, the result block is
    `result` of the blocks, and the key scratch is filled afterwards. -/
theorem body (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (hfill : k0_cond1 i ≠ 1#1 → FilledTo (arg5.view.read (Elt F) f5) (arg6.view.read (Elt F) f6) (i 1) 16 (arg10.view.read (Elt F) f10) (arg11.view.read (Elt F) f11)) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))
      ⊢ (wp frame (wpE (defs₀ (F := F)) 𝒱 (c : Thread nD τ) bd) E (cc0_attend (F := F) i arg3 harg3 arg4 harg4 arg5 harg5 arg6 harg6 arg7 harg7 arg8 harg8 arg9 harg9 arg10 harg10 arg11 harg11 arg12 harg12 arg13 harg13)
          fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
            ∗ (∃ f9', (arg9.view.loc (c : Thread nD τ) ↦[arg9.view.set]{fullShare} f9') ∗ ⌜(arg9.view.read (Elt F) f9') = result (arg3.view.read (Elt F) f3) (arg4.view.read (Elt F) f4) (arg5.view.read (Elt F) f5) (arg6.view.read (Elt F) f6) (arg7.view.read (Elt F) f7) (arg8.view.read (Elt F) f8) (i 1) (i 2).val⌝)
            ∗ (∃ f10' f11', (arg10.view.loc (c : Thread nD τ) ↦[arg10.view.set]{fullShare} f10') ∗ (arg11.view.loc (c : Thread nD τ) ↦[arg11.view.set]{fullShare} f11') ∗ ⌜FilledTo (arg5.view.read (Elt F) f5) (arg6.view.read (Elt F) f6) (i 1) 16 (arg10.view.read (Elt F) f10') (arg11.view.read (Elt F) f11')⌝)
            ∗ (∃ f12', (arg12.view.loc (c : Thread nD τ) ↦[arg12.view.set]{fullShare} f12')) ∗ (∃ f13', (arg13.view.loc (c : Thread nD τ) ↦[arg13.view.set]{fullShare} f13'))) : sProp 𝕄) := by
  have hq : (i 2).val < 16 := coord2_lt i
  rw [cc0_attend_eq_skeleton]
  unfold cc0_attend_skel
  iintro ⟨H3, H4, H5, H6, H7, H8, H9, H10, H11, H12, H13⟩
  rw [wp_bind]
  iapply wp_wand_r
  isplitl [H3 H4 H5 H6 H10 H11 H12]
  · iapply (part1 𝒱 c bd E i arg3 harg3 arg4 harg4 arg5 harg5 arg6 harg6 arg7 harg7 arg8 harg8 arg9 harg9 arg10 harg10 arg11 harg11 arg12 harg12 arg13 harg13 f3 f4 f5 f6 f10 f11 f12)
    isplitl [H3]; · iexact H3
    isplitl [H4]; · iexact H4
    isplitl [H5]; · iexact H5
    isplitl [H6]; · iexact H6
    isplitl [H10]; · iexact H10
    isplitl [H11]; · iexact H11
    iexact H12
  iintro %r ⟨H3, H4, H5, H6, ⟨%f10', %f11', H10, H11, %hf⟩, H12, %hr⟩
  subst hr
  have hfull : FilledTo (arg5.view.read (Elt F) f5) (arg6.view.read (Elt F) f6) (i 1) 16 (arg10.view.read (Elt F) f10') (arg11.view.read (Elt F) f11') := by
    by_cases hc : k0_cond1 i = 1#1
    · exact hf.1 hc
    · obtain ⟨rfl, rfl⟩ := hf.2 hc
      exact hfill hc
  rw [wp_bind]
  iapply wp_wand_r
  isplitl [H3 H4 H12]
  · iapply (part2 𝒱 c bd E i arg3 harg3 arg4 harg4 arg5 harg5 arg6 harg6 arg7 harg7 arg8 harg8 arg9 harg9 arg10 harg10 arg11 harg11 arg12 harg12 arg13 harg13 f3 f4 f12)
    isplitl [H3]; · iexact H3
    isplitl [H4]; · iexact H4
    iexact H12
  iintro %r ⟨H3, H4, ⟨%f12', H12, %hQ⟩, %hr⟩
  subst hr
  rw [wp_bind]
  iapply wp_wand_r
  isplitl [H10 H11 H12 H13]
  · iapply (part3 𝒱 c bd E i arg3 harg3 arg4 harg4 arg5 harg5 arg6 harg6 arg7 harg7 arg8 harg8 arg9 harg9 arg10 harg10 arg11 harg11 arg12 harg12 arg13 harg13 _ _ _ _ f10' f11' f12' f13)
    isplitl [H10]; · iexact H10
    isplitl [H11]; · iexact H11
    isplitl [H12]; · iexact H12
    iexact H13
  iintro %r ⟨H10, H11, H12, ⟨%f13', H13, %hS⟩, %hr⟩
  subst hr
  rw [wp_bind]
  iapply wp_wand_r
  isplitl [H7 H8 H9 H13]
  · iapply (part4 𝒱 c bd E i arg3 harg3 arg4 harg4 arg5 harg5 arg6 harg6 arg7 harg7 arg8 harg8 arg9 harg9 arg10 harg10 arg11 harg11 arg12 harg12 arg13 harg13 _ _ _ _ _ f7 f8 f9 f13')
    isplitl [H7]; · iexact H7
    isplitl [H8]; · iexact H8
    isplitl [H9]; · iexact H9
    iexact H13
  iintro %r ⟨H7, H8, H13, H9, %hr⟩
  subst hr
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]
  · iexists _; isplitl [H9]; · iexact H9
    ipureintro
    have hm : maxes (rows 128 (arg10.view.read (Elt F) f10')) (arg12.view.read (Elt F) f12') (rows 128 (arg11.view.read (Elt F) f11')) (i 2).val = pointMax (arg3.view.read (Elt F) f3) (arg5.view.read (Elt F) f5) (arg6.view.read (Elt F) f6) (i 1) (i 2).val := by
      rw [hQ]; exact maxes_congr _ _ _ _ _ _ (fun j hj => (hfull j (by omega)).1) (fun j hj => (hfull j (by omega)).2)
    have hm' : k0_pay22 (rows 128 (arg10.view.read (Elt F) f10') (i 2).val) (arg12.view.read (Elt F) f12') (rows 128 (arg11.view.read (Elt F) f11') (i 2).val) = pointMaskedMax (arg3.view.read (Elt F) f3) (arg5.view.read (Elt F) f5) (arg6.view.read (Elt F) f6) (i 1) (i 2).val := by
      rw [hQ, (hfull _ hq).1, (hfull _ hq).2]; rfl
    have hs : sums (scales (arg4.view.read (Elt F) f4) (i 1)) (pointMax (arg3.view.read (Elt F) f3) (arg5.view.read (Elt F) f5) (arg6.view.read (Elt F) f6) (i 1) (i 2).val) (pointMaskedMax (arg3.view.read (Elt F) f3) (arg5.view.read (Elt F) f5) (arg6.view.read (Elt F) f6) (i 1) (i 2).val) (rows 1024 (arg13.view.read (Elt F) f13')) (valTile (arg7.view.read (Elt F) f7)) ((i 2).val + 1)
        = pointSums (arg3.view.read (Elt F) f3) (arg4.view.read (Elt F) f4) (arg5.view.read (Elt F) f5) (arg6.view.read (Elt F) f6) (arg7.view.read (Elt F) f7) (i 1) (i 2).val :=
      sums_congr _ _ _ _ _ _ _ fun j hj => by
        rw [hS j (by omega), hQ]
        show scores _ _ _ _ _ = scores _ _ _ _ _
        unfold scores
        rw [(hfull j (by omega)).1, (hfull j (by omega)).2]
    rw [hm, hm', hs]
    exact View.read_writes_eq_canon _ _ _ (View.cover_of_tiledL _ S1x256x128.size (by sl_kernel_rfl))
  isplitl [H10 H11]
  · iexists f10', f11'
    isplitl [H10]; · iexact H10
    isplitl [H11]; · iexact H11
    ipureintro; exact hfull
  isplitl [H12]
  · iexists _; iexact H12
  iexists _; iexact H13

end Parts

end Cert.Kernel.Body

end
-- ==== Proof.BitsWhole.lean ====
module

public import proofs.«01_k».proof.Proof.BitsParts
public import Idealize.ShloMosaic.Lib.Pipeline.FrameBody
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body on owned memrefs -/

section Body

variable (𝒱 : Variants) (c : Dev nD) (bd : Option 𝒱.V) (E : Set ℕ) (i : grid0.Coords) (arg3 : Memref sig .tc .vmem S1x256x512 .i8) (harg3 : arg3.IsWhole) (arg4 : Memref sig .tc .vmem S1x8x256 .f32) (harg4 : arg4.IsWhole) (arg5 : Memref sig .tc .vmem S1x4096x128 .i8) (harg5 : arg5.IsWhole) (arg6 : Memref sig .tc .vmem S1x2x4096 .f32) (harg6 : arg6.IsWhole) (arg7 : Memref sig .tc .vmem S1x1x128x4096 .fp8e4m3) (harg7 : arg7.IsWhole) (arg8 : Memref sig .tc .vmem S1x2x128 .f32) (harg8 : arg8.IsWhole) (arg9 : Memref sig .tc .vmem S1x256x512 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S128x1024 .bf16) (harg12 : arg12.IsWhole) (arg13 : Memref sig .tc .vmem S4096x1024 .f32) (harg13 : arg13.IsWhole)

/-- `body`, of memrefs owned at the values they read. -/
theorem body_owns (X3 : Vec F S1x256x512 .i8) (X4 : Vec F S1x8x256 .f32) (X5 : Vec F S1x4096x128 .i8) (X6 : Vec F S1x2x4096 .f32) (X7 : Vec F S1x1x128x4096 .fp8e4m3) (X8 : Vec F S1x2x128 .f32) (X9 : Vec F S1x256x512 .bf16) (X10 : Vec F S4096x128 .bf16) (X11 : Vec F S4096x128 .f32) (X12 : Vec F S128x1024 .bf16) (X13 : Vec F S4096x1024 .f32)
    (hfill : k0_cond1 i ≠ 1#1 → FilledTo X5 X6 (i 1) 16 X10 X11) :
    iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13)
      ⊢ (wp frame (wpE (defs₀ (F := F)) 𝒱 (c : Thread nD τ) bd) E (cc0_attend (F := F) i arg3 harg3 arg4 harg4 arg5 harg5 arg6 harg6 arg7 harg7 arg8 harg8 arg9 harg9 arg10 harg10 arg11 harg11 arg12 harg12 arg13 harg13)
          fun _ => iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8
            ∗ owns (c : Thread nD τ) arg9 fullShare (result X3 X4 X5 X6 X7 X8 (i 1) (i 2).val)
            ∗ (∃ X10' X11', owns (c : Thread nD τ) arg10 fullShare X10' ∗ owns (c : Thread nD τ) arg11 fullShare X11' ∗ ⌜FilledTo X5 X6 (i 1) 16 X10' X11'⌝)
            ∗ (∃ X12', owns (c : Thread nD τ) arg12 fullShare X12') ∗ (∃ X13', owns (c : Thread nD τ) arg13 fullShare X13')) : sProp 𝕄) := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  subst h3 h4 h5 h6 h7 h8 h9 h10 h11 h12 h13
  iapply wp_wand_r
  isplitl [H3 H4 H5 H6 H7 H8 H9 H10 H11 H12 H13]
  · iapply (body 𝒱 c bd E i arg3 harg3 arg4 harg4 arg5 harg5 arg6 harg6 arg7 harg7 arg8 harg8 arg9 harg9 arg10 harg10 arg11 harg11 arg12 harg12 arg13 harg13 f3 f4 f5 f6 f7 f8 f9 f10 f11 f12 f13 hfill)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %r ⟨H3, H4, H5, H6, H7, H8, ⟨%f9', H9, %h9⟩, ⟨%f10', %f11', H10, H11, %hf⟩, ⟨%f12', H12⟩, ⟨%f13', H13⟩⟩
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact h9
  isplitl [H10 H11]
  · iexists _, _
    isplitl [H10]
    · iexists _; isplitr; swap; · iexact H10
      ipureintro; rfl
    isplitl [H11]
    · iexists _; isplitr; swap; · iexact H11
      ipureintro; rfl
    ipureintro; exact hf
  isplitl [H12]
  · iexists _, _; isplitr; swap; · iexact H12
    ipureintro; rfl
  iexists _, _; isplitr; swap; · iexact H13
  ipureintro; rfl

end Body

/-! ## The proof data -/

variable (m : (ℓ : Loc nD τ sig) → Buf (Elt F) ℓ) (ρ : Dev nD → PrngReg)

/-- The blocks of the six arguments at a grid point. -/
abbrev blk3 (c : Dev nD) (t : Fin cfg0.N) : Vec F S1x256x512 .i8 := iblk m c 0 t
abbrev blk4 (c : Dev nD) (t : Fin cfg0.N) : Vec F S1x8x256 .f32 := iblk m c 1 t
abbrev blk5 (c : Dev nD) (t : Fin cfg0.N) : Vec F S1x4096x128 .i8 := iblk m c 2 t
abbrev blk6 (c : Dev nD) (t : Fin cfg0.N) : Vec F S1x2x4096 .f32 := iblk m c 3 t
abbrev blk7 (c : Dev nD) (t : Fin cfg0.N) : Vec F S1x1x128x4096 .fp8e4m3 := iblk m c 4 t
abbrev blk8 (c : Dev nD) (t : Fin cfg0.N) : Vec F S1x2x128 .f32 := iblk m c 5 t

/-- The block of the result that the body writes at a grid point. -/
def outBlk (c : Dev nD) (t : Fin cfg0.N) : Vec F S1x256x512 .bf16 :=
  result (blk3 m c t) (blk4 m c t) (blk5 m c t) (blk6 m c t) (blk7 m c t) (blk8 m c t) (grid0.coords t 1) (grid0.coords t 2).val

/-- The key scratch after the first `n` grid points: filled from the blocks of the last of them. -/
def Held (c : Dev nD) (n : ℕ) (X10 : Vec F S4096x128 .bf16) (X11 : Vec F S4096x128 .f32) : Prop :=
  ∀ t : Fin cfg0.N, t.val + 1 = n → FilledTo (blk5 m c t) (blk6 m c t) (grid0.coords t 1) 16 X10 X11

/-- What the body carries from point to point: the key scratch, and the other scratch at anything. -/
def Φk (c : Dev nD) (n : ℕ) : sProp 𝕄 :=
  iprop((∃ X10 X11, owns (c : Thread nD τ) (Memref.whole cc0_scratch0) fullShare X10 ∗ owns (c : Thread nD τ) (Memref.whole cc0_scratch1) fullShare X11 ∗ ⌜Held m c n X10 X11⌝)
    ∗ (∃ X12, owns (c : Thread nD τ) (Memref.whole cc0_scratch2) fullShare X12) ∗ (∃ X13, owns (c : Thread nD τ) (Memref.whole cc0_scratch3) fullShare X13) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Φk m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## Within one head the blocks of keys do not change -/

/-- A block not fetched at a point is the block of the point before. -/
theorem blk5_prev (c : Dev nD) (t : Fin cfg0.N) (h : t.val % 16 ≠ 0) :
    blk5 m c t = blk5 m c ⟨t.val - 1, Nat.lt_of_le_of_lt (Nat.sub_le _ _) t.isLt⟩ := by
  have hf : (cfg0.win 2).fetch t = false := Bool.eq_false_iff.mpr fun h' => h ((fetch0_2 t).mp h')
  have e := (dats m 0 c).before_unfetched_in 2 rfl t hf (fun _ => rfl) (iblk m c 2 t)
  rw [before0_2] at e
  refine e.trans ?_
  unfold Dat.kept
  rw [after0_2]
  rfl

theorem blk6_prev (c : Dev nD) (t : Fin cfg0.N) (h : t.val % 32 ≠ 0) :
    blk6 m c t = blk6 m c ⟨t.val - 1, Nat.lt_of_le_of_lt (Nat.sub_le _ _) t.isLt⟩ := by
  have hf : (cfg0.win 3).fetch t = false := Bool.eq_false_iff.mpr fun h' => h ((fetch0_3 t).mp h')
  have e := (dats m 0 c).before_unfetched_in 3 rfl t hf (fun _ => rfl) (iblk m c 3 t)
  rw [before0_3] at e
  refine e.trans ?_
  unfold Dat.kept
  rw [after0_3]
  rfl

theorem cond_ne (t : Fin grid0.N) : k0_cond1 (grid0.coords t) ≠ 1#1 → t.val % 16 ≠ 0 := by
  have h : ∀ t : Fin grid0.N, k0_cond1 (grid0.coords t) ≠ 1#1 → t.val % 16 ≠ 0 := by decide +kernel
  exact h t

theorem head_prev (t : Fin grid0.N) : t.val % 16 ≠ 0 →
    grid0.coords t 1 = grid0.coords ⟨t.val - 1, Nat.lt_of_le_of_lt (Nat.sub_le _ _) t.isLt⟩ 1 := by
  have h : ∀ t : Fin grid0.N, t.val % 16 ≠ 0 →
    grid0.coords t 1 = grid0.coords ⟨t.val - 1, Nat.lt_of_le_of_lt (Nat.sub_le _ _) t.isLt⟩ 1 := by decide +kernel
  exact h t

/-- Where the body does not fill the key scratch, it is filled already with this point's blocks. -/
theorem held_here (c : Dev nD) (t : Fin cfg0.N) (X10 : Vec F S4096x128 .bf16) (X11 : Vec F S4096x128 .f32) (h : Held m c t.val X10 X11)
    (hc : k0_cond1 (grid0.coords t) ≠ 1#1) : FilledTo (blk5 m c t) (blk6 m c t) (grid0.coords t 1) 16 X10 X11 := by
  have h16 := cond_ne t hc
  rw [blk5_prev m c t h16, blk6_prev m c t (by omega), head_prev t h16]
  exact h _ (by show t.val - 1 + 1 = t.val; omega)

theorem held_next (c : Dev nD) (t : Fin cfg0.N) (X10 : Vec F S4096x128 .bf16) (X11 : Vec F S4096x128 .f32)
    (h : FilledTo (blk5 m c t) (blk6 m c t) (grid0.coords t 1) 16 X10 X11) : Held m c (t.val + 1) X10 X11 := by
  intro t' ht'
  obtain rfl : t' = t := Fin.ext (by omega)
  exact h

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Φk m c (t.val + 1) from rfl, show (dats m 0 c).Φ t.castSucc = Φk m c t.val from rfl,
    show (dats m 0 c).owesAt () t.succ = (dats m 0 c).owesAt () t.castSucc from rfl,
    after0_0, after0_1, after0_2, after0_3, after0_4, after0_5, after0_6]
  unfold Φk
  iintro ⟨⟨⟨%X10, %X11, H10, H11, %hH⟩, ⟨%X12, H12⟩, ⟨%X13, H13⟩, Hr⟩, Ho, ⟨%d0, H3⟩, ⟨%d1, H4⟩, ⟨%d2, H5⟩, ⟨%d3, H6⟩, ⟨%d4, H7⟩, ⟨%d5, H8⟩, ⟨%d6, H9⟩⟩
  iapply wp_wand_r
  isplitl [H3 H4 H5 H6 H7 H8 H9 H10 H11 H12 H13]
  · iapply (body_owns Variants.none c none Set.univ (grid0.coords t) _ _ _ _ _ _ _ _ _ _ _ _ _ _ _ _ _ _ _ _ _ _
      (blk3 m c t) (blk4 m c t) (blk5 m c t) (blk6 m c t) (blk7 m c t) (blk8 m c t) _ X10 X11 X12 X13 (held_here m c t X10 X11 hH))
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %r ⟨H3, H4, H5, H6, H7, H8, H9, ⟨%X10', %X11', H10, H11, %hf⟩, H12, H13⟩
  isplitl [H10 H11 H12 H13 Hr]
  · isplitl [H10 H11]
    · iexists X10', X11'
      isplitl [H10]; · iexact H10
      isplitl [H11]; · iexact H11
      ipureintro; exact held_next m c t X10' X11' hf
    isplitl [H12]; · iexact H12
    isplitl [H13]; · iexact H13
    iexact Hr
  isplitl [Ho]; · iexact Ho
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point the scratch holds anything; -/
theorem start (c : Dev nD) : Pipeline.ΦA spec0 c ⊢ (dats m 0 c).Φ 0 := by
  rw [show (dats m 0 c).Φ 0 = Φk m c 0 from rfl]
  unfold Pipeline.ΦA Φk
  rw [scopedRest0_eq]
  iintro ⟨⟨⟨%f0, H0⟩, ⟨%f1, H1⟩, ⟨%f2, H2⟩, ⟨%f3, H3⟩⟩, Hr⟩
  isplitl [H0 H1]
  · iexists f0, f1
    isplitl [H0]; · rw [owns_whole]; iexact H0
    isplitl [H1]; · rw [owns_whole]; iexact H1
    ipureintro; exact fun t ht => absurd ht (Nat.succ_ne_zero _)
  isplitl [H2]; · iexists f2; rw [owns_whole]; iexact H2
  isplitl [H3]; · iexists f3; rw [owns_whole]; iexact H3
  iexact Hr

/-- after the last one what it holds is forgotten. -/
theorem finish (c : Dev nD) : (dats m 0 c).Φ (Fin.last cfg0.N) ⊢ Pipeline.ΦA spec0 c := by
  rw [show (dats m 0 c).Φ (Fin.last cfg0.N) = Φk m c cfg0.N from rfl]
  unfold Pipeline.ΦA Φk
  rw [scopedRest0_eq]
  iintro ⟨⟨%f0, %f1, H0, H1, -⟩, ⟨%f2, H2⟩, ⟨%f3, H3⟩, Hr⟩
  isplitl [H0 H1 H2 H3]
  · isplitl [H0]; · iexists f0; rw [← owns_whole]; iexact H0
    isplitl [H1]; · iexists f1; rw [← owns_whole]; iexact H1
    isplitl [H2]; · iexists f2; rw [← owns_whole]; iexact H2
    iexists f3; rw [← owns_whole]; iexact H3
  iexact Hr

set_option backward.isDefEq.respectTransparency.types false in
set_option maxHeartbeats 800000 in
/-- Every run ends with the arrays at what the proof data says, and every counter at zero. -/
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := start m) (hout := finish m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they were, and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.Kernel.Body

end
-- ==== Proof.RefRun.lean ====
/- The reference program run: its result as the composed term of the arguments and of the widened arrays. -/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v0_0` (window 3's): not opened here. -/
def reg_main_v0_0 (c : Dev nD) : Buf (Elt F) ((c.tc : Thread nD τ).loc main_v0_0) := (Gen.dats m 0 c).arrAt 3 cfg0.N
/-- What the kernel region leaves in its result array `main_v0_1` (window 4's): not opened here. -/
def reg_main_v0_1 (c : Dev nD) : Buf (Elt F) ((c.tc : Thread nD τ).loc main_v0_1) := (Gen.dats m 0 c).arrAt 4 cfg0.N
/-- What the kernel region leaves in its result array `main_v0_2` (window 5's): not opened here. -/
def reg_main_v0_2 (c : Dev nD) : Buf (Elt F) ((c.tc : Thread nD τ).loc main_v0_2) := (Gen.dats m 0 c).arrAt 5 cfg0.N

/-- The exit contents at argument `main_arg1`: as launched. -/
theorem exit_main_arg1 (c : Dev nD) : exitV m c (Proc.devRef .tc main_arg1) = m ((c.tc : Thread nD τ).loc main_arg1) :=
  (Pipeline.withArrays_of_ne _ c (Gen.V0 m c) _ main_arg1 (by exact (by decide : ∀ w, Pipeline.arrRef spec0 w ≠ main_arg1))).trans (Gen.V_main_arg1 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
/-- The exit contents at the region's result array `main_v0_0`. -/
theorem exit_main_v0_0 (c : Dev nD) : exitV m c (Proc.devRef .tc main_v0_0) = reg_main_v0_0 m c :=
  Pipeline.withArrays_arr spec0 Gen.launch0.win.arr_inj c (Gen.V0 m c) _ 3
/-- The exit contents at the region's result array `main_v0_1`. -/
theorem exit_main_v0_1 (c : Dev nD) : exitV m c (Proc.devRef .tc main_v0_1) = reg_main_v0_1 m c :=
  Pipeline.withArrays_arr spec0 Gen.launch0.win.arr_inj c (Gen.V0 m c) _ 4
/-- The exit contents at the region's result array `main_v0_2`. -/
theorem exit_main_v0_2 (c : Dev nD) : exitV m c (Proc.devRef .tc main_v0_2) = reg_main_v0_2 m c :=
  Pipeline.withArrays_arr spec0 Gen.launch0.win.arr_inj c (Gen.V0 m c) _ 5

set_option maxRecDepth 8192 in
/-- `main_v37`'s composed term of the arguments and the region's results (named: it is long). -/
def res_main_v37 (c : Dev nD) : Buf (Elt F) ((c.tc : Thread nD τ).loc main_v37) :=
  shapeCast _ (transpose S8x4096x2x4x128 [0, 3, 1, 2, 4] (truncf .bf16 (Host.divf (mulf (mulf (Host.dotGeneral dot_S8x2x4x4096x4096_S8x2x128x4096_S8x2x4x4096x128_4_3_23_2_01_01 none (minimumf (mulf (Host.exp (subf (select (broadcastInDim S8x2x4x4096x4096 ![3, 4] bcast_S4096x4096_S8x2x4x4096x4096_3_4 (cmpi .sle (iotaInDim S4096x4096 32 1) (iotaInDim S4096x4096 32 0))) (mulf (mulf (transpose S8x2x4x4096x4096 [0, 1, 4, 3, 2] (Host.dotGeneral dot_S8x4096x2x128_S8x4096x2x4x128_S8x2x4096x4096x4_3_4_1_13_02_02 none (shapeCast _ (reg_main_v0_1 m c) shapeCasts_S8x4096x256_S8x4096x2x128) (shapeCast _ (reg_main_v0_0 m c) shapeCasts_S8x4096x1024_S8x4096x2x4x128)) transposes_S8x2x4096x4096x4_S8x2x4x4096x4096_0_1_4_3_2) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (shapeCast _ (m ((c.tc : Thread nD τ).loc main_arg1)) shapeCasts_S8x8x4096_S8x2x4x4096)))) (broadcastInDim S8x2x4x4096x4096 ![0, 1, 2, 3, 4] bcast_S8x2x1x1x4096_S8x2x4x4096x4096_0_1_2_3_4 (broadcastInDim S8x2x1x1x4096 ![0, 1, 4] bcast_S8x2x4096_S8x2x1x1x4096_0_1_4 (m ((c.tc : Thread nD τ).loc main_arg3))))) (broadcastInDim S8x2x4x4096x4096 ![] bcast_S_S8x2x4x4096x4096 (id (constant S_ .f32 0xFF800000#32)))) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (Host.reduce FloatOps.maximumf (select (broadcastInDim S8x2x4x4096x4096 ![3, 4] bcast_S4096x4096_S8x2x4x4096x4096_3_4 (cmpi .sle (iotaInDim S4096x4096 32 1) (iotaInDim S4096x4096 32 0))) (mulf (mulf (transpose S8x2x4x4096x4096 [0, 1, 4, 3, 2] (Host.dotGeneral dot_S8x4096x2x128_S8x4096x2x4x128_S8x2x4096x4096x4_3_4_1_13_02_02 none (shapeCast _ (reg_main_v0_1 m c) shapeCasts_S8x4096x256_S8x4096x2x128) (shapeCast _ (reg_main_v0_0 m c) shapeCasts_S8x4096x1024_S8x4096x2x4x128)) transposes_S8x2x4096x4096x4_S8x2x4x4096x4096_0_1_4_3_2) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (shapeCast _ (m ((c.tc : Thread nD τ).loc main_arg1)) shapeCasts_S8x8x4096_S8x2x4x4096)))) (broadcastInDim S8x2x4x4096x4096 ![0, 1, 2, 3, 4] bcast_S8x2x1x1x4096_S8x2x4x4096x4096_0_1_2_3_4 (broadcastInDim S8x2x1x1x4096 ![0, 1, 4] bcast_S8x2x4096_S8x2x1x1x4096_0_1_4 (m ((c.tc : Thread nD τ).loc main_arg3))))) (broadcastInDim S8x2x4x4096x4096 ![] bcast_S_S8x2x4x4096x4096 (id (constant S_ .f32 0xFF800000#32)))) (constant S_ .f32 0xFF800000#32) reducesTo_S8x2x4x4096x4096_S8x2x4x4096_d4 h_S_))))) (broadcastInDim S8x2x4x4096x4096 ![] bcast_S_S8x2x4x4096x4096 (constant S_ .f32 0x43800000#32))) (broadcastInDim S8x2x4x4096x4096 ![] bcast_S_S8x2x4x4096x4096 (constant S_ .f32 0x43E00000#32))) (reg_main_v0_2 m c)) (broadcastInDim S8x2x4x4096x128 ![] bcast_S_S8x2x4x4096x128 (constant S_ .f32 0x3B800000#32))) (broadcastInDim S8x2x4x4096x128 ![0, 1, 2, 3, 4] bcast_S8x2x1x1x128_S8x2x4x4096x128_0_1_2_3_4 (broadcastInDim S8x2x1x1x128 ![0, 1, 4] bcast_S8x2x128_S8x2x1x1x128_0_1_4 (m ((c.tc : Thread nD τ).loc main_arg5))))) (broadcastInDim S8x2x4x4096x128 ![0, 1, 2, 3, 4] bcast_S8x2x4x4096x1_S8x2x4x4096x128_0_1_2_3_4 (broadcastInDim S8x2x4x4096x1 ![0, 1, 2, 3] bcast_S8x2x4x4096_S8x2x4x4096x1_0_1_2_3 (Host.reduceAdd (Host.exp (subf (select (broadcastInDim S8x2x4x4096x4096 ![3, 4] bcast_S4096x4096_S8x2x4x4096x4096_3_4 (cmpi .sle (iotaInDim S4096x4096 32 1) (iotaInDim S4096x4096 32 0))) (mulf (mulf (transpose S8x2x4x4096x4096 [0, 1, 4, 3, 2] (Host.dotGeneral dot_S8x4096x2x128_S8x4096x2x4x128_S8x2x4096x4096x4_3_4_1_13_02_02 none (shapeCast _ (reg_main_v0_1 m c) shapeCasts_S8x4096x256_S8x4096x2x128) (shapeCast _ (reg_main_v0_0 m c) shapeCasts_S8x4096x1024_S8x4096x2x4x128)) transposes_S8x2x4096x4096x4_S8x2x4x4096x4096_0_1_4_3_2) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (shapeCast _ (m ((c.tc : Thread nD τ).loc main_arg1)) shapeCasts_S8x8x4096_S8x2x4x4096)))) (broadcastInDim S8x2x4x4096x4096 ![0, 1, 2, 3, 4] bcast_S8x2x1x1x4096_S8x2x4x4096x4096_0_1_2_3_4 (broadcastInDim S8x2x1x1x4096 ![0, 1, 4] bcast_S8x2x4096_S8x2x1x1x4096_0_1_4 (m ((c.tc : Thread nD τ).loc main_arg3))))) (broadcastInDim S8x2x4x4096x4096 ![] bcast_S_S8x2x4x4096x4096 (id (constant S_ .f32 0xFF800000#32)))) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (Host.reduce FloatOps.maximumf (select (broadcastInDim S8x2x4x4096x4096 ![3, 4] bcast_S4096x4096_S8x2x4x4096x4096_3_4 (cmpi .sle (iotaInDim S4096x4096 32 1) (iotaInDim S4096x4096 32 0))) (mulf (mulf (transpose S8x2x4x4096x4096 [0, 1, 4, 3, 2] (Host.dotGeneral dot_S8x4096x2x128_S8x4096x2x4x128_S8x2x4096x4096x4_3_4_1_13_02_02 none (shapeCast _ (reg_main_v0_1 m c) shapeCasts_S8x4096x256_S8x4096x2x128) (shapeCast _ (reg_main_v0_0 m c) shapeCasts_S8x4096x1024_S8x4096x2x4x128)) transposes_S8x2x4096x4096x4_S8x2x4x4096x4096_0_1_4_3_2) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (shapeCast _ (m ((c.tc : Thread nD τ).loc main_arg1)) shapeCasts_S8x8x4096_S8x2x4x4096)))) (broadcastInDim S8x2x4x4096x4096 ![0, 1, 2, 3, 4] bcast_S8x2x1x1x4096_S8x2x4x4096x4096_0_1_2_3_4 (broadcastInDim S8x2x1x1x4096 ![0, 1, 4] bcast_S8x2x4096_S8x2x1x1x4096_0_1_4 (m ((c.tc : Thread nD τ).loc main_arg3))))) (broadcastInDim S8x2x4x4096x4096 ![] bcast_S_S8x2x4x4096x4096 (id (constant S_ .f32 0xFF800000#32)))) (constant S_ .f32 0xFF800000#32) reducesTo_S8x2x4x4096x4096_S8x2x4x4096_d4 h_S_))))) (constant S_ .f32 0x00000000#32) reducesTo_S8x2x4x4096x4096_S8x2x4x4096_d4 h_S_)))) bitsLt_bf16_f32) transposes_S8x2x4x4096x128_S8x4096x2x4x128_0_3_1_2_4) shapeCasts_S8x4096x2x4x128_S8x4096x1024

/-- `res_main_v37` by its position among the values @main returns, 0 counting from 0: the name for hand proofs to cite, since
    a re-print renumbers `main_v37`. An abbreviation: it unfolds to the `res_main_v37` that `run` states. -/
abbrev res_out0 (c : Dev nD) : Buf (Elt F) ((c.tc : Thread nD τ).loc main_v37) := res_main_v37 m c

set_option maxRecDepth 8192 in
set_option maxHeartbeats 2000000 in
/-- The later operations from any contents `V0`, read at result `main_v37`. -/
theorem tail_main_v37 (V0 : Valuation τ sig (Elt F)) :
    after (List.flatten [Gen.hostOps1, Gen.hostOps1_1, Gen.hostOps1_2]) V0 (Proc.devRef .tc main_v37) = shapeCast _ (transpose S8x4096x2x4x128 [0, 3, 1, 2, 4] (truncf .bf16 (Host.divf (mulf (mulf (Host.dotGeneral dot_S8x2x4x4096x4096_S8x2x128x4096_S8x2x4x4096x128_4_3_23_2_01_01 none (minimumf (mulf (Host.exp (subf (select (broadcastInDim S8x2x4x4096x4096 ![3, 4] bcast_S4096x4096_S8x2x4x4096x4096_3_4 (cmpi .sle (iotaInDim S4096x4096 32 1) (iotaInDim S4096x4096 32 0))) (mulf (mulf (transpose S8x2x4x4096x4096 [0, 1, 4, 3, 2] (Host.dotGeneral dot_S8x4096x2x128_S8x4096x2x4x128_S8x2x4096x4096x4_3_4_1_13_02_02 none (shapeCast _ (V0 (Proc.devRef .tc main_v0_1)) shapeCasts_S8x4096x256_S8x4096x2x128) (shapeCast _ (V0 (Proc.devRef .tc main_v0_0)) shapeCasts_S8x4096x1024_S8x4096x2x4x128)) transposes_S8x2x4096x4096x4_S8x2x4x4096x4096_0_1_4_3_2) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (shapeCast _ (V0 (Proc.devRef .tc main_arg1)) shapeCasts_S8x8x4096_S8x2x4x4096)))) (broadcastInDim S8x2x4x4096x4096 ![0, 1, 2, 3, 4] bcast_S8x2x1x1x4096_S8x2x4x4096x4096_0_1_2_3_4 (broadcastInDim S8x2x1x1x4096 ![0, 1, 4] bcast_S8x2x4096_S8x2x1x1x4096_0_1_4 (V0 (Proc.devRef .tc main_arg3))))) (broadcastInDim S8x2x4x4096x4096 ![] bcast_S_S8x2x4x4096x4096 (id (constant S_ .f32 0xFF800000#32)))) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (Host.reduce FloatOps.maximumf (select (broadcastInDim S8x2x4x4096x4096 ![3, 4] bcast_S4096x4096_S8x2x4x4096x4096_3_4 (cmpi .sle (iotaInDim S4096x4096 32 1) (iotaInDim S4096x4096 32 0))) (mulf (mulf (transpose S8x2x4x4096x4096 [0, 1, 4, 3, 2] (Host.dotGeneral dot_S8x4096x2x128_S8x4096x2x4x128_S8x2x4096x4096x4_3_4_1_13_02_02 none (shapeCast _ (V0 (Proc.devRef .tc main_v0_1)) shapeCasts_S8x4096x256_S8x4096x2x128) (shapeCast _ (V0 (Proc.devRef .tc main_v0_0)) shapeCasts_S8x4096x1024_S8x4096x2x4x128)) transposes_S8x2x4096x4096x4_S8x2x4x4096x4096_0_1_4_3_2) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (shapeCast _ (V0 (Proc.devRef .tc main_arg1)) shapeCasts_S8x8x4096_S8x2x4x4096)))) (broadcastInDim S8x2x4x4096x4096 ![0, 1, 2, 3, 4] bcast_S8x2x1x1x4096_S8x2x4x4096x4096_0_1_2_3_4 (broadcastInDim S8x2x1x1x4096 ![0, 1, 4] bcast_S8x2x4096_S8x2x1x1x4096_0_1_4 (V0 (Proc.devRef .tc main_arg3))))) (broadcastInDim S8x2x4x4096x4096 ![] bcast_S_S8x2x4x4096x4096 (id (constant S_ .f32 0xFF800000#32)))) (constant S_ .f32 0xFF800000#32) reducesTo_S8x2x4x4096x4096_S8x2x4x4096_d4 h_S_))))) (broadcastInDim S8x2x4x4096x4096 ![] bcast_S_S8x2x4x4096x4096 (constant S_ .f32 0x43800000#32))) (broadcastInDim S8x2x4x4096x4096 ![] bcast_S_S8x2x4x4096x4096 (constant S_ .f32 0x43E00000#32))) (V0 (Proc.devRef .tc main_v0_2))) (broadcastInDim S8x2x4x4096x128 ![] bcast_S_S8x2x4x4096x128 (constant S_ .f32 0x3B800000#32))) (broadcastInDim S8x2x4x4096x128 ![0, 1, 2, 3, 4] bcast_S8x2x1x1x128_S8x2x4x4096x128_0_1_2_3_4 (broadcastInDim S8x2x1x1x128 ![0, 1, 4] bcast_S8x2x128_S8x2x1x1x128_0_1_4 (V0 (Proc.devRef .tc main_arg5))))) (broadcastInDim S8x2x4x4096x128 ![0, 1, 2, 3, 4] bcast_S8x2x4x4096x1_S8x2x4x4096x128_0_1_2_3_4 (broadcastInDim S8x2x4x4096x1 ![0, 1, 2, 3] bcast_S8x2x4x4096_S8x2x4x4096x1_0_1_2_3 (Host.reduceAdd (Host.exp (subf (select (broadcastInDim S8x2x4x4096x4096 ![3, 4] bcast_S4096x4096_S8x2x4x4096x4096_3_4 (cmpi .sle (iotaInDim S4096x4096 32 1) (iotaInDim S4096x4096 32 0))) (mulf (mulf (transpose S8x2x4x4096x4096 [0, 1, 4, 3, 2] (Host.dotGeneral dot_S8x4096x2x128_S8x4096x2x4x128_S8x2x4096x4096x4_3_4_1_13_02_02 none (shapeCast _ (V0 (Proc.devRef .tc main_v0_1)) shapeCasts_S8x4096x256_S8x4096x2x128) (shapeCast _ (V0 (Proc.devRef .tc main_v0_0)) shapeCasts_S8x4096x1024_S8x4096x2x4x128)) transposes_S8x2x4096x4096x4_S8x2x4x4096x4096_0_1_4_3_2) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (shapeCast _ (V0 (Proc.devRef .tc main_arg1)) shapeCasts_S8x8x4096_S8x2x4x4096)))) (broadcastInDim S8x2x4x4096x4096 ![0, 1, 2, 3, 4] bcast_S8x2x1x1x4096_S8x2x4x4096x4096_0_1_2_3_4 (broadcastInDim S8x2x1x1x4096 ![0, 1, 4] bcast_S8x2x4096_S8x2x1x1x4096_0_1_4 (V0 (Proc.devRef .tc main_arg3))))) (broadcastInDim S8x2x4x4096x4096 ![] bcast_S_S8x2x4x4096x4096 (id (constant S_ .f32 0xFF800000#32)))) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (Host.reduce FloatOps.maximumf (select (broadcastInDim S8x2x4x4096x4096 ![3, 4] bcast_S4096x4096_S8x2x4x4096x4096_3_4 (cmpi .sle (iotaInDim S4096x4096 32 1) (iotaInDim S4096x4096 32 0))) (mulf (mulf (transpose S8x2x4x4096x4096 [0, 1, 4, 3, 2] (Host.dotGeneral dot_S8x4096x2x128_S8x4096x2x4x128_S8x2x4096x4096x4_3_4_1_13_02_02 none (shapeCast _ (V0 (Proc.devRef .tc main_v0_1)) shapeCasts_S8x4096x256_S8x4096x2x128) (shapeCast _ (V0 (Proc.devRef .tc main_v0_0)) shapeCasts_S8x4096x1024_S8x4096x2x4x128)) transposes_S8x2x4096x4096x4_S8x2x4x4096x4096_0_1_4_3_2) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (shapeCast _ (V0 (Proc.devRef .tc main_arg1)) shapeCasts_S8x8x4096_S8x2x4x4096)))) (broadcastInDim S8x2x4x4096x4096 ![0, 1, 2, 3, 4] bcast_S8x2x1x1x4096_S8x2x4x4096x4096_0_1_2_3_4 (broadcastInDim S8x2x1x1x4096 ![0, 1, 4] bcast_S8x2x4096_S8x2x1x1x4096_0_1_4 (V0 (Proc.devRef .tc main_arg3))))) (broadcastInDim S8x2x4x4096x4096 ![] bcast_S_S8x2x4x4096x4096 (id (constant S_ .f32 0xFF800000#32)))) (constant S_ .f32 0xFF800000#32) reducesTo_S8x2x4x4096x4096_S8x2x4x4096_d4 h_S_))))) (constant S_ .f32 0x00000000#32) reducesTo_S8x2x4x4096x4096_S8x2x4x4096_d4 h_S_)))) bitsLt_bf16_f32) transposes_S8x2x4x4096x128_S8x4096x2x4x128_0_3_1_2_4) shapeCasts_S8x4096x2x4x128_S8x4096x1024 := by
  simp only [Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
/-- Result `main_v37` after the later operations from the region's exit contents. -/
theorem fin_main_v37 (c : Dev nD) :
    Pipeline.afterTail₀ cfgs (Gen.dats m) 0 (Gen.V0 m) [Gen.hostOps1, Gen.hostOps1_1, Gen.hostOps1_2] c main_v37 = res_main_v37 m c :=
  by unfold res_main_v37; exact (tail_main_v37 (exitV m c)).trans (by rw [exit_main_arg1, exit_main_arg3, exit_main_arg5, exit_main_v0_0, exit_main_v0_1, exit_main_v0_2]; rfl)

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v37) = res_main_v37 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v37 (Pipeline.mem_restRefs_of main_v37 (by decide) (by decide))).trans (fin_main_v37 m c),
      ((h c).1 0).trans (((Gen.dats m 0 c).arrAt_in 0 rfl _).trans ((Gen.A_eq m c 0).trans (Gen.V_main_arg0 m c))),
      ((h c).2 main_arg1 (Pipeline.mem_restRefs_of main_arg1 (by decide) (by decide))).trans (Gen.W_main_arg1 m (Gen.dats m) c),
      ((h c).1 1).trans (((Gen.dats m 0 c).arrAt_in 1 rfl _).trans ((Gen.A_eq m c 1).trans (Gen.V_main_arg2 m c))),
      ((h c).2 main_arg3 (Pipeline.mem_restRefs_of main_arg3 (by decide) (by decide))).trans (Gen.W_main_arg3 m (Gen.dats m) c),
      ((h c).1 2).trans (((Gen.dats m 0 c).arrAt_in 2 rfl _).trans ((Gen.A_eq m c 2).trans (Gen.V_main_arg4 m c))),
      ((h c).2 main_arg5 (Pipeline.mem_restRefs_of main_arg5 (by decide) (by decide))).trans (Gen.W_main_arg5 m (Gen.dats m) c)⟩) (Gen.run_main m ρ)

end Cert.ReferenceIdeal.Value

end
-- ==== Proof.Widen.lean ====
module

public import proofs.«01_k».proof.Proof.RefRun
public import Idealize.ShloMosaic.Lib.Pipeline.ValueKit
public import Idealize.ShloMosaic.Lib.Pointwise

@[expose] public section

set_option maxRecDepth 16384

/-! # What the reference's widening call leaves: the numbers its arguments stand for -/

noncomputable section

namespace Cert.ReferenceIdeal.Attention

open Idealize.ShloMosaic Idealize.ShloMosaic.TcCoe Idealize.SL.Sem
open Idealize.ShloMosaic.Pipeline (Dat Cfg Window)
open Cert.ReferenceIdeal Cert.ReferenceIdeal.Gen

variable (m : (ℓ : Loc nD τ sig) → Buf (Elt Ideal) ℓ) (c : Dev nD)

theorem idx : ∀ t : Fin cfg0.N, win0_0.index t = ![0, 0, 0] ∧ win0_1.index t = ![0, 0, 0] ∧ win0_2.index t = ![0, 0, 0, 0]
    ∧ win0_3.index t = ![0, 0, 0] ∧ win0_4.index t = ![0, 0, 0] ∧ win0_5.index t = ![0, 0, 0, 0] :=
  (by decide +kernel : ∀ t : Fin grid0.N, _)

theorem widened_q : Value.reg_main_v0_0 m c = k0_pay1 (F := Ideal) (m ((c : Thread nD τ).loc main_arg0)) := by
  unfold Value.reg_main_v0_0
  refine (dats m 0 c).arrAt_eq_of_after_last 3 t0_0 (by decide +kernel) _ fun j => ?_
  blk_simp
  rw [after0_3]
  frame_out
  blk_point [iblk, V, idx t0_0]

theorem widened_k : Value.reg_main_v0_1 m c = k0_pay2 (F := Ideal) (m ((c : Thread nD τ).loc main_arg2)) := by
  unfold Value.reg_main_v0_1
  refine (dats m 0 c).arrAt_eq_of_after_last 4 t0_0 (by decide +kernel) _ fun j => ?_
  blk_simp
  rw [after0_4]
  frame_out
  blk_point [iblk, V, idx t0_0]

theorem widened_v : Value.reg_main_v0_2 m c = k0_pay3 (F := Ideal) (m ((c : Thread nD τ).loc main_arg4)) := by
  unfold Value.reg_main_v0_2
  refine (dats m 0 c).arrAt_eq_of_after_last 5 t0_0 (by decide +kernel) _ fun j => ?_
  blk_simp
  rw [after0_5]
  frame_out
  blk_point [iblk, V, idx t0_0]

end Cert.ReferenceIdeal.Attention
end
-- ==== Proof.Soft.lean ====
module

public import Idealize.ShloMosaic.PureOps.Ideal.Laws
public import Idealize.ShloMosaic.Lib.Pointwise
public import Idealize.ShloMosaic.Lib.WordCmp
public import Mathlib.Analysis.SpecialFunctions.Pow.Real

@[expose] public section

/-! # Softmax by base-2 exponentials, shifted by eight, against the plain softmax

One row of attention over finitely many keys `i : ι`, of which those with `a i` are seen. `x i` is the product of the
query's and the key's codes, `κ i` the key's scale, `ρ > 0` the query's. The first form folds `ρ` times the base-2
logarithm of e into the exponent and subtracts the maximum of the unscaled scores, less eight: its weights are 256
times those of the plain softmax, and so are its denominators. -/

noncomputable section

namespace Cert.Soft

open Idealize.ShloMosaic

/-! ## The constants -/

theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]
theorem ofBits_8 : Ideal.ofBits .f32 0x41000000#32 = ((8 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_448 : Ideal.ofBits .f32 0x43E00000#32 = ((448 : ℝ) : EReal) := by
  simp [Ideal.ofBits, Ideal.ieee, -EReal.coe_mul]; norm_num
theorem ofBits_256th : Ideal.ofBits .f32 0x3B800000#32 = ((1 / 256 : ℝ) : EReal) := by
  simp [Ideal.ofBits, Ideal.ieee, -EReal.coe_mul]; norm_num

/-- A selection by comparison of small numbers. -/
theorem select_sle {α : Type} (m n : ℕ) (hm : m < 2 ^ 31) (hn : n < 2 ^ 31) (x y : α) :
    Scalar.select (IntOp.cmpi .sle (BitVec.ofNat 32 m) (BitVec.ofNat 32 n)) x y = if m ≤ n then x else y := by
  rw [WordCmp.cmpi_sle_ofNat (w := 32) hm hn]
  by_cases h : m ≤ n
  · rw [if_pos h, decide_eq_true h]; rfl
  · rw [if_neg h, decide_eq_false h]; rfl

/-! ## Sums of reals, and sums by tiles -/

theorem coe_sum {ι : Type} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- Key `a` of tile `k` (`k` counts modulo 16). -/
def tok (k : ℕ) (a : Fin 256) : Fin 4096 := ⟨256 * (k % 16) + a.val, by have := a.isLt; omega⟩

/-- A sum over the first `q + 1` tiles is the whole sum if what lies behind them is zero. -/
theorem sum_tiles (q : ℕ) (hq : q < 16) (p : Fin 4096 → EReal) (hp : ∀ n : Fin 4096, 256 * (q + 1) ≤ n.val → p n = 0) :
    ∑ k ∈ Finset.range (q + 1), ∑ a : Fin 256, p (tok k a) = ∑ n, p n := by
  rw [Fin.sum_univ_tiles 16 256 rfl p]
  have e : ∀ j : Fin 16, ∀ a : Fin 256, p ⟨j.val * 256 + a.val, by have := j.isLt; have := a.isLt; omega⟩ = p (tok j.val a) := fun j a =>
    congrArg p (Fin.ext (by show j.val * 256 + a.val = 256 * (j.val % 16) + a.val; have := j.isLt; omega))
  rw [Finset.sum_congr rfl fun j _ => Finset.sum_congr rfl fun a _ => e j a, ← Finset.sum_range (fun k => ∑ a : Fin 256, p (tok k a))]
  refine Finset.sum_subset (fun k hk => ?_) fun k hk hk' => Finset.sum_eq_zero fun a _ => hp _ ?_
  · simp only [Finset.mem_range] at hk ⊢; omega
  · simp only [Finset.mem_range] at hk hk'
    show 256 * (q + 1) ≤ 256 * (k % 16) + a.val
    omega

/-! ## The two forms of the softmax -/

section
variable {ι : Type} [Fintype ι] (a : ι → Prop) [DecidablePred a] (x κ : ι → ℝ) (ρ : ℝ)

/-- The base-2 logarithm of e. -/
abbrev L : ℝ := (Real.log 2)⁻¹

/-- The unscaled score of a key, and the plain score. -/
def t (i : ι) : EReal := if a i then (x i : EReal) * (κ i : EReal) else ⊥
def s (i : ι) : EReal := if a i then ((x i : EReal) * (ρ : EReal)) * (κ i : EReal) else ⊥

/-- The weight of a key when the greatest unscaled score is `μ`. -/
def e (μ : ℝ) (i : ι) : ℝ := if a i then Real.exp (ρ * (x i * κ i - μ)) else 0

theorem two_pow (y : ℝ) : Real.rpow 2 (y * L + 8) = 256 * Real.exp y := by
  have h : Real.log 2 ≠ 0 := (Real.log_pos (by norm_num)).ne'
  show (2 : ℝ) ^ (y * L + 8) = _
  rw [Real.rpow_add (by norm_num), mul_comm, Real.rpow_def_of_pos (by norm_num : (0 : ℝ) < 2) (y * L)]
  congr 1
  · norm_num
  · congr 1; show Real.log 2 * (y * (Real.log 2)⁻¹) = y; field_simp

/-- The base-2 weights are 256 times the plain ones. -/
theorem weight2 (hρ : 0 < ρ) (μ : ℝ) (i : ι) :
    Ideal.exp2 (t a x κ i * ((ρ : EReal) * (L : EReal)) - ((μ : EReal) * ((ρ : EReal) * (L : EReal)) - ((8 : ℝ) : EReal)))
      = ((256 * e a x κ ρ μ i : ℝ) : EReal) := by
  have hL : 0 < L := inv_pos.mpr (Real.log_pos (by norm_num))
  unfold t e
  split
  · rw [← EReal.coe_mul, ← EReal.coe_mul, ← EReal.coe_mul, ← EReal.coe_mul, ← EReal.coe_sub, ← EReal.coe_sub, Ideal.exp2_coe,
      ← two_pow (ρ * (x i * κ i - μ))]
    congr 2; ring
  · rw [← EReal.coe_mul, ← EReal.coe_mul, ← EReal.coe_sub, EReal.bot_mul_coe_of_pos (mul_pos hρ hL), sub_eq_add_neg, EReal.bot_add,
      Ideal.exp2_bot, mul_zero, EReal.coe_zero]

theorem weight (μ : ℝ) (i : ι) :
    Ideal.exp (s a x κ ρ i - ((μ * ρ : ℝ) : EReal)) = ((e a x κ ρ μ i : ℝ) : EReal) := by
  unfold s e
  split
  · rw [← EReal.coe_mul, ← EReal.coe_mul, ← EReal.coe_sub, Ideal.exp_coe]
    congr 2; ring
  · rw [sub_eq_add_neg, EReal.bot_add, Ideal.exp_bot, EReal.coe_zero]

/-- The maxima exist and are real: the plain one is `ρ` times the unscaled one. -/
theorem maxima (hρ : 0 < ρ) (i0 : ι) (h0 : a i0) (m M : EReal) (hm : ∀ b, m ≤ b ↔ ∀ i, t a x κ i ≤ b) (hM : ∀ b, M ≤ b ↔ ∀ i, s a x κ ρ i ≤ b) :
    ∃ μ : ℝ, m = (μ : EReal) ∧ M = ((μ * ρ : ℝ) : EReal) := by
  classical
  obtain ⟨j, hj, hmax⟩ := Finset.exists_max_image (Finset.univ.filter a) (fun i => x i * κ i) ⟨i0, by simp [h0]⟩
  have haj : a j := by simpa using hj
  refine ⟨x j * κ j, le_antisymm ((hm _).mpr fun i => ?_) ?_, le_antisymm ((hM _).mpr fun i => ?_) ?_⟩
  · unfold t; split
    · next h => rw [← EReal.coe_mul]; exact EReal.coe_le_coe_iff.mpr (hmax i (by simp [h]))
    · exact bot_le
  · have := (hm m).mp le_rfl j
    rwa [t, if_pos haj, ← EReal.coe_mul] at this
  · unfold s; split
    · next h =>
      rw [← EReal.coe_mul, ← EReal.coe_mul, mul_right_comm]
      exact EReal.coe_le_coe_iff.mpr (mul_le_mul_of_nonneg_right (hmax i (by simp [h])) hρ.le)
    · exact bot_le
  · have := (hM M).mp le_rfl j
    rwa [s, if_pos haj, ← EReal.coe_mul, ← EReal.coe_mul, mul_right_comm] at this

/-- The two forms of the row agree. -/
theorem join (hρ : 0 < ρ) (i0 : ι) (h0 : a i0) (m M : EReal) (hm : ∀ b, m ≤ b ↔ ∀ i, t a x κ i ≤ b) (hM : ∀ b, M ≤ b ↔ ∀ i, s a x κ ρ i ≤ b)
    (v : ι → EReal) (w : EReal) (P R : ι → EReal)
    (hP : ∀ i, P i = Ideal.exp2 (t a x κ i * ((ρ : EReal) * (L : EReal)) - (m * ((ρ : EReal) * (L : EReal)) - ((8 : ℝ) : EReal))))
    (hR : ∀ i, R i = Ideal.exp (s a x κ ρ i - M)) :
    Ideal.div (∑ i, v i * min (P i) ((448 : ℝ) : EReal)) (∑ i, P i) * w
      = Ideal.div ((∑ i, min (R i * ((256 : ℝ) : EReal)) ((448 : ℝ) : EReal) * v i) * ((1 / 256 : ℝ) : EReal) * w) (0 + ∑ i, R i) := by
  obtain ⟨μ, rfl, rfl⟩ := maxima a x κ ρ hρ i0 h0 m M hm hM
  have hP' : ∀ i, P i = ((256 * e a x κ ρ μ i : ℝ) : EReal) := fun i => (hP i).trans (weight2 a x κ ρ hρ μ i)
  have hR' : ∀ i, R i = ((e a x κ ρ μ i : ℝ) : EReal) := fun i => (hR i).trans (weight a x κ ρ μ i)
  have hl : 0 < ∑ i, e a x κ ρ μ i := by
    refine Finset.sum_pos' (fun i _ => ?_) ⟨i0, Finset.mem_univ _, ?_⟩
    · unfold e; split
      · exact (Real.exp_pos _).le
      · exact le_rfl
    · rw [e, if_pos h0]; exact Real.exp_pos _
  have hRP : ∀ i, R i * ((256 : ℝ) : EReal) = P i := fun i => by rw [hR', hP', ← EReal.coe_mul, mul_comm]
  have hA : ∑ i, min (R i * ((256 : ℝ) : EReal)) ((448 : ℝ) : EReal) * v i = ∑ i, v i * min (P i) ((448 : ℝ) : EReal) :=
    Finset.sum_congr rfl fun i _ => by rw [hRP, mul_comm]
  have hSP : ∑ i, P i = ((256 * ∑ i, e a x κ ρ μ i : ℝ) : EReal) := by
    rw [Finset.mul_sum, coe_sum]; exact Finset.sum_congr rfl fun i _ => hP' i
  have hSR : ∑ i, R i = ((∑ i, e a x κ ρ μ i : ℝ) : EReal) := by
    rw [coe_sum]; exact Finset.sum_congr rfl fun i _ => hR' i
  rw [hA, hSP, hSR, zero_add]
  generalize (∑ i, v i * min (P i) ((448 : ℝ) : EReal)) = A
  generalize ∑ i, e a x κ ρ μ i = l at hl
  rw [Ideal.div_coe (by positivity), Ideal.div_coe hl.ne', show (1 / (256 * l) : ℝ) = 1 / 256 * (1 / l) by field_simp, EReal.coe_mul]
  ac_rfl

/-- A key that is not seen has weight zero in the base-2 form. -/
theorem weight2_unseen (hρ : 0 < ρ) (i0 : ι) (h0 : a i0) (m : EReal) (hm : ∀ b, m ≤ b ↔ ∀ i, t a x κ i ≤ b) (i : ι) (hi : ¬ a i) :
    Ideal.exp2 (t a x κ i * ((ρ : EReal) * (L : EReal)) - (m * ((ρ : EReal) * (L : EReal)) - ((8 : ℝ) : EReal))) = 0 := by
  obtain ⟨μ, rfl, -⟩ := maxima a x κ ρ hρ i0 h0 m (⨆ i, s a x κ ρ i) hm (fun b => iSup_le_iff)
  rw [weight2 a x κ ρ hρ μ i, e, if_neg hi, mul_zero, EReal.coe_zero]

end

end Cert.Soft

end
-- ==== Proof.KVal.lean ====
module

public import proofs.«01_k».proof.Proof.Model
public import proofs.«01_k».proof.Proof.Soft
public import Idealize.ShloMosaic.Lib.Pointwise
public import Idealize.ShloMosaic.Lib.Pipeline.ValueKit
public import Idealize.ShloMosaic.PureOps.Ideal.Laws
public import Idealize.ShloMosaic.PureOps.IdealRules

@[expose] public section

set_option maxRecDepth 16384

/-! # The payloads of a grid point, read at an index -/

noncomputable section

namespace Cert.KernelIdeal.Value

open Idealize.ShloMosaic Idealize.ShloMosaic.TcCoe Idealize.SL.Sem
open Cert.KernelIdeal Cert.KernelIdeal.Gen Cert.KernelIdeal.Body
open Cert.Soft (tok select_sle)

/-- The constant of the kernel at its ideal value. -/
theorem log2e : Named.named (F := Ideal) κ "log2e" (φ := .f32) 0x3FB8AA3B#32 = ((Cert.Soft.L : ℝ) : EReal) :=
  IdealRules.named_const.ideal_named_scalar _ _ _ _ rfl

/-- The column of query row `r` of head `g` of the group. -/
abbrev col (g : Fin 4) (r : Fin 256) : Fin 1024 := ⟨256 * g.val + r.val, by have := g.isLt; have := r.isLt; omega⟩

/-! ## Windows -/

theorem keyTile_at (X : Vec Ideal S1x4096x128 .i8) (k : ℕ) (a : Fin 256) (d : Fin 128) :
    keyTile X k (ix3 0 a d) = X (ix3 0 (tok k a) d) := by
  show X _ = X _
  congr 1; funext i; fin_cases i <;> apply Fin.ext
  · rfl
  · show 256 * (k % 16) + 1 * a.val = 256 * (k % 16) + a.val; omega
  · show 0 + 1 * d.val = d.val; omega

theorem keyScaleTile_at (X : Vec Ideal S1x2x4096 .f32) (h : Fin 2) (k : ℕ) (a : Fin 256) :
    keyScaleTile X h k (ix3 0 0 a) = X (ix3 0 h (tok k a)) := by
  show X _ = X _
  congr 1; funext i; fin_cases i <;> apply Fin.ext
  · rfl
  · show h.val + 1 * 0 = h.val; omega
  · show 256 * (k % 16) + 1 * a.val = 256 * (k % 16) + a.val; omega

theorem valTile_at (X : Vec Ideal S1x1x128x4096 .fp8e4m3) (k : ℕ) (d : Fin 128) (a : Fin 256) :
    valTile X k (ix4 0 0 d a) = X (ix4 0 0 d (tok k a)) := by
  show X _ = X _
  congr 1; funext i; fin_cases i <;> apply Fin.ext
  · rfl
  · rfl
  · show 0 + 1 * d.val = d.val; omega
  · show 256 * (k % 16) + 1 * a.val = 256 * (k % 16) + a.val; omega

/-- Feature `d` of head `g` in a row of the queries. -/
abbrev feat (g : Fin 4) (d : Fin 128) : Fin 512 := ⟨128 * g.val + d.val, by have := g.isLt; have := d.isLt; omega⟩
/-- Head `g` of group `h`. -/
abbrev head (h : Fin 2) (g : Fin 4) : Fin 8 := ⟨4 * h.val + g.val, by have := h.isLt; have := g.isLt; omega⟩

theorem queryHead_at (X : Vec Ideal S1x256x512 .i8) (g : Fin 4) (r : Fin 256) (d : Fin 128) :
    queryHead X g (ix3 0 r d) = X (ix3 0 r (feat g d)) := by
  show X _ = X _
  congr 1; funext i; fin_cases i <;> apply Fin.ext
  · rfl
  · show 0 + 1 * r.val = r.val; omega
  · show 128 * g.val + 1 * d.val = 128 * g.val + d.val; omega

theorem queryScale_at (X : Vec Ideal S1x8x256 .f32) (h : Fin 2) (g : Fin 4) (r : Fin 256) :
    queryScale X h g (ix3 0 0 r) = X (ix3 0 (head h g) r) := by
  show X _ = X _
  congr 1; funext i; fin_cases i <;> apply Fin.ext
  · rfl
  · show 4 * h.val + g.val + 1 * 0 = 4 * h.val + g.val; omega
  · show 0 + 1 * r.val = r.val; omega

theorem valScale_at (X : Vec Ideal S1x2x128 .f32) (h : Fin 2) (d : Fin 128) :
    valScale X h (ix3 0 0 d) = X (ix3 0 h d) := by
  show X _ = X _
  congr 1; funext i; fin_cases i <;> apply Fin.ext
  · rfl
  · show h.val + 1 * 0 = h.val; omega
  · show 0 + 1 * d.val = d.val; omega

/-! ## Scores -/

/-- A code as a real number. -/
abbrev num (b : BitVec 8) : EReal := ((b.toInt : ℝ) : EReal)

theorem keys_at (X : Vec Ideal S1x4096x128 .i8) (k : ℕ) (a : Fin 256) (d : Fin 128) :
    keys (F := Ideal) X k (ix2 a d) = num (X (ix3 0 (tok k a) d)) := by
  unfold keys
  pointwise [k0_pay3]
  exact congrArg num (keyTile_at X k a d)

theorem keyScales_at (X : Vec Ideal S1x2x4096 .f32) (h : Fin 2) (k : ℕ) (a : Fin 256) (l : Fin 128) :
    keyScales (F := Ideal) X h k (ix2 a l) = X (ix3 0 h (tok k a)) := by
  unfold keyScales
  pointwise [k0_pay4]
  exact keyScaleTile_at X h k a

theorem pay5_at (x : Vec Ideal S1x256x128 .i8) (d : Fin 128) (r : Fin 256) : k0_pay5 (F := Ideal) x (ix2 d r) = num (x (ix3 0 r d)) := by
  pointwise [k0_pay5]
  rfl
theorem pay7_at (x : Vec Ideal S1x256x128 .i8) (d : Fin 128) (r : Fin 256) : k0_pay7 (F := Ideal) x (ix2 d r) = num (x (ix3 0 r d)) := by
  pointwise [k0_pay7]
  rfl
theorem pay10_at (x : Vec Ideal S1x256x128 .i8) (d : Fin 128) (r : Fin 256) : k0_pay10 (F := Ideal) x (ix2 d r) = num (x (ix3 0 r d)) := by
  pointwise [k0_pay10]
  rfl
theorem pay11_at (x : Vec Ideal S1x256x128 .i8) (d : Fin 128) (r : Fin 256) : k0_pay11 (F := Ideal) x (ix2 d r) = num (x (ix3 0 r d)) := by
  pointwise [k0_pay11]
  rfl

/-- One of the four stores: its payload at `x`, where `x` lies on column `col g r`, is that of head `g = k`. -/
theorem queries_piece (X : Vec Ideal S1x256x512 .i8) (k g : Fin 4) (r : Fin 256) (d : Fin 128) (f : S128x256.Idx → EReal)
    (hf : ∀ d r, f (ix2 d r) = num (queryHead X k (ix3 0 r d))) (x : S128x256.Idx)
    (h0 : d.val = (x 0).val) (h1 : 256 * g.val + r.val = 256 * k.val + (x 1).val) : f x = num (X (ix3 0 r (feat g d))) := by
  have h1_lt : (x 1).val < 256 := (x 1).isLt
  have hr := r.isLt
  obtain rfl : g = k := Fin.ext (by omega)
  rw [eq_ix2 x, show x 0 = d from Fin.ext h0.symm, show x 1 = r from Fin.ext (by omega)]
  exact (hf d r).trans (congrArg num (queryHead_at X g r d))

theorem queries_at (X : Vec Ideal S1x256x512 .i8) (g : Fin 4) (r : Fin 256) (d : Fin 128) :
    queries (F := Ideal) X (ix2 d (col g r)) = num (X (ix3 0 r (feat g d))) := by
  unfold queries
  canon_tiles x h
  · exact queries_piece X 3 g r d _ (pay11_at _) x h0 h1
  · exact queries_piece X 2 g r d _ (pay10_at _) x h0 h1
  · exact queries_piece X 1 g r d _ (pay7_at _) x h0 h1
  · exact queries_piece X 0 g r d _ (pay5_at _) x h0 (h1.trans (Nat.zero_add _).symm)

theorem scales_at (X : Vec Ideal S1x8x256 .f32) (h : Fin 2) (g : Fin 4) (r : Fin 256) :
    scales (F := Ideal) X h (ix2 0 (col g r)) = X (ix3 0 (head h g) r) * ((Cert.Soft.L : ℝ) : EReal) := by
  unfold scales
  pointwise [k0_pay12, k0_pay6, k0_pay8, k0_pay9, log2e]
  have hr := r.isLt
  have e : ∀ (k : Fin 4) (n : ℕ) (hn : n < 256), 256 * g.val + r.val = 256 * k.val + n →
      queryScale X h k (ix3 0 0 ⟨n, hn⟩) * ((Cert.Soft.L : ℝ) : EReal) = X (ix3 0 (head h g) r) * ((Cert.Soft.L : ℝ) : EReal) := fun k n hn hk => by
    obtain rfl : g = k := Fin.ext (by omega)
    obtain rfl : r = ⟨n, hn⟩ := Fin.ext (by show r.val = n; omega)
    rw [queryScale_at]
  by_cases c0 : 256 * g.val + r.val < 256
  · rw [dif_pos c0]; exact e 0 _ _ (by show _ = 256 * 0 + _; omega)
  rw [dif_neg c0]
  by_cases c1 : 256 * g.val + r.val - 256 < 256
  · rw [dif_pos c1]; exact e 1 _ _ (by show _ = 256 * 1 + _; omega)
  rw [dif_neg c1]
  by_cases c2 : 256 * g.val + r.val - 256 - 256 < 256
  · rw [dif_pos c2]; exact e 2 _ _ (by show _ = 256 * 2 + _; omega)
  rw [dif_neg c2]
  exact e 3 _ _ (by show _ = 256 * 3 + _; omega)

theorem pay14_at (K : Vec Ideal S256x128 .bf16) (Q : Vec Ideal S128x1024 .bf16) (S : Vec Ideal S256x128 .f32) (z : EReal) (a : Fin 256) (c : Fin 1024)
    (hS : ∀ l, S (ix2 a l) = z) :
    k0_pay14 (F := Ideal) K Q S (ix2 a c) = (∑ d : Fin 128, K (ix2 a d) * Q (ix2 d c)) * z := by
  pointwise [k0_pay14]
  simp only [hS, dite_eq_ite, ite_self]

/-- The query's row of a column, as the kernel computes it. -/
theorem column_row : ∀ c : Fin 1024, Scalar.select
          (IntOp.andi
            (IntOp.xori
              (IntOp.cmpi CmpIPredicate.slt
                (IntOp.remsi ArithUnit.vector (BitVec.ofNat 32 ↑c)
                  (Scalar.select (Scalar.cmpi CmpIPredicate.eq 256#32 0#32) 1#32 256#32))
                0#32)
              (Scalar.cmpi CmpIPredicate.slt (Scalar.select (Scalar.cmpi CmpIPredicate.eq 256#32 0#32) 1#32 256#32)
                0#32))
            (IntOp.cmpi CmpIPredicate.ne
              (IntOp.remsi ArithUnit.vector (BitVec.ofNat 32 ↑c)
                (Scalar.select (Scalar.cmpi CmpIPredicate.eq 256#32 0#32) 1#32 256#32))
              0#32))
          (IntOp.addi
            (IntOp.remsi ArithUnit.vector (BitVec.ofNat 32 ↑c)
              (Scalar.select (Scalar.cmpi CmpIPredicate.eq 256#32 0#32) 1#32 256#32))
            (Scalar.select (Scalar.cmpi CmpIPredicate.eq 256#32 0#32) 1#32 256#32))
          (IntOp.remsi ArithUnit.vector (BitVec.ofNat 32 ↑c)
            (Scalar.select (Scalar.cmpi CmpIPredicate.eq 256#32 0#32) 1#32 256#32)) = BitVec.ofNat 32 (c.val % 256) := by
  decide +kernel

theorem pay20_at (K : Vec Ideal S256x128 .bf16) (Q : Vec Ideal S128x1024 .bf16) (S : Vec Ideal S256x128 .f32) (z : EReal) (a : Fin 256) (c : Fin 1024)
    (hS : ∀ l, S (ix2 a l) = z) :
    k0_pay20 (F := Ideal) K Q S (ix2 a c) = if a.val ≤ c.val % 256 then (∑ d : Fin 128, K (ix2 a d) * Q (ix2 d c)) * z else ⊥ := by
  pointwise [k0_pay20]
  rw [column_row, select_sle _ _ (by have := a.isLt; omega) (by omega), Cert.Soft.ofBits_neg_inf]
  simp only [hS, dite_eq_ite, ite_self]

theorem pay15_at (K : Vec Ideal S256x128 .bf16) (Q : Vec Ideal S128x1024 .bf16) (S : Vec Ideal S256x128 .f32) (a : Fin 256) (c : Fin 1024) :
    k0_pay15 (F := Ideal) K Q S (ix2 a c) = k0_pay14 (F := Ideal) K Q S (ix2 a c) := by
  pointwise [k0_pay15]
theorem pay21_at (K : Vec Ideal S256x128 .bf16) (Q : Vec Ideal S128x1024 .bf16) (S : Vec Ideal S256x128 .f32) (a : Fin 256) (c : Fin 1024) :
    k0_pay21 (F := Ideal) K Q S (ix2 a c) = k0_pay20 (F := Ideal) K Q S (ix2 a c) := by
  pointwise [k0_pay21]

/-! ## Maxima -/

/-- Row `8 u + s` of a tile. -/
abbrev fine (u : Fin 32) (s : Fin 8) : Fin 256 := ⟨u.val * 8 + s.val, by have := u.isLt; have := s.isLt; omega⟩

theorem pay13_at (s : Fin 8) (c : Fin 1024) : k0_pay13 (F := Ideal) (ix2 s c) = ⊥ := by
  pointwise [k0_pay13]
  exact Cert.Soft.ofBits_neg_inf

theorem pay16_le (M : FVec Ideal S8x1024 .f32) (K : Vec Ideal S256x128 .bf16) (Q : Vec Ideal S128x1024 .bf16) (S : Vec Ideal S256x128 .f32)
    (s : Fin 8) (c : Fin 1024) (b : EReal) :
    (show EReal from k0_pay16 (F := Ideal) M K Q S (ix2 s c)) ≤ b
      ↔ (show EReal from M (ix2 s c)) ≤ b ∧ ∀ u : Fin 32, (show EReal from k0_pay14 (F := Ideal) K Q S (ix2 (fine u s) c)) ≤ b := by
  pointwise [k0_pay16, Cert.Soft.ofBits_neg_inf]
  simp only [max_le_iff, Finset.fold_max_le, bot_le, true_and, Finset.mem_univ, forall_true_left]

theorem pay22_le (K : Vec Ideal S256x128 .bf16) (Q : Vec Ideal S128x1024 .bf16) (S : Vec Ideal S256x128 .f32)
    (s : Fin 8) (c : Fin 1024) (b : EReal) :
    (show EReal from k0_pay22 (F := Ideal) K Q S (ix2 s c)) ≤ b
      ↔ ∀ u : Fin 32, (show EReal from k0_pay20 (F := Ideal) K Q S (ix2 (fine u s) c)) ≤ b := by
  pointwise [k0_pay22, Cert.Soft.ofBits_neg_inf]
  simp only [max_le_iff, Finset.fold_max_le, bot_le, true_and, Finset.mem_univ, forall_true_left]

/-- The greatest of the eight partial maxima of a column, before and in the masked tile. -/
def top (v71 v108 : FVec Ideal S8x1024 .f32) (c : Fin 1024) : EReal :=
  Finset.univ.fold max ⊥ fun s : Fin 8 => max (v71 (ix2 s c) : EReal) (v108 (ix2 s c))

theorem top_le (v71 v108 : FVec Ideal S8x1024 .f32) (c : Fin 1024) (b : EReal) :
    top v71 v108 c ≤ b ↔ ∀ s : Fin 8, (show EReal from v71 (ix2 s c)) ≤ b ∧ (show EReal from v108 (ix2 s c)) ≤ b := by
  unfold top
  simp only [max_le_iff, Finset.fold_max_le, bot_le, true_and, Finset.mem_univ, forall_true_left]

theorem pay26_at (v63 : FVec Ideal S1x1024 .f32) (v71 v108 : FVec Ideal S8x1024 .f32) (T : FVec Ideal S256x1024 .f32) (a : Fin 256) (c : Fin 1024) :
    k0_pay26 (F := Ideal) v63 v71 v108 T (ix2 a c)
      = Ideal.exp2 (T (ix2 a c) * v63 (ix2 0 c) - (top v71 v108 c * v63 (ix2 0 c) - ((8 : ℝ) : EReal))) := by
  pointwise [k0_pay26, k0_pay23, Cert.Soft.ofBits_neg_inf, Cert.Soft.ofBits_8]
  rfl

/-! ## Sums -/

theorem pay27_at (v63 : FVec Ideal S1x1024 .f32) (v71 v108 l : FVec Ideal S8x1024 .f32) (T : FVec Ideal S256x1024 .f32) (s : Fin 8) (c : Fin 1024) :
    k0_pay27 (F := Ideal) v63 v71 v108 l T (ix2 s c)
      = (l (ix2 s c) : EReal) + ∑ u : Fin 32, (k0_pay26 (F := Ideal) v63 v71 v108 T (ix2 (fine u s) c) : EReal) := by
  pointwise [k0_pay27]

theorem pay28_at (v63 : FVec Ideal S1x1024 .f32) (v71 v108 : FVec Ideal S8x1024 .f32) (l : FVec Ideal S128x1024 .f32) (T : FVec Ideal S256x1024 .f32)
    (V : Vec Ideal S1x1x128x256 .fp8e4m3) (d : Fin 128) (c : Fin 1024) :
    k0_pay28 (F := Ideal) v63 v71 v108 l T V (ix2 d c)
      = (l (ix2 d c) : EReal) + ∑ a : Fin 256, (V (ix4 0 0 d a) : EReal) * min (k0_pay26 (F := Ideal) v63 v71 v108 T (ix2 a c) : EReal) ((448 : ℝ) : EReal) := by
  pointwise [k0_pay28, Cert.Soft.ofBits_448]

theorem sums_fst_at (v63 : FVec Ideal S1x1024 .f32) (v71 v108 : FVec Ideal S8x1024 .f32) (T : ℕ → Vec Ideal S256x1024 .f32)
    (V : ℕ → Vec Ideal S1x1x128x256 .fp8e4m3) (n : ℕ) (s : Fin 8) (c : Fin 1024) :
    ((sums (F := Ideal) v63 v71 v108 T V n).1 (ix2 s c) : EReal)
      = ∑ k ∈ Finset.range n, ∑ u : Fin 32, (k0_pay26 (F := Ideal) v63 v71 v108 (T k) (ix2 (fine u s) c) : EReal) := by
  induction n with
  | zero =>
    show (k0_pay24 (F := Ideal) (ix2 s c) : EReal) = 0
    pointwise [k0_pay24]
  | succ n ih =>
    rw [Finset.sum_range_succ, ← ih]
    exact pay27_at _ _ _ _ _ _ _

theorem sums_snd_at (v63 : FVec Ideal S1x1024 .f32) (v71 v108 : FVec Ideal S8x1024 .f32) (T : ℕ → Vec Ideal S256x1024 .f32)
    (V : ℕ → Vec Ideal S1x1x128x256 .fp8e4m3) (n : ℕ) (d : Fin 128) (c : Fin 1024) :
    ((sums (F := Ideal) v63 v71 v108 T V n).2 (ix2 d c) : EReal)
      = ∑ k ∈ Finset.range n, ∑ a : Fin 256, (V k (ix4 0 0 d a) : EReal) * min (k0_pay26 (F := Ideal) v63 v71 v108 (T k) (ix2 a c) : EReal) ((448 : ℝ) : EReal) := by
  induction n with
  | zero =>
    show (k0_pay25 (F := Ideal) (ix2 d c) : EReal) = 0
    pointwise [k0_pay25]
  | succ n ih =>
    rw [Finset.sum_range_succ, ← ih]
    exact pay28_at _ _ _ _ _ _ _ _

/-! ## The result -/

/-- What the four stores write, at row `r` of head `g` and feature `d`. -/
def out (l : FVec Ideal S8x1024 .f32) (A : FVec Ideal S128x1024 .f32) (w : Vec Ideal S1x1x128 .f32) (g : Fin 4) (r : Fin 256) (d : Fin 128) : EReal :=
  Ideal.div (A (ix2 d (col g r))) (∑ s : Fin 8, (l (ix2 s (col g r)) : EReal)) * w (ix3 0 0 d)

theorem pay34_at (l : FVec Ideal S8x1024 .f32) (A : FVec Ideal S128x1024 .f32) (w : Vec Ideal S1x1x128 .f32) (r : Fin 256) (d : Fin 128) :
    k0_pay34 (F := Ideal) l A w (ix3 0 r d) = out l A w 0 r d := by
  pointwise [k0_pay34, k0_pay32, k0_pay33, out]
  rw [show col 0 r = ⟨r.val, by have := r.isLt; omega⟩ from Fin.ext (Nat.zero_add _)]
theorem pay35_at (l : FVec Ideal S8x1024 .f32) (A : FVec Ideal S128x1024 .f32) (w : Vec Ideal S1x1x128 .f32) (r : Fin 256) (d : Fin 128) :
    k0_pay35 (F := Ideal) l A w (ix3 0 r d) = out l A w 1 r d := by
  pointwise [k0_pay35, k0_pay32, k0_pay33, out]
  rfl
theorem pay1_at (l : FVec Ideal S8x1024 .f32) (A : FVec Ideal S128x1024 .f32) (w : Vec Ideal S1x1x128 .f32) (r : Fin 256) (d : Fin 128) :
    k0_pay1 (F := Ideal) (k0_pay33 w) (k0_pay36 l A) (ix3 0 r d) = out l A w 2 r d := by
  pointwise [k0_pay1, k0_pay36, k0_pay32, k0_pay33, out]
  rfl
theorem pay2_at (l : FVec Ideal S8x1024 .f32) (A : FVec Ideal S128x1024 .f32) (w : Vec Ideal S1x1x128 .f32) (r : Fin 256) (d : Fin 128) :
    k0_pay2 (F := Ideal) (k0_pay32 l A) (k0_pay33 w) (ix3 0 r d) = out l A w 3 r d := by
  pointwise [k0_pay2, k0_pay32, k0_pay33, out]
  rfl

end Cert.KernelIdeal.Value
end
-- ==== Proof.KPoint.lean ====
module

public import proofs.«01_k».proof.Proof.KVal

@[expose] public section

set_option maxRecDepth 16384

/-! # The result block of a grid point, over all keys -/

noncomputable section

namespace Cert.KernelIdeal.Value

open Idealize.ShloMosaic Idealize.ShloMosaic.TcCoe Idealize.SL.Sem
open Cert.KernelIdeal Cert.KernelIdeal.Gen Cert.KernelIdeal.Body
open Cert.Soft (tok select_sle)

variable (X3 : Vec Ideal S1x256x512 .i8) (X4 : Vec Ideal S1x8x256 .f32) (X5 : Vec Ideal S1x4096x128 .i8) (X6 : Vec Ideal S1x2x4096 .f32)
  (X7 : Vec Ideal S1x1x128x4096 .fp8e4m3) (X8 : Vec Ideal S1x2x128 .f32) (h : Fin 2) (qi : ℕ) (g : Fin 4) (r : Fin 256)

/-- The product of key `n`'s and query row `r`'s codes in head `g`. -/
def dot (n : Fin 4096) : EReal := ∑ d : Fin 128, num (X5 (ix3 0 n d)) * num (X3 (ix3 0 r (feat g d)))

/-- The unscaled score of key `n` under the causal mask. -/
def kscore (n : Fin 4096) : EReal := if n.val ≤ 256 * qi + r.val then dot X3 X5 g r n * X6 (ix3 0 h n) else ⊥

theorem product_at (j : ℕ) (a : Fin 256) :
    (∑ d : Fin 128, (keys (F := Ideal) X5 j (ix2 a d) : EReal) * queries (F := Ideal) X3 (ix2 d (col g r))) = dot X3 X5 g r (tok j a) :=
  Finset.sum_congr rfl fun d _ => by rw [keys_at, queries_at]

theorem plain_at (hq : qi < 16) (j : ℕ) (hj : j < qi) (a : Fin 256) :
    k0_pay14 (F := Ideal) (keys X5 j) (queries X3) (keyScales X6 h j) (ix2 a (col g r)) = kscore X3 X5 X6 h qi g r (tok j a) := by
  rw [pay14_at _ _ _ _ _ _ (keyScales_at X6 h j a), product_at, kscore, if_pos]
  show 256 * (j % 16) + a.val ≤ 256 * qi + r.val
  have := a.isLt; omega

theorem masked_at (hq : qi < 16) (a : Fin 256) :
    k0_pay20 (F := Ideal) (keys X5 qi) (queries X3) (keyScales X6 h qi) (ix2 a (col g r)) = kscore X3 X5 X6 h qi g r (tok qi a) := by
  rw [pay20_at _ _ _ _ _ _ (keyScales_at X6 h qi a), product_at, kscore]
  refine if_congr ?_ rfl rfl
  show a.val ≤ (256 * g.val + r.val) % 256 ↔ 256 * (qi % 16) + a.val ≤ 256 * qi + r.val
  have := r.isLt; omega

theorem pointScores_at (hq : qi < 16) (j : ℕ) (hj : j ≤ qi) (a : Fin 256) :
    pointScores (F := Ideal) X3 X5 X6 h qi j (ix2 a (col g r)) = kscore X3 X5 X6 h qi g r (tok j a) := by
  unfold pointScores scores
  split
  · next e => subst e; rw [pay21_at]; exact masked_at _ _ _ _ _ _ _ hq a
  · next e => rw [pay15_at]; exact plain_at _ _ _ _ _ _ _ hq j (by omega) a

theorem maxes_le (K : ℕ → Vec Ideal S256x128 .bf16) (Q : Vec Ideal S128x1024 .bf16) (S : ℕ → Vec Ideal S256x128 .f32)
    (n : ℕ) (s : Fin 8) (c : Fin 1024) (b : EReal) :
    (show EReal from maxes (F := Ideal) K Q S n (ix2 s c)) ≤ b
      ↔ ∀ k, k < n → ∀ u : Fin 32, (show EReal from k0_pay14 (F := Ideal) (K k) Q (S k) (ix2 (fine u s) c)) ≤ b := by
  induction n with
  | zero =>
    refine ⟨fun _ k hk => absurd hk (Nat.not_lt_zero k), fun _ => ?_⟩
    exact (pay13_at s c).le.trans bot_le
  | succ n ih =>
    refine (pay16_le _ _ _ _ s c b).trans ((and_congr_left' ih).trans ⟨fun ⟨h1, h2⟩ k hk => ?_, fun H => ⟨fun k hk => H k (by omega), H n (by omega)⟩⟩)
    rcases Nat.lt_succ_iff_lt_or_eq.mp hk with hk | rfl
    · exact h1 k hk
    · exact h2

/-- The maximum the grid point takes is that of the unscaled scores of all keys. -/
theorem pointTop_le (hq : qi < 16) (b : EReal) :
    top (pointMax (F := Ideal) X3 X5 X6 h qi) (pointMaskedMax (F := Ideal) X3 X5 X6 h qi) (col g r) ≤ b
      ↔ ∀ n, kscore X3 X5 X6 h qi g r n ≤ b := by
  rw [top_le]
  have e1 : ∀ s : Fin 8, (show EReal from pointMax (F := Ideal) X3 X5 X6 h qi (ix2 s (col g r))) ≤ b
      ↔ ∀ k, k < qi → ∀ u : Fin 32, kscore X3 X5 X6 h qi g r (tok k (fine u s)) ≤ b := fun s =>
    (maxes_le _ _ _ qi s _ b).trans (forall_congr' fun k => forall_congr' fun hk => forall_congr' fun u => by
      rw [← plain_at X3 X5 X6 h qi g r hq k hk (fine u s)])
  have e2 : ∀ s : Fin 8, (show EReal from pointMaskedMax (F := Ideal) X3 X5 X6 h qi (ix2 s (col g r))) ≤ b
      ↔ ∀ u : Fin 32, kscore X3 X5 X6 h qi g r (tok qi (fine u s)) ≤ b := fun s =>
    (pay22_le _ _ _ s _ b).trans (forall_congr' fun u => by rw [← masked_at X3 X5 X6 h qi g r hq (fine u s)])
  constructor
  · intro H n
    have hn := n.isLt
    have en : n = tok (n.val / 256) (fine ⟨n.val % 256 / 8, by omega⟩ ⟨n.val % 8, by omega⟩) := Fin.ext (by
      show n.val = 256 * (n.val / 256 % 16) + (n.val % 256 / 8 * 8 + n.val % 8); omega)
    rcases Nat.lt_trichotomy (n.val / 256) qi with hk | hk | hk
    · rw [en]; exact (e1 _).mp (H ⟨n.val % 8, by omega⟩).1 _ hk _
    · rw [en, hk]; exact (e2 _).mp (H ⟨n.val % 8, by omega⟩).2 _
    · have hr := r.isLt
      rw [kscore, if_neg (by omega)]; exact bot_le
  · exact fun H s => ⟨(e1 s).mpr fun k _ u => H _, (e2 s).mpr fun u => H _⟩

/-- The weight of key `n`. -/
def weight (n : Fin 4096) : EReal :=
  Ideal.exp2 (kscore X3 X5 X6 h qi g r n * ((X4 (ix3 0 (head h g) r) : EReal) * ((Cert.Soft.L : ℝ) : EReal))
    - (top (pointMax (F := Ideal) X3 X5 X6 h qi) (pointMaskedMax (F := Ideal) X3 X5 X6 h qi) (col g r)
        * ((X4 (ix3 0 (head h g) r) : EReal) * ((Cert.Soft.L : ℝ) : EReal)) - ((8 : ℝ) : EReal)))

theorem weight_at (hq : qi < 16) (j : ℕ) (hj : j ≤ qi) (a : Fin 256) :
    (k0_pay26 (F := Ideal) (scales X4 h) (pointMax X3 X5 X6 h qi) (pointMaskedMax X3 X5 X6 h qi) (pointScores X3 X5 X6 h qi j) (ix2 a (col g r)) : EReal)
      = weight X3 X4 X5 X6 h qi g r (tok j a) := by
  refine (pay26_at _ _ _ _ a _).trans ?_
  rw [pointScores_at X3 X5 X6 h qi g r hq j hj a, scales_at X4 h g r]
  rfl

theorem denominator_at (hq : qi < 16) (h0 : ∀ n : Fin 4096, 256 * (qi + 1) ≤ n.val → weight X3 X4 X5 X6 h qi g r n = 0) :
    (∑ s : Fin 8, ((pointSums (F := Ideal) X3 X4 X5 X6 X7 h qi).1 (ix2 s (col g r)) : EReal)) = ∑ n, weight X3 X4 X5 X6 h qi g r n := by
  rw [← Cert.Soft.sum_tiles qi hq _ h0]
  refine (Finset.sum_congr rfl fun s _ => sums_fst_at _ _ _ _ _ _ s _).trans ?_
  rw [Finset.sum_comm]
  refine Finset.sum_congr rfl fun k hk => ?_
  rw [Finset.sum_comm, Fin.sum_univ_tiles 32 8 rfl (fun a : Fin 256 => weight X3 X4 X5 X6 h qi g r (tok k a))]
  exact Finset.sum_congr rfl fun u _ => Finset.sum_congr rfl fun s _ =>
    weight_at X3 X4 X5 X6 h qi g r hq k (by have := Finset.mem_range.mp hk; omega) (fine u s)

theorem numerator_at (hq : qi < 16) (h0 : ∀ n : Fin 4096, 256 * (qi + 1) ≤ n.val → weight X3 X4 X5 X6 h qi g r n = 0) (d : Fin 128) :
    ((pointSums (F := Ideal) X3 X4 X5 X6 X7 h qi).2 (ix2 d (col g r)) : EReal)
      = ∑ n, (X7 (ix4 0 0 d n) : EReal) * min (weight X3 X4 X5 X6 h qi g r n) ((448 : ℝ) : EReal) := by
  rw [← Cert.Soft.sum_tiles qi hq (fun n => (X7 (ix4 0 0 d n) : EReal) * min (weight X3 X4 X5 X6 h qi g r n) ((448 : ℝ) : EReal))
    (fun n hn => by
      show (X7 (ix4 0 0 d n) : EReal) * min (weight X3 X4 X5 X6 h qi g r n) ((448 : ℝ) : EReal) = 0
      rw [h0 n hn, min_eq_left (by exact_mod_cast (by norm_num : (0 : ℝ) ≤ 448)), mul_zero])]
  refine (sums_snd_at _ _ _ _ _ _ d _).trans ?_
  refine Finset.sum_congr rfl fun k hk => Finset.sum_congr rfl fun a _ => ?_
  rw [valTile_at, weight_at X3 X4 X5 X6 h qi g r hq k (by have := Finset.mem_range.mp hk; omega) a]

theorem result_piece (k : Fin 4) (d : Fin 128) (f : S1x256x128.Idx → EReal) (l : FVec Ideal S8x1024 .f32) (A : FVec Ideal S128x1024 .f32) (w : Vec Ideal S1x1x128 .f32)
    (hf : ∀ r d, f (ix3 0 r d) = out l A w k r d) (x : S1x256x128.Idx)
    (h1 : r.val = (x 1).val) (h2 : 128 * g.val + d.val = 128 * k.val + (x 2).val) : f x = out l A w g r d := by
  have h2_lt : (x 2).val < 128 := (x 2).isLt
  have hd := d.isLt
  obtain rfl : g = k := Fin.ext (by omega)
  have h0 : x 0 = (0 : Fin 1) := Subsingleton.elim (α := Fin 1) _ _
  rw [eq_ix3 x, show x 1 = r from Fin.ext h1.symm, show x 2 = d from Fin.ext (by omega), h0]
  exact hf r d

theorem result_out (d : Fin 128) :
    result (F := Ideal) X3 X4 X5 X6 X7 X8 h qi (ix3 0 r (feat g d))
      = out (pointSums (F := Ideal) X3 X4 X5 X6 X7 h qi).1 (pointSums (F := Ideal) X3 X4 X5 X6 X7 h qi).2 (valScale X8 h) g r d := by
  unfold result
  generalize pointSums (F := Ideal) X3 X4 X5 X6 X7 h qi = p
  canon_tiles x e
  · exact result_piece g r 3 d _ _ _ _ (pay2_at _ _ _) x e1 e2
  · exact result_piece g r 2 d _ _ _ _ (pay1_at _ _ _) x e1 e2
  · exact result_piece g r 1 d _ _ _ _ (pay35_at _ _ _) x e1 e2
  · exact result_piece g r 0 d _ _ _ _ (pay34_at _ _ _) x e1 (e2.trans (Nat.zero_add _).symm)

/-- The result block of the grid point at query row `r`, head `g` and feature `d`. -/
theorem result_at (hq : qi < 16) (h0 : ∀ n : Fin 4096, 256 * (qi + 1) ≤ n.val → weight X3 X4 X5 X6 h qi g r n = 0) (d : Fin 128) :
    result (F := Ideal) X3 X4 X5 X6 X7 X8 h qi (ix3 0 r (feat g d))
      = Ideal.div (∑ n, (X7 (ix4 0 0 d n) : EReal) * min (weight X3 X4 X5 X6 h qi g r n) ((448 : ℝ) : EReal)) (∑ n, weight X3 X4 X5 X6 h qi g r n)
          * X8 (ix3 0 h d) := by
  rw [result_out, out, denominator_at X3 X4 X5 X6 X7 h qi g r hq h0, numerator_at X3 X4 X5 X6 X7 h qi g r hq h0, valScale_at]

end Cert.KernelIdeal.Value
end
-- ==== Proof.RefRead.lean ====
/- The reference program, one operation at a time: `val_<buffer>` is the value the operation writes, as a function of the
   parameters below it depends on; `val_<buffer>_apply` reads it at an index. Parameters: `x1`, `x3`, `x5` the arguments of
   those numbers; `r0`, `r1`, `r2` the widened queries, keys and values. -/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %1 = stablehlo.reshape %0#0 : (tensor<8x4096x1024xbf16>) -> tensor<8x4096x2x4x128xbf16>
def val_main_v1 (r0 : (⟨S8x4096x1024, .bf16⟩ : BufTy).Contents (Elt F)) : (⟨S8x4096x2x4x128, .bf16⟩ : BufTy).Contents (Elt F) :=
  shapeCast _ (r0) shapeCasts_S8x4096x1024_S8x4096x2x4x128
set_option backward.proofsInPublic true in
abbrev idx_main_v1 (i : S8x4096x2x4x128.Idx) : S8x4096x1024.Idx := fun a => match a with
  | ⟨0, _⟩ => ⟨(((((i 0).val * 4096 + (i 1).val) * 2 + (i 2).val) * 4 + (i 3).val) * 128 + (i 4).val) / 4194304, by have h0 : (i 0).val < 8 := (i 0).isLt; have h1 : (i 1).val < 4096 := (i 1).isLt; have h2 : (i 2).val < 2 := (i 2).isLt; have h3 : (i 3).val < 4 := (i 3).isLt; have h4 : (i 4).val < 128 := (i 4).isLt; show (((((i 0).val * 4096 + (i 1).val) * 2 + (i 2).val) * 4 + (i 3).val) * 128 + (i 4).val) / 4194304 < 8; omega⟩
  | ⟨1, _⟩ => ⟨(((((i 0).val * 4096 + (i 1).val) * 2 + (i 2).val) * 4 + (i 3).val) * 128 + (i 4).val) / 1024 % 4096, by have h0 : (i 0).val < 8 := (i 0).isLt; have h1 : (i 1).val < 4096 := (i 1).isLt; have h2 : (i 2).val < 2 := (i 2).isLt; have h3 : (i 3).val < 4 := (i 3).isLt; have h4 : (i 4).val < 128 := (i 4).isLt; show (((((i 0).val * 4096 + (i 1).val) * 2 + (i 2).val) * 4 + (i 3).val) * 128 + (i 4).val) / 1024 % 4096 < 4096; omega⟩
  | ⟨2, _⟩ => ⟨(((((i 0).val * 4096 + (i 1).val) * 2 + (i 2).val) * 4 + (i 3).val) * 128 + (i 4).val) % 1024, by have h0 : (i 0).val < 8 := (i 0).isLt; have h1 : (i 1).val < 4096 := (i 1).isLt; have h2 : (i 2).val < 2 := (i 2).isLt; have h3 : (i 3).val < 4 := (i 3).isLt; have h4 : (i 4).val < 128 := (i 4).isLt; show (((((i 0).val * 4096 + (i 1).val) * 2 + (i 2).val) * 4 + (i 3).val) * 128 + (i 4).val) % 1024 < 1024; omega⟩
theorem val_main_v1_apply (r0 : (⟨S8x4096x1024, .bf16⟩ : BufTy).Contents (Elt F)) (i : S8x4096x2x4x128.Idx) :
    val_main_v1 (F := F) r0 i = r0 (idx_main_v1 i) := by
  unfold val_main_v1
  exact shapeCast_apply r0 shapeCasts_S8x4096x1024_S8x4096x2x4x128 i (idx_main_v1 i)
    (by rewrite [Shape.rowMajor_val_three, Shape.rowMajor_val_five]; have h0 : (i 0).val < 8 := (i 0).isLt; have h1 : (i 1).val < 4096 := (i 1).isLt; have h2 : (i 2).val < 2 := (i 2).isLt; have h3 : (i 3).val < 4 := (i 3).isLt; have h4 : (i 4).val < 128 := (i 4).isLt; show ((((((i 0).val * 4096 + (i 1).val) * 2 + (i 2).val) * 4 + (i 3).val) * 128 + (i 4).val) / 4194304 * 4096 + (((((i 0).val * 4096 + (i 1).val) * 2 + (i 2).val) * 4 + (i 3).val) * 128 + (i 4).val) / 1024 % 4096) * 1024 + (((((i 0).val * 4096 + (i 1).val) * 2 + (i 2).val) * 4 + (i 3).val) * 128 + (i 4).val) % 1024 = ((((i 0).val * 4096 + (i 1).val) * 2 + (i 2).val) * 4 + (i 3).val) * 128 + (i 4).val; omega)

-- %2 = stablehlo.reshape %0#1 : (tensor<8x4096x256xbf16>) -> tensor<8x4096x2x128xbf16>
def val_main_v2 (r1 : (⟨S8x4096x256, .bf16⟩ : BufTy).Contents (Elt F)) : (⟨S8x4096x2x128, .bf16⟩ : BufTy).Contents (Elt F) :=
  shapeCast _ (r1) shapeCasts_S8x4096x256_S8x4096x2x128
set_option backward.proofsInPublic true in
abbrev idx_main_v2 (i : S8x4096x2x128.Idx) : S8x4096x256.Idx := fun a => match a with
  | ⟨0, _⟩ => ⟨((((i 0).val * 4096 + (i 1).val) * 2 + (i 2).val) * 128 + (i 3).val) / 1048576, by have h0 : (i 0).val < 8 := (i 0).isLt; have h1 : (i 1).val < 4096 := (i 1).isLt; have h2 : (i 2).val < 2 := (i 2).isLt; have h3 : (i 3).val < 128 := (i 3).isLt; show ((((i 0).val * 4096 + (i 1).val) * 2 + (i 2).val) * 128 + (i 3).val) / 1048576 < 8; omega⟩
  | ⟨1, _⟩ => ⟨((((i 0).val * 4096 + (i 1).val) * 2 + (i 2).val) * 128 + (i 3).val) / 256 % 4096, by have h0 : (i 0).val < 8 := (i 0).isLt; have h1 : (i 1).val < 4096 := (i 1).isLt; have h2 : (i 2).val < 2 := (i 2).isLt; have h3 : (i 3).val < 128 := (i 3).isLt; show ((((i 0).val * 4096 + (i 1).val) * 2 + (i 2).val) * 128 + (i 3).val) / 256 % 4096 < 4096; omega⟩
  | ⟨2, _⟩ => ⟨((((i 0).val * 4096 + (i 1).val) * 2 + (i 2).val) * 128 + (i 3).val) % 256, by have h0 : (i 0).val < 8 := (i 0).isLt; have h1 : (i 1).val < 4096 := (i 1).isLt; have h2 : (i 2).val < 2 := (i 2).isLt; have h3 : (i 3).val < 128 := (i 3).isLt; show ((((i 0).val * 4096 + (i 1).val) * 2 + (i 2).val) * 128 + (i 3).val) % 256 < 256; omega⟩
theorem val_main_v2_apply (r1 : (⟨S8x4096x256, .bf16⟩ : BufTy).Contents (Elt F)) (i : S8x4096x2x128.Idx) :
    val_main_v2 (F := F) r1 i = r1 (idx_main_v2 i) := by
  unfold val_main_v2
  exact shapeCast_apply r1 shapeCasts_S8x4096x256_S8x4096x2x128 i (idx_main_v2 i)
    (by rewrite [Shape.rowMajor_val_three, Shape.rowMajor_val_four]; have h0 : (i 0).val < 8 := (i 0).isLt; have h1 : (i 1).val < 4096 := (i 1).isLt; have h2 : (i 2).val < 2 := (i 2).isLt; have h3 : (i 3).val < 128 := (i 3).isLt; show (((((i 0).val * 4096 + (i 1).val) * 2 + (i 2).val) * 128 + (i 3).val) / 1048576 * 4096 + ((((i 0).val * 4096 + (i 1).val) * 2 + (i 2).val) * 128 + (i 3).val) / 256 % 4096) * 256 + ((((i 0).val * 4096 + (i 1).val) * 2 + (i 2).val) * 128 + (i 3).val) % 256 = (((i 0).val * 4096 + (i 1).val) * 2 + (i 2).val) * 128 + (i 3).val; omega)

-- %3 = stablehlo.reshape %arg1 : (tensor<8x8x4096xf32>) -> tensor<8x2x4x4096xf32>
def val_main_v3 (x1 : (⟨S8x8x4096, .f32⟩ : BufTy).Contents (Elt F)) : (⟨S8x2x4x4096, .f32⟩ : BufTy).Contents (Elt F) :=
  shapeCast _ (x1) shapeCasts_S8x8x4096_S8x2x4x4096
set_option backward.proofsInPublic true in
abbrev idx_main_v3 (i : S8x2x4x4096.Idx) : S8x8x4096.Idx := fun a => match a with
  | ⟨0, _⟩ => ⟨((((i 0).val * 2 + (i 1).val) * 4 + (i 2).val) * 4096 + (i 3).val) / 32768, by have h0 : (i 0).val < 8 := (i 0).isLt; have h1 : (i 1).val < 2 := (i 1).isLt; have h2 : (i 2).val < 4 := (i 2).isLt; have h3 : (i 3).val < 4096 := (i 3).isLt; show ((((i 0).val * 2 + (i 1).val) * 4 + (i 2).val) * 4096 + (i 3).val) / 32768 < 8; omega⟩
  | ⟨1, _⟩ => ⟨((((i 0).val * 2 + (i 1).val) * 4 + (i 2).val) * 4096 + (i 3).val) / 4096 % 8, by have h0 : (i 0).val < 8 := (i 0).isLt; have h1 : (i 1).val < 2 := (i 1).isLt; have h2 : (i 2).val < 4 := (i 2).isLt; have h3 : (i 3).val < 4096 := (i 3).isLt; show ((((i 0).val * 2 + (i 1).val) * 4 + (i 2).val) * 4096 + (i 3).val) / 4096 % 8 < 8; omega⟩
  | ⟨2, _⟩ => ⟨((((i 0).val * 2 + (i 1).val) * 4 + (i 2).val) * 4096 + (i 3).val) % 4096, by have h0 : (i 0).val < 8 := (i 0).isLt; have h1 : (i 1).val < 2 := (i 1).isLt; have h2 : (i 2).val < 4 := (i 2).isLt; have h3 : (i 3).val < 4096 := (i 3).isLt; show ((((i 0).val * 2 + (i 1).val) * 4 + (i 2).val) * 4096 + (i 3).val) % 4096 < 4096; omega⟩
theorem val_main_v3_apply (x1 : (⟨S8x8x4096, .f32⟩ : BufTy).Contents (Elt F)) (i : S8x2x4x4096.Idx) :
    val_main_v3 (F := F) x1 i = x1 (idx_main_v3 i) := by
  unfold val_main_v3
  exact shapeCast_apply x1 shapeCasts_S8x8x4096_S8x2x4x4096 i (idx_main_v3 i)
    (by rewrite [Shape.rowMajor_val_three, Shape.rowMajor_val_four]; have h0 : (i 0).val < 8 := (i 0).isLt; have h1 : (i 1).val < 2 := (i 1).isLt; have h2 : (i 2).val < 4 := (i 2).isLt; have h3 : (i 3).val < 4096 := (i 3).isLt; show (((((i 0).val * 2 + (i 1).val) * 4 + (i 2).val) * 4096 + (i 3).val) / 32768 * 8 + ((((i 0).val * 2 + (i 1).val) * 4 + (i 2).val) * 4096 + (i 3).val) / 4096 % 8) * 4096 + ((((i 0).val * 2 + (i 1).val) * 4 + (i 2).val) * 4096 + (i 3).val) % 4096 = (((i 0).val * 2 + (i 1).val) * 4 + (i 2).val) * 4096 + (i 3).val; omega)

-- %4 = stablehlo.dot_general %2, %1, batching_dims = [0, 2] x [0, 2], contracting_dims = [3] x [4], precision = [DEFAULT, DEFAULT] : (tensor<8x4096x2x128xbf16>, tensor<8x4096x2x4x128xbf16>) -> tensor<8x2x4096x4096x4xf32>
def val_main_v4 (r0 : (⟨S8x4096x1024, .bf16⟩ : BufTy).Contents (Elt F)) (r1 : (⟨S8x4096x256, .bf16⟩ : BufTy).Contents (Elt F)) : (⟨S8x2x4096x4096x4, .f32⟩ : BufTy).Contents (Elt F) :=
  Host.dotGeneral dot_S8x4096x2x128_S8x4096x2x4x128_S8x2x4096x4096x4_3_4_1_13_02_02 none (val_main_v2 (F := F) r1) (val_main_v1 (F := F) r0)
theorem lhs_main_v4_0 (i : S8x2x4096x4096x4.Idx) (q : dot_S8x4096x2x128_S8x4096x2x4x128_S8x2x4096x4096x4_3_4_1_13_02_02.contr.Idx) :
    (dot_S8x4096x2x128_S8x4096x2x4x128_S8x2x4096x4096x4_3_4_1_13_02_02.lhsIdx i q 0).val = (i 0).val := by
  unfold DotDims.lhsIdx
  rw [dif_pos (show (0 : Fin S8x4096x2x128.rank) ∈ dot_S8x4096x2x128_S8x4096x2x4x128_S8x2x4096x4096x4_3_4_1_13_02_02.lhsBatch by decide)]
  rfl
theorem lhs_main_v4_1 (i : S8x2x4096x4096x4.Idx) (q : dot_S8x4096x2x128_S8x4096x2x4x128_S8x2x4096x4096x4_3_4_1_13_02_02.contr.Idx) :
    (dot_S8x4096x2x128_S8x4096x2x4x128_S8x2x4096x4096x4_3_4_1_13_02_02.lhsIdx i q 1).val = (i 2).val := by
  unfold DotDims.lhsIdx
  rw [dif_neg (show ¬(1 : Fin S8x4096x2x128.rank) ∈ dot_S8x4096x2x128_S8x4096x2x4x128_S8x2x4096x4096x4_3_4_1_13_02_02.lhsBatch by decide), dif_pos (show (1 : Fin S8x4096x2x128.rank) ∈ dot_S8x4096x2x128_S8x4096x2x4x128_S8x2x4096x4096x4_3_4_1_13_02_02.lhsNonContracting by decide)]
  rfl
theorem lhs_main_v4_2 (i : S8x2x4096x4096x4.Idx) (q : dot_S8x4096x2x128_S8x4096x2x4x128_S8x2x4096x4096x4_3_4_1_13_02_02.contr.Idx) :
    (dot_S8x4096x2x128_S8x4096x2x4x128_S8x2x4096x4096x4_3_4_1_13_02_02.lhsIdx i q 2).val = (i 1).val := by
  unfold DotDims.lhsIdx
  rw [dif_pos (show (2 : Fin S8x4096x2x128.rank) ∈ dot_S8x4096x2x128_S8x4096x2x4x128_S8x2x4096x4096x4_3_4_1_13_02_02.lhsBatch by decide)]
  rfl
theorem lhs_main_v4_3 (i : S8x2x4096x4096x4.Idx) (q : dot_S8x4096x2x128_S8x4096x2x4x128_S8x2x4096x4096x4_3_4_1_13_02_02.contr.Idx) :
    (dot_S8x4096x2x128_S8x4096x2x4x128_S8x2x4096x4096x4_3_4_1_13_02_02.lhsIdx i q 3).val = (q ⟨0, by decide⟩).val :=
  dot_S8x4096x2x128_S8x4096x2x4x128_S8x2x4096x4096x4_3_4_1_13_02_02.lhsIdx_val_of_single rfl i q
theorem rhs_main_v4_0 (i : S8x2x4096x4096x4.Idx) (q : dot_S8x4096x2x128_S8x4096x2x4x128_S8x2x4096x4096x4_3_4_1_13_02_02.contr.Idx) :
    (dot_S8x4096x2x128_S8x4096x2x4x128_S8x2x4096x4096x4_3_4_1_13_02_02.rhsIdx i q 0).val = (i 0).val := by
  unfold DotDims.rhsIdx
  rw [dif_pos (show (0 : Fin S8x4096x2x4x128.rank) ∈ dot_S8x4096x2x128_S8x4096x2x4x128_S8x2x4096x4096x4_3_4_1_13_02_02.rhsBatch by decide)]
  rfl
theorem rhs_main_v4_1 (i : S8x2x4096x4096x4.Idx) (q : dot_S8x4096x2x128_S8x4096x2x4x128_S8x2x4096x4096x4_3_4_1_13_02_02.contr.Idx) :
    (dot_S8x4096x2x128_S8x4096x2x4x128_S8x2x4096x4096x4_3_4_1_13_02_02.rhsIdx i q 1).val = (i 3).val := by
  unfold DotDims.rhsIdx
  rw [dif_neg (show ¬(1 : Fin S8x4096x2x4x128.rank) ∈ dot_S8x4096x2x128_S8x4096x2x4x128_S8x2x4096x4096x4_3_4_1_13_02_02.rhsBatch by decide), dif_pos (show (1 : Fin S8x4096x2x4x128.rank) ∈ dot_S8x4096x2x128_S8x4096x2x4x128_S8x2x4096x4096x4_3_4_1_13_02_02.rhsNonContracting by decide)]
  rfl
theorem rhs_main_v4_2 (i : S8x2x4096x4096x4.Idx) (q : dot_S8x4096x2x128_S8x4096x2x4x128_S8x2x4096x4096x4_3_4_1_13_02_02.contr.Idx) :
    (dot_S8x4096x2x128_S8x4096x2x4x128_S8x2x4096x4096x4_3_4_1_13_02_02.rhsIdx i q 2).val = (i 1).val := by
  unfold DotDims.rhsIdx
  rw [dif_pos (show (2 : Fin S8x4096x2x4x128.rank) ∈ dot_S8x4096x2x128_S8x4096x2x4x128_S8x2x4096x4096x4_3_4_1_13_02_02.rhsBatch by decide)]
  rfl
theorem rhs_main_v4_3 (i : S8x2x4096x4096x4.Idx) (q : dot_S8x4096x2x128_S8x4096x2x4x128_S8x2x4096x4096x4_3_4_1_13_02_02.contr.Idx) :
    (dot_S8x4096x2x128_S8x4096x2x4x128_S8x2x4096x4096x4_3_4_1_13_02_02.rhsIdx i q 3).val = (i 4).val := by
  unfold DotDims.rhsIdx
  rw [dif_neg (show ¬(3 : Fin S8x4096x2x4x128.rank) ∈ dot_S8x4096x2x128_S8x4096x2x4x128_S8x2x4096x4096x4_3_4_1_13_02_02.rhsBatch by decide), dif_pos (show (3 : Fin S8x4096x2x4x128.rank) ∈ dot_S8x4096x2x128_S8x4096x2x4x128_S8x2x4096x4096x4_3_4_1_13_02_02.rhsNonContracting by decide)]
  rfl
theorem rhs_main_v4_4 (i : S8x2x4096x4096x4.Idx) (q : dot_S8x4096x2x128_S8x4096x2x4x128_S8x2x4096x4096x4_3_4_1_13_02_02.contr.Idx) :
    (dot_S8x4096x2x128_S8x4096x2x4x128_S8x2x4096x4096x4_3_4_1_13_02_02.rhsIdx i q 4).val = (q ⟨0, by decide⟩).val :=
  dot_S8x4096x2x128_S8x4096x2x4x128_S8x2x4096x4096x4_3_4_1_13_02_02.rhsIdx_val_of_single rfl i q
abbrev lidx_main_v4 (i : S8x2x4096x4096x4.Idx) (k : Fin 128) : S8x4096x2x128.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨k.val, k.isLt⟩
abbrev ridx_main_v4 (i : S8x2x4096x4096x4.Idx) (k : Fin 128) : S8x4096x2x4x128.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 4).val, (i 4).isLt⟩
  | ⟨4, _⟩ => ⟨k.val, k.isLt⟩
/-- Stated at `F := Ideal`, where the host's `dot_general` is this sum; at a bit-exact instance it is an opaque function of its operands. -/
theorem val_main_v4_apply (r0 : (⟨S8x4096x1024, .bf16⟩ : BufTy).Contents (Elt Ideal)) (r1 : (⟨S8x4096x256, .bf16⟩ : BufTy).Contents (Elt Ideal)) (i : S8x2x4096x4096x4.Idx) :
    val_main_v4 (F := Ideal) r0 r1 i = ∑ k : Fin 128, (val_main_v2 (F := Ideal) r1) (lidx_main_v4 i k) * (val_main_v1 (F := Ideal) r0) (ridx_main_v4 i k) := by
  unfold val_main_v4
  generalize val_main_v2 (F := Ideal) r1 = y0
  generalize val_main_v1 (F := Ideal) r0 = y1
  simp only [Host.dotGeneral]
  rw [Ideal.dotGeneral_apply, ← Equiv.sum_comp (ValueIdx.contrEquiv1 dot_S8x4096x2x128_S8x4096x2x4x128_S8x2x4096x4096x4_3_4_1_13_02_02 128 rfl rfl).symm]
  refine Finset.sum_congr rfl fun k _ => ?_
  have hk := ValueIdx.contrEquiv1_symm_val dot_S8x4096x2x128_S8x4096x2x4x128_S8x2x4096x4096x4_3_4_1_13_02_02 128 rfl rfl k
  have el : dot_S8x4096x2x128_S8x4096x2x4x128_S8x2x4096x4096x4_3_4_1_13_02_02.lhsIdx i ((ValueIdx.contrEquiv1 dot_S8x4096x2x128_S8x4096x2x4x128_S8x2x4096x4096x4_3_4_1_13_02_02 128 rfl rfl).symm k) = lidx_main_v4 i k := funext fun a => Fin.ext (by
    match a with
    | ⟨0, _⟩ => exact lhs_main_v4_0 _ _
    | ⟨1, _⟩ => exact lhs_main_v4_1 _ _
    | ⟨2, _⟩ => exact lhs_main_v4_2 _ _
    | ⟨3, _⟩ => exact (lhs_main_v4_3 _ _).trans hk)
  have er : dot_S8x4096x2x128_S8x4096x2x4x128_S8x2x4096x4096x4_3_4_1_13_02_02.rhsIdx i ((ValueIdx.contrEquiv1 dot_S8x4096x2x128_S8x4096x2x4x128_S8x2x4096x4096x4_3_4_1_13_02_02 128 rfl rfl).symm k) = ridx_main_v4 i k := funext fun a => Fin.ext (by
    match a with
    | ⟨0, _⟩ => exact rhs_main_v4_0 _ _
    | ⟨1, _⟩ => exact rhs_main_v4_1 _ _
    | ⟨2, _⟩ => exact rhs_main_v4_2 _ _
    | ⟨3, _⟩ => exact rhs_main_v4_3 _ _
    | ⟨4, _⟩ => exact (rhs_main_v4_4 _ _).trans hk)
  rw [el, er]

-- %5 = stablehlo.transpose %4, dims = [0, 1, 4, 3, 2] : (tensor<8x2x4096x4096x4xf32>) -> tensor<8x2x4x4096x4096xf32>
def val_main_v5 (r0 : (⟨S8x4096x1024, .bf16⟩ : BufTy).Contents (Elt F)) (r1 : (⟨S8x4096x256, .bf16⟩ : BufTy).Contents (Elt F)) : (⟨S8x2x4x4096x4096, .f32⟩ : BufTy).Contents (Elt F) :=
  transpose S8x2x4x4096x4096 [0, 1, 4, 3, 2] (val_main_v4 (F := F) r0 r1) transposes_S8x2x4096x4096x4_S8x2x4x4096x4096_0_1_4_3_2
abbrev idx_main_v5 (i : S8x2x4x4096x4096.Idx) : S8x2x4096x4096x4.Idx := fun a => match a with
  | ⟨0, _⟩ => ⟨(i 0).val, (i 0).isLt⟩
  | ⟨1, _⟩ => ⟨(i 1).val, (i 1).isLt⟩
  | ⟨2, _⟩ => ⟨(i 4).val, (i 4).isLt⟩
  | ⟨3, _⟩ => ⟨(i 3).val, (i 3).isLt⟩
  | ⟨4, _⟩ => ⟨(i 2).val, (i 2).isLt⟩
theorem val_main_v5_apply (r0 : (⟨S8x4096x1024, .bf16⟩ : BufTy).Contents (Elt F)) (r1 : (⟨S8x4096x256, .bf16⟩ : BufTy).Contents (Elt F)) (i : S8x2x4x4096x4096.Idx) :
    val_main_v5 (F := F) r0 r1 i = val_main_v4 (F := F) r0 r1 (idx_main_v5 i) := by
  unfold val_main_v5
  generalize val_main_v4 (F := F) r0 r1 = y
  exact transpose_apply [0, 1, 4, 3, 2] y transposes_S8x2x4096x4096x4_S8x2x4x4096x4096_0_1_4_3_2 i (idx_main_v5 i) (fun b => match b with
    | ⟨0, _⟩ => rfl
    | ⟨1, _⟩ => rfl
    | ⟨2, _⟩ => rfl
    | ⟨3, _⟩ => rfl
    | ⟨4, _⟩ => rfl)

-- %6 = stablehlo.broadcast_in_dim %3, dims = [0, 1, 2, 3] : (tensor<8x2x4x4096xf32>) -> tensor<8x2x4x4096x1xf32>
def val_main_v6 (x1 : (⟨S8x8x4096, .f32⟩ : BufTy).Contents (Elt F)) : (⟨S8x2x4x4096x1, .f32⟩ : BufTy).Contents (Elt F) :=
  broadcastInDim S8x2x4x4096x1 ![0, 1, 2, 3] bcast_S8x2x4x4096_S8x2x4x4096x1_0_1_2_3 (val_main_v3 (F := F) x1)
abbrev idx_main_v6 (i : S8x2x4x4096x1.Idx) : S8x2x4x4096.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v6_apply (x1 : (⟨S8x8x4096, .f32⟩ : BufTy).Contents (Elt F)) (i : S8x2x4x4096x1.Idx) :
    val_main_v6 (F := F) x1 i = val_main_v3 (F := F) x1 (idx_main_v6 i) := by
  unfold val_main_v6
  generalize val_main_v3 (F := F) x1 = y
  exact broadcastInDim_apply _ bcast_S8x2x4x4096_S8x2x4x4096x1_0_1_2_3 y i (idx_main_v6 i) (fun a => match a with
    | ⟨0, _⟩ => by show (i 0).val = if (8 : Nat) = 1 then 0 else (i 0).val; rw [if_neg (by decide)]
    | ⟨1, _⟩ => by show (i 1).val = if (2 : Nat) = 1 then 0 else (i 1).val; rw [if_neg (by decide)]
    | ⟨2, _⟩ => by show (i 2).val = if (4 : Nat) = 1 then 0 else (i 2).val; rw [if_neg (by decide)]
    | ⟨3, _⟩ => by show (i 3).val = if (4096 : Nat) = 1 then 0 else (i 3).val; rw [if_neg (by decide)])

-- %7 = stablehlo.broadcast_in_dim %6, dims = [0, 1, 2, 3, 4] : (tensor<8x2x4x4096x1xf32>) -> tensor<8x2x4x4096x4096xf32>
def val_main_v7 (x1 : (⟨S8x8x4096, .f32⟩ : BufTy).Contents (Elt F)) : (⟨S8x2x4x4096x4096, .f32⟩ : BufTy).Contents (Elt F) :=
  broadcastInDim S8x2x4x4096x4096 ![0, 1, 2, 3, 4] bcast_S8x2x4x4096x1_S8x2x4x4096x4096_0_1_2_3_4 (val_main_v6 (F := F) x1)
abbrev idx_main_v7 (i : S8x2x4x4096x4096.Idx) : S8x2x4x4096x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v7_apply (x1 : (⟨S8x8x4096, .f32⟩ : BufTy).Contents (Elt F)) (i : S8x2x4x4096x4096.Idx) :
    val_main_v7 (F := F) x1 i = val_main_v6 (F := F) x1 (idx_main_v7 i) := by
  unfold val_main_v7
  generalize val_main_v6 (F := F) x1 = y
  exact broadcastInDim_apply _ bcast_S8x2x4x4096x1_S8x2x4x4096x4096_0_1_2_3_4 y i (idx_main_v7 i) (fun a => match a with
    | ⟨0, _⟩ => by show (i 0).val = if (8 : Nat) = 1 then 0 else (i 0).val; rw [if_neg (by decide)]
    | ⟨1, _⟩ => by show (i 1).val = if (2 : Nat) = 1 then 0 else (i 1).val; rw [if_neg (by decide)]
    | ⟨2, _⟩ => by show (i 2).val = if (4 : Nat) = 1 then 0 else (i 2).val; rw [if_neg (by decide)]
    | ⟨3, _⟩ => by show (i 3).val = if (4096 : Nat) = 1 then 0 else (i 3).val; rw [if_neg (by decide)]
    | ⟨4, _⟩ => by show 0 = if (1 : Nat) = 1 then 0 else (i 4).val; rw [if_pos rfl])

-- %8 = stablehlo.multiply %5, %7 : tensor<8x2x4x4096x4096xf32>
def val_main_v8 (x1 : (⟨S8x8x4096, .f32⟩ : BufTy).Contents (Elt F)) (r0 : (⟨S8x4096x1024, .bf16⟩ : BufTy).Contents (Elt F)) (r1 : (⟨S8x4096x256, .bf16⟩ : BufTy).Contents (Elt F)) : (⟨S8x2x4x4096x4096, .f32⟩ : BufTy).Contents (Elt F) :=
  mulf (val_main_v5 (F := F) r0 r1) (val_main_v7 (F := F) x1)
theorem val_main_v8_apply (x1 : (⟨S8x8x4096, .f32⟩ : BufTy).Contents (Elt F)) (r0 : (⟨S8x4096x1024, .bf16⟩ : BufTy).Contents (Elt F)) (r1 : (⟨S8x4096x256, .bf16⟩ : BufTy).Contents (Elt F)) (i : S8x2x4x4096x4096.Idx) :
    val_main_v8 (F := F) x1 r0 r1 i = FloatOps.mulf (val_main_v5 (F := F) r0 r1 i) (val_main_v7 (F := F) x1 i) := rfl

-- %9 = stablehlo.broadcast_in_dim %arg3, dims = [0, 1, 4] : (tensor<8x2x4096xf32>) -> tensor<8x2x1x1x4096xf32>
def val_main_v9 (x3 : (⟨S8x2x4096, .f32⟩ : BufTy).Contents (Elt F)) : (⟨S8x2x1x1x4096, .f32⟩ : BufTy).Contents (Elt F) :=
  broadcastInDim S8x2x1x1x4096 ![0, 1, 4] bcast_S8x2x4096_S8x2x1x1x4096_0_1_4 (x3)
abbrev idx_main_v9 (i : S8x2x1x1x4096.Idx) : S8x2x4096.Idx := fun a => match a with
  | ⟨0, _⟩ => ⟨(i 0).val, (i 0).isLt⟩
  | ⟨1, _⟩ => ⟨(i 1).val, (i 1).isLt⟩
  | ⟨2, _⟩ => ⟨(i 4).val, (i 4).isLt⟩
theorem val_main_v9_apply (x3 : (⟨S8x2x4096, .f32⟩ : BufTy).Contents (Elt F)) (i : S8x2x1x1x4096.Idx) :
    val_main_v9 (F := F) x3 i = x3 (idx_main_v9 i) := by
  unfold val_main_v9
  exact broadcastInDim_apply _ bcast_S8x2x4096_S8x2x1x1x4096_0_1_4 x3 i (idx_main_v9 i) (fun a => match a with
    | ⟨0, _⟩ => by show (i 0).val = if (8 : Nat) = 1 then 0 else (i 0).val; rw [if_neg (by decide)]
    | ⟨1, _⟩ => by show (i 1).val = if (2 : Nat) = 1 then 0 else (i 1).val; rw [if_neg (by decide)]
    | ⟨2, _⟩ => by show (i 4).val = if (4096 : Nat) = 1 then 0 else (i 4).val; rw [if_neg (by decide)])

-- %10 = stablehlo.broadcast_in_dim %9, dims = [0, 1, 2, 3, 4] : (tensor<8x2x1x1x4096xf32>) -> tensor<8x2x4x4096x4096xf32>
def val_main_v10 (x3 : (⟨S8x2x4096, .f32⟩ : BufTy).Contents (Elt F)) : (⟨S8x2x4x4096x4096, .f32⟩ : BufTy).Contents (Elt F) :=
  broadcastInDim S8x2x4x4096x4096 ![0, 1, 2, 3, 4] bcast_S8x2x1x1x4096_S8x2x4x4096x4096_0_1_2_3_4 (val_main_v9 (F := F) x3)
abbrev idx_main_v10 (i : S8x2x4x4096x4096.Idx) : S8x2x1x1x4096.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨0, Nat.one_pos⟩
  | ⟨4, _⟩ => ⟨(i 4).val, (i 4).isLt⟩
theorem val_main_v10_apply (x3 : (⟨S8x2x4096, .f32⟩ : BufTy).Contents (Elt F)) (i : S8x2x4x4096x4096.Idx) :
    val_main_v10 (F := F) x3 i = val_main_v9 (F := F) x3 (idx_main_v10 i) := by
  unfold val_main_v10
  generalize val_main_v9 (F := F) x3 = y
  exact broadcastInDim_apply _ bcast_S8x2x1x1x4096_S8x2x4x4096x4096_0_1_2_3_4 y i (idx_main_v10 i) (fun a => match a with
    | ⟨0, _⟩ => by show (i 0).val = if (8 : Nat) = 1 then 0 else (i 0).val; rw [if_neg (by decide)]
    | ⟨1, _⟩ => by show (i 1).val = if (2 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (4096 : Nat) = 1 then 0 else (i 4).val; rw [if_neg (by decide)])

-- %11 = stablehlo.multiply %8, %10 : tensor<8x2x4x4096x4096xf32>
def val_main_v11 (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) : (⟨S8x2x4x4096x4096, .f32⟩ : BufTy).Contents (Elt F) :=
  mulf (val_main_v8 (F := F) x1 r0 r1) (val_main_v10 (F := F) x3)
theorem val_main_v11_apply (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) (i : S8x2x4x4096x4096.Idx) :
    val_main_v11 (F := F) x1 x3 r0 r1 i = FloatOps.mulf (val_main_v8 (F := F) x1 r0 r1 i) (val_main_v10 (F := F) x3 i) := rfl

-- %12 = stablehlo.iota dim = 0 : tensor<4096x4096xi32>
def val_main_v12 : (⟨S4096x4096, .i32⟩ : BufTy).Contents (Elt F) :=
  iotaInDim S4096x4096 32 0
theorem val_main_v12_apply (i : S4096x4096.Idx) :
    val_main_v12 (F := F) i = BitVec.ofNat 32 (i 0).val := rfl

-- %13 = stablehlo.iota dim = 1 : tensor<4096x4096xi32>
def val_main_v13 : (⟨S4096x4096, .i32⟩ : BufTy).Contents (Elt F) :=
  iotaInDim S4096x4096 32 1
theorem val_main_v13_apply (i : S4096x4096.Idx) :
    val_main_v13 (F := F) i = BitVec.ofNat 32 (i 1).val := rfl

-- %14 = stablehlo.compare LE, %13, %12, SIGNED : (tensor<4096x4096xi32>, tensor<4096x4096xi32>) -> tensor<4096x4096xi1>
def val_main_v14 : (⟨S4096x4096, .i1⟩ : BufTy).Contents (Elt F) :=
  cmpi .sle (val_main_v13 (F := F)) (val_main_v12 (F := F))
theorem val_main_v14_apply (i : S4096x4096.Idx) :
    val_main_v14 (F := F) i = IntOp.cmpi .sle (val_main_v13 (F := F) i) (val_main_v12 (F := F) i) := rfl

-- %cst = stablehlo.constant dense<0xFF800000> : tensor<f32>
def val_main_cst : (⟨S_, .f32⟩ : BufTy).Contents (Elt F) :=
  constant S_ .f32 0xFF800000#32
theorem val_main_cst_apply (i : S_.Idx) :
    val_main_cst (F := F) i = FloatOps.ofBits .f32 0xFF800000#32 := rfl

-- @_where's %0 = stablehlo.convert %arg2 : tensor<f32>, in %15 = func.call @_where(…) (record main_call0)
def val_main_call0_v0 : (⟨S_, .f32⟩ : BufTy).Contents (Elt F) :=
  id (val_main_cst (F := F))
theorem val_main_call0_v0_apply (i : S_.Idx) :
    val_main_call0_v0 (F := F) i = (val_main_cst (F := F) i) := rfl

-- @_where's %1 = stablehlo.broadcast_in_dim %arg0, dims = [3, 4] : (tensor<4096x4096xi1>) -> tensor<8x2x4x4096x4096xi1>, in %15 = func.call @_where(…) (record main_call0)
def val_main_call0_v1 : (⟨S8x2x4x4096x4096, .i1⟩ : BufTy).Contents (Elt F) :=
  broadcastInDim S8x2x4x4096x4096 ![3, 4] bcast_S4096x4096_S8x2x4x4096x4096_3_4 (val_main_v14 (F := F))
abbrev idx_main_call0_v1 (i : S8x2x4x4096x4096.Idx) : S4096x4096.Idx := fun a => match a with
  | ⟨0, _⟩ => ⟨(i 3).val, (i 3).isLt⟩
  | ⟨1, _⟩ => ⟨(i 4).val, (i 4).isLt⟩
theorem val_main_call0_v1_apply (i : S8x2x4x4096x4096.Idx) :
    val_main_call0_v1 (F := F) i = val_main_v14 (F := F) (idx_main_call0_v1 i) := by
  unfold val_main_call0_v1
  generalize val_main_v14 (F := F) = y
  exact broadcastInDim_apply _ bcast_S4096x4096_S8x2x4x4096x4096_3_4 y i (idx_main_call0_v1 i) (fun a => match a with
    | ⟨0, _⟩ => by show (i 3).val = if (4096 : Nat) = 1 then 0 else (i 3).val; rw [if_neg (by decide)]
    | ⟨1, _⟩ => by show (i 4).val = if (4096 : Nat) = 1 then 0 else (i 4).val; rw [if_neg (by decide)])

-- @_where's %2 = stablehlo.broadcast_in_dim %0, dims = [] : (tensor<f32>) -> tensor<8x2x4x4096x4096xf32>, in %15 = func.call @_where(…) (record main_call0)
def val_main_call0_v2 : (⟨S8x2x4x4096x4096, .f32⟩ : BufTy).Contents (Elt F) :=
  broadcastInDim S8x2x4x4096x4096 ![] bcast_S_S8x2x4x4096x4096 (val_main_call0_v0 (F := F))
abbrev idx_main_call0_v2 (i : S8x2x4x4096x4096.Idx) : S_.Idx := fun a => a.elim0
theorem val_main_call0_v2_apply (i : S8x2x4x4096x4096.Idx) :
    val_main_call0_v2 (F := F) i = val_main_call0_v0 (F := F) (idx_main_call0_v2 i) := by
  unfold val_main_call0_v2
  generalize val_main_call0_v0 (F := F) = y
  exact broadcastInDim_apply _ bcast_S_S8x2x4x4096x4096 y i (idx_main_call0_v2 i) (fun a => a.elim0)

-- %15 = func.call @_where(…) (record main_call0) result 0: @_where's %3 = stablehlo.select %1, %arg1, %2 : tensor<8x2x4x4096x4096xi1>, tensor<8x2x4x4096x4096xf32>
def val_main_v15 (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) : (⟨S8x2x4x4096x4096, .f32⟩ : BufTy).Contents (Elt F) :=
  select (val_main_call0_v1 (F := F)) (val_main_v11 (F := F) x1 x3 r0 r1) (val_main_call0_v2 (F := F))
theorem val_main_v15_apply (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) (i : S8x2x4x4096x4096.Idx) :
    val_main_v15 (F := F) x1 x3 r0 r1 i = Scalar.select (val_main_call0_v1 (F := F) i) (val_main_v11 (F := F) x1 x3 r0 r1 i) (val_main_call0_v2 (F := F) i) := rfl

-- %cst_0 = stablehlo.constant dense<0xFF800000> : tensor<f32>
def val_main_cst_0 : (⟨S_, .f32⟩ : BufTy).Contents (Elt F) :=
  constant S_ .f32 0xFF800000#32
theorem val_main_cst_0_apply (i : S_.Idx) :
    val_main_cst_0 (F := F) i = FloatOps.ofBits .f32 0xFF800000#32 := rfl

-- %16 = stablehlo.reduce(%15 init: %cst_0) applies stablehlo.maximum across dimensions = [4] : (tensor<8x2x4x4096x4096xf32>, tensor<f32>) -> tensor<8x2x4x4096xf32> {
def val_main_v16 (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) : (⟨S8x2x4x4096, .f32⟩ : BufTy).Contents (Elt F) :=
  Host.reduce FloatOps.maximumf (val_main_v15 (F := F) x1 x3 r0 r1) (val_main_cst_0 (F := F)) reducesTo_S8x2x4x4096x4096_S8x2x4x4096_d4 h_S_

-- %17 = stablehlo.broadcast_in_dim %16, dims = [0, 1, 2, 3] : (tensor<8x2x4x4096xf32>) -> tensor<8x2x4x4096x1xf32>
def val_main_v17 (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) : (⟨S8x2x4x4096x1, .f32⟩ : BufTy).Contents (Elt F) :=
  broadcastInDim S8x2x4x4096x1 ![0, 1, 2, 3] bcast_S8x2x4x4096_S8x2x4x4096x1_0_1_2_3 (val_main_v16 (F := F) x1 x3 r0 r1)
abbrev idx_main_v17 (i : S8x2x4x4096x1.Idx) : S8x2x4x4096.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v17_apply (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) (i : S8x2x4x4096x1.Idx) :
    val_main_v17 (F := F) x1 x3 r0 r1 i = val_main_v16 (F := F) x1 x3 r0 r1 (idx_main_v17 i) := by
  unfold val_main_v17
  generalize val_main_v16 (F := F) x1 x3 r0 r1 = y
  exact broadcastInDim_apply _ bcast_S8x2x4x4096_S8x2x4x4096x1_0_1_2_3 y i (idx_main_v17 i) (fun a => match a with
    | ⟨0, _⟩ => by show (i 0).val = if (8 : Nat) = 1 then 0 else (i 0).val; rw [if_neg (by decide)]
    | ⟨1, _⟩ => by show (i 1).val = if (2 : Nat) = 1 then 0 else (i 1).val; rw [if_neg (by decide)]
    | ⟨2, _⟩ => by show (i 2).val = if (4 : Nat) = 1 then 0 else (i 2).val; rw [if_neg (by decide)]
    | ⟨3, _⟩ => by show (i 3).val = if (4096 : Nat) = 1 then 0 else (i 3).val; rw [if_neg (by decide)])

-- %18 = stablehlo.broadcast_in_dim %17, dims = [0, 1, 2, 3, 4] : (tensor<8x2x4x4096x1xf32>) -> tensor<8x2x4x4096x4096xf32>
def val_main_v18 (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) : (⟨S8x2x4x4096x4096, .f32⟩ : BufTy).Contents (Elt F) :=
  broadcastInDim S8x2x4x4096x4096 ![0, 1, 2, 3, 4] bcast_S8x2x4x4096x1_S8x2x4x4096x4096_0_1_2_3_4 (val_main_v17 (F := F) x1 x3 r0 r1)
abbrev idx_main_v18 (i : S8x2x4x4096x4096.Idx) : S8x2x4x4096x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v18_apply (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) (i : S8x2x4x4096x4096.Idx) :
    val_main_v18 (F := F) x1 x3 r0 r1 i = val_main_v17 (F := F) x1 x3 r0 r1 (idx_main_v18 i) := by
  unfold val_main_v18
  generalize val_main_v17 (F := F) x1 x3 r0 r1 = y
  exact broadcastInDim_apply _ bcast_S8x2x4x4096x1_S8x2x4x4096x4096_0_1_2_3_4 y i (idx_main_v18 i) (fun a => match a with
    | ⟨0, _⟩ => by show (i 0).val = if (8 : Nat) = 1 then 0 else (i 0).val; rw [if_neg (by decide)]
    | ⟨1, _⟩ => by show (i 1).val = if (2 : Nat) = 1 then 0 else (i 1).val; rw [if_neg (by decide)]
    | ⟨2, _⟩ => by show (i 2).val = if (4 : Nat) = 1 then 0 else (i 2).val; rw [if_neg (by decide)]
    | ⟨3, _⟩ => by show (i 3).val = if (4096 : Nat) = 1 then 0 else (i 3).val; rw [if_neg (by decide)]
    | ⟨4, _⟩ => by show 0 = if (1 : Nat) = 1 then 0 else (i 4).val; rw [if_pos rfl])

-- %19 = stablehlo.subtract %15, %18 : tensor<8x2x4x4096x4096xf32>
def val_main_v19 (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) : (⟨S8x2x4x4096x4096, .f32⟩ : BufTy).Contents (Elt F) :=
  subf (val_main_v15 (F := F) x1 x3 r0 r1) (val_main_v18 (F := F) x1 x3 r0 r1)
theorem val_main_v19_apply (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) (i : S8x2x4x4096x4096.Idx) :
    val_main_v19 (F := F) x1 x3 r0 r1 i = FloatOps.subf (val_main_v15 (F := F) x1 x3 r0 r1 i) (val_main_v18 (F := F) x1 x3 r0 r1 i) := rfl

-- %20 = stablehlo.exponential %19 : tensor<8x2x4x4096x4096xf32>
def val_main_v20 (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) : (⟨S8x2x4x4096x4096, .f32⟩ : BufTy).Contents (Elt F) :=
  Host.exp (val_main_v19 (F := F) x1 x3 r0 r1)
theorem val_main_v20_apply (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) (i : S8x2x4x4096x4096.Idx) :
    val_main_v20 (F := F) x1 x3 r0 r1 i = FloatOps.hostUnary .exp (val_main_v19 (F := F) x1 x3 r0 r1 i) := rfl

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %21 = stablehlo.reduce(%20 init: %cst_1) applies stablehlo.add across dimensions = [4] : (tensor<8x2x4x4096x4096xf32>, tensor<f32>) -> tensor<8x2x4x4096xf32> {
def val_main_v21 (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) : (⟨S8x2x4x4096, .f32⟩ : BufTy).Contents (Elt F) :=
  Host.reduceAdd (val_main_v20 (F := F) x1 x3 r0 r1) (val_main_cst_1 (F := F)) reducesTo_S8x2x4x4096x4096_S8x2x4x4096_d4 h_S_
abbrev idx_main_v21 (i : S8x2x4x4096.Idx) (k : Fin 4096) : S8x2x4x4096x4096.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
/-- Stated at `F := Ideal`, where the host's float sum is this sum; at a bit-exact instance it is an opaque function of its operand. -/
theorem val_main_v21_apply (x1 : (⟨S8x8x4096, .f32⟩ : BufTy).Contents (Elt Ideal)) (x3 : (⟨S8x2x4096, .f32⟩ : BufTy).Contents (Elt Ideal)) (r0 : (⟨S8x4096x1024, .bf16⟩ : BufTy).Contents (Elt Ideal)) (r1 : (⟨S8x4096x256, .bf16⟩ : BufTy).Contents (Elt Ideal)) (i : S8x2x4x4096.Idx) :
    val_main_v21 (F := Ideal) x1 x3 r0 r1 i = (val_main_cst_1 (F := Ideal)) (Shape.Idx.first h_S_) + ∑ k : Fin 4096, (val_main_v20 (F := Ideal) x1 x3 r0 r1) (idx_main_v21 i k) := by
  unfold val_main_v21
  generalize val_main_v20 (F := Ideal) x1 x3 r0 r1 = y0
  simp only [Host.reduceAdd, Ideal.hostReduceAdd_def]
  rw [Ideal.hostReduceAdd_single reducesTo_S8x2x4x4096x4096_S8x2x4x4096_d4 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl | ⟨4, _⟩ => rfl))

-- %cst_2 = stablehlo.constant dense<2.560000e+02> : tensor<f32>
def val_main_cst_2 : (⟨S_, .f32⟩ : BufTy).Contents (Elt F) :=
  constant S_ .f32 0x43800000#32
theorem val_main_cst_2_apply (i : S_.Idx) :
    val_main_cst_2 (F := F) i = FloatOps.ofBits .f32 0x43800000#32 := rfl

-- %22 = stablehlo.broadcast_in_dim %cst_2, dims = [] : (tensor<f32>) -> tensor<8x2x4x4096x4096xf32>
def val_main_v22 : (⟨S8x2x4x4096x4096, .f32⟩ : BufTy).Contents (Elt F) :=
  broadcastInDim S8x2x4x4096x4096 ![] bcast_S_S8x2x4x4096x4096 (val_main_cst_2 (F := F))
abbrev idx_main_v22 (i : S8x2x4x4096x4096.Idx) : S_.Idx := fun a => a.elim0
theorem val_main_v22_apply (i : S8x2x4x4096x4096.Idx) :
    val_main_v22 (F := F) i = val_main_cst_2 (F := F) (idx_main_v22 i) := by
  unfold val_main_v22
  generalize val_main_cst_2 (F := F) = y
  exact broadcastInDim_apply _ bcast_S_S8x2x4x4096x4096 y i (idx_main_v22 i) (fun a => a.elim0)

-- %23 = stablehlo.multiply %20, %22 : tensor<8x2x4x4096x4096xf32>
def val_main_v23 (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) : (⟨S8x2x4x4096x4096, .f32⟩ : BufTy).Contents (Elt F) :=
  mulf (val_main_v20 (F := F) x1 x3 r0 r1) (val_main_v22 (F := F))
theorem val_main_v23_apply (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) (i : S8x2x4x4096x4096.Idx) :
    val_main_v23 (F := F) x1 x3 r0 r1 i = FloatOps.mulf (val_main_v20 (F := F) x1 x3 r0 r1 i) (val_main_v22 (F := F) i) := rfl

-- %cst_3 = stablehlo.constant dense<4.480000e+02> : tensor<f32>
def val_main_cst_3 : (⟨S_, .f32⟩ : BufTy).Contents (Elt F) :=
  constant S_ .f32 0x43E00000#32
theorem val_main_cst_3_apply (i : S_.Idx) :
    val_main_cst_3 (F := F) i = FloatOps.ofBits .f32 0x43E00000#32 := rfl

-- %24 = stablehlo.broadcast_in_dim %cst_3, dims = [] : (tensor<f32>) -> tensor<8x2x4x4096x4096xf32>
def val_main_v24 : (⟨S8x2x4x4096x4096, .f32⟩ : BufTy).Contents (Elt F) :=
  broadcastInDim S8x2x4x4096x4096 ![] bcast_S_S8x2x4x4096x4096 (val_main_cst_3 (F := F))
abbrev idx_main_v24 (i : S8x2x4x4096x4096.Idx) : S_.Idx := fun a => a.elim0
theorem val_main_v24_apply (i : S8x2x4x4096x4096.Idx) :
    val_main_v24 (F := F) i = val_main_cst_3 (F := F) (idx_main_v24 i) := by
  unfold val_main_v24
  generalize val_main_cst_3 (F := F) = y
  exact broadcastInDim_apply _ bcast_S_S8x2x4x4096x4096 y i (idx_main_v24 i) (fun a => a.elim0)

-- %25 = stablehlo.minimum %23, %24 : tensor<8x2x4x4096x4096xf32>
def val_main_v25 (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) : (⟨S8x2x4x4096x4096, .f32⟩ : BufTy).Contents (Elt F) :=
  minimumf (val_main_v23 (F := F) x1 x3 r0 r1) (val_main_v24 (F := F))
theorem val_main_v25_apply (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) (i : S8x2x4x4096x4096.Idx) :
    val_main_v25 (F := F) x1 x3 r0 r1 i = FloatOps.minimumf (val_main_v23 (F := F) x1 x3 r0 r1 i) (val_main_v24 (F := F) i) := rfl

-- %26 = stablehlo.dot_general %25, %0#2, batching_dims = [0, 1] x [0, 1], contracting_dims = [4] x [3], precision = [DEFAULT, DEFAULT] : (tensor<8x2x4x4096x4096xf32>, tensor<8x2x128x4096xf32>) -> tensor<8x2x4x4096x128xf32>
def val_main_v26 (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) (r2 : (⟨S8x2x128x4096, .f32⟩ : BufTy).Contents (Elt F)) : (⟨S8x2x4x4096x128, .f32⟩ : BufTy).Contents (Elt F) :=
  Host.dotGeneral dot_S8x2x4x4096x4096_S8x2x128x4096_S8x2x4x4096x128_4_3_23_2_01_01 none (val_main_v25 (F := F) x1 x3 r0 r1) (r2)
theorem lhs_main_v26_0 (i : S8x2x4x4096x128.Idx) (q : dot_S8x2x4x4096x4096_S8x2x128x4096_S8x2x4x4096x128_4_3_23_2_01_01.contr.Idx) :
    (dot_S8x2x4x4096x4096_S8x2x128x4096_S8x2x4x4096x128_4_3_23_2_01_01.lhsIdx i q 0).val = (i 0).val := by
  unfold DotDims.lhsIdx
  rw [dif_pos (show (0 : Fin S8x2x4x4096x4096.rank) ∈ dot_S8x2x4x4096x4096_S8x2x128x4096_S8x2x4x4096x128_4_3_23_2_01_01.lhsBatch by decide)]
  rfl
theorem lhs_main_v26_1 (i : S8x2x4x4096x128.Idx) (q : dot_S8x2x4x4096x4096_S8x2x128x4096_S8x2x4x4096x128_4_3_23_2_01_01.contr.Idx) :
    (dot_S8x2x4x4096x4096_S8x2x128x4096_S8x2x4x4096x128_4_3_23_2_01_01.lhsIdx i q 1).val = (i 1).val := by
  unfold DotDims.lhsIdx
  rw [dif_pos (show (1 : Fin S8x2x4x4096x4096.rank) ∈ dot_S8x2x4x4096x4096_S8x2x128x4096_S8x2x4x4096x128_4_3_23_2_01_01.lhsBatch by decide)]
  rfl
theorem lhs_main_v26_2 (i : S8x2x4x4096x128.Idx) (q : dot_S8x2x4x4096x4096_S8x2x128x4096_S8x2x4x4096x128_4_3_23_2_01_01.contr.Idx) :
    (dot_S8x2x4x4096x4096_S8x2x128x4096_S8x2x4x4096x128_4_3_23_2_01_01.lhsIdx i q 2).val = (i 2).val := by
  unfold DotDims.lhsIdx
  rw [dif_neg (show ¬(2 : Fin S8x2x4x4096x4096.rank) ∈ dot_S8x2x4x4096x4096_S8x2x128x4096_S8x2x4x4096x128_4_3_23_2_01_01.lhsBatch by decide), dif_pos (show (2 : Fin S8x2x4x4096x4096.rank) ∈ dot_S8x2x4x4096x4096_S8x2x128x4096_S8x2x4x4096x128_4_3_23_2_01_01.lhsNonContracting by decide)]
  rfl
theorem lhs_main_v26_3 (i : S8x2x4x4096x128.Idx) (q : dot_S8x2x4x4096x4096_S8x2x128x4096_S8x2x4x4096x128_4_3_23_2_01_01.contr.Idx) :
    (dot_S8x2x4x4096x4096_S8x2x128x4096_S8x2x4x4096x128_4_3_23_2_01_01.lhsIdx i q 3).val = (i 3).val := by
  unfold DotDims.lhsIdx
  rw [dif_neg (show ¬(3 : Fin S8x2x4x4096x4096.rank) ∈ dot_S8x2x4x4096x4096_S8x2x128x4096_S8x2x4x4096x128_4_3_23_2_01_01.lhsBatch by decide), dif_pos (show (3 : Fin S8x2x4x4096x4096.rank) ∈ dot_S8x2x4x4096x4096_S8x2x128x4096_S8x2x4x4096x128_4_3_23_2_01_01.lhsNonContracting by decide)]
  rfl
theorem lhs_main_v26_4 (i : S8x2x4x4096x128.Idx) (q : dot_S8x2x4x4096x4096_S8x2x128x4096_S8x2x4x4096x128_4_3_23_2_01_01.contr.Idx) :
    (dot_S8x2x4x4096x4096_S8x2x128x4096_S8x2x4x4096x128_4_3_23_2_01_01.lhsIdx i q 4).val = (q ⟨0, by decide⟩).val :=
  dot_S8x2x4x4096x4096_S8x2x128x4096_S8x2x4x4096x128_4_3_23_2_01_01.lhsIdx_val_of_single rfl i q
theorem rhs_main_v26_0 (i : S8x2x4x4096x128.Idx) (q : dot_S8x2x4x4096x4096_S8x2x128x4096_S8x2x4x4096x128_4_3_23_2_01_01.contr.Idx) :
    (dot_S8x2x4x4096x4096_S8x2x128x4096_S8x2x4x4096x128_4_3_23_2_01_01.rhsIdx i q 0).val = (i 0).val := by
  unfold DotDims.rhsIdx
  rw [dif_pos (show (0 : Fin S8x2x128x4096.rank) ∈ dot_S8x2x4x4096x4096_S8x2x128x4096_S8x2x4x4096x128_4_3_23_2_01_01.rhsBatch by decide)]
  rfl
theorem rhs_main_v26_1 (i : S8x2x4x4096x128.Idx) (q : dot_S8x2x4x4096x4096_S8x2x128x4096_S8x2x4x4096x128_4_3_23_2_01_01.contr.Idx) :
    (dot_S8x2x4x4096x4096_S8x2x128x4096_S8x2x4x4096x128_4_3_23_2_01_01.rhsIdx i q 1).val = (i 1).val := by
  unfold DotDims.rhsIdx
  rw [dif_pos (show (1 : Fin S8x2x128x4096.rank) ∈ dot_S8x2x4x4096x4096_S8x2x128x4096_S8x2x4x4096x128_4_3_23_2_01_01.rhsBatch by decide)]
  rfl
theorem rhs_main_v26_2 (i : S8x2x4x4096x128.Idx) (q : dot_S8x2x4x4096x4096_S8x2x128x4096_S8x2x4x4096x128_4_3_23_2_01_01.contr.Idx) :
    (dot_S8x2x4x4096x4096_S8x2x128x4096_S8x2x4x4096x128_4_3_23_2_01_01.rhsIdx i q 2).val = (i 4).val := by
  unfold DotDims.rhsIdx
  rw [dif_neg (show ¬(2 : Fin S8x2x128x4096.rank) ∈ dot_S8x2x4x4096x4096_S8x2x128x4096_S8x2x4x4096x128_4_3_23_2_01_01.rhsBatch by decide), dif_pos (show (2 : Fin S8x2x128x4096.rank) ∈ dot_S8x2x4x4096x4096_S8x2x128x4096_S8x2x4x4096x128_4_3_23_2_01_01.rhsNonContracting by decide)]
  rfl
theorem rhs_main_v26_3 (i : S8x2x4x4096x128.Idx) (q : dot_S8x2x4x4096x4096_S8x2x128x4096_S8x2x4x4096x128_4_3_23_2_01_01.contr.Idx) :
    (dot_S8x2x4x4096x4096_S8x2x128x4096_S8x2x4x4096x128_4_3_23_2_01_01.rhsIdx i q 3).val = (q ⟨0, by decide⟩).val :=
  dot_S8x2x4x4096x4096_S8x2x128x4096_S8x2x4x4096x128_4_3_23_2_01_01.rhsIdx_val_of_single rfl i q
abbrev lidx_main_v26 (i : S8x2x4x4096x128.Idx) (k : Fin 4096) : S8x2x4x4096x4096.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
abbrev ridx_main_v26 (i : S8x2x4x4096x128.Idx) (k : Fin 4096) : S8x2x128x4096.Idx := fun a => match a with
  | ⟨0, _⟩ => ⟨(i 0).val, (i 0).isLt⟩
  | ⟨1, _⟩ => ⟨(i 1).val, (i 1).isLt⟩
  | ⟨2, _⟩ => ⟨(i 4).val, (i 4).isLt⟩
  | ⟨3, _⟩ => ⟨k.val, k.isLt⟩
/-- Stated at `F := Ideal`, where the host's `dot_general` is this sum; at a bit-exact instance it is an opaque function of its operands. -/
theorem val_main_v26_apply (x1 : (⟨S8x8x4096, .f32⟩ : BufTy).Contents (Elt Ideal)) (x3 : (⟨S8x2x4096, .f32⟩ : BufTy).Contents (Elt Ideal)) (r0 : (⟨S8x4096x1024, .bf16⟩ : BufTy).Contents (Elt Ideal)) (r1 : (⟨S8x4096x256, .bf16⟩ : BufTy).Contents (Elt Ideal)) (r2 : (⟨S8x2x128x4096, .f32⟩ : BufTy).Contents (Elt Ideal)) (i : S8x2x4x4096x128.Idx) :
    val_main_v26 (F := Ideal) x1 x3 r0 r1 r2 i = ∑ k : Fin 4096, (val_main_v25 (F := Ideal) x1 x3 r0 r1) (lidx_main_v26 i k) * r2 (ridx_main_v26 i k) := by
  unfold val_main_v26
  generalize val_main_v25 (F := Ideal) x1 x3 r0 r1 = y0
  simp only [Host.dotGeneral]
  rw [Ideal.dotGeneral_apply, ← Equiv.sum_comp (ValueIdx.contrEquiv1 dot_S8x2x4x4096x4096_S8x2x128x4096_S8x2x4x4096x128_4_3_23_2_01_01 4096 rfl rfl).symm]
  refine Finset.sum_congr rfl fun k _ => ?_
  have hk := ValueIdx.contrEquiv1_symm_val dot_S8x2x4x4096x4096_S8x2x128x4096_S8x2x4x4096x128_4_3_23_2_01_01 4096 rfl rfl k
  have el : dot_S8x2x4x4096x4096_S8x2x128x4096_S8x2x4x4096x128_4_3_23_2_01_01.lhsIdx i ((ValueIdx.contrEquiv1 dot_S8x2x4x4096x4096_S8x2x128x4096_S8x2x4x4096x128_4_3_23_2_01_01 4096 rfl rfl).symm k) = lidx_main_v26 i k := funext fun a => Fin.ext (by
    match a with
    | ⟨0, _⟩ => exact lhs_main_v26_0 _ _
    | ⟨1, _⟩ => exact lhs_main_v26_1 _ _
    | ⟨2, _⟩ => exact lhs_main_v26_2 _ _
    | ⟨3, _⟩ => exact lhs_main_v26_3 _ _
    | ⟨4, _⟩ => exact (lhs_main_v26_4 _ _).trans hk)
  have er : dot_S8x2x4x4096x4096_S8x2x128x4096_S8x2x4x4096x128_4_3_23_2_01_01.rhsIdx i ((ValueIdx.contrEquiv1 dot_S8x2x4x4096x4096_S8x2x128x4096_S8x2x4x4096x128_4_3_23_2_01_01 4096 rfl rfl).symm k) = ridx_main_v26 i k := funext fun a => Fin.ext (by
    match a with
    | ⟨0, _⟩ => exact rhs_main_v26_0 _ _
    | ⟨1, _⟩ => exact rhs_main_v26_1 _ _
    | ⟨2, _⟩ => exact rhs_main_v26_2 _ _
    | ⟨3, _⟩ => exact (rhs_main_v26_3 _ _).trans hk)
  rw [el, er]

-- %cst_4 = stablehlo.constant dense<3.906250e-03> : tensor<f32>
def val_main_cst_4 : (⟨S_, .f32⟩ : BufTy).Contents (Elt F) :=
  constant S_ .f32 0x3B800000#32
theorem val_main_cst_4_apply (i : S_.Idx) :
    val_main_cst_4 (F := F) i = FloatOps.ofBits .f32 0x3B800000#32 := rfl

-- %27 = stablehlo.broadcast_in_dim %cst_4, dims = [] : (tensor<f32>) -> tensor<8x2x4x4096x128xf32>
def val_main_v27 : (⟨S8x2x4x4096x128, .f32⟩ : BufTy).Contents (Elt F) :=
  broadcastInDim S8x2x4x4096x128 ![] bcast_S_S8x2x4x4096x128 (val_main_cst_4 (F := F))
abbrev idx_main_v27 (i : S8x2x4x4096x128.Idx) : S_.Idx := fun a => a.elim0
theorem val_main_v27_apply (i : S8x2x4x4096x128.Idx) :
    val_main_v27 (F := F) i = val_main_cst_4 (F := F) (idx_main_v27 i) := by
  unfold val_main_v27
  generalize val_main_cst_4 (F := F) = y
  exact broadcastInDim_apply _ bcast_S_S8x2x4x4096x128 y i (idx_main_v27 i) (fun a => a.elim0)

-- %28 = stablehlo.multiply %26, %27 : tensor<8x2x4x4096x128xf32>
def val_main_v28 (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) (r2 : (⟨S8x2x128x4096, .f32⟩ : BufTy).Contents (Elt F)) : (⟨S8x2x4x4096x128, .f32⟩ : BufTy).Contents (Elt F) :=
  mulf (val_main_v26 (F := F) x1 x3 r0 r1 r2) (val_main_v27 (F := F))
theorem val_main_v28_apply (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) (r2 : (⟨S8x2x128x4096, .f32⟩ : BufTy).Contents (Elt F)) (i : S8x2x4x4096x128.Idx) :
    val_main_v28 (F := F) x1 x3 r0 r1 r2 i = FloatOps.mulf (val_main_v26 (F := F) x1 x3 r0 r1 r2 i) (val_main_v27 (F := F) i) := rfl

-- %29 = stablehlo.broadcast_in_dim %arg5, dims = [0, 1, 4] : (tensor<8x2x128xf32>) -> tensor<8x2x1x1x128xf32>
def val_main_v29 (x5 : (⟨S8x2x128, .f32⟩ : BufTy).Contents (Elt F)) : (⟨S8x2x1x1x128, .f32⟩ : BufTy).Contents (Elt F) :=
  broadcastInDim S8x2x1x1x128 ![0, 1, 4] bcast_S8x2x128_S8x2x1x1x128_0_1_4 (x5)
abbrev idx_main_v29 (i : S8x2x1x1x128.Idx) : S8x2x128.Idx := fun a => match a with
  | ⟨0, _⟩ => ⟨(i 0).val, (i 0).isLt⟩
  | ⟨1, _⟩ => ⟨(i 1).val, (i 1).isLt⟩
  | ⟨2, _⟩ => ⟨(i 4).val, (i 4).isLt⟩
theorem val_main_v29_apply (x5 : (⟨S8x2x128, .f32⟩ : BufTy).Contents (Elt F)) (i : S8x2x1x1x128.Idx) :
    val_main_v29 (F := F) x5 i = x5 (idx_main_v29 i) := by
  unfold val_main_v29
  exact broadcastInDim_apply _ bcast_S8x2x128_S8x2x1x1x128_0_1_4 x5 i (idx_main_v29 i) (fun a => match a with
    | ⟨0, _⟩ => by show (i 0).val = if (8 : Nat) = 1 then 0 else (i 0).val; rw [if_neg (by decide)]
    | ⟨1, _⟩ => by show (i 1).val = if (2 : Nat) = 1 then 0 else (i 1).val; rw [if_neg (by decide)]
    | ⟨2, _⟩ => by show (i 4).val = if (128 : Nat) = 1 then 0 else (i 4).val; rw [if_neg (by decide)])

-- %30 = stablehlo.broadcast_in_dim %29, dims = [0, 1, 2, 3, 4] : (tensor<8x2x1x1x128xf32>) -> tensor<8x2x4x4096x128xf32>
def val_main_v30 (x5 : (⟨S8x2x128, .f32⟩ : BufTy).Contents (Elt F)) : (⟨S8x2x4x4096x128, .f32⟩ : BufTy).Contents (Elt F) :=
  broadcastInDim S8x2x4x4096x128 ![0, 1, 2, 3, 4] bcast_S8x2x1x1x128_S8x2x4x4096x128_0_1_2_3_4 (val_main_v29 (F := F) x5)
abbrev idx_main_v30 (i : S8x2x4x4096x128.Idx) : S8x2x1x1x128.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨0, Nat.one_pos⟩
  | ⟨4, _⟩ => ⟨(i 4).val, (i 4).isLt⟩
theorem val_main_v30_apply (x5 : (⟨S8x2x128, .f32⟩ : BufTy).Contents (Elt F)) (i : S8x2x4x4096x128.Idx) :
    val_main_v30 (F := F) x5 i = val_main_v29 (F := F) x5 (idx_main_v30 i) := by
  unfold val_main_v30
  generalize val_main_v29 (F := F) x5 = y
  exact broadcastInDim_apply _ bcast_S8x2x1x1x128_S8x2x4x4096x128_0_1_2_3_4 y i (idx_main_v30 i) (fun a => match a with
    | ⟨0, _⟩ => by show (i 0).val = if (8 : Nat) = 1 then 0 else (i 0).val; rw [if_neg (by decide)]
    | ⟨1, _⟩ => by show (i 1).val = if (2 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (128 : Nat) = 1 then 0 else (i 4).val; rw [if_neg (by decide)])

-- %31 = stablehlo.multiply %28, %30 : tensor<8x2x4x4096x128xf32>
def val_main_v31 (x1 : (⟨S8x8x4096, .f32⟩ : BufTy).Contents (Elt F)) (x3 : (⟨S8x2x4096, .f32⟩ : BufTy).Contents (Elt F)) (x5 : (⟨S8x2x128, .f32⟩ : BufTy).Contents (Elt F)) (r0 : (⟨S8x4096x1024, .bf16⟩ : BufTy).Contents (Elt F)) (r1 : (⟨S8x4096x256, .bf16⟩ : BufTy).Contents (Elt F)) (r2 : (⟨S8x2x128x4096, .f32⟩ : BufTy).Contents (Elt F)) : (⟨S8x2x4x4096x128, .f32⟩ : BufTy).Contents (Elt F) :=
  mulf (val_main_v28 (F := F) x1 x3 r0 r1 r2) (val_main_v30 (F := F) x5)
theorem val_main_v31_apply (x1 : (⟨S8x8x4096, .f32⟩ : BufTy).Contents (Elt F)) (x3 : (⟨S8x2x4096, .f32⟩ : BufTy).Contents (Elt F)) (x5 : (⟨S8x2x128, .f32⟩ : BufTy).Contents (Elt F)) (r0 : (⟨S8x4096x1024, .bf16⟩ : BufTy).Contents (Elt F)) (r1 : (⟨S8x4096x256, .bf16⟩ : BufTy).Contents (Elt F)) (r2 : (⟨S8x2x128x4096, .f32⟩ : BufTy).Contents (Elt F)) (i : S8x2x4x4096x128.Idx) :
    val_main_v31 (F := F) x1 x3 x5 r0 r1 r2 i = FloatOps.mulf (val_main_v28 (F := F) x1 x3 r0 r1 r2 i) (val_main_v30 (F := F) x5 i) := rfl

-- %32 = stablehlo.broadcast_in_dim %21, dims = [0, 1, 2, 3] : (tensor<8x2x4x4096xf32>) -> tensor<8x2x4x4096x1xf32>
def val_main_v32 (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) : (⟨S8x2x4x4096x1, .f32⟩ : BufTy).Contents (Elt F) :=
  broadcastInDim S8x2x4x4096x1 ![0, 1, 2, 3] bcast_S8x2x4x4096_S8x2x4x4096x1_0_1_2_3 (val_main_v21 (F := F) x1 x3 r0 r1)
abbrev idx_main_v32 (i : S8x2x4x4096x1.Idx) : S8x2x4x4096.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v32_apply (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) (i : S8x2x4x4096x1.Idx) :
    val_main_v32 (F := F) x1 x3 r0 r1 i = val_main_v21 (F := F) x1 x3 r0 r1 (idx_main_v32 i) := by
  unfold val_main_v32
  generalize val_main_v21 (F := F) x1 x3 r0 r1 = y
  exact broadcastInDim_apply _ bcast_S8x2x4x4096_S8x2x4x4096x1_0_1_2_3 y i (idx_main_v32 i) (fun a => match a with
    | ⟨0, _⟩ => by show (i 0).val = if (8 : Nat) = 1 then 0 else (i 0).val; rw [if_neg (by decide)]
    | ⟨1, _⟩ => by show (i 1).val = if (2 : Nat) = 1 then 0 else (i 1).val; rw [if_neg (by decide)]
    | ⟨2, _⟩ => by show (i 2).val = if (4 : Nat) = 1 then 0 else (i 2).val; rw [if_neg (by decide)]
    | ⟨3, _⟩ => by show (i 3).val = if (4096 : Nat) = 1 then 0 else (i 3).val; rw [if_neg (by decide)])

-- %33 = stablehlo.broadcast_in_dim %32, dims = [0, 1, 2, 3, 4] : (tensor<8x2x4x4096x1xf32>) -> tensor<8x2x4x4096x128xf32>
def val_main_v33 (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) : (⟨S8x2x4x4096x128, .f32⟩ : BufTy).Contents (Elt F) :=
  broadcastInDim S8x2x4x4096x128 ![0, 1, 2, 3, 4] bcast_S8x2x4x4096x1_S8x2x4x4096x128_0_1_2_3_4 (val_main_v32 (F := F) x1 x3 r0 r1)
abbrev idx_main_v33 (i : S8x2x4x4096x128.Idx) : S8x2x4x4096x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v33_apply (x1 : (⟨S8x8x4096, .f32⟩ : BufTy).Contents (Elt F)) (x3 : (⟨S8x2x4096, .f32⟩ : BufTy).Contents (Elt F)) (r0 : (⟨S8x4096x1024, .bf16⟩ : BufTy).Contents (Elt F)) (r1 : (⟨S8x4096x256, .bf16⟩ : BufTy).Contents (Elt F)) (i : S8x2x4x4096x128.Idx) :
    val_main_v33 (F := F) x1 x3 r0 r1 i = val_main_v32 (F := F) x1 x3 r0 r1 (idx_main_v33 i) := by
  unfold val_main_v33
  generalize val_main_v32 (F := F) x1 x3 r0 r1 = y
  exact broadcastInDim_apply _ bcast_S8x2x4x4096x1_S8x2x4x4096x128_0_1_2_3_4 y i (idx_main_v33 i) (fun a => match a with
    | ⟨0, _⟩ => by show (i 0).val = if (8 : Nat) = 1 then 0 else (i 0).val; rw [if_neg (by decide)]
    | ⟨1, _⟩ => by show (i 1).val = if (2 : Nat) = 1 then 0 else (i 1).val; rw [if_neg (by decide)]
    | ⟨2, _⟩ => by show (i 2).val = if (4 : Nat) = 1 then 0 else (i 2).val; rw [if_neg (by decide)]
    | ⟨3, _⟩ => by show (i 3).val = if (4096 : Nat) = 1 then 0 else (i 3).val; rw [if_neg (by decide)]
    | ⟨4, _⟩ => by show 0 = if (1 : Nat) = 1 then 0 else (i 4).val; rw [if_pos rfl])

-- %34 = stablehlo.divide %31, %33 : tensor<8x2x4x4096x128xf32>
def val_main_v34 (x1 : (⟨S8x8x4096, .f32⟩ : BufTy).Contents (Elt F)) (x3 : (⟨S8x2x4096, .f32⟩ : BufTy).Contents (Elt F)) (x5 : (⟨S8x2x128, .f32⟩ : BufTy).Contents (Elt F)) (r0 : (⟨S8x4096x1024, .bf16⟩ : BufTy).Contents (Elt F)) (r1 : (⟨S8x4096x256, .bf16⟩ : BufTy).Contents (Elt F)) (r2 : (⟨S8x2x128x4096, .f32⟩ : BufTy).Contents (Elt F)) : (⟨S8x2x4x4096x128, .f32⟩ : BufTy).Contents (Elt F) :=
  Host.divf (val_main_v31 (F := F) x1 x3 x5 r0 r1 r2) (val_main_v33 (F := F) x1 x3 r0 r1)
theorem val_main_v34_apply (x1 : (⟨S8x8x4096, .f32⟩ : BufTy).Contents (Elt F)) (x3 : (⟨S8x2x4096, .f32⟩ : BufTy).Contents (Elt F)) (x5 : (⟨S8x2x128, .f32⟩ : BufTy).Contents (Elt F)) (r0 : (⟨S8x4096x1024, .bf16⟩ : BufTy).Contents (Elt F)) (r1 : (⟨S8x4096x256, .bf16⟩ : BufTy).Contents (Elt F)) (r2 : (⟨S8x2x128x4096, .f32⟩ : BufTy).Contents (Elt F)) (i : S8x2x4x4096x128.Idx) :
    val_main_v34 (F := F) x1 x3 x5 r0 r1 r2 i = FloatOps.hostDivf (val_main_v31 (F := F) x1 x3 x5 r0 r1 r2 i) (val_main_v33 (F := F) x1 x3 r0 r1 i) := rfl

-- %35 = stablehlo.convert %34 : (tensor<8x2x4x4096x128xf32>) -> tensor<8x2x4x4096x128xbf16>
def val_main_v35 (x1 : (⟨S8x8x4096, .f32⟩ : BufTy).Contents (Elt F)) (x3 : (⟨S8x2x4096, .f32⟩ : BufTy).Contents (Elt F)) (x5 : (⟨S8x2x128, .f32⟩ : BufTy).Contents (Elt F)) (r0 : (⟨S8x4096x1024, .bf16⟩ : BufTy).Contents (Elt F)) (r1 : (⟨S8x4096x256, .bf16⟩ : BufTy).Contents (Elt F)) (r2 : (⟨S8x2x128x4096, .f32⟩ : BufTy).Contents (Elt F)) : (⟨S8x2x4x4096x128, .bf16⟩ : BufTy).Contents (Elt F) :=
  truncf .bf16 (val_main_v34 (F := F) x1 x3 x5 r0 r1 r2) bitsLt_bf16_f32
theorem val_main_v35_apply (x1 : (⟨S8x8x4096, .f32⟩ : BufTy).Contents (Elt F)) (x3 : (⟨S8x2x4096, .f32⟩ : BufTy).Contents (Elt F)) (x5 : (⟨S8x2x128, .f32⟩ : BufTy).Contents (Elt F)) (r0 : (⟨S8x4096x1024, .bf16⟩ : BufTy).Contents (Elt F)) (r1 : (⟨S8x4096x256, .bf16⟩ : BufTy).Contents (Elt F)) (r2 : (⟨S8x2x128x4096, .f32⟩ : BufTy).Contents (Elt F)) (i : S8x2x4x4096x128.Idx) :
    val_main_v35 (F := F) x1 x3 x5 r0 r1 r2 i = FloatOps.truncf .bf16 bitsLt_bf16_f32 (val_main_v34 (F := F) x1 x3 x5 r0 r1 r2 i) := rfl

-- %36 = stablehlo.transpose %35, dims = [0, 3, 1, 2, 4] : (tensor<8x2x4x4096x128xbf16>) -> tensor<8x4096x2x4x128xbf16>
def val_main_v36 (x1 : (⟨S8x8x4096, .f32⟩ : BufTy).Contents (Elt F)) (x3 : (⟨S8x2x4096, .f32⟩ : BufTy).Contents (Elt F)) (x5 : (⟨S8x2x128, .f32⟩ : BufTy).Contents (Elt F)) (r0 : (⟨S8x4096x1024, .bf16⟩ : BufTy).Contents (Elt F)) (r1 : (⟨S8x4096x256, .bf16⟩ : BufTy).Contents (Elt F)) (r2 : (⟨S8x2x128x4096, .f32⟩ : BufTy).Contents (Elt F)) : (⟨S8x4096x2x4x128, .bf16⟩ : BufTy).Contents (Elt F) :=
  transpose S8x4096x2x4x128 [0, 3, 1, 2, 4] (val_main_v35 (F := F) x1 x3 x5 r0 r1 r2) transposes_S8x2x4x4096x128_S8x4096x2x4x128_0_3_1_2_4
abbrev idx_main_v36 (i : S8x4096x2x4x128.Idx) : S8x2x4x4096x128.Idx := fun a => match a with
  | ⟨0, _⟩ => ⟨(i 0).val, (i 0).isLt⟩
  | ⟨1, _⟩ => ⟨(i 2).val, (i 2).isLt⟩
  | ⟨2, _⟩ => ⟨(i 3).val, (i 3).isLt⟩
  | ⟨3, _⟩ => ⟨(i 1).val, (i 1).isLt⟩
  | ⟨4, _⟩ => ⟨(i 4).val, (i 4).isLt⟩
theorem val_main_v36_apply (x1 : (⟨S8x8x4096, .f32⟩ : BufTy).Contents (Elt F)) (x3 : (⟨S8x2x4096, .f32⟩ : BufTy).Contents (Elt F)) (x5 : (⟨S8x2x128, .f32⟩ : BufTy).Contents (Elt F)) (r0 : (⟨S8x4096x1024, .bf16⟩ : BufTy).Contents (Elt F)) (r1 : (⟨S8x4096x256, .bf16⟩ : BufTy).Contents (Elt F)) (r2 : (⟨S8x2x128x4096, .f32⟩ : BufTy).Contents (Elt F)) (i : S8x4096x2x4x128.Idx) :
    val_main_v36 (F := F) x1 x3 x5 r0 r1 r2 i = val_main_v35 (F := F) x1 x3 x5 r0 r1 r2 (idx_main_v36 i) := by
  unfold val_main_v36
  generalize val_main_v35 (F := F) x1 x3 x5 r0 r1 r2 = y
  exact transpose_apply [0, 3, 1, 2, 4] y transposes_S8x2x4x4096x128_S8x4096x2x4x128_0_3_1_2_4 i (idx_main_v36 i) (fun b => match b with
    | ⟨0, _⟩ => rfl
    | ⟨1, _⟩ => rfl
    | ⟨2, _⟩ => rfl
    | ⟨3, _⟩ => rfl
    | ⟨4, _⟩ => rfl)

-- %37 = stablehlo.reshape %36 : (tensor<8x4096x2x4x128xbf16>) -> tensor<8x4096x1024xbf16>
def val_main_v37 (x1 : (⟨S8x8x4096, .f32⟩ : BufTy).Contents (Elt F)) (x3 : (⟨S8x2x4096, .f32⟩ : BufTy).Contents (Elt F)) (x5 : (⟨S8x2x128, .f32⟩ : BufTy).Contents (Elt F)) (r0 : (⟨S8x4096x1024, .bf16⟩ : BufTy).Contents (Elt F)) (r1 : (⟨S8x4096x256, .bf16⟩ : BufTy).Contents (Elt F)) (r2 : (⟨S8x2x128x4096, .f32⟩ : BufTy).Contents (Elt F)) : (⟨S8x4096x1024, .bf16⟩ : BufTy).Contents (Elt F) :=
  shapeCast _ (val_main_v36 (F := F) x1 x3 x5 r0 r1 r2) shapeCasts_S8x4096x2x4x128_S8x4096x1024
set_option backward.proofsInPublic true in
abbrev idx_main_v37 (i : S8x4096x1024.Idx) : S8x4096x2x4x128.Idx := fun a => match a with
  | ⟨0, _⟩ => ⟨(((i 0).val * 4096 + (i 1).val) * 1024 + (i 2).val) / 4194304, by have h0 : (i 0).val < 8 := (i 0).isLt; have h1 : (i 1).val < 4096 := (i 1).isLt; have h2 : (i 2).val < 1024 := (i 2).isLt; show (((i 0).val * 4096 + (i 1).val) * 1024 + (i 2).val) / 4194304 < 8; omega⟩
  | ⟨1, _⟩ => ⟨(((i 0).val * 4096 + (i 1).val) * 1024 + (i 2).val) / 1024 % 4096, by have h0 : (i 0).val < 8 := (i 0).isLt; have h1 : (i 1).val < 4096 := (i 1).isLt; have h2 : (i 2).val < 1024 := (i 2).isLt; show (((i 0).val * 4096 + (i 1).val) * 1024 + (i 2).val) / 1024 % 4096 < 4096; omega⟩
  | ⟨2, _⟩ => ⟨(((i 0).val * 4096 + (i 1).val) * 1024 + (i 2).val) / 512 % 2, by have h0 : (i 0).val < 8 := (i 0).isLt; have h1 : (i 1).val < 4096 := (i 1).isLt; have h2 : (i 2).val < 1024 := (i 2).isLt; show (((i 0).val * 4096 + (i 1).val) * 1024 + (i 2).val) / 512 % 2 < 2; omega⟩
  | ⟨3, _⟩ => ⟨(((i 0).val * 4096 + (i 1).val) * 1024 + (i 2).val) / 128 % 4, by have h0 : (i 0).val < 8 := (i 0).isLt; have h1 : (i 1).val < 4096 := (i 1).isLt; have h2 : (i 2).val < 1024 := (i 2).isLt; show (((i 0).val * 4096 + (i 1).val) * 1024 + (i 2).val) / 128 % 4 < 4; omega⟩
  | ⟨4, _⟩ => ⟨(((i 0).val * 4096 + (i 1).val) * 1024 + (i 2).val) % 128, by have h0 : (i 0).val < 8 := (i 0).isLt; have h1 : (i 1).val < 4096 := (i 1).isLt; have h2 : (i 2).val < 1024 := (i 2).isLt; show (((i 0).val * 4096 + (i 1).val) * 1024 + (i 2).val) % 128 < 128; omega⟩
theorem val_main_v37_apply (x1 : (⟨S8x8x4096, .f32⟩ : BufTy).Contents (Elt F)) (x3 : (⟨S8x2x4096, .f32⟩ : BufTy).Contents (Elt F)) (x5 : (⟨S8x2x128, .f32⟩ : BufTy).Contents (Elt F)) (r0 : (⟨S8x4096x1024, .bf16⟩ : BufTy).Contents (Elt F)) (r1 : (⟨S8x4096x256, .bf16⟩ : BufTy).Contents (Elt F)) (r2 : (⟨S8x2x128x4096, .f32⟩ : BufTy).Contents (Elt F)) (i : S8x4096x1024.Idx) :
    val_main_v37 (F := F) x1 x3 x5 r0 r1 r2 i = val_main_v36 (F := F) x1 x3 x5 r0 r1 r2 (idx_main_v37 i) := by
  unfold val_main_v37
  generalize val_main_v36 (F := F) x1 x3 x5 r0 r1 r2 = y
  exact shapeCast_apply y shapeCasts_S8x4096x2x4x128_S8x4096x1024 i (idx_main_v37 i)
    (by rewrite [Shape.rowMajor_val_five, Shape.rowMajor_val_three]; have h0 : (i 0).val < 8 := (i 0).isLt; have h1 : (i 1).val < 4096 := (i 1).isLt; have h2 : (i 2).val < 1024 := (i 2).isLt; show ((((((i 0).val * 4096 + (i 1).val) * 1024 + (i 2).val) / 4194304 * 4096 + (((i 0).val * 4096 + (i 1).val) * 1024 + (i 2).val) / 1024 % 4096) * 2 + (((i 0).val * 4096 + (i 1).val) * 1024 + (i 2).val) / 512 % 2) * 4 + (((i 0).val * 4096 + (i 1).val) * 1024 + (i 2).val) / 128 % 4) * 128 + (((i 0).val * 4096 + (i 1).val) * 1024 + (i 2).val) % 128 = ((i 0).val * 4096 + (i 1).val) * 1024 + (i 2).val; omega)

/-- The term the Run module states for `main_v37` over any contents `V0` is the stage. -/
theorem val_main_v37_eq (V0 : Valuation τ sig (Elt F)) :
    shapeCast _ (transpose S8x4096x2x4x128 [0, 3, 1, 2, 4] (truncf .bf16 (Host.divf (mulf (mulf (Host.dotGeneral dot_S8x2x4x4096x4096_S8x2x128x4096_S8x2x4x4096x128_4_3_23_2_01_01 none (minimumf (mulf (Host.exp (subf (select (broadcastInDim S8x2x4x4096x4096 ![3, 4] bcast_S4096x4096_S8x2x4x4096x4096_3_4 (cmpi .sle (iotaInDim S4096x4096 32 1) (iotaInDim S4096x4096 32 0))) (mulf (mulf (transpose S8x2x4x4096x4096 [0, 1, 4, 3, 2] (Host.dotGeneral dot_S8x4096x2x128_S8x4096x2x4x128_S8x2x4096x4096x4_3_4_1_13_02_02 none (shapeCast _ (V0 (Proc.devRef .tc main_v0_1)) shapeCasts_S8x4096x256_S8x4096x2x128) (shapeCast _ (V0 (Proc.devRef .tc main_v0_0)) shapeCasts_S8x4096x1024_S8x4096x2x4x128)) transposes_S8x2x4096x4096x4_S8x2x4x4096x4096_0_1_4_3_2) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (shapeCast _ (V0 (Proc.devRef .tc main_arg1)) shapeCasts_S8x8x4096_S8x2x4x4096)))) (broadcastInDim S8x2x4x4096x4096 ![0, 1, 2, 3, 4] bcast_S8x2x1x1x4096_S8x2x4x4096x4096_0_1_2_3_4 (broadcastInDim S8x2x1x1x4096 ![0, 1, 4] bcast_S8x2x4096_S8x2x1x1x4096_0_1_4 (V0 (Proc.devRef .tc main_arg3))))) (broadcastInDim S8x2x4x4096x4096 ![] bcast_S_S8x2x4x4096x4096 (id (constant S_ .f32 0xFF800000#32)))) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (Host.reduce FloatOps.maximumf (select (broadcastInDim S8x2x4x4096x4096 ![3, 4] bcast_S4096x4096_S8x2x4x4096x4096_3_4 (cmpi .sle (iotaInDim S4096x4096 32 1) (iotaInDim S4096x4096 32 0))) (mulf (mulf (transpose S8x2x4x4096x4096 [0, 1, 4, 3, 2] (Host.dotGeneral dot_S8x4096x2x128_S8x4096x2x4x128_S8x2x4096x4096x4_3_4_1_13_02_02 none (shapeCast _ (V0 (Proc.devRef .tc main_v0_1)) shapeCasts_S8x4096x256_S8x4096x2x128) (shapeCast _ (V0 (Proc.devRef .tc main_v0_0)) shapeCasts_S8x4096x1024_S8x4096x2x4x128)) transposes_S8x2x4096x4096x4_S8x2x4x4096x4096_0_1_4_3_2) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (shapeCast _ (V0 (Proc.devRef .tc main_arg1)) shapeCasts_S8x8x4096_S8x2x4x4096)))) (broadcastInDim S8x2x4x4096x4096 ![0, 1, 2, 3, 4] bcast_S8x2x1x1x4096_S8x2x4x4096x4096_0_1_2_3_4 (broadcastInDim S8x2x1x1x4096 ![0, 1, 4] bcast_S8x2x4096_S8x2x1x1x4096_0_1_4 (V0 (Proc.devRef .tc main_arg3))))) (broadcastInDim S8x2x4x4096x4096 ![] bcast_S_S8x2x4x4096x4096 (id (constant S_ .f32 0xFF800000#32)))) (constant S_ .f32 0xFF800000#32) reducesTo_S8x2x4x4096x4096_S8x2x4x4096_d4 h_S_))))) (broadcastInDim S8x2x4x4096x4096 ![] bcast_S_S8x2x4x4096x4096 (constant S_ .f32 0x43800000#32))) (broadcastInDim S8x2x4x4096x4096 ![] bcast_S_S8x2x4x4096x4096 (constant S_ .f32 0x43E00000#32))) (V0 (Proc.devRef .tc main_v0_2))) (broadcastInDim S8x2x4x4096x128 ![] bcast_S_S8x2x4x4096x128 (constant S_ .f32 0x3B800000#32))) (broadcastInDim S8x2x4x4096x128 ![0, 1, 2, 3, 4] bcast_S8x2x1x1x128_S8x2x4x4096x128_0_1_2_3_4 (broadcastInDim S8x2x1x1x128 ![0, 1, 4] bcast_S8x2x128_S8x2x1x1x128_0_1_4 (V0 (Proc.devRef .tc main_arg5))))) (broadcastInDim S8x2x4x4096x128 ![0, 1, 2, 3, 4] bcast_S8x2x4x4096x1_S8x2x4x4096x128_0_1_2_3_4 (broadcastInDim S8x2x4x4096x1 ![0, 1, 2, 3] bcast_S8x2x4x4096_S8x2x4x4096x1_0_1_2_3 (Host.reduceAdd (Host.exp (subf (select (broadcastInDim S8x2x4x4096x4096 ![3, 4] bcast_S4096x4096_S8x2x4x4096x4096_3_4 (cmpi .sle (iotaInDim S4096x4096 32 1) (iotaInDim S4096x4096 32 0))) (mulf (mulf (transpose S8x2x4x4096x4096 [0, 1, 4, 3, 2] (Host.dotGeneral dot_S8x4096x2x128_S8x4096x2x4x128_S8x2x4096x4096x4_3_4_1_13_02_02 none (shapeCast _ (V0 (Proc.devRef .tc main_v0_1)) shapeCasts_S8x4096x256_S8x4096x2x128) (shapeCast _ (V0 (Proc.devRef .tc main_v0_0)) shapeCasts_S8x4096x1024_S8x4096x2x4x128)) transposes_S8x2x4096x4096x4_S8x2x4x4096x4096_0_1_4_3_2) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (shapeCast _ (V0 (Proc.devRef .tc main_arg1)) shapeCasts_S8x8x4096_S8x2x4x4096)))) (broadcastInDim S8x2x4x4096x4096 ![0, 1, 2, 3, 4] bcast_S8x2x1x1x4096_S8x2x4x4096x4096_0_1_2_3_4 (broadcastInDim S8x2x1x1x4096 ![0, 1, 4] bcast_S8x2x4096_S8x2x1x1x4096_0_1_4 (V0 (Proc.devRef .tc main_arg3))))) (broadcastInDim S8x2x4x4096x4096 ![] bcast_S_S8x2x4x4096x4096 (id (constant S_ .f32 0xFF800000#32)))) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (Host.reduce FloatOps.maximumf (select (broadcastInDim S8x2x4x4096x4096 ![3, 4] bcast_S4096x4096_S8x2x4x4096x4096_3_4 (cmpi .sle (iotaInDim S4096x4096 32 1) (iotaInDim S4096x4096 32 0))) (mulf (mulf (transpose S8x2x4x4096x4096 [0, 1, 4, 3, 2] (Host.dotGeneral dot_S8x4096x2x128_S8x4096x2x4x128_S8x2x4096x4096x4_3_4_1_13_02_02 none (shapeCast _ (V0 (Proc.devRef .tc main_v0_1)) shapeCasts_S8x4096x256_S8x4096x2x128) (shapeCast _ (V0 (Proc.devRef .tc main_v0_0)) shapeCasts_S8x4096x1024_S8x4096x2x4x128)) transposes_S8x2x4096x4096x4_S8x2x4x4096x4096_0_1_4_3_2) (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (shapeCast _ (V0 (Proc.devRef .tc main_arg1)) shapeCasts_S8x8x4096_S8x2x4x4096)))) (broadcastInDim S8x2x4x4096x4096 ![0, 1, 2, 3, 4] bcast_S8x2x1x1x4096_S8x2x4x4096x4096_0_1_2_3_4 (broadcastInDim S8x2x1x1x4096 ![0, 1, 4] bcast_S8x2x4096_S8x2x1x1x4096_0_1_4 (V0 (Proc.devRef .tc main_arg3))))) (broadcastInDim S8x2x4x4096x4096 ![] bcast_S_S8x2x4x4096x4096 (id (constant S_ .f32 0xFF800000#32)))) (constant S_ .f32 0xFF800000#32) reducesTo_S8x2x4x4096x4096_S8x2x4x4096_d4 h_S_))))) (constant S_ .f32 0x00000000#32) reducesTo_S8x2x4x4096x4096_S8x2x4x4096_d4 h_S_)))) bitsLt_bf16_f32) transposes_S8x2x4x4096x128_S8x4096x2x4x128_0_3_1_2_4) shapeCasts_S8x4096x2x4x128_S8x4096x1024
      = val_main_v37 (F := F) (V0 (Proc.devRef .tc main_arg1)) (V0 (Proc.devRef .tc main_arg3)) (V0 (Proc.devRef .tc main_arg5)) (V0 (Proc.devRef .tc main_v0_0)) (V0 (Proc.devRef .tc main_v0_1)) (V0 (Proc.devRef .tc main_v0_2)) := rfl

end Cert.ReferenceIdeal.Read

end
-- ==== Proof.RefVal.lean ====
module

public import proofs.«01_k».proof.Proof.RefRead
public import proofs.«01_k».proof.Proof.Soft
public import Idealize.ShloMosaic.Lib.Pipeline.ValueKit
public import Idealize.ShloMosaic.Lib.Pointwise

@[expose] public section

set_option maxRecDepth 16384

/-! # The reference's result at an index -/

noncomputable section

namespace Cert.ReferenceIdeal.Attention

open Idealize.ShloMosaic Idealize.ShloMosaic.TcCoe Idealize.SL.Sem
open Cert.ReferenceIdeal Cert.ReferenceIdeal.Gen Cert.ReferenceIdeal.Read
open Cert.Soft (select_sle)

variable (x1 : FVec Ideal S8x8x4096 .f32) (x3 : FVec Ideal S8x2x4096 .f32) (x5 : FVec Ideal S8x2x128 .f32)
  (r0 : FVec Ideal S8x4096x1024 .bf16) (r1 : FVec Ideal S8x4096x256 .bf16) (r2 : FVec Ideal S8x2x128x4096 .f32)
  (b : Fin 8) (h : Fin 2) (g : Fin 4) (q n : Fin 4096) (d : Fin 128)

/-- Head `g` of group `h`; -/
def head : Fin 8 := ⟨4 * h.val + g.val, by have := h.isLt; have := g.isLt; omega⟩
/-- feature `d` of that head among the query columns; -/
def feat : Fin 1024 := ⟨512 * h.val + 128 * g.val + d.val, by have := h.isLt; have := g.isLt; have := d.isLt; omega⟩
/-- feature `d` of key head `h`. -/
def kfeat : Fin 256 := ⟨128 * h.val + d.val, by have := h.isLt; have := d.isLt; omega⟩

/-- The product of query `q`'s and key `n`'s codes. -/
def dot : EReal := ∑ d : Fin 128, (r1 (ix3 b n (kfeat h d)) : EReal) * r0 (ix3 b q (feat h g d))

theorem query_at : val_main_v1 (F := Ideal) r0 (ix5 b q h g d) = r0 (ix3 b q (feat h g d)) := by
  rw [val_main_v1_apply]
  refine congrArg r0 (funext fun a => Fin.ext ?_)
  have := b.isLt; have := h.isLt; have := g.isLt; have := q.isLt; have := d.isLt
  match a with
  | ⟨0, _⟩ => show ((((b.val * 4096 + q.val) * 2 + h.val) * 4 + g.val) * 128 + d.val) / 4194304 = b.val; omega
  | ⟨1, _⟩ => show ((((b.val * 4096 + q.val) * 2 + h.val) * 4 + g.val) * 128 + d.val) / 1024 % 4096 = q.val; omega
  | ⟨2, _⟩ => show ((((b.val * 4096 + q.val) * 2 + h.val) * 4 + g.val) * 128 + d.val) % 1024 = 512 * h.val + 128 * g.val + d.val; omega

theorem key_at : val_main_v2 (F := Ideal) r1 (ix4 b n h d) = r1 (ix3 b n (kfeat h d)) := by
  rw [val_main_v2_apply]
  refine congrArg r1 (funext fun a => Fin.ext ?_)
  have := b.isLt; have := h.isLt; have := n.isLt; have := d.isLt
  match a with
  | ⟨0, _⟩ => show (((b.val * 4096 + n.val) * 2 + h.val) * 128 + d.val) / 1048576 = b.val; omega
  | ⟨1, _⟩ => show (((b.val * 4096 + n.val) * 2 + h.val) * 128 + d.val) / 256 % 4096 = n.val; omega
  | ⟨2, _⟩ => show (((b.val * 4096 + n.val) * 2 + h.val) * 128 + d.val) % 256 = 128 * h.val + d.val; omega

theorem scale_at : val_main_v3 (F := Ideal) x1 (ix4 b h g q) = x1 (ix3 b (head h g) q) := by
  rw [val_main_v3_apply]
  refine congrArg x1 (funext fun a => Fin.ext ?_)
  have := b.isLt; have := h.isLt; have := g.isLt; have := q.isLt
  match a with
  | ⟨0, _⟩ => show (((b.val * 2 + h.val) * 4 + g.val) * 4096 + q.val) / 32768 = b.val; omega
  | ⟨1, _⟩ => show (((b.val * 2 + h.val) * 4 + g.val) * 4096 + q.val) / 4096 % 8 = 4 * h.val + g.val; omega
  | ⟨2, _⟩ => show (((b.val * 2 + h.val) * 4 + g.val) * 4096 + q.val) % 4096 = q.val; omega

theorem dot_at : val_main_v4 (F := Ideal) r0 r1 (ix5 b h n q g) = dot r0 r1 b h g q n := by
  rw [val_main_v4_apply]
  refine Finset.sum_congr rfl fun d _ => ?_
  rw [show lidx_main_v4 (ix5 b h n q g) d = ix4 b n h d from eq_ix4 _, show ridx_main_v4 (ix5 b h n q g) d = ix5 b q h g d from eq_ix5 _,
    key_at, query_at]

/-- The masked score of query `q` and key `n`. -/
def score : EReal :=
  if n.val ≤ q.val then dot r0 r1 b h g q n * x1 (ix3 b (head h g) q) * x3 (ix3 b h n) else ⊥

theorem product_at : val_main_v11 (F := Ideal) x1 x3 r0 r1 (ix5 b h g q n) = dot r0 r1 b h g q n * x1 (ix3 b (head h g) q) * x3 (ix3 b h n) := by
  rw [val_main_v11_apply, val_main_v8_apply, val_main_v10_apply, val_main_v9_apply, val_main_v7_apply, val_main_v6_apply, val_main_v5_apply,
    show idx_main_v9 (idx_main_v10 (ix5 b h g q n)) = ix3 b h n from eq_ix3 _,
    show idx_main_v6 (idx_main_v7 (ix5 b h g q n)) = ix4 b h g q from eq_ix4 _,
    show idx_main_v5 (ix5 b h g q n) = ix5 b h n q g from eq_ix5 _, dot_at, scale_at]
  rfl

theorem score_at : val_main_v15 (F := Ideal) x1 x3 r0 r1 (ix5 b h g q n) = score x1 x3 r0 r1 b h g q n := by
  rw [val_main_v15_apply, product_at, val_main_call0_v1_apply, val_main_call0_v2_apply, val_main_v14_apply, val_main_v13_apply, val_main_v12_apply]
  have hn := n.isLt; have hq := q.isLt
  refine (select_sle n.val q.val (by omega) (by omega) _ _).trans ?_
  rw [score]
  exact if_congr Iff.rfl rfl Cert.Soft.ofBits_neg_inf

theorem max_le (z : EReal) : (show EReal from val_main_v16 (F := Ideal) x1 x3 r0 r1 (ix4 b h g q)) ≤ z ↔ ∀ n, score x1 x3 r0 r1 b h g q n ≤ z := by
  have e : ∀ n, val_main_v15 (F := Ideal) x1 x3 r0 r1 (ix5 b h g q n) = score x1 x3 r0 r1 b h g q n := score_at x1 x3 r0 r1 b h g q
  have e2 : (show EReal from val_main_v16 (F := Ideal) x1 x3 r0 r1 (ix4 b h g q))
      = Finset.univ.fold max (⊥ : EReal) fun n : Fin 4096 => score x1 x3 r0 r1 b h g q n := by
    simp only [← e]
    unfold val_main_v16
    generalize val_main_v15 (F := Ideal) x1 x3 r0 r1 = y
    pointwise [val_main_cst_0]
    rw [Cert.Soft.ofBits_neg_inf]
  rw [e2, Finset.fold_max_le]
  exact ⟨fun H n => H.2 n (Finset.mem_univ n), fun H => ⟨bot_le, fun n _ => H n⟩⟩

/-- The greatest score of query `q`, -/
def greatest : EReal := val_main_v16 (F := Ideal) x1 x3 r0 r1 (ix4 b h g q)
/-- and the weight of key `n`. -/
def weight : EReal := Ideal.exp (score x1 x3 r0 r1 b h g q n - greatest x1 x3 r0 r1 b h g q)

theorem weight_at : val_main_v20 (F := Ideal) x1 x3 r0 r1 (ix5 b h g q n) = weight x1 x3 r0 r1 b h g q n := by
  rw [val_main_v20_apply, val_main_v19_apply, val_main_v18_apply, val_main_v17_apply, score_at,
    show idx_main_v17 (idx_main_v18 (ix5 b h g q n)) = ix4 b h g q from eq_ix4 _]
  rfl

theorem total_at : val_main_v21 (F := Ideal) x1 x3 r0 r1 (ix4 b h g q) = 0 + ∑ n, weight x1 x3 r0 r1 b h g q n := by
  rw [val_main_v21_apply]
  refine congrArg₂ (· + ·) ?_ (Finset.sum_congr rfl fun n _ => ?_)
  · exact Ideal.ofBits_zero_f32
  · rw [show idx_main_v21 (ix4 b h g q) n = ix5 b h g q n from eq_ix5 _, weight_at]

theorem mix_at : val_main_v26 (F := Ideal) x1 x3 r0 r1 r2 (ix5 b h g q d)
    = ∑ n, min (weight x1 x3 r0 r1 b h g q n * ((256 : ℝ) : EReal)) ((448 : ℝ) : EReal) * r2 (ix4 b h d n) := by
  rw [val_main_v26_apply]
  refine Finset.sum_congr rfl fun n _ => ?_
  rw [show lidx_main_v26 (ix5 b h g q d) n = ix5 b h g q n from eq_ix5 _, show ridx_main_v26 (ix5 b h g q d) n = ix4 b h d n from eq_ix4 _,
    val_main_v25_apply, val_main_v23_apply, weight_at, val_main_v24_apply, val_main_v22_apply]
  exact congrArg₂ (fun u v => min (weight x1 x3 r0 r1 b h g q n * u) v * r2 (ix4 b h d n)) Cert.Soft.ofBits_256 Cert.Soft.ofBits_448

/-- The reference's result for query `q`, head `g` of group `h` and feature `d`. -/
theorem result_at : val_main_v37 (F := Ideal) x1 x3 x5 r0 r1 r2 (ix3 b q (feat h g d))
    = Ideal.div ((∑ n, min (weight x1 x3 r0 r1 b h g q n * ((256 : ℝ) : EReal)) ((448 : ℝ) : EReal) * r2 (ix4 b h d n)) * (((1 / 256 : ℝ)) : EReal) * x5 (ix3 b h d))
        (0 + ∑ n, weight x1 x3 r0 r1 b h g q n) := by
  have e : idx_main_v36 (idx_main_v37 (ix3 b q (feat h g d))) = ix5 b h g q d := by
    refine funext fun a => Fin.ext ?_
    have := b.isLt; have := h.isLt; have := g.isLt; have := q.isLt; have := d.isLt
    match a with
    | ⟨0, _⟩ => show ((b.val * 4096 + q.val) * 1024 + (512 * h.val + 128 * g.val + d.val)) / 4194304 = b.val; omega
    | ⟨1, _⟩ => show ((b.val * 4096 + q.val) * 1024 + (512 * h.val + 128 * g.val + d.val)) / 512 % 2 = h.val; omega
    | ⟨2, _⟩ => show ((b.val * 4096 + q.val) * 1024 + (512 * h.val + 128 * g.val + d.val)) / 128 % 4 = g.val; omega
    | ⟨3, _⟩ => show ((b.val * 4096 + q.val) * 1024 + (512 * h.val + 128 * g.val + d.val)) / 1024 % 4096 = q.val; omega
    | ⟨4, _⟩ => show ((b.val * 4096 + q.val) * 1024 + (512 * h.val + 128 * g.val + d.val)) % 128 = d.val; omega
  rw [val_main_v37_apply, val_main_v36_apply, e, val_main_v35_apply, val_main_v34_apply, val_main_v33_apply, val_main_v32_apply, val_main_v31_apply,
    val_main_v30_apply, val_main_v29_apply, val_main_v28_apply, val_main_v27_apply, mix_at,
    show idx_main_v32 (idx_main_v33 (ix5 b h g q d)) = ix4 b h g q from eq_ix4 _, total_at,
    show idx_main_v29 (idx_main_v30 (ix5 b h g q d)) = ix3 b h d from eq_ix3 _]
  exact congrArg (fun u : EReal => Ideal.div (_ * u * x5 (ix3 b h d)) _) Cert.Soft.ofBits_256th

end Cert.ReferenceIdeal.Attention
end
-- ==== Proof.Tame.lean ====
module

public import proofs.«01_k».proof.Pre_tame
public import proofs.«01_k».proof.Proof.Soft
public import Idealize.ShloMosaic.Lib.Pipeline.ValueKit
public import Idealize.ShloMosaic.Lib.Pointwise

@[expose] public section

set_option maxRecDepth 16384

/-! # The precondition: the scales are finite, those of the queries positive -/

noncomputable section

namespace Cert.Pre_tame.Use

open Idealize.ShloMosaic Idealize.ShloMosaic.TcCoe
open Cert.Pre_tame

/-- The shape relations the precondition's operations take. -/
theorem facts : Facts where
  shapeCasts_S8x8x4096_S8x2x4x4096 := by decide
  bcast_S8x2x4096_S8x2x1x4096_0_1_3 := by decide
  bcast_S_S8x2x4x4096 := by decide
  bcast_S_S8x2x1x4096 := by decide
  bcast_S8x2x1x4096_S8x2x4x4096_0_1_2_3 := by decide

theorem and_one (a b : BitVec 1) (h : a &&& b = 1#1) : a = 1#1 ∧ b = 1#1 := by
  revert a b; decide

theorem of_one (p : Prop) [Decidable p] (h : BitVec.ofBool (decide p) = 1#1) : p := by
  by_contra hc
  rw [decide_eq_false hc] at h
  exact absurd h (by decide)

variable [Facts] (a0 : IVec S8x4096x1024 8) (a1 : FVec Ideal S8x8x4096 .f32) (a2 : IVec S8x4096x256 8) (a3 : FVec Ideal S8x2x4096 .f32)
  (a4 : FVec Ideal S8x2x128x4096 .fp8e4m3) (a5 : FVec Ideal S8x2x128 .f32)

theorem read (hp : fn (F := Ideal) a0 a1 a2 a3 a4 a5 = fun _ => 1#1) (b : Fin 8) (h : Fin 2) (g : Fin 4) (n : Fin 4096) :
    (0 < (a1 (ix3 b ⟨4 * h.val + g.val, by have := h.isLt; have := g.isLt; omega⟩ n) : EReal)
      ∧ (a1 (ix3 b ⟨4 * h.val + g.val, by have := h.isLt; have := g.isLt; omega⟩ n) : EReal) < ⊤)
    ∧ (⊥ < (a3 (ix3 b h n) : EReal) ∧ (a3 (ix3 b h n) : EReal) < ⊤) := by
  have e := congrFun hp (ix4 b h g n)
  revert e
  pointwise [Cert.Pre_tame.fn]
  intro e
  have eh : (⟨h.val * 4 + g.val, by have := h.isLt; have := g.isLt; omega⟩ : Fin 8) = ⟨4 * h.val + g.val, by have := h.isLt; have := g.isLt; omega⟩ :=
    Fin.ext (by show h.val * 4 + g.val = 4 * h.val + g.val; omega)
  rw [eh, Cert.Soft.ofBits_inf, Cert.Soft.ofBits_neg_inf] at e
  obtain ⟨e, e4⟩ := and_one _ _ e
  obtain ⟨e, e3⟩ := and_one _ _ e
  obtain ⟨e1, e2⟩ := and_one _ _ e
  exact ⟨⟨of_one _ e1, of_one _ e2⟩, of_one _ e3, of_one _ e4⟩

end Cert.Pre_tame.Use
end
-- ==== Proof.Match.lean ====
module

public import proofs.«01_k».proof.Proof.KPoint
public import proofs.«01_k».proof.Proof.RefVal
public import proofs.«01_k».proof.Proof.Tame

@[expose] public section

set_option maxRecDepth 16384

/-! # A grid point's result is the reference's -/

noncomputable section

namespace Cert.Proof.Match

open Idealize.ShloMosaic Idealize.ShloMosaic.TcCoe Idealize.SL.Sem
open Cert.KernelIdeal (S1x256x512 S1x8x256 S1x4096x128 S1x2x4096 S1x1x128x4096 S1x2x128)
open Cert.ReferenceIdeal (S8x4096x1024 S8x8x4096 S8x4096x256 S8x2x4096 S8x2x128x4096 S8x2x128)
open Cert.KernelIdeal.Value (num)
open Cert.Soft (L)

/-- A finite value is a real number. -/
theorem finite (x : EReal) (h1 : ⊥ < x) (h2 : x < ⊤) : x = ((x.toReal : ℝ) : EReal) :=
  (EReal.coe_toReal h2.ne h1.ne').symm

variable (A0 : IVec S8x4096x1024 8) (A1 : FVec Ideal S8x8x4096 .f32) (A2 : IVec S8x4096x256 8) (A3 : FVec Ideal S8x2x4096 .f32)
  (A4 : FVec Ideal S8x2x128x4096 .fp8e4m3) (A5 : FVec Ideal S8x2x128 .f32)
  (X3 : Vec Ideal S1x256x512 .i8) (X4 : Vec Ideal S1x8x256 .f32) (X5 : Vec Ideal S1x4096x128 .i8) (X6 : Vec Ideal S1x2x4096 .f32)
  (X7 : Vec Ideal S1x1x128x4096 .fp8e4m3) (X8 : Vec Ideal S1x2x128 .f32) (b : Fin 8) (h : Fin 2) (qi : Fin 16) (g : Fin 4) (r : Fin 256)

/-- Row `r` of block `qi`. -/
abbrev row : Fin 4096 := ⟨256 * qi.val + r.val, by have := qi.isLt; have := r.isLt; omega⟩

/-- The code products as real numbers. -/
def code (n : Fin 4096) : ℝ :=
  ∑ d : Fin 128, (((A2 (ix3 b n (Cert.ReferenceIdeal.Attention.kfeat h d))).toInt : ℝ)) * ((A0 (ix3 b (row qi r) (Cert.ReferenceIdeal.Attention.feat h g d))).toInt : ℝ)

theorem coe_code (n : Fin 4096) : ((code A0 A2 b h qi g r n : ℝ) : EReal)
    = ∑ d : Fin 128, num (A2 (ix3 b n (Cert.ReferenceIdeal.Attention.kfeat h d))) * num (A0 (ix3 b (row qi r) (Cert.ReferenceIdeal.Attention.feat h g d))) := by
  rw [code, Cert.Soft.coe_sum]
  exact Finset.sum_congr rfl fun d _ => EReal.coe_mul _ _

open Cert.ReferenceIdeal.Attention in
/-- The result block of a grid point is the reference's at the array index it is written to. -/
theorem point (hs : ∀ n : Fin 4096, (0 < (A1 (ix3 b (head h g) n) : EReal) ∧ (A1 (ix3 b (head h g) n) : EReal) < ⊤)
      ∧ (⊥ < (A3 (ix3 b h n) : EReal) ∧ (A3 (ix3 b h n) : EReal) < ⊤))
    (e3 : ∀ d : Fin 128, X3 (ix3 0 r (Cert.KernelIdeal.Value.feat g d)) = A0 (ix3 b (row qi r) (feat h g d)))
    (e4 : X4 (ix3 0 (Cert.KernelIdeal.Value.head h g) r) = A1 (ix3 b (head h g) (row qi r)))
    (e5 : ∀ n d, X5 (ix3 0 n d) = A2 (ix3 b n (kfeat h d)))
    (e6 : ∀ n, X6 (ix3 0 h n) = A3 (ix3 b h n))
    (e7 : ∀ d n, X7 (ix4 0 0 d n) = A4 (ix4 b h d n))
    (e8 : ∀ d, X8 (ix3 0 h d) = A5 (ix3 b h d)) (d : Fin 128) :
    Cert.KernelIdeal.Body.result (F := Ideal) X3 X4 X5 X6 X7 X8 h qi.val (ix3 0 r (Cert.KernelIdeal.Value.feat g d))
      = Cert.ReferenceIdeal.Read.val_main_v37 (F := Ideal) A1 A3 A5 (Cert.ReferenceIdeal.Gen.k0_pay1 (F := Ideal) A0) (Cert.ReferenceIdeal.Gen.k0_pay2 (F := Ideal) A2)
          (Cert.ReferenceIdeal.Gen.k0_pay3 (F := Ideal) A4) (ix3 b (row qi r) (feat h g d)) := by
  let seen : Fin 4096 → Prop := fun n => n.val ≤ (row qi r).val
  letI : DecidablePred seen := fun n => Nat.decLe _ _
  let x : Fin 4096 → ℝ := code A0 A2 b h qi g r
  let κ : Fin 4096 → ℝ := fun n => (A3 (ix3 b h n) : EReal).toReal
  let ρ : ℝ := (A1 (ix3 b (head h g) (row qi r)) : EReal).toReal
  have hq := hs (row qi r)
  have eρ : (A1 (ix3 b (head h g) (row qi r)) : EReal) = (ρ : EReal) := finite _ (bot_le.trans_lt hq.1.1) hq.1.2
  have eκ : ∀ n, (A3 (ix3 b h n) : EReal) = (κ n : EReal) := fun n => finite _ (hs n).2.1 (hs n).2.2
  have hρ : 0 < ρ := by have := hq.1.1; rw [eρ] at this; exact_mod_cast this
  have kdot : ∀ n, Cert.KernelIdeal.Value.dot X3 X5 g r n = (x n : EReal) := fun n => by
    rw [coe_code, Cert.KernelIdeal.Value.dot]
    exact Finset.sum_congr rfl fun d _ => by rw [e5, e3]
  have ks : ∀ n, Cert.KernelIdeal.Value.kscore X3 X5 X6 h qi.val g r n = Cert.Soft.t seen x κ n := fun n => by
    rw [Cert.KernelIdeal.Value.kscore, Cert.Soft.t, kdot, e6, eκ]
  have rdot : ∀ n, dot (Cert.ReferenceIdeal.Gen.k0_pay1 (F := Ideal) A0) (Cert.ReferenceIdeal.Gen.k0_pay2 (F := Ideal) A2) b h g (row qi r) n = (x n : EReal) := fun n => by
    rw [coe_code]; rfl
  have rs : ∀ n, score A1 A3 (Cert.ReferenceIdeal.Gen.k0_pay1 (F := Ideal) A0) (Cert.ReferenceIdeal.Gen.k0_pay2 (F := Ideal) A2) b h g (row qi r) n
      = Cert.Soft.s seen x κ ρ n := fun n => by
    rw [score, Cert.Soft.s, rdot, eρ, eκ]
  have hm := Cert.KernelIdeal.Value.pointTop_le X3 X5 X6 h qi.val g r qi.isLt
  have hM := max_le A1 A3 (Cert.ReferenceIdeal.Gen.k0_pay1 (F := Ideal) A0) (Cert.ReferenceIdeal.Gen.k0_pay2 (F := Ideal) A2) b h g (row qi r)
  simp only [ks] at hm
  simp only [rs] at hM
  have hP : ∀ n, Cert.KernelIdeal.Value.weight X3 X4 X5 X6 h qi.val g r n = _ := fun n => by
    rw [Cert.KernelIdeal.Value.weight, ks, e4, eρ]
  have h0 : seen (row qi r) := Nat.le_refl (row qi r).val
  rw [Cert.KernelIdeal.Value.result_at X3 X4 X5 X6 X7 X8 h qi.val g r qi.isLt (fun n hn => by
    rw [hP]
    refine Cert.Soft.weight2_unseen seen x κ ρ hρ (row qi r) h0 _ hm n (fun hle => ?_)
    have h1 : n.val ≤ 256 * qi.val + r.val := hle
    have := r.isLt; omega) d, result_at]
  simp only [e7, e8]
  exact Cert.Soft.join seen x κ ρ hρ (row qi r) h0 _ _ hm hM (fun n => A4 (ix4 b h d n)) (A5 (ix3 b h d)) _ _ hP (fun n => by
    rw [weight, rs]; rfl)

end Cert.Proof.Match
end
-- ==== Proof.Final.lean ====
module

public import proofs.«01_k».proof.Proof.Whole
public import proofs.«01_k».proof.Proof.Match
public import Idealize.ShloMosaic.Lib.Pipeline.ValueKit

@[expose] public section

set_option maxRecDepth 16384

/-! # The kernel's result array -/

noncomputable section

namespace Cert.KernelIdeal.Value

open Idealize.ShloMosaic Idealize.ShloMosaic.TcCoe Idealize.SL.Sem
open Idealize.ShloMosaic.Pipeline (Dat Cfg Window)
open Cert.KernelIdeal Cert.KernelIdeal.Gen Cert.KernelIdeal.Body
open Cert.Proof.Match (row)

variable (m : (ℓ : Loc nD τ sig) → Buf (Elt Ideal) ℓ) (c : Dev nD)

theorem idx : ∀ t : Fin cfg0.N, win0_0.index t = ![(grid0.coords t 0).val, (grid0.coords t 2).val, (grid0.coords t 1).val]
    ∧ win0_1.index t = ![(grid0.coords t 0).val, 0, (grid0.coords t 2).val] ∧ win0_2.index t = ![(grid0.coords t 0).val, 0, (grid0.coords t 1).val]
    ∧ win0_3.index t = ![(grid0.coords t 0).val, 0, 0] ∧ win0_4.index t = ![(grid0.coords t 0).val, (grid0.coords t 1).val, 0, 0]
    ∧ win0_5.index t = ![(grid0.coords t 0).val, 0, 0] ∧ win0_6.index t = ![(grid0.coords t 0).val, (grid0.coords t 2).val, (grid0.coords t 1).val] :=
  (by decide +kernel : ∀ t : Fin grid0.N, _)

/-- The grid point's batch, key head and block of rows. -/
abbrev pb (t : Fin cfg0.N) : Fin 8 := grid0.coords t 0
abbrev ph (t : Fin cfg0.N) : Fin 2 := grid0.coords t 1
abbrev pq (t : Fin cfg0.N) : Fin 16 := grid0.coords t 2

theorem blk3_at (t : Fin cfg0.N) (g : Fin 4) (r : Fin 256) (d : Fin 128) :
    blk3 (F := Ideal) m c t (ix3 0 r (feat g d)) = m ((c : Thread nD τ).loc main_arg0) (ix3 (pb t) (row (pq t) r) (Cert.ReferenceIdeal.Attention.feat (ph t) g d)) := by
  unfold blk3
  blk_ext [iblk, V, idx t, pb, ph, pq, row, feat, Cert.ReferenceIdeal.Attention.feat]

theorem blk4_at (t : Fin cfg0.N) (g : Fin 4) (r : Fin 256) :
    blk4 (F := Ideal) m c t (ix3 0 (head (ph t) g) r) = m ((c : Thread nD τ).loc main_arg1) (ix3 (pb t) (Cert.ReferenceIdeal.Attention.head (ph t) g) (row (pq t) r)) := by
  unfold blk4
  blk_ext [iblk, V, idx t, pb, ph, pq, row, head, Cert.ReferenceIdeal.Attention.head]

theorem blk5_at (t : Fin cfg0.N) (n : Fin 4096) (d : Fin 128) :
    blk5 (F := Ideal) m c t (ix3 0 n d) = m ((c : Thread nD τ).loc main_arg2) (ix3 (pb t) n (Cert.ReferenceIdeal.Attention.kfeat (ph t) d)) := by
  unfold blk5
  blk_ext [iblk, V, idx t, pb, ph, pq, Cert.ReferenceIdeal.Attention.kfeat]

theorem blk6_at (t : Fin cfg0.N) (n : Fin 4096) :
    blk6 (F := Ideal) m c t (ix3 0 (ph t) n) = m ((c : Thread nD τ).loc main_arg3) (ix3 (pb t) (ph t) n) := by
  unfold blk6
  blk_ext [iblk, V, idx t, pb, ph, pq]

theorem blk7_at (t : Fin cfg0.N) (d : Fin 128) (n : Fin 4096) :
    blk7 (F := Ideal) m c t (ix4 0 0 d n) = m ((c : Thread nD τ).loc main_arg4) (ix4 (pb t) (ph t) d n) := by
  unfold blk7
  blk_ext [iblk, V, idx t, pb, ph, pq]

theorem blk8_at (t : Fin cfg0.N) (d : Fin 128) :
    blk8 (F := Ideal) m c t (ix3 0 (ph t) d) = m ((c : Thread nD τ).loc main_arg5) (ix3 (pb t) (ph t) d) := by
  unfold blk8
  blk_ext [iblk, V, idx t, pb, ph, pq]

/-- The reference's result of the arguments. -/
abbrev REF (A0 : IVec Cert.ReferenceIdeal.S8x4096x1024 8) (A1 : FVec Ideal Cert.ReferenceIdeal.S8x8x4096 .f32) (A2 : IVec Cert.ReferenceIdeal.S8x4096x256 8)
    (A3 : FVec Ideal Cert.ReferenceIdeal.S8x2x4096 .f32) (A4 : FVec Ideal Cert.ReferenceIdeal.S8x2x128x4096 .fp8e4m3) (A5 : FVec Ideal Cert.ReferenceIdeal.S8x2x128 .f32) :
    FVec Ideal Cert.ReferenceIdeal.S8x4096x1024 .bf16 :=
  Cert.ReferenceIdeal.Read.val_main_v37 (F := Ideal) A1 A3 A5 (Cert.ReferenceIdeal.Gen.k0_pay1 (F := Ideal) A0) (Cert.ReferenceIdeal.Gen.k0_pay2 (F := Ideal) A2)
    (Cert.ReferenceIdeal.Gen.k0_pay3 (F := Ideal) A4)

/-- The result of the arguments in memory. -/
abbrev refOf : FVec Ideal Cert.ReferenceIdeal.S8x4096x1024 .bf16 :=
  REF (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

open Cert.Pre_tame in
theorem point [Cert.Pre_tame.Facts]
    (hp : Cert.Pre_tame.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = fun _ => 1#1)
    (t : Fin cfg0.N) (g : Fin 4) (r : Fin 256) (d : Fin 128) :
    outBlk (F := Ideal) m c t (ix3 0 r (feat g d)) = refOf m c (ix3 (pb t) (row (pq t) r) (Cert.ReferenceIdeal.Attention.feat (ph t) g d)) :=
  Cert.Proof.Match.point _ _ _ _ _ _ _ _ _ _ _ _ (pb t) (ph t) (pq t) g r (fun n => Cert.Pre_tame.Use.read _ _ _ _ _ _ hp (pb t) (ph t) g n)
    (blk3_at m c t g r) (blk4_at m c t g r) (blk5_at m c t) (blk6_at m c t) (blk7_at m c t) (blk8_at m c t) d

theorem final [Cert.Pre_tame.Facts]
    (hp : Cert.Pre_tame.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = fun _ => 1#1) :
    (dats (F := Ideal) m 0 c).arrAt 6 cfg0.N = refOf m c := by
  refine (dats m 0 c).arrAt_eq_of_covers 6 _ (by decide +kernel) fun t _ y => ?_
  blk_simp
  rw [after0_6]
  have h1 : (y 1).val < 256 := (y 1).isLt
  have h2 : (y 2).val < 512 := (y 2).isLt
  have ey : y = ix3 0 (⟨(y 1).val, h1⟩ : Fin 256) (feat ⟨(y 2).val / 128, by omega⟩ ⟨(y 2).val % 128, by omega⟩) := by
    refine funext fun a => Fin.ext ?_
    have h0 : (y 0).val < 1 := (y 0).isLt
    match a with
    | ⟨0, _⟩ => show (y 0).val = 0; omega
    | ⟨1, _⟩ => rfl
    | ⟨2, _⟩ => show (y 2).val = 128 * ((y 2).val / 128) + (y 2).val % 128; omega
  have hpt := point m c hp t ⟨(y 2).val / 128, by omega⟩ ⟨(y 1).val, h1⟩ ⟨(y 2).val % 128, by omega⟩
  refine (congrArg (outBlk (F := Ideal) m c t) ey).trans (hpt.trans (congrArg (refOf m c) ?_))
  blk_ext [idx t, row, pb, ph, pq, Cert.ReferenceIdeal.Attention.feat]

end Cert.KernelIdeal.Value
end
-- ==== Proof.Rows.lean ====
module

public import Idealize.ShloMosaic.Lib.Pipeline.ValueKit
public import Idealize.ShloMosaic.Lib.Pointwise

@[expose] public section

/-! # A row of 128 numbers as int8 codes and one scale -/

noncomputable section

namespace Cert.Rows

open Idealize.ShloMosaic

variable (u : Fin 128 → EReal)

/-- The greatest magnitude of a row, -/
def top : EReal := Finset.univ.fold max (Ideal.ofBits FTy.f32 0xFF800000#32) fun d => FloatOps.absf (F := Ideal) (φ := .f32) (u d)
/-- its scale: a 127th of it, or one of a row of zeros, -/
def scale : EReal := if top u = 0 then 1 else Ideal.div (top u) (Ideal.ofBits FTy.f32 0x42FE0000#32)
/-- and its codes: the quotients rounded to the nearest integer and clipped to ±127. -/
def code (d : Fin 128) : BitVec 8 :=
  FloatOps.fptosi (F := Ideal) (φ := .f32) 8 (min (Ideal.ofBits FTy.f32 0x42FE0000#32) (max (Ideal.ofBits FTy.f32 0xC2FE0000#32)
    (Ideal.liftRound Ideal.roundHalfEven (Ideal.div (u d) (scale u)))))

end Cert.Rows
end
-- ==== Proof.QPoint.lean ====
module

public import proofs.«01_k».proof.Proof.Gen.KernelQIdeal.Value
public import proofs.«01_k».proof.Proof.Rows

@[expose] public section

set_option maxRecDepth 16384

/-! # The query quantiser: what one block computes -/

noncomputable section

namespace Cert.KernelQIdeal.Row

open Idealize.ShloMosaic Idealize.ShloMosaic.TcCoe Idealize.SL.Sem
open Cert.KernelQIdeal Cert.KernelQIdeal.Gen

section Head

variable (v : Vec Ideal S1x512x128 .bf16) (r : Fin 512) (d : Fin 128)

/-- The numbers of row `r` that are quantised: the loaded ones times 128^(-1/2). -/
def nums : Fin 128 → EReal := fun d => (show EReal from v (ix3 0 r d)) * Ideal.ofBits FTy.f32 0x3DB504F3#32

theorem scale_at : k0_pay3 (F := Ideal) v (ix2 r 0) = Rows.scale (nums v r) := by
  pointwise [k0_pay3, k0_pay2]
  rfl

theorem code_at : k0_pay4 (F := Ideal) v (ix3 0 r d) = Rows.code (nums v r) d := by
  pointwise [k0_pay4, k0_pay2]
  rw [scale_at]
  rfl

/-! Every head's payloads are the first head's. -/
theorem scale1 : k0_pay9 (k0_pay7 v) (k0_pay8 v) = k0_pay3 v := rfl
theorem scale2 : k0_pay12 v = k0_pay3 v := rfl
theorem scale3 : k0_pay15 v = k0_pay3 v := rfl
theorem scale4 : k0_pay18 v = k0_pay3 v := rfl
theorem scale5 : k0_pay21 v = k0_pay3 v := rfl
theorem scale6 : k0_pay24 v = k0_pay3 v := rfl
theorem scale7 : k0_pay27 v = k0_pay3 v := rfl
theorem code1 : k0_pay10 (k0_pay5 v) (k0_pay7 v) (k0_pay8 v) = k0_pay4 v := rfl
theorem code2 : k0_pay13 v = k0_pay4 v := rfl
theorem code3 : k0_pay16 v = k0_pay4 v := rfl
theorem code4 : k0_pay19 (k0_pay17 v) (k0_pay18 v) = k0_pay4 v := rfl
theorem code5 : k0_pay22 v = k0_pay4 v := rfl
theorem code6 : k0_pay25 v = k0_pay4 v := rfl
theorem code7 : k0_pay29 (k0_pay28 v) = k0_pay4 v := rfl

end Head

/-- Head `h`'s scales are row `h` of the packed block. -/
theorem packed (s0 s1 s2 s3 s4 s5 s6 s7 : FVec Ideal S512x1 .f32) (r : Fin 512) (T : Fin 8 → EReal)
    (h0 : s0 (ix2 r 0) = T 0) (h1 : s1 (ix2 r 0) = T 1) (h2 : s2 (ix2 r 0) = T 2) (h3 : s3 (ix2 r 0) = T 3)
    (h4 : s4 (ix2 r 0) = T 4) (h5 : s5 (ix2 r 0) = T 5) (h6 : s6 (ix2 r 0) = T 6) (h7 : s7 (ix2 r 0) = T 7) (h : Fin 8) :
    k0_pay1 (F := Ideal) s7 (iota .tc S512x128 32 [1] iota_S512x128_d1_w32) (k0_pay30 s0 s1 s2 s3 s4 s5 s6) 7#32 (ix3 0 h r) = T h := by
  pointwise [k0_pay1, k0_pay30]
  rw [h0, h1, h2, h3, h4, h5, h6, h7]
  clear h0 h1 h2 h3 h4 h5 h6 h7 s0 s1 s2 s3 s4 s5 s6 s7
  fin_cases h <;> rfl

/-! ## The whole block -/

variable (x : Vec Ideal S1x512x1024 .bf16)

/-- Row `r` of head `h` of the block, scaled. -/
def row (r : Fin 512) (h : Fin 8) : Fin 128 → EReal :=
  fun d => (show EReal from x (ix3 0 r (⟨128 * h.val + d.val, by have := h.isLt; have := d.isLt; omega⟩ : Fin 1024))) * Ideal.ofBits FTy.f32 0x3DB504F3#32

/-- The block's codes. -/
def codes : Vec Ideal S1x512x1024 .i8 := fun y =>
  Rows.code (row x ⟨(y 1).val, (y 1).isLt⟩ ⟨(y 2).val / 128, by have : (y 2).val < 1024 := (y 2).isLt; omega⟩) ⟨(y 2).val % 128, by omega⟩

theorem codes_of (v : Vec Ideal S1x512x128 .bf16) (h : Fin 8)
    (hv : ∀ (r : Fin 512) (d : Fin 128), v (ix3 0 r d) = x (ix3 0 r (⟨128 * h.val + d.val, by have := h.isLt; have := d.isLt; omega⟩ : Fin 1024)))
    (z : S1x512x128.Idx) (y : S1x512x1024.Idx) (h1 : (y 1).val = (z 1).val) (h2 : (y 2).val = 128 * h.val + (z 2).val) :
    k0_pay4 (F := Ideal) v z = codes x y := by
  have hz : (z 2).val < 128 := (z 2).isLt
  have hz1 : (z 1).val < 512 := (z 1).isLt
  have ez : z = (ix3 0 (⟨(z 1).val, hz1⟩ : Fin 512) (⟨(z 2).val, hz⟩ : Fin 128) : S1x512x128.Idx) := by
    refine funext fun a => Fin.ext ?_
    have h0 : (z 0).val < 1 := (z 0).isLt
    match a with
    | ⟨0, _⟩ => show (z 0).val = 0; omega
    | ⟨1, _⟩ => rfl
    | ⟨2, _⟩ => rfl
  refine (congrArg (k0_pay4 (F := Ideal) v) ez).trans ((code_at v ⟨(z 1).val, hz1⟩ ⟨(z 2).val, hz⟩).trans ?_)
  unfold codes
  have e1 : (⟨(y 1).val, (y 1).isLt⟩ : Fin 512) = ⟨(z 1).val, hz1⟩ := Fin.ext h1
  have e2 : (⟨(y 2).val / 128, by have : (y 2).val < 1024 := (y 2).isLt; omega⟩ : Fin 8) = h := Fin.ext (by show (y 2).val / 128 = h.val; omega)
  have e3 : (⟨(y 2).val % 128, by omega⟩ : Fin 128) = ⟨(z 2).val, hz⟩ := Fin.ext (by show (y 2).val % 128 = (z 2).val; omega)
  rw [e1, e2, e3]
  refine congrArg (Rows.code · _) (funext fun d => ?_)
  rw [nums, row, hv]

theorem ld_at (o : Fin 3 → Nat) (h) (X : Vec Ideal S1x512x1024 .bf16) (k : Fin 8) (h0 : o 0 = 0) (h1 : o 1 = 0) (h2 : o 2 = 128 * k.val) (r : Fin 512) (d : Fin 128) :
    (fun j => X ((Rect.unit (s := S1x512x1024) o S1x512x128.size h).idx j)) (ix3 0 r d : S1x512x128.Idx) = X (ix3 0 r (⟨128 * k.val + d.val, by have := k.isLt; have := d.isLt; omega⟩ : Fin 1024)) := by
  refine congrArg X (funext fun a => Fin.ext ?_)
  match a with
  | ⟨0, _⟩ => show o 0 + 1 * 0 = 0; omega
  | ⟨1, _⟩ => show o 1 + 1 * r.val = r.val; omega
  | ⟨2, _⟩ => show o 2 + 1 * d.val = 128 * k.val + d.val; omega

theorem out_codes : out0_1 (F := Ideal) x = codes x := by
  unfold out0_1 k0_pay31 k0_pay32 k0_pay33
  rw [code1, code2, code3, code4, code5, code6, code7]
  funext y
  refine View.canon_apply_of_pieces (codes x) _ ?_ y (cover0_1 _ _ _ _ _ _ _ _ y)
  intro pc hpc
  rcases List.mem_cons.mp hpc with rfl | hpc
  · exact fun z => codes_of x _ 7 (ld_at _ _ x 7 rfl rfl rfl) z _ (by show 0 + 1 * _ = _; omega) (by show 896 + 1 * _ = 128 * 7 + _; omega)
  rcases List.mem_cons.mp hpc with rfl | hpc
  · exact fun z => codes_of x _ 6 (ld_at _ _ x 6 rfl rfl rfl) z _ (by show 0 + 1 * _ = _; omega) (by show 768 + 1 * _ = 128 * 6 + _; omega)
  rcases List.mem_cons.mp hpc with rfl | hpc
  · exact fun z => codes_of x _ 5 (ld_at _ _ x 5 rfl rfl rfl) z _ (by show 0 + 1 * _ = _; omega) (by show 640 + 1 * _ = 128 * 5 + _; omega)
  rcases List.mem_cons.mp hpc with rfl | hpc
  · exact fun z => codes_of x _ 4 (ld_at _ _ x 4 rfl rfl rfl) z _ (by show 0 + 1 * _ = _; omega) (by show 512 + 1 * _ = 128 * 4 + _; omega)
  rcases List.mem_cons.mp hpc with rfl | hpc
  · exact fun z => codes_of x _ 3 (ld_at _ _ x 3 rfl rfl rfl) z _ (by show 0 + 1 * _ = _; omega) (by show 384 + 1 * _ = 128 * 3 + _; omega)
  rcases List.mem_cons.mp hpc with rfl | hpc
  · exact fun z => codes_of x _ 2 (ld_at _ _ x 2 rfl rfl rfl) z _ (by show 0 + 1 * _ = _; omega) (by show 256 + 1 * _ = 128 * 2 + _; omega)
  rcases List.mem_cons.mp hpc with rfl | hpc
  · exact fun z => codes_of x _ 1 (ld_at _ _ x 1 rfl rfl rfl) z _ (by show 0 + 1 * _ = _; omega) (by show 128 + 1 * _ = 128 * 1 + _; omega)
  rcases List.mem_cons.mp hpc with rfl | hpc
  · exact fun z => codes_of x _ 0 (ld_at _ _ x 0 rfl rfl rfl) z _ (by show 0 + 1 * _ = _; omega) (by show 0 + 1 * _ = 128 * 0 + _; omega)
  nomatch hpc

/-- The block's scales. -/
theorem out_scales (h : Fin 8) (r : Fin 512) : out0_2 (F := Ideal) x (ix3 0 h r) = Rows.scale (row x r h) := by
  unfold out0_2 k0_pay31 k0_pay32 k0_pay33
  rw [scale1, scale2, scale3, scale4, scale5, scale6, scale7]
  have key : ∀ (v : Vec Ideal S1x512x128 .bf16) (h : Fin 8)
      (hv : ∀ (r : Fin 512) (d : Fin 128), v (ix3 0 r d) = x (ix3 0 r (⟨128 * h.val + d.val, by have := h.isLt; have := d.isLt; omega⟩ : Fin 1024))),
      k0_pay3 (F := Ideal) v (ix2 r 0) = Rows.scale (row x r h) := by
    intro v h hv
    rw [scale_at]
    refine congrArg Rows.scale (funext fun d => ?_)
    rw [nums, row, hv]
  have one : ∀ w : Vec Ideal S1x8x512 .f32, View.canon [⟨r0_8, w⟩] (ix3 0 h r : S1x8x512.Idx) = w (ix3 0 h r) := by
    intro w
    refine View.canon_apply_of_pieces w _ ?_ _ (cover0_2 _ _)
    intro pc hpc
    rcases List.mem_cons.mp hpc with rfl | hpc
    · intro z
      refine congrArg w (funext fun a => Fin.ext ?_)
      match a with
      | ⟨0, _⟩ => show (z 0).val = 0 + 1 * (z 0).val; omega
      | ⟨1, _⟩ => show (z 1).val = 0 + 1 * (z 1).val; omega
      | ⟨2, _⟩ => show (z 2).val = 0 + 1 * (z 2).val; omega
    nomatch hpc
  exact (one _).trans (packed _ _ _ _ _ _ _ _ r (fun h => Rows.scale (row x r h))
    (key _ 0 (ld_at _ _ x 0 rfl rfl rfl)) (key _ 1 (ld_at _ _ x 1 rfl rfl rfl)) (key _ 2 (ld_at _ _ x 2 rfl rfl rfl))
    (key _ 3 (ld_at _ _ x 3 rfl rfl rfl)) (key _ 4 (ld_at _ _ x 4 rfl rfl rfl)) (key _ 5 (ld_at _ _ x 5 rfl rfl rfl))
    (key _ 6 (ld_at _ _ x 6 rfl rfl rfl)) (key _ 7 (ld_at _ _ x 7 rfl rfl rfl)) h)

end Cert.KernelQIdeal.Row
end
-- ==== Proof.QRef.lean ====
module

public import proofs.«01_k».proof.Proof.Gen.ReferenceQIdeal.Value
public import proofs.«01_k».proof.Proof.Rows

@[expose] public section

set_option maxRecDepth 16384

/-! # The query quantiser of the reference -/

noncomputable section

namespace Cert.ReferenceQIdeal.Row

open Idealize.ShloMosaic Idealize.ShloMosaic.TcCoe Idealize.SL.Sem
open Idealize.ShloMosaic.Pipeline (Dat Cfg Window)
open Cert.ReferenceQIdeal Cert.ReferenceQIdeal.Gen

/-- A scale of a greatest magnitude, read at an index; -/
theorem scale_gen (y : FVec Ideal S8x4096x8 .f32) (i : S8x4096x8.Idx) :
    select (cmpf .oeq y (broadcastInDim S8x4096x8 ![] bcast_S_S8x4096x8 (constant S_ .f32 0x00000000#32)))
      (broadcastInDim S8x4096x8 ![] bcast_S_S8x4096x8 (constant S_ .f32 0x3F800000#32))
      (Host.divf y (broadcastInDim S8x4096x8 ![] bcast_S_S8x4096x8 (constant S_ .f32 0x42FE0000#32))) i
    = if y i = 0 then 1 else Ideal.div (y i) (Ideal.ofBits FTy.f32 0x42FE0000#32) := by
  pointwise

/-- and a quotient, head and feature merged. -/
theorem quot_gen (y : FVec Ideal S8x4096x8x128 .f32) (z : FVec Ideal S8x4096x8 .f32) (b : Fin 8) (n : Fin 4096) (h : Fin 8) (d : Fin 128)
    (e : Fin 1024) (he : e.val = 128 * h.val + d.val) :
    shapeCast S8x4096x1024 (Host.divf y (broadcastInDim S8x4096x8x128 ![0, 1, 2, 3] bcast_S8x4096x8x1_S8x4096x8x128_0_1_2_3
      (broadcastInDim S8x4096x8x1 ![0, 1, 2] bcast_S8x4096x8_S8x4096x8x1_0_1_2 z))) shapeCasts_S8x4096x8x128_S8x4096x1024 (ix3 b n e)
    = Ideal.div (y (ix4 b n h d)) (z (ix3 b n h)) := by
  pointwise
  have h1 : (⟨e.val / 128, by have := e.isLt; omega⟩ : Fin 8) = h := Fin.ext (by show e.val / 128 = h.val; have := d.isLt; omega)
  have h2 : (⟨e.val % 128, by omega⟩ : Fin 128) = d := Fin.ext (by show e.val % 128 = d.val; have := d.isLt; omega)
  rw [h1, h2]

section Terms
variable (A : FVec Ideal S8x4096x1024 .bf16)

/-- The query times 128^(-1/2), head by head; -/
def scaled : FVec Ideal S8x4096x8x128 .f32 :=
  mulf (shapeCast S8x4096x8x128 (extf .f32 A bitsLt_bf16_f32) shapeCasts_S8x4096x1024_S8x4096x8x128) (broadcastInDim S8x4096x8x128 ![] bcast_S_S8x4096x8x128 (constant S_ .f32 0x3DB504F3#32))
/-- the greatest magnitudes; -/
def tops : FVec Ideal S8x4096x8 .f32 :=
  Host.reduce FloatOps.maximumf (Host.absf (scaled A)) (constant S_ .f32 0xFF800000#32) reducesTo_S8x4096x8x128_S8x4096x8_d3 h_S_
/-- the scales; -/
def scales : FVec Ideal S8x4096x8 .f32 :=
  select (cmpf .oeq (tops A) (broadcastInDim S8x4096x8 ![] bcast_S_S8x4096x8 (constant S_ .f32 0x00000000#32)))
    (broadcastInDim S8x4096x8 ![] bcast_S_S8x4096x8 (constant S_ .f32 0x3F800000#32))
    (Host.divf (tops A) (broadcastInDim S8x4096x8 ![] bcast_S_S8x4096x8 (constant S_ .f32 0x42FE0000#32)))
/-- the quotients. -/
def quotients : FVec Ideal S8x4096x1024 .f32 :=
  shapeCast S8x4096x1024 (Host.divf (scaled A) (broadcastInDim S8x4096x8x128 ![0, 1, 2, 3] bcast_S8x4096x8x1_S8x4096x8x128_0_1_2_3
    (broadcastInDim S8x4096x8x1 ![0, 1, 2] bcast_S8x4096x8_S8x4096x8x1_0_1_2 (scales A)))) shapeCasts_S8x4096x8x128_S8x4096x1024

/-- Row `n` of head `h` of batch `b`, scaled. -/
def row (b : Fin 8) (n : Fin 4096) (h : Fin 8) : Fin 128 → EReal :=
  fun d => (show EReal from A (ix3 b n (⟨128 * h.val + d.val, by have := h.isLt; have := d.isLt; omega⟩ : Fin 1024))) * Ideal.ofBits FTy.f32 0x3DB504F3#32

/-- The scales, one row of the sequence for each head. -/
def scalesT : FVec Ideal S8x8x4096 .f32 := transpose S8x8x4096 [0, 2, 1] (scales A) transposes_S8x4096x8_S8x8x4096_0_2_1

variable (b : Fin 8) (n : Fin 4096) (h : Fin 8) (d : Fin 128)

theorem scaled_at : scaled A (ix4 b n h d) = row A b n h d := by
  pointwise [scaled]
  refine congrArg (fun i => (show EReal from A (ix3 b n i)) * Ideal.ofBits FTy.f32 0x3DB504F3#32) (Fin.ext ?_)
  show h.val * 128 + d.val = 128 * h.val + d.val
  omega

theorem tops_at : tops A (ix3 b n h) = Rows.top (row A b n h) := by
  have e : ∀ d, scaled A (ix4 b n h d) = row A b n h d := scaled_at A b n h
  unfold Rows.top
  simp only [← e]
  unfold tops
  generalize scaled A = y
  pointwise

theorem scales_at : scales A (ix3 b n h) = Rows.scale (row A b n h) := by
  have e := scale_gen (tops A) (ix3 b n h)
  rw [tops_at] at e
  unfold scales
  exact e

theorem scalesT_at : scalesT A (ix3 b h n) = Rows.scale (row A b n h) := by
  rw [← scales_at]
  unfold scalesT
  generalize scales A = y
  pointwise

theorem quotients_at : quotients A (ix3 b n (⟨128 * h.val + d.val, by have := h.isLt; have := d.isLt; omega⟩ : Fin 1024))
    = Ideal.div (row A b n h d) (Rows.scale (row A b n h)) := by
  have e := quot_gen (scaled A) (scales A) b n h d ⟨128 * h.val + d.val, by have := h.isLt; have := d.isLt; omega⟩ rfl
  rw [scaled_at, scales_at] at e
  unfold quotients
  exact e

/-- The codes of a row of quotients. -/
theorem narrowed_at (y : Vec Ideal S8x4096x1024 .f32) (i : S8x4096x1024.Idx) :
    k0_pay1 (F := Ideal) y i = FloatOps.fptosi (F := Ideal) (φ := .f32) 8 (min (Ideal.ofBits FTy.f32 0x42FE0000#32)
      (max (Ideal.ofBits FTy.f32 0xC2FE0000#32) (Ideal.liftRound Ideal.roundHalfEven (y i)))) := by
  pointwise [k0_pay1]

theorem codes_at : k0_pay1 (F := Ideal) (quotients A) (ix3 b n (⟨128 * h.val + d.val, by have := h.isLt; have := d.isLt; omega⟩ : Fin 1024))
    = Rows.code (row A b n h) d := by
  have e := narrowed_at (quotients A) (ix3 b n (⟨128 * h.val + d.val, by have := h.isLt; have := d.isLt; omega⟩ : Fin 1024))
  rw [quotients_at] at e
  exact e
end Terms

variable (m : (ℓ : Loc nD τ sig) → Buf (Elt Ideal) ℓ) (c : Dev nD)

open Idealize.ShloMosaic.StableHlo in
theorem V_scales : V m c main_v11 = scalesT (m ((c : Thread nD τ).loc main_arg0)) := by
  unfold V
  simp only [hostOps0, hostOps0_1, hostOps0_2, TRef.ternary, TRef.unary, TRef.toBuf, TRef.ofBuf, cast_eq, List.flatten_cons, List.flatten_nil, List.append_nil, List.cons_append, List.nil_append]
  after_results_simp <;> rfl

open Idealize.ShloMosaic.StableHlo in
theorem V_quotients : V m c main_v15 = quotients (m ((c : Thread nD τ).loc main_arg0)) := by
  unfold V
  simp only [hostOps0, hostOps0_1, hostOps0_2, TRef.ternary, TRef.unary, TRef.toBuf, TRef.ofBuf, cast_eq, List.flatten_cons, List.flatten_nil, List.append_nil, List.cons_append, List.nil_append]
  after_results_simp <;> rfl

theorem idx : ∀ t : Fin cfg0.N, win0_0.index t = ![0, 0, 0] ∧ win0_1.index t = ![0, 0, 0] :=
  (by decide +kernel : ∀ t : Fin grid0.N, _)

/-- The narrowing call's block is the whole array, -/
theorem blk_whole (W : (b : Ref sig .tc) → Buf (Elt Ideal) ((c : Thread nD τ).loc b)) :
    ((cfg0.win 0).blk t0_0).view.read (Elt Ideal) (W (Pipeline.arrRef spec0 0)) = W main_v15 := by
  funext j
  blk_ext [idx t0_0]

theorem blk_quotients : iblk m c 0 t0_0 = quotients (m ((c : Thread nD τ).loc main_arg0)) := by
  unfold iblk
  exact (blk_whole c (V m c)).trans (V_quotients m c)

/-- and leaves the codes of the quotients. -/
theorem final_codes : (dats (F := Ideal) m 0 c).arrAt 1 cfg0.N = k0_pay1 (F := Ideal) (quotients (m ((c : Thread nD τ).loc main_arg0))) := by
  refine (dats m 0 c).arrAt_eq_of_after_last 1 t0_0 (by decide +kernel) _ fun j => ?_
  blk_simp
  rw [after0_1, blk_quotients]
  generalize quotients (m ((c : Thread nD τ).loc main_arg0)) = X
  frame_out

/-- Every run ends with the codes and the scales, the argument unchanged. -/
theorem run (ρ : Dev nD → PrngReg) : θ_run defs (onTc (τ := τ) (main (F := Ideal))) ⟨m, fun _ => 0, ρ⟩ fun r => ∀ c : Dev nD,
      r.2.mem ((c : Thread nD τ).loc main_v16) = k0_pay1 (F := Ideal) (quotients (m ((c : Thread nD τ).loc main_arg0)))
      ∧ r.2.mem ((c : Thread nD τ).loc main_v11) = scalesT (m ((c : Thread nD τ).loc main_arg0))
      ∧ r.2.mem ((c : Thread nD τ).loc main_arg0) = m ((c : Thread nD τ).loc main_arg0) :=
  (θ_run defs _ _).mono (fun r h c => ⟨(Value.post1 m r h c).trans (final_codes m c),
      ((h c).2 main_v11 (Pipeline.mem_restRefs_of main_v11 (by decide) (by decide))).trans (V_scales m c),
      Value.kept_main_arg0 m r h c⟩)
    (run_main m ρ)

end Cert.ReferenceQIdeal.Row
end
-- ==== Proof.QFinal.lean ====
module

public import proofs.«01_k».proof.Proof.QPoint
public import proofs.«01_k».proof.Proof.QRef

@[expose] public section

set_option maxRecDepth 16384

/-! # The query quantiser's result arrays -/

noncomputable section

namespace Cert.KernelQIdeal.Row

open Idealize.ShloMosaic Idealize.ShloMosaic.TcCoe Idealize.SL.Sem
open Idealize.ShloMosaic.Pipeline (Dat Cfg Window)
open Cert.KernelQIdeal Cert.KernelQIdeal.Gen

variable (m : (ℓ : Loc nD τ sig) → Buf (Elt Ideal) ℓ) (c : Dev nD)

theorem idx : ∀ t : Fin cfg0.N, win0_0.index t = ![(grid0.coords t 0).val, (grid0.coords t 1).val, 0]
    ∧ win0_1.index t = ![(grid0.coords t 0).val, (grid0.coords t 1).val, 0] ∧ win0_2.index t = ![(grid0.coords t 0).val, 0, (grid0.coords t 1).val] :=
  (by decide +kernel : ∀ t : Fin grid0.N, _)

/-- The grid point's batch and block of rows; -/
abbrev pb (t : Fin cfg0.N) : Fin 8 := grid0.coords t 0
abbrev pq (t : Fin cfg0.N) : Fin 8 := grid0.coords t 1
/-- row `r` of that block in the sequence. -/
abbrev seqRow (q : Fin 8) (r : Fin 512) : Fin 4096 := ⟨512 * q.val + r.val, by have := q.isLt; have := r.isLt; omega⟩

/-- The query argument. -/
abbrev query : FVec Ideal Cert.ReferenceQIdeal.S8x4096x1024 .bf16 := m ((c : Thread nD τ).loc main_arg0)

theorem row_at (t : Fin cfg0.N) (r : Fin 512) (h : Fin 8) :
    row (iblk m c 0 t) r h = Cert.ReferenceQIdeal.Row.row (query m c) (pb t) (seqRow (pq t) r) h := by
  funext d
  unfold row Cert.ReferenceQIdeal.Row.row
  refine congrArg (fun z : EReal => z * Ideal.ofBits FTy.f32 0x3DB504F3#32) ?_
  blk_ext [iblk, V, idx t, pb, pq, seqRow]

/-- The codes are the reference's; -/
theorem final_codes : (dats (F := Ideal) m 0 c).arrAt 1 cfg0.N
    = Cert.ReferenceQIdeal.Gen.k0_pay1 (F := Ideal) (Cert.ReferenceQIdeal.Row.quotients (query m c)) := by
  refine (dats m 0 c).arrAt_eq_of_covers 1 _ (by decide +kernel) fun t _ y => ?_
  blk_simp
  rw [after0_1, out_codes]
  have h1 : (y 1).val < 512 := (y 1).isLt
  have h2 : (y 2).val < 1024 := (y 2).isLt
  refine (congrArg (Rows.code · _) (row_at m c t ⟨(y 1).val, h1⟩ ⟨(y 2).val / 128, by omega⟩)).trans ?_
  refine (Cert.ReferenceQIdeal.Row.codes_at (query m c) (pb t) (seqRow (pq t) ⟨(y 1).val, h1⟩) ⟨(y 2).val / 128, by omega⟩ ⟨(y 2).val % 128, by omega⟩).symm.trans ?_
  refine congrArg (Cert.ReferenceQIdeal.Gen.k0_pay1 (F := Ideal) (Cert.ReferenceQIdeal.Row.quotients (query m c))) ?_
  blk_ext [idx t, pb, pq, seqRow]

/-- and so are the scales. -/
theorem final_scales : (dats (F := Ideal) m 0 c).arrAt 2 cfg0.N
    = Cert.ReferenceQIdeal.Row.scalesT (query m c) := by
  refine (dats m 0 c).arrAt_eq_of_covers 2 _ (by decide +kernel) fun t _ y => ?_
  blk_simp
  rw [after0_2]
  have h1 : (y 1).val < 8 := (y 1).isLt
  have h2 : (y 2).val < 512 := (y 2).isLt
  have ey : y = (ix3 0 (⟨(y 1).val, h1⟩ : Fin 8) (⟨(y 2).val, h2⟩ : Fin 512) : S1x8x512.Idx) := by
    refine funext fun a => Fin.ext ?_
    have h0 : (y 0).val < 1 := (y 0).isLt
    match a with
    | ⟨0, _⟩ => show (y 0).val = 0; omega
    | ⟨1, _⟩ => rfl
    | ⟨2, _⟩ => rfl
  refine (congrArg (out0_2 (F := Ideal) (iblk m c 0 t)) ey).trans ((out_scales (iblk m c 0 t) ⟨(y 1).val, h1⟩ ⟨(y 2).val, h2⟩).trans ?_)
  rw [row_at]
  refine (Cert.ReferenceQIdeal.Row.scalesT_at (query m c) (pb t) (seqRow (pq t) ⟨(y 2).val, h2⟩) ⟨(y 1).val, h1⟩).symm.trans ?_
  refine congrArg (Cert.ReferenceQIdeal.Row.scalesT (query m c)) ?_
  blk_ext [idx t, pb, pq, seqRow]

end Cert.KernelQIdeal.Row
end
-- ==== Proof.Chan.lean ====
module

public import proofs.«01_k».proof.Proof.Rows

@[expose] public section

/-! # A channel of 4096 numbers as fp8 codes and one scale, a power of two -/

noncomputable section

namespace Cert.Chan

open Idealize.ShloMosaic

/-- The least of the powers of two 2^(-125) … 2^127 above `y`. -/
def above (y : EReal) : EReal :=
  Finset.univ.fold min (Ideal.ofBits FTy.f32 0x7F800000#32) fun e : Fin 253 =>
    if y < ((((2 : ℝ) ^ ((e.val : ℤ) - 125) : ℝ)) : EReal) then ((((2 : ℝ) ^ ((e.val : ℤ) - 125) : ℝ)) : EReal) else Ideal.ofBits FTy.f32 0x7F800000#32

variable (u : Fin 4096 → EReal)

/-- The mean of a channel; -/
def mean : EReal := Ideal.div (∑ n, u n) (Ideal.ofBits FTy.f32 0x45800000#32)
/-- its greatest magnitude, -/
def top : EReal := Finset.univ.fold max (Ideal.ofBits FTy.f32 0xFF800000#32) fun n => FloatOps.absf (F := Ideal) (φ := .f32) (u n)
/-- and that over 448; -/
def part : EReal := top u * Ideal.ofBits FTy.f32 0x3B124925#32
/-- its scale; -/
def scale : EReal := if top u = 0 then 1 else above (part u)
/-- and a number times the inverse of a scale, clipped to ±448. -/
def code (x s : EReal) : EReal :=
  min (Ideal.ofBits FTy.f32 0x43E00000#32) (max (Ideal.ofBits FTy.f32 0xC3E00000#32) (x * Ideal.div 1 s))

end Cert.Chan
end
-- ==== Proof.Pow.lean ====
module

public import proofs.«01_k».proof.Proof.Chan
public import proofs.«01_k».proof.Proof.Soft

@[expose] public section

set_option maxRecDepth 16384

/-! # The exponent field of a number by bisection, and the least power of two above it -/

noncomputable section

namespace Cert.Chan

open Idealize.ShloMosaic

/-- The float of exponent field `n` and no further bits. -/
def fl (n : ℕ) : EReal := if n = 0 then 0 else if n < 255 then ((((2 : ℝ) ^ ((n : ℤ) - 127) : ℝ)) : EReal) else ⊤

theorem fields : ∀ n : Fin 256, ((BitVec.ofNat 32 n.val <<< 23#32).extractLsb' 31 1 = 0#1)
    ∧ ((BitVec.ofNat 32 n.val <<< 23#32).extractLsb' 23 8).toNat = n.val ∧ ((BitVec.ofNat 32 n.val <<< 23#32).extractLsb' 0 23).toNat = 0 := by
  decide +kernel

theorem fl_bits (n : ℕ) (hn : n < 256) : Ideal.ofBits FTy.f32 (BitVec.ofNat 32 n <<< 23#32) = fl n := by
  obtain ⟨hs, hx, hf⟩ := fields ⟨n, hn⟩
  show Ideal.ieee 8 23 _ = _
  unfold Ideal.ieee fl
  dsimp only at hs hx hf ⊢
  rw [show (8 + 23 : ℕ) = 31 from rfl, hs, hx, hf]
  by_cases h0 : n = 0
  · subst h0; simp
  by_cases h1 : n < 255
  · rw [if_neg h0, if_pos h1, if_neg (by omega), if_neg h0]
    rw [if_neg (by decide)]
    refine congrArg Real.toEReal ?_
    have e : ((2 : ℝ) ^ ((n : ℤ) - (2 ^ (8 - 1) - 1) - (23 : ℕ))) = (2 : ℝ) ^ ((n : ℤ) - 127) * ((2 : ℝ) ^ (23 : ℤ))⁻¹ := by
      rw [← zpow_neg, ← zpow_add₀ (by norm_num)]; congr 1
    rw [e]
    norm_num
    ring
  · rw [if_pos (by omega), if_pos rfl, if_neg (by decide), if_neg h0, if_neg h1]

theorem fl_mono {a b : ℕ} (h : a ≤ b) : fl a ≤ fl b := by
  have pos : ∀ n : ℤ, (0 : EReal) ≤ (((2 : ℝ) ^ n : ℝ) : EReal) := fun n => EReal.coe_nonneg.mpr (by positivity)
  unfold fl
  split_ifs <;> first | exact le_refl _ | exact le_top | exact pos _ | omega | skip
  exact EReal.coe_le_coe_iff.mpr (zpow_le_zpow_right₀ (by norm_num) (by omega))

theorem fl_pos {n : ℕ} (h : 1 ≤ n) : 0 < fl n := by
  unfold fl
  split_ifs
  · omega
  · exact EReal.coe_pos.mpr (by positivity)
  · exact EReal.zero_lt_top

theorem fl_mid {n : ℕ} (h : 1 ≤ n) (h' : n < 255) : fl n = ((((2 : ℝ) ^ ((n : ℤ) - 127) : ℝ)) : EReal) := by
  rw [fl, if_neg (by omega), if_pos h']

theorem fl_lt_of_lt {n m : ℕ} {y : EReal} (lo : fl n ≤ y) (hi : y < fl m) : n < m := by
  by_contra h
  exact absurd (lt_of_le_of_lt lo hi) (not_lt.mpr (fl_mono (by omega)))

/-- One step of the bisection. -/
def step (y : EReal) (s x : BitVec 32) : BitVec 32 := if Ideal.ofBits FTy.f32 ((x + s) <<< 23#32) ≤ y then x + s else x

/-- `x` is a field below `256 - w` whose float is not above `y`, while that `w` fields on is. -/
def Holds (y : EReal) (w : ℕ) (x : BitVec 32) : Prop := ∃ n : ℕ, x = BitVec.ofNat 32 n ∧ n + w ≤ 256 ∧ fl n ≤ y ∧ y < fl (n + w)

theorem step_holds (y : EReal) (w : ℕ) (hw : 1 ≤ w) (x : BitVec 32) (h : Holds y (w + w) x) : Holds y w (step y (BitVec.ofNat 32 w) x) := by
  obtain ⟨n, rfl, hn, lo, hi⟩ := h
  have e : BitVec.ofNat 32 n + BitVec.ofNat 32 w = BitVec.ofNat 32 (n + w) := (BitVec.ofNat_add n w).symm
  unfold step
  rw [e, fl_bits (n + w) (by omega)]
  by_cases hc : fl (n + w) ≤ y
  · rw [if_pos hc]
    exact ⟨n + w, rfl, by omega, hc, by rw [add_assoc]; exact hi⟩
  · rw [if_neg hc]
    exact ⟨n, rfl, by omega, lo, not_le.mp hc⟩

/-- The whole bisection. -/
def field (y : EReal) : BitVec 32 :=
  step y 1#32 (step y 2#32 (step y 4#32 (step y 8#32 (step y 16#32 (step y 32#32 (step y 64#32 (step y 128#32 0#32)))))))

theorem field_holds (y : EReal) (h0 : 0 ≤ y) (h1 : y < ⊤) : Holds y 1 (field y) :=
  step_holds y 1 (by omega) _ (step_holds y 2 (by omega) _ (step_holds y 4 (by omega) _ (step_holds y 8 (by omega) _
    (step_holds y 16 (by omega) _ (step_holds y 32 (by omega) _ (step_holds y 64 (by omega) _ (step_holds y 128 (by omega) _
      ⟨0, rfl, by omega, h0, by simpa [fl] using h1⟩)))))))

theorem above_eq {y : EReal} {n : ℕ} (hn : 1 ≤ n) (hn' : n ≤ 253) (lo : fl n ≤ y) (hi : y < fl (n + 1)) : above y = fl (n + 1) := by
  have e1 : fl (n + 1) = ((((2 : ℝ) ^ ((n : ℤ) - 126) : ℝ)) : EReal) := by
    rw [fl_mid (by omega) (by omega)]; congr 2; push_cast; ring
  rw [fl_mid hn (by omega)] at lo
  rw [e1] at hi ⊢
  apply le_antisymm
  · unfold above
    rw [Finset.fold_min_le]
    refine Or.inr ⟨⟨n - 1, by omega⟩, Finset.mem_univ _, ?_⟩
    have ee : (((⟨n - 1, by omega⟩ : Fin 253).val : ℤ) - 125) = (n : ℤ) - 126 := by
      show ((n - 1 : ℕ) : ℤ) - 125 = _
      omega
    rw [ee, if_pos hi]
  · unfold above
    rw [Finset.le_fold_min]
    refine ⟨by rw [Cert.Soft.ofBits_inf]; exact le_top, fun e _ => ?_⟩
    by_cases hc : y < ((((2 : ℝ) ^ ((e.val : ℤ) - 125) : ℝ)) : EReal)
    · rw [if_pos hc]
      have hlt := EReal.coe_lt_coe_iff.mp (lt_of_le_of_lt lo hc)
      have := (zpow_lt_zpow_iff_right₀ (by norm_num : (1 : ℝ) < 2)).mp hlt
      exact EReal.coe_le_coe_iff.mpr (zpow_le_zpow_right₀ (by norm_num) (by omega))
    · rw [if_neg hc, Cert.Soft.ofBits_inf]
      exact le_top

/-- The factor 1/448, rounded. -/
theorem c448 : Ideal.ofBits FTy.f32 0x3B124925#32 = ((9586981 / 4294967296 : ℝ) : EReal) := by
  simp [Ideal.ofBits, Ideal.ieee, -EReal.coe_mul]; norm_num
theorem bfMax : Ideal.ofBits FTy.f32 0x7F7F0000#32 = (((16711680 : ℝ) * 2 ^ 104 : ℝ) : EReal) := by
  simp [Ideal.ofBits, Ideal.ieee, -EReal.coe_mul]
theorem lowest : Ideal.ofBits FTy.f32 0x05000000#32 = ((((2 : ℝ) ^ (-117 : ℤ) : ℝ)) : EReal) := by
  simp [Ideal.ofBits, Ideal.ieee, -EReal.coe_mul]; norm_num

/-- What the precondition says of a channel's greatest magnitude. -/
def Tame (a : EReal) : Prop := a = 0 ∨ (Ideal.ofBits FTy.f32 0x05000000#32 ≤ a ∧ a ≤ Ideal.ofBits FTy.f32 0x7F7F0000#32)

theorem part_tame {a : EReal} (h : Tame a) (ha : a ≠ 0) : fl 1 ≤ a * Ideal.ofBits FTy.f32 0x3B124925#32 ∧ a * Ideal.ofBits FTy.f32 0x3B124925#32 < fl 247 := by
  obtain h | ⟨h1, h2⟩ := h
  · exact absurd h ha
  rw [lowest] at h1
  rw [bfMax] at h2
  rw [c448, fl_mid (by omega) (by omega), fl_mid (by omega) (by omega)]
  have hb : a ≠ ⊥ := fun e => by rw [e] at h1; exact absurd h1 (by simp)
  have ht : a ≠ ⊤ := fun e => by rw [e] at h2; exact absurd h2 (not_le.mpr (EReal.coe_lt_top _))
  lift a to ℝ using ⟨ht, hb⟩
  have g1 := EReal.coe_le_coe_iff.mp h1
  have g2 := EReal.coe_le_coe_iff.mp h2
  rw [← EReal.coe_mul]
  refine ⟨EReal.coe_le_coe_iff.mpr ?_, EReal.coe_lt_coe_iff.mpr ?_⟩
  · have : ((2 : ℝ) ^ (((1 : ℕ) : ℤ) - 127)) = (2 : ℝ) ^ (-117 : ℤ) * (1 / 512) := by norm_num
    rw [this]
    exact mul_le_mul g1 (by norm_num) (by norm_num) (le_trans (by positivity) g1)
  · have : ((2 : ℝ) ^ (((247 : ℕ) : ℤ) - 127)) = 2 ^ 120 := by norm_num
    rw [this]
    have : a * (9586981 / 4294967296) ≤ ((16711680 : ℝ) * 2 ^ 104) * (9586981 / 4294967296) := mul_le_mul_of_nonneg_right g2 (by norm_num)
    exact lt_of_le_of_lt this (by norm_num)

/-- The field, or 126 for a field of zero. -/
def biased (y : EReal) : BitVec 32 := if field y = 0#32 then 126#32 else field y

/-- The float of the next field is the scale, that of 253 minus the field its inverse. -/
theorem biased_scale (u : Fin 4096 → EReal) (h : Tame (top u)) :
    Ideal.ofBits FTy.f32 ((biased (part u) + 1#32) <<< 23#32) = scale u
    ∧ Ideal.ofBits FTy.f32 ((253#32 - biased (part u)) <<< 23#32) = Ideal.div 1 (scale u) := by
  have one : fl 127 = 1 := by rw [fl_mid (by omega) (by omega)]; norm_num
  have div1 : Ideal.div 1 1 = (1 : EReal) := by unfold Ideal.div; rw [if_neg one_ne_zero]; simp
  by_cases ha : top u = 0
  · have hp : part u = 0 := by rw [part, ha, zero_mul]
    obtain ⟨n, e, hn, lo, hi⟩ := field_holds (part u) (by rw [hp]) (by rw [hp]; exact EReal.zero_lt_top)
    have n0 : n = 0 := by
      by_contra hne
      rw [hp] at lo
      exact absurd lo (not_le.mpr (fl_pos (by omega)))
    have hb : biased (part u) = 126#32 := by rw [biased, e, n0]; rfl
    rw [hb, scale, if_pos ha, div1]
    exact ⟨(fl_bits 127 (by omega)).trans one, (fl_bits 127 (by omega)).trans one⟩
  · obtain ⟨p1, p2⟩ := part_tame h ha
    have hp0 : 0 ≤ part u := le_trans (fl_pos (by omega)).le p1
    obtain ⟨n, e, hn, lo, hi⟩ := field_holds (part u) hp0 (lt_of_lt_of_le p2 le_top)
    have n1 : 1 < n + 1 := fl_lt_of_lt p1 hi
    have n2 : n < 247 := fl_lt_of_lt lo p2
    have hne : ¬ (BitVec.ofNat 32 n = 0#32) := by
      intro hc
      have := congrArg BitVec.toNat hc
      rw [BitVec.toNat_ofNat] at this
      simp at this
      omega
    have hb : biased (part u) = BitVec.ofNat 32 n := by rw [biased, e, if_neg hne]
    have a1 : BitVec.ofNat 32 n + 1#32 = BitVec.ofNat 32 (n + 1) := (BitVec.ofNat_add n 1).symm
    have a2 : 253#32 - BitVec.ofNat 32 n = BitVec.ofNat 32 (253 - n) := by
      apply BitVec.eq_of_toNat_eq
      rw [BitVec.toNat_sub, BitVec.toNat_ofNat, BitVec.toNat_ofNat, BitVec.toNat_ofNat]
      omega
    rw [hb, a1, a2, fl_bits _ (by omega), fl_bits _ (by omega), scale, if_neg ha, above_eq (by omega) (by omega) lo hi]
    refine ⟨rfl, ?_⟩
    have pos := fl_pos (show 1 ≤ n + 1 by omega)
    rw [fl_mid (show 1 ≤ n + 1 by omega) (by omega)] at pos
    rw [fl_mid (by omega) (by omega), fl_mid (by omega) (by omega)]
    unfold Ideal.div
    rw [if_neg pos.ne', one_mul, ← EReal.coe_inv, ← zpow_neg]
    refine congrArg Real.toEReal (congrArg ((2 : ℝ) ^ · : ℤ → ℝ) ?_)
    omega

end Cert.Chan
end
-- ==== Proof.KVPoint.lean ====
module

public import proofs.«01_k».proof.Proof.Gen.KernelKVIdeal.Value
public import proofs.«01_k».proof.Proof.Pow

@[expose] public section

set_option maxRecDepth 16384

/-! # The key/value quantiser: what one block computes -/

noncomputable section

namespace Cert.KernelKVIdeal.Row

open Idealize.ShloMosaic Idealize.ShloMosaic.TcCoe Idealize.SL.Sem
open Cert.KernelKVIdeal Cert.KernelKVIdeal.Gen

/-! ## The statistics -/

theorem sumStep_at (a : FVec Ideal S8x256 .f32) (v : Vec Ideal S1x512x256 .bf16) (u : Fin 8) (e : Fin 256) :
    k0_pay20 (F := Ideal) a v (ix2 u e) = (show EReal from a (ix2 u e)) + ∑ s : Fin 64, (show EReal from v (ix3 0 (⟨s.val * 8 + u.val, by have := s.isLt; have := u.isLt; omega⟩ : Fin 512) e)) := by
  pointwise [k0_pay20]

theorem maxStep_at (a : FVec Ideal S8x256 .f32) (v : Vec Ideal S1x512x256 .bf16) (u : Fin 8) (e : Fin 256) :
    k0_pay21 (F := Ideal) a v (ix2 u e) = max (show EReal from a (ix2 u e)) (Finset.univ.fold max (Ideal.ofBits FTy.f32 0xFF800000#32)
      fun s : Fin 64 => FloatOps.absf (F := Ideal) (φ := .f32) (v (ix3 0 (⟨s.val * 8 + u.val, by have := s.isLt; have := u.isLt; omega⟩ : Fin 512) e))) := by
  pointwise [k0_pay21]

theorem mean_at (a : FVec Ideal S8x256 .f32) (e : Fin 256) :
    k0_pay22 (F := Ideal) a (ix2 0 e) = Ideal.div (∑ u : Fin 8, (show EReal from a (ix2 u e))) (Ideal.ofBits FTy.f32 0x45800000#32) := by
  pointwise [k0_pay22]

theorem part_at (a : FVec Ideal S8x256 .f32) (e : Fin 256) :
    k0_pay23 (F := Ideal) a (ix2 0 e) = (Finset.univ.fold max (Ideal.ofBits FTy.f32 0xFF800000#32) fun u : Fin 8 => (show EReal from a (ix2 u e))) * Ideal.ofBits FTy.f32 0x3B124925#32 := by
  pointwise [k0_pay23]

/-! ## The bisection -/

/-- One step of the bisection for the exponent field of `y`. -/
def step (y : FVec Ideal S1x256 .f32) (s : BitVec 32) (x : IVec S1x256 32) : IVec S1x256 32 :=
  select (cmpf .oge y (bitcastToFloat .f32 (shli (addi x (broadcast S1x256 s)) (broadcast S1x256 23#32)))) (addi x (broadcast S1x256 s)) x

theorem high (a : FVec Ideal S8x256 .f32) : k0_pay24 (F := Ideal) a
    = step (k0_pay23 a) 32#32 (step (k0_pay23 a) 64#32 (step (k0_pay23 a) 128#32 (broadcast S1x256 0#32))) := rfl
theorem low (y : FVec Ideal S1x256 .f32) (x : IVec S1x256 32) : k0_pay25 (F := Ideal) y x 16#32
    = step y 1#32 (step y 2#32 (step y 4#32 (step y 8#32 (step y 16#32 x)))) := rfl

theorem step_at (y : FVec Ideal S1x256 .f32) (s : BitVec 32) (x : IVec S1x256 32) (i : S1x256.Idx) :
    step y s x i = Chan.step (y i) s (x i) := by
  unfold Chan.step
  pointwise [step]
  rfl

theorem field_at (a : FVec Ideal S8x256 .f32) (i : S1x256.Idx) :
    k0_pay25 (F := Ideal) (k0_pay23 a) (k0_pay24 a) 16#32 i = Chan.field (k0_pay23 a i) := by
  rw [low, high]
  generalize k0_pay23 a = y
  simp only [step_at]
  rfl

/-- `0` becomes `126`. -/
def shifted (x : BitVec 32) : BitVec 32 := if x = 0#32 then 126#32 else x

theorem select_eq (x : BitVec 32) : Scalar.select (IntOp.cmpi CmpIPredicate.eq x 0#32) (126#32) x = shifted x := by
  unfold shifted
  by_cases h : x = 0#32
  · subst h; rfl
  · rw [if_neg h]
    show (if (BitVec.ofBool (x == 0#32)) = 1#1 then _ else _) = _
    rw [beq_eq_false_iff_ne.mpr h]
    rfl

theorem next_at (x : IVec S1x256 32) (e : Fin 256) :
    k0_pay2 (F := Ideal) x 0#32 (ix2 0 e) = Ideal.ofBits FTy.f32 ((shifted (x (ix2 0 e)) + 1#32) <<< 23#32) := by
  pointwise [k0_pay2, k0_pay1]
  rw [select_eq]
  rfl

theorem less_at (x : IVec S1x256 32) (e : Fin 256) :
    k0_pay3 (F := Ideal) x 0#32 (ix2 0 e) = Ideal.ofBits FTy.f32 ((253#32 - shifted (x (ix2 0 e))) <<< 23#32) := by
  pointwise [k0_pay3, k0_pay1]
  rw [select_eq]
  rfl

/-! ## The key's rows, the two heads' -/

section Keys

variable (m : FVec Ideal S1x256 .f32) (v : Vec Ideal S1x512x128 .bf16) (r : Fin 512) (d : Fin 128)

def nums0 : Fin 128 → EReal := fun d => (show EReal from v (ix3 0 r d)) - (show EReal from m (ix2 0 (⟨d.val, by have := d.isLt; omega⟩ : Fin 256)))
def nums1 : Fin 128 → EReal := fun d => (show EReal from v (ix3 0 r d)) - (show EReal from m (ix2 0 (⟨128 + d.val, by have := d.isLt; omega⟩ : Fin 256)))

theorem scale0_at : k0_pay11 (F := Ideal) m v (ix2 r 0) = Rows.scale (nums0 m v r) := by
  pointwise [k0_pay11, k0_pay10]
  rfl
theorem code0_at : k0_pay12 (F := Ideal) m v (ix3 0 r d) = Rows.code (nums0 m v r) d := by
  pointwise [k0_pay12, k0_pay10]
  rw [scale0_at]
  rfl
theorem scale1_at : k0_pay17 (F := Ideal) m v (ix2 r 0) = Rows.scale (nums1 m v r) := by
  pointwise [k0_pay17, k0_pay16]
  rfl
theorem code1_at : k0_pay18 (F := Ideal) m v (ix3 0 r d) = Rows.code (nums1 m v r) d := by
  pointwise [k0_pay18, k0_pay16]
  rw [scale1_at]
  rfl

end Keys

/-- Head `h`'s scales are row `h` of the packed block. -/
theorem packed (s0 s1 : FVec Ideal S512x1 .f32) (r : Fin 512) (T : Fin 2 → EReal)
    (h0 : s0 (ix2 r 0) = T 0) (h1 : s1 (ix2 r 0) = T 1) (h : Fin 2) :
    k0_pay9 (F := Ideal) s0 s1 (ix3 0 h r) = T h := by
  pointwise [k0_pay9]
  rw [h0, h1]
  clear h0 h1 s0 s1
  fin_cases h <;> rfl

/-! ## The value's channels -/

/-- A number times another, clipped to ±448. -/
def clip (x w : EReal) : EReal := min (Ideal.ofBits FTy.f32 0x43E00000#32) (max (Ideal.ofBits FTy.f32 0xC3E00000#32) (x * w))

theorem value0_at (w : FVec Ideal S1x256 .f32) (v : Vec Ideal S1x512x128 .bf16) (r : Fin 512) (d : Fin 128) :
    k0_pay14 (F := Ideal) (k0_pay13 w v) (ix3 0 r d) = clip (v (ix3 0 r d)) (w (ix2 0 (⟨d.val, by have := d.isLt; omega⟩ : Fin 256))) := by
  pointwise [k0_pay14, k0_pay13]
  rfl

theorem value1_at (x : IVec S1x256 32) (v : Vec Ideal S1x512x128 .bf16) (r : Fin 512) (d : Fin 128) :
    k0_pay7 (F := Ideal) x 0#32 v (ix3 0 r d) = clip (v (ix3 0 r d)) (k0_pay3 (F := Ideal) x 0#32 (ix2 0 (⟨128 + d.val, by have := d.isLt; omega⟩ : Fin 256))) := by
  pointwise [k0_pay7, k0_pay6]
  rfl

theorem turned0_at (w : FVec Ideal S1x256 .f32) (v : Vec Ideal S1x512x128 .bf16) (r : Fin 512) (d : Fin 128) :
    k0_pay15 (F := Ideal) (k0_pay13 w v) (ix4 0 0 d r) = clip (v (ix3 0 r d)) (w (ix2 0 (⟨d.val, by have := d.isLt; omega⟩ : Fin 256))) := by
  pointwise [k0_pay15, k0_pay13]
  rfl

theorem turned1_at (x : IVec S1x256 32) (v : Vec Ideal S1x512x128 .bf16) (r : Fin 512) (d : Fin 128) :
    k0_pay8 (F := Ideal) x 0#32 v (ix4 0 0 d r) = clip (v (ix3 0 r d)) (k0_pay3 (F := Ideal) x 0#32 (ix2 0 (⟨128 + d.val, by have := d.isLt; omega⟩ : Fin 256))) := by
  pointwise [k0_pay8, k0_pay6]
  rfl

theorem part0_at (x : IVec S1x256 32) (d : Fin 128) :
    k0_pay4 (F := Ideal) x 0#32 (ix3 0 0 d) = k0_pay2 (F := Ideal) x 0#32 (ix2 0 (⟨d.val, by have := d.isLt; omega⟩ : Fin 256)) := by
  pointwise [k0_pay4]

theorem part1_at (x : IVec S1x256 32) (d : Fin 128) :
    k0_pay5 (F := Ideal) x 0#32 (ix3 0 0 d) = k0_pay2 (F := Ideal) x 0#32 (ix2 0 (⟨128 + d.val, by have := d.isLt; omega⟩ : Fin 256)) := by
  pointwise [k0_pay5]

end Cert.KernelKVIdeal.Row
end
-- ==== Proof.KVStats.lean ====
module

public import proofs.«01_k».proof.Proof.KVPoint

@[expose] public section

set_option maxRecDepth 16384

/-! # The key/value quantiser: the loop that takes the sums and the greatest magnitudes -/

noncomputable section

namespace Cert.KernelKVIdeal.Row

open Idealize.ShloMosaic Idealize.ShloMosaic.TcCoe Idealize.SL.Sem
open Cert.KernelKVIdeal Cert.KernelKVIdeal.Gen

/-! ## Sums and maxima over a channel, cut in 8 chunks of 64 rows of 8 -/

/-- Token `s * 8 + u` of chunk `k`. -/
abbrev tok (k : ℕ) (s : Fin 64) (u : Fin 8) : Fin 4096 := ⟨(512 * k + (s.val * 8 + u.val)) % 4096, Nat.mod_lt _ (by omega)⟩

theorem tok_bijective : Function.Bijective (fun p : (Fin 8 × Fin 8) × Fin 64 => tok p.1.2.val p.2 p.1.1) := by
  refine (Fintype.bijective_iff_injective_and_card _).mpr ⟨?_, by simp⟩
  rintro ⟨⟨u, k⟩, s⟩ ⟨⟨u', k'⟩, s'⟩ h
  have h := congrArg Fin.val h
  have := u.isLt; have := u'.isLt; have := k.isLt; have := k'.isLt; have := s.isLt; have := s'.isLt
  dsimp only at h
  have hu : u = u' := Fin.ext (by omega)
  have hk : k = k' := Fin.ext (by omega)
  have hs : s = s' := Fin.ext (by omega)
  rw [hu, hk, hs]

theorem sum_tok (f : Fin 4096 → EReal) : (∑ u : Fin 8, ∑ k ∈ Finset.range 8, ∑ s : Fin 64, f (tok k s u)) = ∑ n, f n := by
  have e : ∀ u : Fin 8, (∑ k ∈ Finset.range 8, ∑ s : Fin 64, f (tok k s u)) = ∑ k : Fin 8, ∑ s : Fin 64, f (tok k.val s u) :=
    fun u => Finset.sum_range (fun k => ∑ s : Fin 64, f (tok k s u))
  simp only [e]
  rw [← Fintype.sum_prod_type' (fun (u : Fin 8) (k : Fin 8) => ∑ s : Fin 64, f (tok k.val s u)),
    ← Fintype.sum_prod_type' (fun (p : Fin 8 × Fin 8) (s : Fin 64) => f (tok p.2.val s p.1))]
  exact Fintype.sum_bijective _ tok_bijective _ _ fun p => rfl

theorem absf_nonneg (x : EReal) : 0 ≤ FloatOps.absf (F := Ideal) (φ := .f32) x := by
  show 0 ≤ max x (-x)
  rcases le_total 0 x with h | h
  · exact le_max_of_le_left h
  · exact le_max_of_le_right (by rw [← neg_zero, EReal.neg_le_neg_iff]; exact h)

theorem max_tok (f : Fin 4096 → EReal) (M : Fin 8 → EReal)
    (hM : ∀ u z, M u ≤ z ↔ 0 ≤ z ∧ ∀ k < 8, ∀ s : Fin 64, FloatOps.absf (F := Ideal) (φ := .f32) (f (tok k s u)) ≤ z) :
    (Finset.univ.fold max (Ideal.ofBits FTy.f32 0xFF800000#32) M) = Chan.top f := by
  refine eq_of_forall_ge_iff fun z => ?_
  unfold Chan.top
  rw [Finset.fold_max_le, Finset.fold_max_le]
  refine and_congr_right fun _ => ⟨fun h n _ => ?_, fun h u _ => ?_⟩
  · obtain ⟨⟨⟨u, k⟩, s⟩, rfl⟩ := tok_bijective.2 n
    exact ((hM u z).mp (h u (Finset.mem_univ _))).2 k.val k.isLt s
  · exact (hM u z).mpr ⟨le_trans (absf_nonneg _) (h 0 (Finset.mem_univ _)), fun k _ s => h _ (Finset.mem_univ _)⟩

/-! ## One pass of the loop -/

theorem off1 : ∀ k : Fin k0_t1_loop.trips, k0_off1 k 0 = 0 ∧ k0_off1 k 1 = 512 * k.val ∧ k0_off1 k 2 = 0 := by decide +kernel

/-- What a load through a whole reference reads. -/
theorem load_at {s : Shape} (arg : Memref sig .tc .vmem s .bf16) (harg : arg.IsWhole) (X : Vec Ideal s .bf16) (r : LoadRect s) :
    View.readAt (Elt Ideal) arg.view r (harg.unread X) = fun j => X (r.idx j) := by
  have e := harg.read_unread X
  funext j
  rw [View.readAt_apply, e]

theorem chunk (X : Vec Ideal S1x4096x256 .bf16) (o : Fin 3 → ℕ) (h) (k : ℕ) (hk : k < 8) (h0 : o 0 = 0) (h1 : o 1 = 512 * k) (h2 : o 2 = 0) (s : Fin 64) (u : Fin 8) (e : Fin 256) :
    (fun j => X ((Rect.unit (s := S1x4096x256) o S1x512x256.size h).idx j)) (ix3 0 (⟨s.val * 8 + u.val, by have := s.isLt; have := u.isLt; omega⟩ : Fin 512) e : S1x512x256.Idx) = X (ix3 0 (tok k s u) e) := by
  refine congrArg X (funext fun a => Fin.ext ?_)
  have := s.isLt; have := u.isLt
  match a with
  | ⟨0, _⟩ => show o 0 + 1 * 0 = 0; omega
  | ⟨1, _⟩ => show o 1 + 1 * (s.val * 8 + u.val) = (512 * k + (s.val * 8 + u.val)) % 4096; omega
  | ⟨2, _⟩ => show o 2 + 1 * e.val = e.val; omega

variable (𝒱 : Variants) (c : Dev nD) (bd : Option 𝒱.V) (i : grid0.Coords) (arg1 : Memref sig .tc .vmem S1x4096x256 .bf16) (harg1 : arg1.IsWhole) (arg2 : Memref sig .tc .vmem S1x4096x256 .bf16) (harg2 : arg2.IsWhole)
  (arg3 : Memref sig .tc .vmem S1x4096x256 .i8) (harg3 : arg3.IsWhole) (arg4 : Memref sig .tc .vmem S1x2x4096 .f32) (harg4 : arg4.IsWhole) (arg5 : Memref sig .tc .vmem S1x4096x256 .fp8e4m3) (harg5 : arg5.IsWhole)
  (arg6 : Memref sig .tc .vmem S1x2x128 .f32) (harg6 : arg6.IsWhole) (arg7 : Memref sig .tc .vmem S1x2x128x4096 .fp8e4m3) (harg7 : arg7.IsWhole)
  (x0 x1 : Vec Ideal S1x4096x256 .bf16)

theorem trip_sum (acc : FVec Ideal S8x256 .f32 × FVec Ideal S8x256 .f32) (k : Fin k0_t1_loop.trips) (u : Fin 8) (e : Fin 256) :
    (tripR_k0_t1 (F := Ideal) 𝒱 c bd i arg1 harg1 arg2 harg2 arg3 harg3 arg4 harg4 arg5 harg5 arg6 harg6 arg7 harg7 (harg1.unread x0) (harg2.unread x1) k acc).1 (ix2 u e)
      = (show EReal from acc.1 (ix2 u e)) + ∑ s : Fin 64, (show EReal from x0 (ix3 0 (tok k.val s u) e)) := by
  have hk : k.val < 8 := Nat.lt_of_lt_of_le k.isLt k0_t1_abs.2.1
  obtain ⟨h0, h1, h2⟩ := off1 k
  unfold tripR_k0_t1 trip_k0_t1
  dsimp only
  rw [load_at]
  refine (sumStep_at _ _ u e).trans ?_
  refine congrArg (fun z : EReal => (show EReal from acc.1 (ix2 u e)) + z) (Finset.sum_congr rfl fun s _ => ?_)
  exact chunk x0 _ _ k.val hk h0 h1 h2 s u e

theorem trip_max (acc : FVec Ideal S8x256 .f32 × FVec Ideal S8x256 .f32) (k : Fin k0_t1_loop.trips) (u : Fin 8) (e : Fin 256) :
    (tripR_k0_t1 (F := Ideal) 𝒱 c bd i arg1 harg1 arg2 harg2 arg3 harg3 arg4 harg4 arg5 harg5 arg6 harg6 arg7 harg7 (harg1.unread x0) (harg2.unread x1) k acc).2 (ix2 u e)
      = max (show EReal from acc.2 (ix2 u e)) (Finset.univ.fold max (Ideal.ofBits FTy.f32 0xFF800000#32) fun s : Fin 64 =>
          FloatOps.absf (F := Ideal) (φ := .f32) (x1 (ix3 0 (tok k.val s u) e))) := by
  have hk : k.val < 8 := Nat.lt_of_lt_of_le k.isLt k0_t1_abs.2.1
  obtain ⟨h0, h1, h2⟩ := off1 k
  unfold tripR_k0_t1 trip_k0_t1
  dsimp only
  rw [load_at]
  refine (maxStep_at _ _ u e).trans ?_
  refine congrArg (fun z : EReal => max (show EReal from acc.2 (ix2 u e)) z) (Finset.fold_congr fun s _ => ?_)
  exact congrArg (FloatOps.absf (F := Ideal) (φ := .f32)) (chunk x1 _ _ k.val hk h0 h1 h2 s u e)

/-! ## The whole loop -/

/-- What the loop holds before pass `k`. -/
def stats (k : ℕ) : FVec Ideal S8x256 .f32 × FVec Ideal S8x256 .f32 :=
  st_k0_t1 (F := Ideal) 𝒱 c bd i arg1 harg1 arg2 harg2 arg3 harg3 arg4 harg4 arg5 harg5 arg6 harg6 arg7 harg7 (harg1.unread x0) (harg2.unread x1) (k0_pay19, k0_pay19) k

theorem zero_at (i : S8x256.Idx) : (show EReal from k0_pay19 (F := Ideal) i) = 0 := by
  pointwise [k0_pay19]

theorem trips1 : k0_t1_loop.trips = 8 := by decide +kernel

theorem stats_succ (k : ℕ) (hk : k < 8) : stats 𝒱 c bd i arg1 harg1 arg2 harg2 arg3 harg3 arg4 harg4 arg5 harg5 arg6 harg6 arg7 harg7 x0 x1 (k + 1)
    = tripR_k0_t1 (F := Ideal) 𝒱 c bd i arg1 harg1 arg2 harg2 arg3 harg3 arg4 harg4 arg5 harg5 arg6 harg6 arg7 harg7 (harg1.unread x0) (harg2.unread x1) ⟨k, by rw [trips1]; exact hk⟩ (stats 𝒱 c bd i arg1 harg1 arg2 harg2 arg3 harg3 arg4 harg4 arg5 harg5 arg6 harg6 arg7 harg7 x0 x1 k) :=
  st_k0_t1_succ (F := Ideal) 𝒱 c bd i arg1 harg1 arg2 harg2 arg3 harg3 arg4 harg4 arg5 harg5 arg6 harg6 arg7 harg7 (harg1.unread x0) (harg2.unread x1) (k0_pay19, k0_pay19) ⟨k, by rw [trips1]; exact hk⟩

theorem stats_sum (u : Fin 8) (e : Fin 256) : ∀ k ≤ 8, (show EReal from (stats 𝒱 c bd i arg1 harg1 arg2 harg2 arg3 harg3 arg4 harg4 arg5 harg5 arg6 harg6 arg7 harg7 x0 x1 k).1 (ix2 u e))
    = ∑ j ∈ Finset.range k, ∑ s : Fin 64, (show EReal from x0 (ix3 0 (tok j s u) e)) := by
  intro k
  induction k with
  | zero => intro _; rw [Finset.sum_range_zero]; exact zero_at (ix2 u e)
  | succ k ih =>
    intro hk
    rw [stats_succ 𝒱 c bd i arg1 harg1 arg2 harg2 arg3 harg3 arg4 harg4 arg5 harg5 arg6 harg6 arg7 harg7 x0 x1 k (by omega), Finset.sum_range_succ, ← ih (by omega)]
    exact trip_sum 𝒱 c bd i arg1 harg1 arg2 harg2 arg3 harg3 arg4 harg4 arg5 harg5 arg6 harg6 arg7 harg7 x0 x1 _ ⟨k, by rw [trips1]; omega⟩ u e

theorem stats_max (u : Fin 8) (e : Fin 256) (z : EReal) : ∀ k ≤ 8, ((show EReal from (stats 𝒱 c bd i arg1 harg1 arg2 harg2 arg3 harg3 arg4 harg4 arg5 harg5 arg6 harg6 arg7 harg7 x0 x1 k).2 (ix2 u e)) ≤ z
    ↔ 0 ≤ z ∧ ∀ j < k, ∀ s : Fin 64, FloatOps.absf (F := Ideal) (φ := .f32) (x1 (ix3 0 (tok j s u) e)) ≤ z) := by
  intro k
  induction k with
  | zero =>
    intro _
    have e0 : (show EReal from (stats 𝒱 c bd i arg1 harg1 arg2 harg2 arg3 harg3 arg4 harg4 arg5 harg5 arg6 harg6 arg7 harg7 x0 x1 0).2 (ix2 u e)) = 0 := zero_at (ix2 u e)
    rw [e0]
    exact ⟨fun h => ⟨h, fun j hj => absurd hj (by omega)⟩, fun h => h.1⟩
  | succ k ih =>
    intro hk
    have es : (show EReal from (stats 𝒱 c bd i arg1 harg1 arg2 harg2 arg3 harg3 arg4 harg4 arg5 harg5 arg6 harg6 arg7 harg7 x0 x1 (k + 1)).2 (ix2 u e)) = _ :=
      (congrArg (fun p : FVec Ideal S8x256 .f32 × FVec Ideal S8x256 .f32 => (show EReal from p.2 (ix2 u e))) (stats_succ 𝒱 c bd i arg1 harg1 arg2 harg2 arg3 harg3 arg4 harg4 arg5 harg5 arg6 harg6 arg7 harg7 x0 x1 k (by omega))).trans
        (trip_max 𝒱 c bd i arg1 harg1 arg2 harg2 arg3 harg3 arg4 harg4 arg5 harg5 arg6 harg6 arg7 harg7 x0 x1 _ ⟨k, by rw [trips1]; omega⟩ u e)
    rw [es, max_le_iff, ih (by omega), Finset.fold_max_le, Cert.Soft.ofBits_neg_inf]
    constructor
    · rintro ⟨⟨h0, h1⟩, _, h2⟩
      refine ⟨h0, fun j hj s => ?_⟩
      rcases Nat.lt_succ_iff_lt_or_eq.mp hj with h | rfl
      · exact h1 j h s
      · exact h2 s (Finset.mem_univ _)
    · rintro ⟨h0, h1⟩
      exact ⟨⟨h0, fun j hj s => h1 j (by omega) s⟩, bot_le, fun s _ => h1 k (by omega) s⟩

/-- Channel `e` of a block. -/
def chan (X : Vec Ideal S1x4096x256 .bf16) (e : Fin 256) : Fin 4096 → EReal := fun n => X (ix3 0 n e)

theorem mean_total (e : Fin 256) : k0_pay22 (F := Ideal) (stats 𝒱 c bd i arg1 harg1 arg2 harg2 arg3 harg3 arg4 harg4 arg5 harg5 arg6 harg6 arg7 harg7 x0 x1 8).1 (ix2 0 e) = Chan.mean (chan x0 e) := by
  refine (mean_at _ e).trans ?_
  unfold Chan.mean
  refine congrArg (Ideal.div · _) (Eq.trans (Finset.sum_congr rfl fun u _ => ?_) (sum_tok (chan x0 e)))
  exact stats_sum 𝒱 c bd i arg1 harg1 arg2 harg2 arg3 harg3 arg4 harg4 arg5 harg5 arg6 harg6 arg7 harg7 x0 x1 u e 8 (le_refl 8)

theorem part_total (e : Fin 256) : k0_pay23 (F := Ideal) (stats 𝒱 c bd i arg1 harg1 arg2 harg2 arg3 harg3 arg4 harg4 arg5 harg5 arg6 harg6 arg7 harg7 x0 x1 8).2 (ix2 0 e) = Chan.part (chan x1 e) := by
  refine (part_at _ e).trans ?_
  unfold Chan.part
  refine congrArg (fun z : EReal => z * Ideal.ofBits FTy.f32 0x3B124925#32) (max_tok (chan x1 e) _ fun u z => ?_)
  exact stats_max 𝒱 c bd i arg1 harg1 arg2 harg2 arg3 harg3 arg4 harg4 arg5 harg5 arg6 harg6 arg7 harg7 x0 x1 u e z 8 (le_refl 8)

end Cert.KernelKVIdeal.Row
end
-- ==== Proof.KVLoop.lean ====
module

public import proofs.«01_k».proof.Proof.KVStats

@[expose] public section

set_option maxRecDepth 16384

/-! # The key/value quantiser: the loop that writes the codes, and the whole block -/

noncomputable section

namespace Cert.KernelKVIdeal.Row

open Idealize.ShloMosaic Idealize.ShloMosaic.TcCoe Idealize.SL.Sem
open Cert.KernelKVIdeal Cert.KernelKVIdeal.Gen

/-! ## The block's results, for given means and inverses -/

/-- Feature `d` of head `h`, in the merged axis. -/
abbrev feat (h : Fin 2) (d : Fin 128) : Fin 256 := ⟨128 * h.val + d.val, by have := h.isLt; have := d.isLt; omega⟩
/-- Token `r` of chunk `k`. -/
abbrev tokRow (k : Fin 8) (r : Fin 512) : Fin 4096 := ⟨512 * k.val + r.val, by have := k.isLt; have := r.isLt; omega⟩

/-- Row `n` of head `h`, less the channels' means. -/
def row (X : Vec Ideal S1x4096x256 .bf16) (n : Fin 4096) (h : Fin 2) : Fin 128 → EReal :=
  fun d => (show EReal from X (ix3 0 n (feat h d))) - Chan.mean (chan X (feat h d))

/-- The key's codes, -/
def keyCodes (X : Vec Ideal S1x4096x256 .bf16) : Vec Ideal S1x4096x256 .i8 := fun y =>
  Rows.code (row X ⟨(y 1).val, (y 1).isLt⟩ ⟨(y 2).val / 128, by have : (y 2).val < 256 := (y 2).isLt; omega⟩) ⟨(y 2).val % 128, by omega⟩
/-- its scales, -/
def keyScales (X : Vec Ideal S1x4096x256 .bf16) : Vec Ideal S1x2x4096 .f32 := fun y =>
  Rows.scale (row X ⟨(y 2).val, (y 2).isLt⟩ ⟨(y 1).val, (y 1).isLt⟩)
/-- the value's codes, -/
def valueCodes (w : Fin 256 → EReal) (X : Vec Ideal S1x4096x256 .bf16) : Vec Ideal S1x4096x256 .fp8e4m3 := fun y =>
  clip (X y) (w ⟨(y 2).val, (y 2).isLt⟩)

/-- and these with the tokens last, head by head. -/
def valueTurned (w : Fin 256 → EReal) (X : Vec Ideal S1x4096x256 .bf16) : Vec Ideal S1x2x128x4096 .fp8e4m3 := fun y =>
  clip (X (ix3 0 (⟨(y 3).val, (y 3).isLt⟩ : Fin 4096) (feat ⟨(y 1).val, (y 1).isLt⟩ ⟨(y 2).val, (y 2).isLt⟩))) (w (feat ⟨(y 1).val, (y 1).isLt⟩ ⟨(y 2).val, (y 2).isLt⟩))

/-- A load of 512 rows of one head. -/
theorem load512 (o : Fin 3 → ℕ) (h) (X : Vec Ideal S1x4096x256 .bf16) (k : Fin 8) (g : Fin 2) (h0 : o 0 = 0) (h1 : o 1 = 512 * k.val) (h2 : o 2 = 128 * g.val) (r : Fin 512) (d : Fin 128) :
    (fun j => X ((Rect.unit (s := S1x4096x256) o S1x512x128.size h).idx j)) (ix3 0 r d : S1x512x128.Idx) = X (ix3 0 (tokRow k r) (feat g d)) := by
  refine congrArg X (funext fun a => Fin.ext ?_)
  match a with
  | ⟨0, _⟩ => show o 0 + 1 * 0 = 0; omega
  | ⟨1, _⟩ => show o 1 + 1 * r.val = 512 * k.val + r.val; omega
  | ⟨2, _⟩ => show o 2 + 1 * d.val = 128 * g.val + d.val; omega

theorem split (z : S1x512x128.Idx) : z = (ix3 0 (⟨(z 1).val, (z 1).isLt⟩ : Fin 512) (⟨(z 2).val, (z 2).isLt⟩ : Fin 128) : S1x512x128.Idx) := by
  refine funext fun a => Fin.ext ?_
  have h0 : (z 0).val < 1 := (z 0).isLt
  match a with
  | ⟨0, _⟩ => show (z 0).val = 0; omega
  | ⟨1, _⟩ => rfl
  | ⟨2, _⟩ => rfl

/-- A chunk's codes are the block's, once they are so row by row. -/
theorem keyCodes_of (X : Vec Ideal S1x4096x256 .bf16) (p : IVec S1x512x128 8) (k : Fin 8) (g : Fin 2)
    (hp : ∀ (r : Fin 512) (d : Fin 128), p (ix3 0 r d) = Rows.code (row X (tokRow k r) g) d)
    (z : S1x512x128.Idx) (y : S1x4096x256.Idx) (h1 : (y 1).val = 512 * k.val + (z 1).val) (h2 : (y 2).val = 128 * g.val + (z 2).val) :
    p z = keyCodes X y := by
  have hz : (z 2).val < 128 := (z 2).isLt
  refine (congrArg p (split z)).trans ((hp ⟨(z 1).val, (z 1).isLt⟩ ⟨(z 2).val, hz⟩).trans ?_)
  unfold keyCodes
  have e1 : (⟨(y 1).val, (y 1).isLt⟩ : Fin 4096) = tokRow k ⟨(z 1).val, (z 1).isLt⟩ := Fin.ext h1
  have e2 : (⟨(y 2).val / 128, by have : (y 2).val < 256 := (y 2).isLt; omega⟩ : Fin 2) = g := Fin.ext (by show (y 2).val / 128 = g.val; omega)
  have e3 : (⟨(y 2).val % 128, by omega⟩ : Fin 128) = ⟨(z 2).val, hz⟩ := Fin.ext (by show (y 2).val % 128 = (z 2).val; omega)
  rw [e1, e2, e3]

theorem valueCodes_of (w : Fin 256 → EReal) (X : Vec Ideal S1x4096x256 .bf16) (p : FVec Ideal S1x512x128 .fp8e4m3) (k : Fin 8) (g : Fin 2)
    (hp : ∀ (r : Fin 512) (d : Fin 128), p (ix3 0 r d) = clip (X (ix3 0 (tokRow k r) (feat g d))) (w (feat g d)))
    (z : S1x512x128.Idx) (y : S1x4096x256.Idx) (h1 : (y 1).val = 512 * k.val + (z 1).val) (h2 : (y 2).val = 128 * g.val + (z 2).val) :
    p z = valueCodes w X y := by
  have hz : (z 2).val < 128 := (z 2).isLt
  refine (congrArg p (split z)).trans ((hp ⟨(z 1).val, (z 1).isLt⟩ ⟨(z 2).val, hz⟩).trans ?_)
  unfold valueCodes
  have e2 : (⟨(y 2).val, (y 2).isLt⟩ : Fin 256) = feat g ⟨(z 2).val, hz⟩ := Fin.ext h2
  have ey : y = (ix3 0 (tokRow k ⟨(z 1).val, (z 1).isLt⟩) (feat g ⟨(z 2).val, hz⟩) : S1x4096x256.Idx) := by
    refine funext fun a => Fin.ext ?_
    have h0 : (y 0).val < 1 := (y 0).isLt
    match a with
    | ⟨0, _⟩ => show (y 0).val = 0; omega
    | ⟨1, _⟩ => exact h1
    | ⟨2, _⟩ => exact h2
  rw [e2]
  exact congrArg (fun q => clip (X q) (w (feat g ⟨(z 2).val, hz⟩))) ey.symm

theorem valueTurned_of (w : Fin 256 → EReal) (X : Vec Ideal S1x4096x256 .bf16) (p : FVec Ideal S1x1x128x512 .fp8e4m3) (k : Fin 8) (g : Fin 2)
    (hp : ∀ (r : Fin 512) (d : Fin 128), p (ix4 0 0 d r) = clip (X (ix3 0 (tokRow k r) (feat g d))) (w (feat g d)))
    (z : S1x1x128x512.Idx) (y : S1x2x128x4096.Idx) (h1 : (y 1).val = g.val + (z 1).val) (h2 : (y 2).val = (z 2).val) (h3 : (y 3).val = 512 * k.val + (z 3).val) :
    p z = valueTurned w X y := by
  have z1 : (z 1).val < 1 := (z 1).isLt
  have ez : z = (ix4 0 0 (⟨(z 2).val, (z 2).isLt⟩ : Fin 128) (⟨(z 3).val, (z 3).isLt⟩ : Fin 512) : S1x1x128x512.Idx) := by
    refine funext fun a => Fin.ext ?_
    have h0 : (z 0).val < 1 := (z 0).isLt
    match a with
    | ⟨0, _⟩ => show (z 0).val = 0; omega
    | ⟨1, _⟩ => show (z 1).val = 0; omega
    | ⟨2, _⟩ => rfl
    | ⟨3, _⟩ => rfl
  refine (congrArg p ez).trans ((hp ⟨(z 3).val, (z 3).isLt⟩ ⟨(z 2).val, (z 2).isLt⟩).trans ?_)
  unfold valueTurned
  have e1 : (⟨(y 1).val, (y 1).isLt⟩ : Fin 2) = g := Fin.ext (by show (y 1).val = g.val; omega)
  have e2 : (⟨(y 2).val, (y 2).isLt⟩ : Fin 128) = ⟨(z 2).val, (z 2).isLt⟩ := Fin.ext h2
  have e3 : (⟨(y 3).val, (y 3).isLt⟩ : Fin 4096) = tokRow k ⟨(z 3).val, (z 3).isLt⟩ := Fin.ext h3
  rw [e1, e2, e3]

theorem keyScales_of (X : Vec Ideal S1x4096x256 .bf16) (p : FVec Ideal S1x2x512 .f32) (k : Fin 8)
    (hp : ∀ (h : Fin 2) (r : Fin 512), p (ix3 0 h r) = Rows.scale (row X (tokRow k r) h))
    (z : S1x2x512.Idx) (y : S1x2x4096.Idx) (h1 : (y 1).val = (z 1).val) (h2 : (y 2).val = 512 * k.val + (z 2).val) :
    p z = keyScales X y := by
  have ez : z = (ix3 0 (⟨(z 1).val, (z 1).isLt⟩ : Fin 2) (⟨(z 2).val, (z 2).isLt⟩ : Fin 512) : S1x2x512.Idx) := by
    refine funext fun a => Fin.ext ?_
    have h0 : (z 0).val < 1 := (z 0).isLt
    match a with
    | ⟨0, _⟩ => show (z 0).val = 0; omega
    | ⟨1, _⟩ => rfl
    | ⟨2, _⟩ => rfl
  refine (congrArg p ez).trans ((hp ⟨(z 1).val, (z 1).isLt⟩ ⟨(z 2).val, (z 2).isLt⟩).trans ?_)
  unfold keyScales
  have e1 : (⟨(y 1).val, (y 1).isLt⟩ : Fin 2) = ⟨(z 1).val, (z 1).isLt⟩ := Fin.ext h1
  have e2 : (⟨(y 2).val, (y 2).isLt⟩ : Fin 4096) = tokRow k ⟨(z 2).val, (z 2).isLt⟩ := Fin.ext h2
  rw [e1, e2]

/-! ## The payloads of a chunk -/

section Chunk

variable (X : Vec Ideal S1x4096x256 .bf16) (m : FVec Ideal S1x256 .f32) (hm : ∀ e : Fin 256, m (ix2 0 e) = Chan.mean (chan X e)) (k : Fin 8) (v : Vec Ideal S1x512x128 .bf16)

include hm

theorem nums0_eq (hv : ∀ (r : Fin 512) (d : Fin 128), v (ix3 0 r d) = X (ix3 0 (tokRow k r) (feat 0 d))) (r : Fin 512) : nums0 m v r = row X (tokRow k r) 0 := by
  funext d
  unfold nums0 row
  have ed : (⟨d.val, by have := d.isLt; omega⟩ : Fin 256) = feat 0 d := Fin.ext (by show d.val = 128 * 0 + d.val; omega)
  rw [hv, ed, hm]

theorem nums1_eq (hv : ∀ (r : Fin 512) (d : Fin 128), v (ix3 0 r d) = X (ix3 0 (tokRow k r) (feat 1 d))) (r : Fin 512) : nums1 m v r = row X (tokRow k r) 1 := by
  funext d
  unfold nums1 row
  have ed : (⟨128 + d.val, by have := d.isLt; omega⟩ : Fin 256) = feat 1 d := Fin.ext (by show 128 + d.val = 128 * 1 + d.val; omega)
  rw [hv, ed, hm]

end Chunk

theorem off2 : ∀ k : Fin k0_t2_loop.trips, k0_off2 k 0 = 0 ∧ k0_off2 k 1 = 512 * k.val ∧ k0_off2 k 2 = 0 := by decide +kernel
theorem off3 : ∀ k : Fin k0_t2_loop.trips, k0_off3 k 0 = 0 ∧ k0_off3 k 1 = 0 ∧ k0_off3 k 2 = 0 ∧ k0_off3 k 3 = 512 * k.val := by decide +kernel
theorem off5 : ∀ k : Fin k0_t2_loop.trips, k0_off5 k 0 = 0 ∧ k0_off5 k 1 = 1 ∧ k0_off5 k 2 = 0 ∧ k0_off5 k 3 = 512 * k.val := by decide +kernel
theorem off4 : ∀ k : Fin k0_t2_loop.trips, k0_off4 k 0 = 0 ∧ k0_off4 k 1 = 512 * k.val ∧ k0_off4 k 2 = 128 := by decide +kernel
theorem off6 : ∀ k : Fin k0_t2_loop.trips, k0_off6 k 0 = 0 ∧ k0_off6 k 1 = 0 ∧ k0_off6 k 2 = 512 * k.val := by decide +kernel

variable (𝒱 : Variants) (c : Dev nD) (bd : Option 𝒱.V) (i : grid0.Coords) (arg1 : Memref sig .tc .vmem S1x4096x256 .bf16) (harg1 : arg1.IsWhole) (arg2 : Memref sig .tc .vmem S1x4096x256 .bf16) (harg2 : arg2.IsWhole)
  (arg3 : Memref sig .tc .vmem S1x4096x256 .i8) (harg3 : arg3.IsWhole) (arg4 : Memref sig .tc .vmem S1x2x4096 .f32) (harg4 : arg4.IsWhole) (arg5 : Memref sig .tc .vmem S1x4096x256 .fp8e4m3) (harg5 : arg5.IsWhole)
  (arg6 : Memref sig .tc .vmem S1x2x128 .f32) (harg6 : arg6.IsWhole) (arg7 : Memref sig .tc .vmem S1x2x128x4096 .fp8e4m3) (harg7 : arg7.IsWhole)
  (x0 x1 : Vec Ideal S1x4096x256 .bf16)

/-- Every piece one pass writes is the block's there. -/
theorem trip_pieces (w : Fin 256 → EReal) (v6 : FVec Ideal S1x256 .f32) (hm : ∀ e : Fin 256, v6 (ix2 0 e) = Chan.mean (chan x0 e))
    (v83 : IVec S1x256 32) (hw : ∀ e : Fin 256, k0_pay3 (F := Ideal) v83 0#32 (ix2 0 e) = w e) (k : Fin k0_t2_loop.trips) :
    (∀ p ∈ (tripL_k0_t2 (F := Ideal) 𝒱 c bd i arg1 harg1 arg2 harg2 arg3 harg3 arg4 harg4 arg5 harg5 arg6 harg6 arg7 harg7 v6 v83 0#32 (harg1.unread x0) (harg2.unread x1) k).1, ∀ z, p.2 z = keyCodes x0 (p.1.emb z))
    ∧ (∀ p ∈ (tripL_k0_t2 (F := Ideal) 𝒱 c bd i arg1 harg1 arg2 harg2 arg3 harg3 arg4 harg4 arg5 harg5 arg6 harg6 arg7 harg7 v6 v83 0#32 (harg1.unread x0) (harg2.unread x1) k).2.1, ∀ z, p.2 z = keyScales x0 (p.1.emb z))
    ∧ (∀ p ∈ (tripL_k0_t2 (F := Ideal) 𝒱 c bd i arg1 harg1 arg2 harg2 arg3 harg3 arg4 harg4 arg5 harg5 arg6 harg6 arg7 harg7 v6 v83 0#32 (harg1.unread x0) (harg2.unread x1) k).2.2.1, ∀ z, p.2 z = valueCodes w x1 (p.1.emb z))
    ∧ (∀ p ∈ (tripL_k0_t2 (F := Ideal) 𝒱 c bd i arg1 harg1 arg2 harg2 arg3 harg3 arg4 harg4 arg5 harg5 arg6 harg6 arg7 harg7 v6 v83 0#32 (harg1.unread x0) (harg2.unread x1) k).2.2.2, ∀ z, p.2 z = valueTurned w x1 (p.1.emb z)) := by
  have hk : k.val < 8 := Nat.lt_of_lt_of_le k.isLt k0_t2_abs.2.1
  obtain ⟨a0, a1, a2⟩ := off2 k
  obtain ⟨b0, b1, b2⟩ := off4 k
  obtain ⟨c0, c1, c2⟩ := off6 k
  obtain ⟨d0, d1, d2, d3⟩ := off3 k
  obtain ⟨f0, f1, f2, f3⟩ := off5 k
  have n0 := nums0_eq x0 v6 hm ⟨k.val, hk⟩ (fun j => x0 ((Rect.unit (s := S1x4096x256) (k0_off2 k) S1x512x128.size (k0_off2_inb k)).idx j)) (load512 (k0_off2 k) (k0_off2_inb k) x0 ⟨k.val, hk⟩ 0 a0 a1 a2)
  have n1 := nums1_eq x0 v6 hm ⟨k.val, hk⟩ (fun j => x0 ((Rect.unit (s := S1x4096x256) (k0_off4 k) S1x512x128.size (k0_off4_inb k)).idx j)) (load512 (k0_off4 k) (k0_off4_inb k) x0 ⟨k.val, hk⟩ 1 b0 b1 b2)
  have l0 := load512 (k0_off2 k) (k0_off2_inb k) x1 ⟨k.val, hk⟩ 0 a0 a1 a2
  have l1 := load512 (k0_off4 k) (k0_off4_inb k) x1 ⟨k.val, hk⟩ 1 b0 b1 b2
  unfold tripL_k0_t2 trip_k0_t2
  dsimp only
  refine ⟨?_, ?_, ?_, ?_⟩
  · intro pc hpc
    rcases List.mem_cons.mp hpc with rfl | hpc
    · intro z
      refine keyCodes_of x0 _ ⟨k.val, hk⟩ 1 (fun r d => ?_) z _ (by show k0_off4 k 1 + 1 * _ = 512 * k.val + _; omega) (by show k0_off4 k 2 + 1 * _ = 128 * 1 + _; omega)
      rw [load_at]
      exact (code1_at v6 _ r d).trans (congrArg (Rows.code · d) (n1 r))
    rcases List.mem_cons.mp hpc with rfl | hpc
    · intro z
      refine keyCodes_of x0 _ ⟨k.val, hk⟩ 0 (fun r d => ?_) z _ (by show k0_off2 k 1 + 1 * _ = 512 * k.val + _; omega) (by show k0_off2 k 2 + 1 * _ = 128 * 0 + _; omega)
      rw [load_at]
      exact (code0_at v6 _ r d).trans (congrArg (Rows.code · d) (n0 r))
    nomatch hpc
  · intro pc hpc
    rcases List.mem_cons.mp hpc with rfl | hpc
    · intro z
      refine keyScales_of x0 _ ⟨k.val, hk⟩ (fun h r => ?_) z _ (by show k0_off6 k 1 + 1 * _ = _; omega) (by show k0_off6 k 2 + 1 * _ = 512 * k.val + _; omega)
      unfold trip_k0_t2.sl.r trip_k0_t2.sl.r_2
      rw [load_at, load_at]
      exact packed _ _ r (fun h => Rows.scale (row x0 (tokRow ⟨k.val, hk⟩ r) h)) ((scale0_at v6 _ r).trans (congrArg Rows.scale (n0 r)))
        ((scale1_at v6 _ r).trans (congrArg Rows.scale (n1 r))) h
    nomatch hpc
  · intro pc hpc
    rcases List.mem_cons.mp hpc with rfl | hpc
    · intro z
      refine valueCodes_of w x1 _ ⟨k.val, hk⟩ 1 (fun r d => ?_) z _ (by show k0_off4 k 1 + 1 * _ = 512 * k.val + _; omega) (by show k0_off4 k 2 + 1 * _ = 128 * 1 + _; omega)
      unfold trip_k0_t2.sl.r_3
      rw [load_at]
      refine (value1_at v83 _ r d).trans ?_
      have ed : (⟨128 + d.val, by have := d.isLt; omega⟩ : Fin 256) = feat 1 d := Fin.ext (by show 128 + d.val = 128 * 1 + d.val; omega)
      rw [ed, hw]
      exact congrArg (clip · (w (feat 1 d))) (l1 r d)
    rcases List.mem_cons.mp hpc with rfl | hpc
    · intro z
      refine valueCodes_of w x1 _ ⟨k.val, hk⟩ 0 (fun r d => ?_) z _ (by show k0_off2 k 1 + 1 * _ = 512 * k.val + _; omega) (by show k0_off2 k 2 + 1 * _ = 128 * 0 + _; omega)
      unfold trip_k0_t2.sl.r_1
      rw [load_at]
      refine (value0_at _ _ r d).trans ?_
      have ed : (⟨d.val, by have := d.isLt; omega⟩ : Fin 256) = feat 0 d := Fin.ext (by show d.val = 128 * 0 + d.val; omega)
      rw [ed, hw]
      exact congrArg (clip · (w (feat 0 d))) (l0 r d)
    nomatch hpc
  · intro pc hpc
    rcases List.mem_cons.mp hpc with rfl | hpc
    · intro z
      refine valueTurned_of w x1 _ ⟨k.val, hk⟩ 1 (fun r d => ?_) z _ (by show k0_off5 k 1 + 1 * _ = 1 + _; omega) (by show k0_off5 k 2 + 1 * _ = _; omega) (by show k0_off5 k 3 + 1 * _ = 512 * k.val + _; omega)
      unfold trip_k0_t2.sl.r_3
      rw [load_at]
      refine (turned1_at v83 _ r d).trans ?_
      have ed : (⟨128 + d.val, by have := d.isLt; omega⟩ : Fin 256) = feat 1 d := Fin.ext (by show 128 + d.val = 128 * 1 + d.val; omega)
      rw [ed, hw]
      exact congrArg (clip · (w (feat 1 d))) (l1 r d)
    rcases List.mem_cons.mp hpc with rfl | hpc
    · intro z
      refine valueTurned_of w x1 _ ⟨k.val, hk⟩ 0 (fun r d => ?_) z _ (by show k0_off3 k 1 + 1 * _ = 0 + _; omega) (by show k0_off3 k 2 + 1 * _ = _; omega) (by show k0_off3 k 3 + 1 * _ = 512 * k.val + _; omega)
      unfold trip_k0_t2.sl.r_1
      rw [load_at]
      refine (turned0_at _ _ r d).trans ?_
      have ed : (⟨d.val, by have := d.isLt; omega⟩ : Fin 256) = feat 0 d := Fin.ext (by show d.val = 128 * 0 + d.val; omega)
      rw [ed, hw]
      exact congrArg (clip · (w (feat 0 d))) (l0 r d)
    nomatch hpc

/-- What holds of every pass's pieces holds of the loop's. -/
theorem loop_pieces (v6 : FVec Ideal S1x256 .f32) (v83 : IVec S1x256 32) (P : View.Piece (Elt Ideal) S1x4096x256 .i8 → Prop) (Q : View.Piece (Elt Ideal) S1x2x4096 .f32 → Prop)
    (R : View.Piece (Elt Ideal) S1x4096x256 .fp8e4m3 → Prop) (S : View.Piece (Elt Ideal) S1x2x128x4096 .fp8e4m3 → Prop)
    (H : ∀ k, (∀ p ∈ (tripL_k0_t2 (F := Ideal) 𝒱 c bd i arg1 harg1 arg2 harg2 arg3 harg3 arg4 harg4 arg5 harg5 arg6 harg6 arg7 harg7 v6 v83 0#32 (harg1.unread x0) (harg2.unread x1) k).1, P p)
      ∧ (∀ p ∈ (tripL_k0_t2 (F := Ideal) 𝒱 c bd i arg1 harg1 arg2 harg2 arg3 harg3 arg4 harg4 arg5 harg5 arg6 harg6 arg7 harg7 v6 v83 0#32 (harg1.unread x0) (harg2.unread x1) k).2.1, Q p)
      ∧ (∀ p ∈ (tripL_k0_t2 (F := Ideal) 𝒱 c bd i arg1 harg1 arg2 harg2 arg3 harg3 arg4 harg4 arg5 harg5 arg6 harg6 arg7 harg7 v6 v83 0#32 (harg1.unread x0) (harg2.unread x1) k).2.2.1, R p)
      ∧ (∀ p ∈ (tripL_k0_t2 (F := Ideal) 𝒱 c bd i arg1 harg1 arg2 harg2 arg3 harg3 arg4 harg4 arg5 harg5 arg6 harg6 arg7 harg7 v6 v83 0#32 (harg1.unread x0) (harg2.unread x1) k).2.2.2, S p)) :
    ∀ k : ℕ, (∀ p ∈ (pb_k0_t2 (F := Ideal) 𝒱 c bd i arg1 harg1 arg2 harg2 arg3 harg3 arg4 harg4 arg5 harg5 arg6 harg6 arg7 harg7 v6 v83 0#32 (harg1.unread x0) (harg2.unread x1) k).1, P p)
      ∧ (∀ p ∈ (pb_k0_t2 (F := Ideal) 𝒱 c bd i arg1 harg1 arg2 harg2 arg3 harg3 arg4 harg4 arg5 harg5 arg6 harg6 arg7 harg7 v6 v83 0#32 (harg1.unread x0) (harg2.unread x1) k).2.1, Q p)
      ∧ (∀ p ∈ (pb_k0_t2 (F := Ideal) 𝒱 c bd i arg1 harg1 arg2 harg2 arg3 harg3 arg4 harg4 arg5 harg5 arg6 harg6 arg7 harg7 v6 v83 0#32 (harg1.unread x0) (harg2.unread x1) k).2.2.1, R p)
      ∧ (∀ p ∈ (pb_k0_t2 (F := Ideal) 𝒱 c bd i arg1 harg1 arg2 harg2 arg3 harg3 arg4 harg4 arg5 harg5 arg6 harg6 arg7 harg7 v6 v83 0#32 (harg1.unread x0) (harg2.unread x1) k).2.2.2, S p) := by
  intro k
  induction k with
  | zero => exact ⟨fun p hp => absurd hp List.not_mem_nil, fun p hp => absurd hp List.not_mem_nil, fun p hp => absurd hp List.not_mem_nil, fun p hp => absurd hp List.not_mem_nil⟩
  | succ k ih =>
    obtain ⟨i1, i2, i3, i4⟩ := ih
    rw [pb_k0_t2.eq_2]
    unfold pb_k0_t2Step
    by_cases hk : k < k0_t2_loop.trips
    · rw [dif_pos hk]
      obtain ⟨j1, j2, j3, j4⟩ := H ⟨k, hk⟩
      exact ⟨fun p hp => (List.mem_append.mp hp).elim (j1 p) (i1 p), fun p hp => (List.mem_append.mp hp).elim (j2 p) (i2 p),
        fun p hp => (List.mem_append.mp hp).elim (j3 p) (i3 p), fun p hp => (List.mem_append.mp hp).elim (j4 p) (i4 p)⟩
    · rw [dif_neg hk]
      exact ⟨i1, i2, i3, i4⟩

end Cert.KernelKVIdeal.Row
end
-- ==== Proof.KVBlock.lean ====
module

public import proofs.«01_k».proof.Proof.KVLoop

@[expose] public section

set_option maxRecDepth 16384

/-! # The key/value quantiser: the results of one block -/

noncomputable section

namespace Cert.KernelKVIdeal.Row

open Idealize.ShloMosaic Idealize.ShloMosaic.TcCoe Idealize.SL.Sem
open Cert.KernelKVIdeal Cert.KernelKVIdeal.Gen

/-- A channel's scale, as the kernel has it from the exponent field, -/
def scaleOf (X : Vec Ideal S1x4096x256 .bf16) (e : Fin 256) : EReal := Ideal.ofBits FTy.f32 ((Chan.biased (Chan.part (chan X e)) + 1#32) <<< 23#32)
/-- and the inverse. -/
def inverseOf (X : Vec Ideal S1x4096x256 .bf16) (e : Fin 256) : EReal := Ideal.ofBits FTy.f32 ((253#32 - Chan.biased (Chan.part (chan X e))) <<< 23#32)
/-- The value's scales. -/
def valueScales (X : Vec Ideal S1x4096x256 .bf16) : Vec Ideal S1x2x128 .f32 := fun y => scaleOf X (feat ⟨(y 1).val, (y 1).isLt⟩ ⟨(y 2).val, (y 2).isLt⟩)

theorem valueScales_of (X : Vec Ideal S1x4096x256 .bf16) (p : FVec Ideal S1x1x128 .f32) (h : Fin 2) (hp : ∀ d : Fin 128, p (ix3 0 0 d) = scaleOf X (feat h d))
    (z : S1x1x128.Idx) (y : S1x2x128.Idx) (h1 : (y 1).val = h.val + (z 1).val) (h2 : (y 2).val = (z 2).val) : p z = valueScales X y := by
  have hz : (z 1).val < 1 := (z 1).isLt
  have ez : z = (ix3 0 0 (⟨(z 2).val, (z 2).isLt⟩ : Fin 128) : S1x1x128.Idx) := by
    refine funext fun a => Fin.ext ?_
    have h0 : (z 0).val < 1 := (z 0).isLt
    match a with
    | ⟨0, _⟩ => show (z 0).val = 0; omega
    | ⟨1, _⟩ => show (z 1).val = 0; omega
    | ⟨2, _⟩ => rfl
  refine (congrArg p ez).trans ((hp ⟨(z 2).val, (z 2).isLt⟩).trans ?_)
  unfold valueScales
  have e1 : (⟨(y 1).val, (y 1).isLt⟩ : Fin 2) = h := Fin.ext (by show (y 1).val = h.val; omega)
  have e2 : (⟨(y 2).val, (y 2).isLt⟩ : Fin 128) = ⟨(z 2).val, (z 2).isLt⟩ := Fin.ext h2
  rw [e1, e2]

variable (c : Dev nD) (i : grid0.Coords) (arg1 : Memref sig .tc .vmem S1x4096x256 .bf16) (harg1 : arg1.IsWhole) (arg2 : Memref sig .tc .vmem S1x4096x256 .bf16) (harg2 : arg2.IsWhole)
  (arg3 : Memref sig .tc .vmem S1x4096x256 .i8) (harg3 : arg3.IsWhole) (arg4 : Memref sig .tc .vmem S1x2x4096 .f32) (harg4 : arg4.IsWhole) (arg5 : Memref sig .tc .vmem S1x4096x256 .fp8e4m3) (harg5 : arg5.IsWhole)
  (arg6 : Memref sig .tc .vmem S1x2x128 .f32) (harg6 : arg6.IsWhole) (arg7 : Memref sig .tc .vmem S1x2x128x4096 .fp8e4m3) (harg7 : arg7.IsWhole)
  (x0 x1 : Vec Ideal S1x4096x256 .bf16)

/-- The means a block's run holds, -/
def means : FVec Ideal S1x256 .f32 := k0_pay22 (stats Variants.none c none i arg1 harg1 arg2 harg2 arg3 harg3 arg4 harg4 arg5 harg5 arg6 harg6 arg7 harg7 x0 x1 8).1
/-- and the exponent fields. -/
def fieldsOf : IVec S1x256 32 := k0_pay25 (k0_pay23 (stats Variants.none c none i arg1 harg1 arg2 harg2 arg3 harg3 arg4 harg4 arg5 harg5 arg6 harg6 arg7 harg7 x0 x1 8).2) (k0_pay24 (stats Variants.none c none i arg1 harg1 arg2 harg2 arg3 harg3 arg4 harg4 arg5 harg5 arg6 harg6 arg7 harg7 x0 x1 8).2) 16#32

theorem count : Scf.trips k0_t1_loop.lb k0_t1_loop.ub k0_t1_loop.st = 8 := by decide +kernel

theorem means_eq : kernelRun0_A.sl.r (F := Ideal) c i arg1 harg1 arg2 harg2 arg3 harg3 arg4 harg4 arg5 harg5 arg6 harg6 arg7 harg7 x0 x1 = means c i arg1 harg1 arg2 harg2 arg3 harg3 arg4 harg4 arg5 harg5 arg6 harg6 arg7 harg7 x0 x1 := by
  unfold kernelRun0_A.sl.r means stats
  rw [count]

theorem fields_eq : kernelRun0_A.sl.r_3 (F := Ideal) c i arg1 harg1 arg2 harg2 arg3 harg3 arg4 harg4 arg5 harg5 arg6 harg6 arg7 harg7 x0 x1 = fieldsOf c i arg1 harg1 arg2 harg2 arg3 harg3 arg4 harg4 arg5 harg5 arg6 harg6 arg7 harg7 x0 x1 := by
  unfold kernelRun0_A.sl.r_3 kernelRun0_A.sl.r_1 kernelRun0_A.sl.r_2 fieldsOf stats
  rw [count]

theorem fieldsOf_at (e : Fin 256) : shifted (fieldsOf c i arg1 harg1 arg2 harg2 arg3 harg3 arg4 harg4 arg5 harg5 arg6 harg6 arg7 harg7 x0 x1 (ix2 0 e)) = Chan.biased (Chan.part (chan x1 e)) := by
  have h := (field_at (stats Variants.none c none i arg1 harg1 arg2 harg2 arg3 harg3 arg4 harg4 arg5 harg5 arg6 harg6 arg7 harg7 x0 x1 8).2 (ix2 0 e)).trans (congrArg Chan.field (part_total Variants.none c none i arg1 harg1 arg2 harg2 arg3 harg3 arg4 harg4 arg5 harg5 arg6 harg6 arg7 harg7 x0 x1 e))
  exact congrArg shifted h

theorem next_of (e : Fin 256) : k0_pay2 (F := Ideal) (fieldsOf c i arg1 harg1 arg2 harg2 arg3 harg3 arg4 harg4 arg5 harg5 arg6 harg6 arg7 harg7 x0 x1) 0#32 (ix2 0 e) = scaleOf x1 e := by
  rw [next_at, fieldsOf_at, scaleOf]
theorem less_of (e : Fin 256) : k0_pay3 (F := Ideal) (fieldsOf c i arg1 harg1 arg2 harg2 arg3 harg3 arg4 harg4 arg5 harg5 arg6 harg6 arg7 harg7 x0 x1) 0#32 (ix2 0 e) = inverseOf x1 e := by
  rw [less_at, fieldsOf_at, inverseOf]

theorem run_pieces : (∀ p ∈ (kernelRun0_A (F := Ideal) c i arg1 harg1 arg2 harg2 arg3 harg3 arg4 harg4 arg5 harg5 arg6 harg6 arg7 harg7 x0 x1).1, ∀ z, p.2 z = keyCodes x0 (p.1.emb z))
    ∧ (∀ p ∈ (kernelRun0_A (F := Ideal) c i arg1 harg1 arg2 harg2 arg3 harg3 arg4 harg4 arg5 harg5 arg6 harg6 arg7 harg7 x0 x1).2.1, ∀ z, p.2 z = keyScales x0 (p.1.emb z))
    ∧ (∀ p ∈ (kernelRun0_A (F := Ideal) c i arg1 harg1 arg2 harg2 arg3 harg3 arg4 harg4 arg5 harg5 arg6 harg6 arg7 harg7 x0 x1).2.2.1, ∀ z, p.2 z = valueCodes (inverseOf x1) x1 (p.1.emb z))
    ∧ (∀ p ∈ (kernelRun0_A (F := Ideal) c i arg1 harg1 arg2 harg2 arg3 harg3 arg4 harg4 arg5 harg5 arg6 harg6 arg7 harg7 x0 x1).2.2.2.2.1, ∀ z, p.2 z = valueTurned (inverseOf x1) x1 (p.1.emb z)) := by
  have H := loop_pieces Variants.none c none i arg1 harg1 arg2 harg2 arg3 harg3 arg4 harg4 arg5 harg5 arg6 harg6 arg7 harg7 x0 x1 (means c i arg1 harg1 arg2 harg2 arg3 harg3 arg4 harg4 arg5 harg5 arg6 harg6 arg7 harg7 x0 x1) (fieldsOf c i arg1 harg1 arg2 harg2 arg3 harg3 arg4 harg4 arg5 harg5 arg6 harg6 arg7 harg7 x0 x1) _ _ _ _
    (trip_pieces Variants.none c none i arg1 harg1 arg2 harg2 arg3 harg3 arg4 harg4 arg5 harg5 arg6 harg6 arg7 harg7 x0 x1 (inverseOf x1) (means c i arg1 harg1 arg2 harg2 arg3 harg3 arg4 harg4 arg5 harg5 arg6 harg6 arg7 harg7 x0 x1) (mean_total Variants.none c none i arg1 harg1 arg2 harg2 arg3 harg3 arg4 harg4 arg5 harg5 arg6 harg6 arg7 harg7 x0 x1) (fieldsOf c i arg1 harg1 arg2 harg2 arg3 harg3 arg4 harg4 arg5 harg5 arg6 harg6 arg7 harg7 x0 x1) (less_of c i arg1 harg1 arg2 harg2 arg3 harg3 arg4 harg4 arg5 harg5 arg6 harg6 arg7 harg7 x0 x1))
  unfold kernelRun0_A
  dsimp only
  rw [means_eq, fields_eq]
  exact H _

theorem run_scales : ∀ p ∈ (kernelRun0_A (F := Ideal) c i arg1 harg1 arg2 harg2 arg3 harg3 arg4 harg4 arg5 harg5 arg6 harg6 arg7 harg7 x0 x1).2.2.2.1, ∀ z, p.2 z = valueScales x1 (p.1.emb z) := by
  unfold kernelRun0_A
  dsimp only
  unfold kernelRun0_A.sl.H5_2
  rw [fields_eq]
  intro pc hpc
  rcases List.mem_cons.mp hpc with rfl | hpc
  · intro z
    refine valueScales_of x1 _ 1 (fun d => ?_) z _ (by show 1 + 1 * _ = 1 + _; omega) (by show 0 + 1 * _ = _; omega)
    have ed : (⟨128 + d.val, by have := d.isLt; omega⟩ : Fin 256) = feat 1 d := Fin.ext (by show 128 + d.val = 128 * 1 + d.val; omega)
    exact (part1_at _ d).trans ((next_of c i arg1 harg1 arg2 harg2 arg3 harg3 arg4 harg4 arg5 harg5 arg6 harg6 arg7 harg7 x0 x1 _).trans (congrArg (scaleOf x1) ed))
  rcases List.mem_cons.mp hpc with rfl | hpc
  · intro z
    refine valueScales_of x1 _ 0 (fun d => ?_) z _ (by show 0 + 1 * _ = 0 + _; omega) (by show 0 + 1 * _ = _; omega)
    have ed : (⟨d.val, by have := d.isLt; omega⟩ : Fin 256) = feat 0 d := Fin.ext (by show d.val = 128 * 0 + d.val; omega)
    exact (part0_at _ d).trans ((next_of c i arg1 harg1 arg2 harg2 arg3 harg3 arg4 harg4 arg5 harg5 arg6 harg6 arg7 harg7 x0 x1 _).trans (congrArg (scaleOf x1) ed))
  nomatch hpc

/-! ## What the block's arrays hold after its run -/

theorem block2 : out0_A_2 (F := Ideal) c i arg1 harg1 arg2 harg2 arg3 harg3 arg4 harg4 arg5 harg5 arg6 harg6 arg7 harg7 x0 x1 = keyCodes x0 :=
  funext fun y => View.read_writes_apply_of_pieces _ _ (keyCodes x0) _ (run_pieces c i arg1 harg1 arg2 harg2 arg3 harg3 arg4 harg4 arg5 harg5 arg6 harg6 arg7 harg7 x0 x1).1 y (cover0_A_2 c i arg1 harg1 arg2 harg2 arg3 harg3 arg4 harg4 arg5 harg5 arg6 harg6 arg7 harg7 x0 x1 y)
theorem block3 : out0_A_3 (F := Ideal) c i arg1 harg1 arg2 harg2 arg3 harg3 arg4 harg4 arg5 harg5 arg6 harg6 arg7 harg7 x0 x1 = keyScales x0 :=
  funext fun y => View.read_writes_apply_of_pieces _ _ (keyScales x0) _ (run_pieces c i arg1 harg1 arg2 harg2 arg3 harg3 arg4 harg4 arg5 harg5 arg6 harg6 arg7 harg7 x0 x1).2.1 y (cover0_A_3 c i arg1 harg1 arg2 harg2 arg3 harg3 arg4 harg4 arg5 harg5 arg6 harg6 arg7 harg7 x0 x1 y)
theorem block4 : out0_A_4 (F := Ideal) c i arg1 harg1 arg2 harg2 arg3 harg3 arg4 harg4 arg5 harg5 arg6 harg6 arg7 harg7 x0 x1 = valueCodes (inverseOf x1) x1 :=
  funext fun y => View.read_writes_apply_of_pieces _ _ (valueCodes (inverseOf x1) x1) _ (run_pieces c i arg1 harg1 arg2 harg2 arg3 harg3 arg4 harg4 arg5 harg5 arg6 harg6 arg7 harg7 x0 x1).2.2.1 y (cover0_A_4 c i arg1 harg1 arg2 harg2 arg3 harg3 arg4 harg4 arg5 harg5 arg6 harg6 arg7 harg7 x0 x1 y)
theorem block5 : out0_A_5 (F := Ideal) c i arg1 harg1 arg2 harg2 arg3 harg3 arg4 harg4 arg5 harg5 arg6 harg6 arg7 harg7 x0 x1 = valueScales x1 :=
  funext fun y => View.read_writes_apply_of_pieces _ _ (valueScales x1) _ (run_scales c i arg1 harg1 arg2 harg2 arg3 harg3 arg4 harg4 arg5 harg5 arg6 harg6 arg7 harg7 x0 x1) y (cover0_A_5 c i arg1 harg1 arg2 harg2 arg3 harg3 arg4 harg4 arg5 harg5 arg6 harg6 arg7 harg7 x0 x1 y)
theorem block6 : out0_A_6 (F := Ideal) c i arg1 harg1 arg2 harg2 arg3 harg3 arg4 harg4 arg5 harg5 arg6 harg6 arg7 harg7 x0 x1 = valueTurned (inverseOf x1) x1 :=
  funext fun y => View.read_writes_apply_of_pieces _ _ (valueTurned (inverseOf x1) x1) _ (run_pieces c i arg1 harg1 arg2 harg2 arg3 harg3 arg4 harg4 arg5 harg5 arg6 harg6 arg7 harg7 x0 x1).2.2.2 y (cover0_A_6 c i arg1 harg1 arg2 harg2 arg3 harg3 arg4 harg4 arg5 harg5 arg6 harg6 arg7 harg7 x0 x1 y)

end Cert.KernelKVIdeal.Row
end
-- ==== Proof.KVRef.lean ====
module

public import proofs.«01_k».proof.Proof.Gen.ReferenceKVIdeal.Value
public import proofs.«01_k».proof.Proof.Chan

@[expose] public section

set_option maxRecDepth 16384

/-! # The key/value quantiser of the reference -/

noncomputable section

namespace Cert.ReferenceKVIdeal.Row

open Idealize.ShloMosaic Idealize.ShloMosaic.TcCoe Idealize.SL.Sem
open Idealize.ShloMosaic.Pipeline (Dat Cfg Window)
open Cert.ReferenceKVIdeal Cert.ReferenceKVIdeal.Gen

/-- Feature `d` of head `h`, in the merged axis. -/
abbrev feat (h : Fin 2) (d : Fin 128) : Fin 256 := ⟨128 * h.val + d.val, by have := h.isLt; have := d.isLt; omega⟩

/-! ## The operations, read at an index, over any operands -/

/-- an array by heads; -/
abbrev heads (A : FVec Ideal S8x4096x256 .bf16) : FVec Ideal S8x4096x2x128 .f32 :=
  shapeCast S8x4096x2x128 (extf .f32 A bitsLt_bf16_f32) shapeCasts_S8x4096x256_S8x4096x2x128

theorem split_gen (A : FVec Ideal S8x4096x256 .bf16) (b : Fin 8) (n : Fin 4096) (h : Fin 2) (d : Fin 128) :
    shapeCast S8x4096x2x128 (extf .f32 A bitsLt_bf16_f32) shapeCasts_S8x4096x256_S8x4096x2x128 (ix4 b n h d) = (show EReal from A (ix3 b n (feat h d))) := by
  pointwise
  refine congrArg (fun i => (show EReal from A (ix3 b n i))) (Fin.ext ?_)
  show h.val * 128 + d.val = 128 * h.val + d.val
  omega

theorem smooth_gen (y : FVec Ideal S8x4096x2x128 .f32) (b : Fin 8) (n : Fin 4096) (h : Fin 2) (d : Fin 128) :
    subf y (broadcastInDim S8x4096x2x128 ![0, 1, 2, 3] bcast_S8x1x2x128_S8x4096x2x128_0_1_2_3 (Host.divf
      (broadcastInDim S8x1x2x128 ![0, 2, 3] bcast_S8x2x128_S8x1x2x128_0_2_3 (Host.reduceAdd y (constant S_ .f32 0x00000000#32) reducesTo_S8x4096x2x128_S8x2x128_d1 h_S_))
      (broadcastInDim S8x1x2x128 ![] bcast_S_S8x1x2x128 (constant S_ .f32 0x45800000#32)))) (ix4 b n h d)
    = (show EReal from y (ix4 b n h d)) - Chan.mean (fun n => y (ix4 b n h d)) := by
  pointwise [Chan.mean]

theorem scale_gen (y : FVec Ideal S8x4096x2 .f32) (i : S8x4096x2.Idx) :
    select (cmpf .oeq y (broadcastInDim S8x4096x2 ![] bcast_S_S8x4096x2 (constant S_ .f32 0x00000000#32)))
      (broadcastInDim S8x4096x2 ![] bcast_S_S8x4096x2 (constant S_ .f32 0x3F800000#32))
      (Host.divf y (broadcastInDim S8x4096x2 ![] bcast_S_S8x4096x2 (constant S_ .f32 0x42FE0000#32))) i
    = if y i = 0 then 1 else Ideal.div (y i) (Ideal.ofBits FTy.f32 0x42FE0000#32) := by
  pointwise

theorem top_gen (y : FVec Ideal S8x4096x2x128 .f32) (b : Fin 8) (n : Fin 4096) (h : Fin 2) :
    Host.reduce FloatOps.maximumf (Host.absf y) (constant S_ .f32 0xFF800000#32) reducesTo_S8x4096x2x128_S8x4096x2_d3 h_S_ (ix3 b n h)
    = Rows.top (fun d => y (ix4 b n h d)) := by
  pointwise [Rows.top]

theorem chanTop_gen (y : FVec Ideal S8x4096x2x128 .f32) (b : Fin 8) (h : Fin 2) (d : Fin 128) :
    Host.reduce FloatOps.maximumf (Host.absf y) (constant S_ .f32 0xFF800000#32) reducesTo_S8x4096x2x128_S8x2x128_d1 h_S_ (ix3 b h d)
    = Chan.top (fun n => y (ix4 b n h d)) := by
  pointwise [Chan.top]

theorem quot_gen (y : FVec Ideal S8x4096x2x128 .f32) (z : FVec Ideal S8x4096x2 .f32) (b : Fin 8) (n : Fin 4096) (h : Fin 2) (d : Fin 128)
    (e : Fin 256) (he : e.val = 128 * h.val + d.val) :
    shapeCast S8x4096x256 (Host.divf y (broadcastInDim S8x4096x2x128 ![0, 1, 2, 3] bcast_S8x4096x2x1_S8x4096x2x128_0_1_2_3
      (broadcastInDim S8x4096x2x1 ![0, 1, 2] bcast_S8x4096x2_S8x4096x2x1_0_1_2 z))) shapeCasts_S8x4096x2x128_S8x4096x256 (ix3 b n e)
    = Ideal.div (y (ix4 b n h d)) (z (ix3 b n h)) := by
  pointwise
  have h1 : (⟨e.val / 128, by have := e.isLt; omega⟩ : Fin 2) = h := Fin.ext (by show e.val / 128 = h.val; have := d.isLt; omega)
  have h2 : (⟨e.val % 128, by omega⟩ : Fin 128) = d := Fin.ext (by show e.val % 128 = d.val; have := d.isLt; omega)
  rw [h1, h2]

theorem scaled_gen (y : FVec Ideal S8x4096x2x128 .f32) (z : FVec Ideal S8x2x128 .f32) (b : Fin 8) (n : Fin 4096) (h : Fin 2) (d : Fin 128)
    (e : Fin 256) (he : e.val = 128 * h.val + d.val) :
    shapeCast S8x4096x256 (mulf y (broadcastInDim S8x4096x2x128 ![0, 1, 2, 3] bcast_S8x1x2x128_S8x4096x2x128_0_1_2_3
      (broadcastInDim S8x1x2x128 ![0, 2, 3] bcast_S8x2x128_S8x1x2x128_0_2_3 (Host.divf (broadcastInDim S8x2x128 ![] bcast_S_S8x2x128 (constant S_ .f32 0x3F800000#32)) z)))) shapeCasts_S8x4096x2x128_S8x4096x256 (ix3 b n e)
    = (show EReal from y (ix4 b n h d)) * Ideal.div 1 (z (ix3 b h d)) := by
  pointwise
  have h1 : (⟨e.val / 128, by have := e.isLt; omega⟩ : Fin 2) = h := Fin.ext (by show e.val / 128 = h.val; have := d.isLt; omega)
  have h2 : (⟨e.val % 128, by omega⟩ : Fin 128) = d := Fin.ext (by show e.val % 128 = d.val; have := d.isLt; omega)
  rw [h1, h2]

theorem turned_gen (y : FVec Ideal S8x4096x2x128 .f32) (z : FVec Ideal S8x2x128 .f32) (b : Fin 8) (n : Fin 4096) (h : Fin 2) (d : Fin 128) :
    transpose S8x2x128x4096 [0, 2, 3, 1] (mulf y (broadcastInDim S8x4096x2x128 ![0, 1, 2, 3] bcast_S8x1x2x128_S8x4096x2x128_0_1_2_3
      (broadcastInDim S8x1x2x128 ![0, 2, 3] bcast_S8x2x128_S8x1x2x128_0_2_3 (Host.divf (broadcastInDim S8x2x128 ![] bcast_S_S8x2x128 (constant S_ .f32 0x3F800000#32)) z))))
      transposes_S8x4096x2x128_S8x2x128x4096_0_2_3_1 (ix4 b h d n)
    = (show EReal from y (ix4 b n h d)) * Ideal.div 1 (z (ix3 b h d)) := by
  pointwise

/-- The powers of two. -/
def powers : FVec Ideal S253 .f32 :=
  Host.powf (broadcastInDim S253 ![] bcast_S_S253 (constant S_ .f32 0x40000000#32))
    (subf (sitofp .f32 (iotaInDim S253 32 0)) (broadcastInDim S253 ![] bcast_S_S253 (constant S_ .f32 0x42FA0000#32)))

theorem powers_at (e : Fin 253) : powers (ix1 e) = ((((2 : ℝ) ^ ((e.val : ℤ) - 125) : ℝ)) : EReal) := by
  have two : Ideal.ofBits FTy.f32 0x40000000#32 = ((2 : ℝ) : EReal) := by simp [Ideal.ofBits, Ideal.ieee, -EReal.coe_mul]; norm_num
  have off : Ideal.ofBits FTy.f32 0x42FA0000#32 = ((125 : ℝ) : EReal) := by simp [Ideal.ofBits, Ideal.ieee, -EReal.coe_mul]; norm_num
  have small : (BitVec.ofNat 32 e.val).toInt = (e.val : ℤ) := by
    have := e.isLt
    rw [BitVec.toInt_eq_toNat_of_lt] <;> rw [BitVec.toNat_ofNat] <;> omega
  have conv : FloatOps.sitofp (F := Ideal) FTy.f32 (BitVec.ofNat 32 e.val) = ((e.val : ℝ) : EReal) := by
    show (((BitVec.ofNat 32 e.val).toInt : ℝ) : EReal) = _
    rw [small, Int.cast_natCast]
  pointwise [powers]
  rw [two, off, conv, ← EReal.coe_sub, Ideal.pow_coe_coe]
  congr 1
  rw [Real.rpow_eq_pow, ← Real.rpow_intCast]
  push_cast
  rfl

theorem above_gen (y : FVec Ideal S8x2x128 .f32) (w : FVec Ideal S253 .f32) (hw : ∀ e : Fin 253, w (ix1 e) = ((((2 : ℝ) ^ ((e.val : ℤ) - 125) : ℝ)) : EReal))
    (b : Fin 8) (h : Fin 2) (d : Fin 128) :
    Host.reduce FloatOps.minimumf
      (select (cmpf .ogt (broadcastInDim S8x2x128x253 ![0, 1, 2, 3] bcast_S1x1x1x253_S8x2x128x253_0_1_2_3 (broadcastInDim S1x1x1x253 ![3] bcast_S253_S1x1x1x253_3 w))
          (broadcastInDim S8x2x128x253 ![0, 1, 2, 3] bcast_S8x2x128x1_S8x2x128x253_0_1_2_3 (broadcastInDim S8x2x128x1 ![0, 1, 2] bcast_S8x2x128_S8x2x128x1_0_1_2
            (mulf y (broadcastInDim S8x2x128 ![] bcast_S_S8x2x128 (constant S_ .f32 0x3B124925#32))))))
        (broadcastInDim S8x2x128x253 ![3] bcast_S253_S8x2x128x253_3 w)
        (broadcastInDim S8x2x128x253 ![] bcast_S_S8x2x128x253 (constant S_ .f32 0x7F800000#32)))
      (constant S_ .f32 0x7F800000#32) reducesTo_S8x2x128x253_S8x2x128_d3 h_S_ (ix3 b h d)
    = Chan.above ((show EReal from y (ix3 b h d)) * Ideal.ofBits FTy.f32 0x3B124925#32) := by
  pointwise [Chan.above]
  simp only [hw]

theorem one_gen (y z : FVec Ideal S8x2x128 .f32) (i : S8x2x128.Idx) :
    select (cmpf .oeq y (broadcastInDim S8x2x128 ![] bcast_S_S8x2x128 (constant S_ .f32 0x00000000#32)))
      (broadcastInDim S8x2x128 ![] bcast_S_S8x2x128 (constant S_ .f32 0x3F800000#32)) z i
    = if y i = 0 then 1 else z i := by
  pointwise

section Terms
variable (K W : FVec Ideal S8x4096x256 .bf16)

/-- The keys minus their channel means; -/
def smooth : FVec Ideal S8x4096x2x128 .f32 :=
  subf (heads K) (broadcastInDim S8x4096x2x128 ![0, 1, 2, 3] bcast_S8x1x2x128_S8x4096x2x128_0_1_2_3 (Host.divf
      (broadcastInDim S8x1x2x128 ![0, 2, 3] bcast_S8x2x128_S8x1x2x128_0_2_3 (Host.reduceAdd (heads K) (constant S_ .f32 0x00000000#32) reducesTo_S8x4096x2x128_S8x2x128_d1 h_S_))
      (broadcastInDim S8x1x2x128 ![] bcast_S_S8x1x2x128 (constant S_ .f32 0x45800000#32))))
/-- the greatest magnitudes of their rows; -/
def tops : FVec Ideal S8x4096x2 .f32 :=
  Host.reduce FloatOps.maximumf (Host.absf (smooth K)) (constant S_ .f32 0xFF800000#32) reducesTo_S8x4096x2x128_S8x4096x2_d3 h_S_
/-- their scales; -/
def scales : FVec Ideal S8x4096x2 .f32 :=
  select (cmpf .oeq (tops K) (broadcastInDim S8x4096x2 ![] bcast_S_S8x4096x2 (constant S_ .f32 0x00000000#32)))
    (broadcastInDim S8x4096x2 ![] bcast_S_S8x4096x2 (constant S_ .f32 0x3F800000#32))
    (Host.divf (tops K) (broadcastInDim S8x4096x2 ![] bcast_S_S8x4096x2 (constant S_ .f32 0x42FE0000#32)))
/-- these, one row of the sequence for each head; -/
def scalesT : FVec Ideal S8x2x4096 .f32 := transpose S8x2x4096 [0, 2, 1] (scales K) transposes_S8x4096x2_S8x2x4096_0_2_1
/-- the quotients. -/
def quotients : FVec Ideal S8x4096x256 .f32 :=
  shapeCast S8x4096x256 (Host.divf (smooth K) (broadcastInDim S8x4096x2x128 ![0, 1, 2, 3] bcast_S8x4096x2x1_S8x4096x2x128_0_1_2_3
    (broadcastInDim S8x4096x2x1 ![0, 1, 2] bcast_S8x4096x2_S8x4096x2x1_0_1_2 (scales K)))) shapeCasts_S8x4096x2x128_S8x4096x256
/-- The greatest magnitudes of the values' channels; -/
def chanTops : FVec Ideal S8x2x128 .f32 :=
  Host.reduce FloatOps.maximumf (Host.absf (heads W)) (constant S_ .f32 0xFF800000#32) reducesTo_S8x4096x2x128_S8x2x128_d1 h_S_
/-- the least powers of two above a 448th of them; -/
def aboves : FVec Ideal S8x2x128 .f32 :=
  Host.reduce FloatOps.minimumf
      (select (cmpf .ogt (broadcastInDim S8x2x128x253 ![0, 1, 2, 3] bcast_S1x1x1x253_S8x2x128x253_0_1_2_3 (broadcastInDim S1x1x1x253 ![3] bcast_S253_S1x1x1x253_3 powers))
          (broadcastInDim S8x2x128x253 ![0, 1, 2, 3] bcast_S8x2x128x1_S8x2x128x253_0_1_2_3 (broadcastInDim S8x2x128x1 ![0, 1, 2] bcast_S8x2x128_S8x2x128x1_0_1_2
            (mulf (chanTops W) (broadcastInDim S8x2x128 ![] bcast_S_S8x2x128 (constant S_ .f32 0x3B124925#32))))))
        (broadcastInDim S8x2x128x253 ![3] bcast_S253_S8x2x128x253_3 powers)
        (broadcastInDim S8x2x128x253 ![] bcast_S_S8x2x128x253 (constant S_ .f32 0x7F800000#32)))
      (constant S_ .f32 0x7F800000#32) reducesTo_S8x2x128x253_S8x2x128_d3 h_S_
/-- the channels' scales; -/
def chanScales : FVec Ideal S8x2x128 .f32 :=
  select (cmpf .oeq (chanTops W) (broadcastInDim S8x2x128 ![] bcast_S_S8x2x128 (constant S_ .f32 0x00000000#32)))
      (broadcastInDim S8x2x128 ![] bcast_S_S8x2x128 (constant S_ .f32 0x3F800000#32)) (aboves W)
/-- the values times the inverse scales; -/
def scaled : FVec Ideal S8x4096x256 .f32 :=
  shapeCast S8x4096x256 (mulf (heads W) (broadcastInDim S8x4096x2x128 ![0, 1, 2, 3] bcast_S8x1x2x128_S8x4096x2x128_0_1_2_3
      (broadcastInDim S8x1x2x128 ![0, 2, 3] bcast_S8x2x128_S8x1x2x128_0_2_3 (Host.divf (broadcastInDim S8x2x128 ![] bcast_S_S8x2x128 (constant S_ .f32 0x3F800000#32)) (chanScales W))))) shapeCasts_S8x4096x2x128_S8x4096x256
/-- these with the tokens last. -/
def turned : FVec Ideal S8x2x128x4096 .f32 :=
  transpose S8x2x128x4096 [0, 2, 3, 1] (mulf (heads W) (broadcastInDim S8x4096x2x128 ![0, 1, 2, 3] bcast_S8x1x2x128_S8x4096x2x128_0_1_2_3
      (broadcastInDim S8x1x2x128 ![0, 2, 3] bcast_S8x2x128_S8x1x2x128_0_2_3 (Host.divf (broadcastInDim S8x2x128 ![] bcast_S_S8x2x128 (constant S_ .f32 0x3F800000#32)) (chanScales W)))))
    transposes_S8x4096x2x128_S8x2x128x4096_0_2_3_1

variable (b : Fin 8) (n : Fin 4096) (h : Fin 2) (d : Fin 128)

/-- Channel `e` of batch `b`; -/
def chan (A : FVec Ideal S8x4096x256 .bf16) (b : Fin 8) (e : Fin 256) : Fin 4096 → EReal := fun n => A (ix3 b n e)
/-- row `n` of head `h` of the keys, minus the channel means. -/
def row (b : Fin 8) (n : Fin 4096) (h : Fin 2) : Fin 128 → EReal :=
  fun d => chan K b (feat h d) n - Chan.mean (chan K b (feat h d))

theorem smooth_at : smooth K (ix4 b n h d) = row K b n h d := by
  have e := smooth_gen (heads K) b n h d
  simp only [split_gen] at e
  unfold smooth
  exact e

theorem tops_at : tops K (ix3 b n h) = Rows.top (row K b n h) := by
  have e := top_gen (smooth K) b n h
  simp only [smooth_at] at e
  unfold tops
  exact e

theorem scales_at : scales K (ix3 b n h) = Rows.scale (row K b n h) := by
  have e := scale_gen (tops K) (ix3 b n h)
  rw [tops_at] at e
  unfold scales
  exact e

theorem scalesT_at : scalesT K (ix3 b h n) = Rows.scale (row K b n h) := by
  rw [← scales_at]
  unfold scalesT
  generalize scales K = y
  pointwise

theorem quotients_at : quotients K (ix3 b n (feat h d)) = Ideal.div (row K b n h d) (Rows.scale (row K b n h)) := by
  have e := quot_gen (smooth K) (scales K) b n h d (feat h d) rfl
  rw [smooth_at, scales_at] at e
  unfold quotients
  exact e

theorem chanTops_at : chanTops W (ix3 b h d) = Chan.top (chan W b (feat h d)) := by
  have e := chanTop_gen (heads W) b h d
  simp only [split_gen] at e
  unfold chanTops
  exact e

theorem aboves_at : aboves W (ix3 b h d) = Chan.above (Chan.part (chan W b (feat h d))) := by
  have e := above_gen (chanTops W) powers powers_at b h d
  rw [chanTops_at] at e
  unfold aboves
  exact e

theorem chanScales_at : chanScales W (ix3 b h d) = Chan.scale (chan W b (feat h d)) := by
  have e := one_gen (chanTops W) (aboves W) (ix3 b h d)
  rw [chanTops_at, aboves_at] at e
  unfold chanScales
  exact e

theorem scaled_at : scaled W (ix3 b n (feat h d)) = chan W b (feat h d) n * Ideal.div 1 (Chan.scale (chan W b (feat h d))) := by
  have e := scaled_gen (heads W) (chanScales W) b n h d (feat h d) rfl
  simp only [split_gen, chanScales_at] at e
  unfold scaled
  exact e

theorem turned_at : turned W (ix4 b h d n) = chan W b (feat h d) n * Ideal.div 1 (Chan.scale (chan W b (feat h d))) := by
  have e := turned_gen (heads W) (chanScales W) b n h d
  simp only [split_gen, chanScales_at] at e
  unfold turned
  exact e

/-- The codes of a row of quotients, -/
theorem narrowed_at (y : Vec Ideal S8x4096x256 .f32) (i : S8x4096x256.Idx) :
    k0_pay1 (F := Ideal) y i = FloatOps.fptosi (F := Ideal) (φ := .f32) 8 (min (Ideal.ofBits FTy.f32 0x42FE0000#32)
      (max (Ideal.ofBits FTy.f32 0xC2FE0000#32) (Ideal.liftRound Ideal.roundHalfEven (y i)))) := by
  pointwise [k0_pay1]

/-- of scaled values, -/
theorem clipped_at (y : Vec Ideal S8x4096x256 .f32) (i : S8x4096x256.Idx) :
    k0_pay2 (F := Ideal) y i = min (Ideal.ofBits FTy.f32 0x43E00000#32) (max (Ideal.ofBits FTy.f32 0xC3E00000#32) (y i)) := by
  pointwise [k0_pay2]

/-- and of these with the tokens last. -/
theorem clippedTurned_at (y : Vec Ideal S8x2x128x4096 .f32) (i : S8x2x128x4096.Idx) :
    k0_pay3 (F := Ideal) y i = min (Ideal.ofBits FTy.f32 0x43E00000#32) (max (Ideal.ofBits FTy.f32 0xC3E00000#32) (y i)) := by
  pointwise [k0_pay3]

theorem codes_at : k0_pay1 (F := Ideal) (quotients K) (ix3 b n (feat h d)) = Rows.code (row K b n h) d := by
  have e := narrowed_at (quotients K) (ix3 b n (feat h d))
  rw [quotients_at] at e
  exact e

theorem chanCodes_at : k0_pay2 (F := Ideal) (scaled W) (ix3 b n (feat h d))
    = Chan.code (chan W b (feat h d) n) (Chan.scale (chan W b (feat h d))) := by
  have e := clipped_at (scaled W) (ix3 b n (feat h d))
  rw [scaled_at] at e
  exact e

theorem turnedCodes_at : k0_pay3 (F := Ideal) (turned W) (ix4 b h d n)
    = Chan.code (chan W b (feat h d) n) (Chan.scale (chan W b (feat h d))) := by
  have e := clippedTurned_at (turned W) (ix4 b h d n)
  rw [turned_at] at e
  exact e
end Terms

variable (m : (ℓ : Loc nD τ sig) → Buf (Elt Ideal) ℓ) (c : Dev nD)

open Idealize.ShloMosaic.StableHlo in
theorem V_scales : V m c main_v37 = scalesT (m ((c : Thread nD τ).loc main_arg0)) := by
  unfold V
  simp only [hostOps0, hostOps0_1, hostOps0_2, hostOps0_3, hostOps0_4, hostOps0_5, hostOps0_6, TRef.ternary, TRef.unary, TRef.toBuf, TRef.ofBuf, cast_eq, List.flatten_cons, List.flatten_nil, List.append_nil, List.cons_append, List.nil_append]
  after_results_simp <;> rfl

open Idealize.ShloMosaic.StableHlo in
theorem V_quotients : V m c main_v46 = quotients (m ((c : Thread nD τ).loc main_arg0)) := by
  unfold V
  simp only [hostOps0, hostOps0_1, hostOps0_2, hostOps0_3, hostOps0_4, hostOps0_5, hostOps0_6, TRef.ternary, TRef.unary, TRef.toBuf, TRef.ofBuf, cast_eq, List.flatten_cons, List.flatten_nil, List.append_nil, List.cons_append, List.nil_append]
  after_results_simp <;> rfl

open Idealize.ShloMosaic.StableHlo in
theorem V_chanScales : V m c main_v36 = chanScales (m ((c : Thread nD τ).loc main_arg1)) := by
  unfold V
  simp only [hostOps0, hostOps0_1, hostOps0_2, hostOps0_3, hostOps0_4, hostOps0_5, hostOps0_6, TRef.ternary, TRef.unary, TRef.toBuf, TRef.ofBuf, cast_eq, List.flatten_cons, List.flatten_nil, List.append_nil, List.cons_append, List.nil_append]
  after_results_simp <;> rfl

open Idealize.ShloMosaic.StableHlo in
theorem V_scaled : V m c main_v47 = scaled (m ((c : Thread nD τ).loc main_arg1)) := by
  unfold V
  simp only [hostOps0, hostOps0_1, hostOps0_2, hostOps0_3, hostOps0_4, hostOps0_5, hostOps0_6, TRef.ternary, TRef.unary, TRef.toBuf, TRef.ofBuf, cast_eq, List.flatten_cons, List.flatten_nil, List.append_nil, List.cons_append, List.nil_append]
  after_results_simp <;> rfl

open Idealize.ShloMosaic.StableHlo in
theorem V_turned : V m c main_v48 = turned (m ((c : Thread nD τ).loc main_arg1)) := by
  unfold V
  simp only [hostOps0, hostOps0_1, hostOps0_2, hostOps0_3, hostOps0_4, hostOps0_5, hostOps0_6, TRef.ternary, TRef.unary, TRef.toBuf, TRef.ofBuf, cast_eq, List.flatten_cons, List.flatten_nil, List.append_nil, List.cons_append, List.nil_append]
  after_results_simp <;> rfl

theorem idx : ∀ t : Fin cfg0.N, win0_0.index t = ![0, 0, 0] ∧ win0_1.index t = ![0, 0, 0] ∧ win0_2.index t = ![0, 0, 0, 0] ∧ win0_3.index t = ![0, 0, 0]
    ∧ win0_4.index t = ![0, 0, 0] ∧ win0_5.index t = ![0, 0, 0, 0] :=
  (by decide +kernel : ∀ t : Fin grid0.N, _)

/-- The narrowing call's blocks are the whole arrays, -/
theorem blk_whole0 (W : (b : Ref sig .tc) → Buf (Elt Ideal) ((c : Thread nD τ).loc b)) :
    ((cfg0.win 0).blk t0_0).view.read (Elt Ideal) (W (Pipeline.arrRef spec0 0)) = W main_v46 := by
  funext j
  blk_ext [idx t0_0]
theorem blk_whole1 (W : (b : Ref sig .tc) → Buf (Elt Ideal) ((c : Thread nD τ).loc b)) :
    ((cfg0.win 1).blk t0_0).view.read (Elt Ideal) (W (Pipeline.arrRef spec0 1)) = W main_v47 := by
  funext j
  blk_ext [idx t0_0]
theorem blk_whole2 (W : (b : Ref sig .tc) → Buf (Elt Ideal) ((c : Thread nD τ).loc b)) :
    ((cfg0.win 2).blk t0_0).view.read (Elt Ideal) (W (Pipeline.arrRef spec0 2)) = W main_v48 := by
  funext j
  blk_ext [idx t0_0]

theorem blk_quotients : iblk m c 0 t0_0 = quotients (m ((c : Thread nD τ).loc main_arg0)) := by
  unfold iblk
  exact (blk_whole0 c (V m c)).trans (V_quotients m c)
theorem blk_scaled : iblk m c 1 t0_0 = scaled (m ((c : Thread nD τ).loc main_arg1)) := by
  unfold iblk
  exact (blk_whole1 c (V m c)).trans (V_scaled m c)
theorem blk_turned : iblk m c 2 t0_0 = turned (m ((c : Thread nD τ).loc main_arg1)) := by
  unfold iblk
  exact (blk_whole2 c (V m c)).trans (V_turned m c)

/-- and leave the codes of the quotients -/
theorem final_codes : (dats (F := Ideal) m 0 c).arrAt 3 cfg0.N = k0_pay1 (F := Ideal) (quotients (m ((c : Thread nD τ).loc main_arg0))) := by
  refine (dats m 0 c).arrAt_eq_of_after_last 3 t0_0 (by decide +kernel) _ fun j => ?_
  blk_simp
  rw [after0_3, blk_quotients]
  generalize quotients (m ((c : Thread nD τ).loc main_arg0)) = X
  frame_out

/-- of the scaled values, -/
theorem final_chanCodes : (dats (F := Ideal) m 0 c).arrAt 4 cfg0.N = k0_pay2 (F := Ideal) (scaled (m ((c : Thread nD τ).loc main_arg1))) := by
  refine (dats m 0 c).arrAt_eq_of_after_last 4 t0_0 (by decide +kernel) _ fun j => ?_
  blk_simp
  rw [after0_4, blk_scaled]
  generalize scaled (m ((c : Thread nD τ).loc main_arg1)) = X
  frame_out

/-- and of these with the tokens last. -/
theorem final_turnedCodes : (dats (F := Ideal) m 0 c).arrAt 5 cfg0.N = k0_pay3 (F := Ideal) (turned (m ((c : Thread nD τ).loc main_arg1))) := by
  refine (dats m 0 c).arrAt_eq_of_after_last 5 t0_0 (by decide +kernel) _ fun j => ?_
  blk_simp
  rw [after0_5, blk_turned]
  generalize turned (m ((c : Thread nD τ).loc main_arg1)) = X
  frame_out

/-- Every run ends with the codes and the scales, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v49_0) = k0_pay1 (F := Ideal) (quotients (m ((c : Thread nD τ).loc main_arg0)))
      ∧ r.2.mem ((c : Thread nD τ).loc main_v37) = scalesT (m ((c : Thread nD τ).loc main_arg0))
      ∧ r.2.mem ((c : Thread nD τ).loc main_v49_1) = k0_pay2 (F := Ideal) (scaled (m ((c : Thread nD τ).loc main_arg1)))
      ∧ r.2.mem ((c : Thread nD τ).loc main_v36) = chanScales (m ((c : Thread nD τ).loc main_arg1))
      ∧ r.2.mem ((c : Thread nD τ).loc main_v49_2) = k0_pay3 (F := Ideal) (turned (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post3 m r h c).trans (final_codes m c),
      ((h c).2 main_v37 (Pipeline.mem_restRefs_of main_v37 (by decide) (by decide))).trans (V_scales m c),
      (Value.post4 m r h c).trans (final_chanCodes m c),
      ((h c).2 main_v36 (Pipeline.mem_restRefs_of main_v36 (by decide) (by decide))).trans (V_chanScales m c),
      (Value.post5 m r h c).trans (final_turnedCodes m c),
      Value.kept_main_arg0 m r h c, Value.kept_main_arg1 m r h c⟩)
    (run_main m ρ)

end Cert.ReferenceKVIdeal.Row
end
-- ==== Proof.KVFinal.lean ====
module

public import proofs.«01_k».proof.Proof.KVBlock
public import proofs.«01_k».proof.Proof.KVRef

@[expose] public section

set_option maxRecDepth 16384

/-! # The key/value quantiser's result arrays -/

noncomputable section

namespace Cert.KernelKVIdeal.Row

open Idealize.ShloMosaic Idealize.ShloMosaic.TcCoe Idealize.SL.Sem
open Idealize.ShloMosaic.Pipeline (Dat Cfg Window)
open Cert.KernelKVIdeal Cert.KernelKVIdeal.Gen

variable (m : (ℓ : Loc nD τ sig) → Buf (Elt Ideal) ℓ) (c : Dev nD)

theorem idx : ∀ t : Fin cfg0.N, win0_0.index t = ![(grid0.coords t 0).val, 0, 0] ∧ win0_1.index t = ![(grid0.coords t 0).val, 0, 0]
    ∧ win0_2.index t = ![(grid0.coords t 0).val, 0, 0] ∧ win0_3.index t = ![(grid0.coords t 0).val, 0, 0]
    ∧ win0_4.index t = ![(grid0.coords t 0).val, 0, 0] ∧ win0_5.index t = ![(grid0.coords t 0).val, 0, 0]
    ∧ win0_6.index t = ![(grid0.coords t 0).val, 0, 0, 0] :=
  (by decide +kernel : ∀ t : Fin grid0.N, _)

/-- The grid point's batch. -/
abbrev pb (t : Fin cfg0.N) : Fin 8 := grid0.coords t 0

/-- The key and value arguments. -/
abbrev key : FVec Ideal Cert.ReferenceKVIdeal.S8x4096x256 .bf16 := m ((c : Thread nD τ).loc main_arg0)
abbrev value : FVec Ideal Cert.ReferenceKVIdeal.S8x4096x256 .bf16 := m ((c : Thread nD τ).loc main_arg1)

theorem key_chan (t : Fin cfg0.N) (e : Fin 256) : chan (iblk m c 0 t) e = Cert.ReferenceKVIdeal.Row.chan (key m c) (pb t) e := by
  funext n
  unfold chan Cert.ReferenceKVIdeal.Row.chan
  blk_ext [iblk, V, idx t, pb]

theorem value_chan (t : Fin cfg0.N) (e : Fin 256) : chan (iblk m c 1 t) e = Cert.ReferenceKVIdeal.Row.chan (value m c) (pb t) e := by
  funext n
  unfold chan Cert.ReferenceKVIdeal.Row.chan
  blk_ext [iblk, V, idx t, pb]

theorem key_row (t : Fin cfg0.N) (n : Fin 4096) (h : Fin 2) : row (iblk m c 0 t) n h = Cert.ReferenceKVIdeal.Row.row (key m c) (pb t) n h := by
  funext d
  have e := key_chan m c t (feat h d)
  have e1 := congrFun e n
  unfold row Cert.ReferenceKVIdeal.Row.row
  rw [e]
  exact congrArg (fun z : EReal => z - Chan.mean (Cert.ReferenceKVIdeal.Row.chan (key m c) (pb t) (feat h d))) e1

/-- The key's codes are the reference's; -/
theorem final_keyCodes : (dats (F := Ideal) m 0 c).arrAt 2 cfg0.N
    = Cert.ReferenceKVIdeal.Gen.k0_pay1 (F := Ideal) (Cert.ReferenceKVIdeal.Row.quotients (key m c)) := by
  refine (dats m 0 c).arrAt_eq_of_covers 2 _ (by decide +kernel) fun t _ y => ?_
  blk_simp
  rw [after0_2]
  simp only [outsAt0]
  rw [block2]
  have h1 : (y 1).val < 4096 := (y 1).isLt
  have h2 : (y 2).val < 256 := (y 2).isLt
  refine (congrArg (Rows.code · _) (key_row m c t ⟨(y 1).val, h1⟩ ⟨(y 2).val / 128, by omega⟩)).trans ?_
  refine (Cert.ReferenceKVIdeal.Row.codes_at (key m c) (pb t) ⟨(y 1).val, h1⟩ ⟨(y 2).val / 128, by omega⟩ ⟨(y 2).val % 128, by omega⟩).symm.trans ?_
  refine congrArg (Cert.ReferenceKVIdeal.Gen.k0_pay1 (F := Ideal) (Cert.ReferenceKVIdeal.Row.quotients (key m c))) ?_
  blk_ext [idx t, pb]

/-- so are its scales; -/
theorem final_keyScales : (dats (F := Ideal) m 0 c).arrAt 3 cfg0.N = Cert.ReferenceKVIdeal.Row.scalesT (key m c) := by
  refine (dats m 0 c).arrAt_eq_of_covers 3 _ (by decide +kernel) fun t _ y => ?_
  blk_simp
  rw [after0_3]
  simp only [outsAt0]
  rw [block3]
  have h1 : (y 1).val < 2 := (y 1).isLt
  have h2 : (y 2).val < 4096 := (y 2).isLt
  refine (congrArg Rows.scale (key_row m c t ⟨(y 2).val, h2⟩ ⟨(y 1).val, h1⟩)).trans ?_
  refine (Cert.ReferenceKVIdeal.Row.scalesT_at (key m c) (pb t) ⟨(y 2).val, h2⟩ ⟨(y 1).val, h1⟩).symm.trans ?_
  refine congrArg (Cert.ReferenceKVIdeal.Row.scalesT (key m c)) ?_
  blk_ext [idx t, pb]

section Values

variable (hT : ∀ (b : Fin 8) (e : Fin 256), Chan.Tame (Chan.top (Cert.ReferenceKVIdeal.Row.chan (value m c) b e)))

include hT

theorem scale_chan (t : Fin cfg0.N) (e : Fin 256) : scaleOf (iblk m c 1 t) e = Chan.scale (Cert.ReferenceKVIdeal.Row.chan (value m c) (pb t) e)
    ∧ inverseOf (iblk m c 1 t) e = Ideal.div 1 (Chan.scale (Cert.ReferenceKVIdeal.Row.chan (value m c) (pb t) e)) := by
  unfold scaleOf inverseOf
  rw [value_chan]
  exact Chan.biased_scale _ (hT (pb t) e)

/-- so, under the precondition, are the value's codes -/
theorem final_valueCodes : (dats (F := Ideal) m 0 c).arrAt 4 cfg0.N
    = Cert.ReferenceKVIdeal.Gen.k0_pay2 (F := Ideal) (Cert.ReferenceKVIdeal.Row.scaled (value m c)) := by
  refine (dats m 0 c).arrAt_eq_of_covers 4 _ (by decide +kernel) fun t _ y => ?_
  blk_simp
  rw [after0_4]
  simp only [outsAt0]
  rw [block4]
  have h1 : (y 1).val < 4096 := (y 1).isLt
  have h2 : (y 2).val < 256 := (y 2).isLt
  have ef : (⟨(y 2).val, h2⟩ : Fin 256) = feat ⟨(y 2).val / 128, by omega⟩ ⟨(y 2).val % 128, by omega⟩ :=
    Fin.ext (by show (y 2).val = 128 * ((y 2).val / 128) + (y 2).val % 128; omega)
  have ex : (show EReal from iblk m c 1 t y) = Cert.ReferenceKVIdeal.Row.chan (value m c) (pb t) ⟨(y 2).val, h2⟩ ⟨(y 1).val, h1⟩ := by
    rw [← value_chan]
    unfold chan
    refine congrArg (iblk m c 1 t) ?_
    refine funext fun a => Fin.ext ?_
    have h0 : (y 0).val < 1 := (y 0).isLt
    match a with
    | ⟨0, _⟩ => show (y 0).val = 0; omega
    | ⟨1, _⟩ => rfl
    | ⟨2, _⟩ => rfl
  refine (congrArg (clip · _) ex).trans ((congrArg (clip _) (scale_chan m c hT t ⟨(y 2).val, h2⟩).2).trans ?_)
  rw [ef]
  refine (Cert.ReferenceKVIdeal.Row.chanCodes_at (value m c) (pb t) ⟨(y 1).val, h1⟩ ⟨(y 2).val / 128, by omega⟩ ⟨(y 2).val % 128, by omega⟩).symm.trans ?_
  refine congrArg (Cert.ReferenceKVIdeal.Gen.k0_pay2 (F := Ideal) (Cert.ReferenceKVIdeal.Row.scaled (value m c))) ?_
  blk_ext [idx t, pb]

/-- and its scales; -/
theorem final_valueScales : (dats (F := Ideal) m 0 c).arrAt 5 cfg0.N = Cert.ReferenceKVIdeal.Row.chanScales (value m c) := by
  refine (dats m 0 c).arrAt_eq_of_covers 5 _ (by decide +kernel) fun t _ y => ?_
  blk_simp
  rw [after0_5]
  simp only [outsAt0]
  rw [block5]
  have h1 : (y 1).val < 2 := (y 1).isLt
  have h2 : (y 2).val < 128 := (y 2).isLt
  refine (scale_chan m c hT t (feat ⟨(y 1).val, h1⟩ ⟨(y 2).val, h2⟩)).1.trans ?_
  refine (Cert.ReferenceKVIdeal.Row.chanScales_at (value m c) (pb t) ⟨(y 1).val, h1⟩ ⟨(y 2).val, h2⟩).symm.trans ?_
  refine congrArg (Cert.ReferenceKVIdeal.Row.chanScales (value m c)) ?_
  blk_ext [idx t, pb]

/-- so are the codes with the tokens last. -/
theorem final_valueTurned : (dats (F := Ideal) m 0 c).arrAt 6 cfg0.N
    = Cert.ReferenceKVIdeal.Gen.k0_pay3 (F := Ideal) (Cert.ReferenceKVIdeal.Row.turned (value m c)) := by
  refine (dats m 0 c).arrAt_eq_of_covers 6 _ (by decide +kernel) fun t _ y => ?_
  blk_simp
  rw [after0_6]
  simp only [outsAt0]
  rw [block6]
  have h1 : (y 1).val < 2 := (y 1).isLt
  have h2 : (y 2).val < 128 := (y 2).isLt
  have h3 : (y 3).val < 4096 := (y 3).isLt
  have ex := congrFun (value_chan m c t (feat ⟨(y 1).val, h1⟩ ⟨(y 2).val, h2⟩)) ⟨(y 3).val, h3⟩
  refine (congrArg (clip · _) ex).trans ((congrArg (clip _) (scale_chan m c hT t (feat ⟨(y 1).val, h1⟩ ⟨(y 2).val, h2⟩)).2).trans ?_)
  refine (Cert.ReferenceKVIdeal.Row.turnedCodes_at (value m c) (pb t) ⟨(y 3).val, h3⟩ ⟨(y 1).val, h1⟩ ⟨(y 2).val, h2⟩).symm.trans ?_
  refine congrArg (Cert.ReferenceKVIdeal.Gen.k0_pay3 (F := Ideal) (Cert.ReferenceKVIdeal.Row.turned (value m c))) ?_
  blk_ext [idx t, pb]

end Values

end Cert.KernelKVIdeal.Row
end
-- ==== Proof.TameKV.lean ====
module

public import proofs.«01_k».proof.Pre_tame_kv
public import proofs.«01_k».proof.Proof.Tame
public import proofs.«01_k».proof.Proof.Pow

@[expose] public section

set_option maxRecDepth 16384

/-! # The precondition of the key/value quantiser: a channel's greatest magnitude is zero, or neither tiny nor infinite -/

noncomputable section

namespace Cert.Pre_tame_kv.Use

open Idealize.ShloMosaic Idealize.ShloMosaic.TcCoe
open Cert.Pre_tame_kv

/-- The shape relations the precondition's operations take. -/
theorem facts : Facts where
  bitsLt_bf16_f32 := by decide
  reducesTo_S8x4096x256_S8x256_d1 := by decide
  h_S_ := by decide
  bcast_S_S8x256 := by decide

theorem or_one (a b : BitVec 1) (h : a ||| b = 1#1) : a = 1#1 ∨ b = 1#1 := by
  revert a b; decide

variable [Facts] (a0 a1 : FVec Ideal S8x4096x256 .bf16)

theorem top_gen (b : Fin 8) (e : Fin 256) :
    Host.reduce FloatOps.maximumf (Host.absf (extf .f32 a1 Facts.bitsLt_bf16_f32)) (constant S_ .f32 0xFF800000#32) Facts.reducesTo_S8x4096x256_S8x256_d1 Facts.h_S_ (ix2 b e)
    = Chan.top (fun n => (show EReal from a1 (ix3 b n e))) := by
  pointwise [Chan.top]

theorem cond_gen (y : FVec Ideal S8x256 .f32) (i : S8x256.Idx)
    (h : ori (cmpf .oeq y (broadcastInDim S8x256 ![] Facts.bcast_S_S8x256 (constant S_ .f32 0x00000000#32)))
      (andi (cmpf .oge y (broadcastInDim S8x256 ![] Facts.bcast_S_S8x256 (constant S_ .f32 0x05000000#32)))
        (cmpf .ole y (broadcastInDim S8x256 ![] Facts.bcast_S_S8x256 (constant S_ .f32 0x7F7F0000#32)))) i = 1#1) : Chan.Tame (y i) := by
  revert h
  pointwise
  intro h
  unfold Chan.Tame
  generalize y i = z at h ⊢
  obtain h | h := or_one _ _ h
  · exact Or.inl (Cert.Pre_tame.Use.of_one _ h)
  · obtain ⟨h1, h2⟩ := Cert.Pre_tame.Use.and_one _ _ h
    exact Or.inr ⟨Cert.Pre_tame.Use.of_one _ h1, Cert.Pre_tame.Use.of_one _ h2⟩

theorem read (hp : fn (F := Ideal) a0 a1 = fun _ => 1#1) (b : Fin 8) (e : Fin 256) : Chan.Tame (Chan.top fun n => (show EReal from a1 (ix3 b n e))) := by
  have h := congrFun hp (ix2 b e)
  unfold fn at h
  have t := cond_gen _ _ h
  dsimp only at t
  rw [top_gen] at t
  exact t

end Cert.Pre_tame_kv.Use
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelQ
public import proofs.«01_k».proof.Proof.Gen.KernelQ.Skeleton
public import proofs.«01_k».proof.Proof.Gen.KernelQ.Launch
public import proofs.«01_k».proof.Proof.Gen.KernelQ.Points
public import proofs.«01_k».proof.Proof.Gen.KernelQ.Frame
public import proofs.«01_k».proof.Proof.Gen.KernelQIdeal
public import proofs.«01_k».proof.Proof.Gen.KernelQIdeal.Skeleton
public import proofs.«01_k».proof.Proof.Gen.KernelQIdeal.Launch
public import proofs.«01_k».proof.Proof.Gen.KernelQIdeal.Points
public import proofs.«01_k».proof.Proof.Gen.KernelQIdeal.Frame
public import proofs.«01_k».proof.Proof.Gen.KernelQIdeal.Value
public import proofs.«01_k».proof.Proof.Gen.KernelKV
public import proofs.«01_k».proof.Proof.Gen.KernelKV.Skeleton
public import proofs.«01_k».proof.Proof.Gen.KernelKV.Loops
public import proofs.«01_k».proof.Proof.Gen.KernelKV.Launch
public import proofs.«01_k».proof.Proof.Gen.KernelKV.Points
public import proofs.«01_k».proof.Proof.Gen.KernelKV.Frame
public import proofs.«01_k».proof.Proof.Gen.KernelKVIdeal
public import proofs.«01_k».proof.Proof.Gen.KernelKVIdeal.Skeleton
public import proofs.«01_k».proof.Proof.Gen.KernelKVIdeal.Loops
public import proofs.«01_k».proof.Proof.Gen.KernelKVIdeal.Launch
public import proofs.«01_k».proof.Proof.Gen.KernelKVIdeal.Points
public import proofs.«01_k».proof.Proof.Gen.KernelKVIdeal.Frame
public import proofs.«01_k».proof.Proof.Gen.KernelKVIdeal.Value
public import proofs.«01_k».proof.Proof.Gen.ReferenceKVIdeal
public import proofs.«01_k».proof.Proof.Gen.ReferenceKVIdeal.Skeleton
public import proofs.«01_k».proof.Proof.Gen.ReferenceKVIdeal.Launch
public import proofs.«01_k».proof.Proof.Gen.ReferenceKVIdeal.Points
public import proofs.«01_k».proof.Proof.Gen.ReferenceKVIdeal.Frame
public import proofs.«01_k».proof.Proof.Gen.ReferenceKVIdeal.Value
public import proofs.«01_k».proof.Proof.Gen.ReferenceQIdeal
public import proofs.«01_k».proof.Proof.Gen.ReferenceQIdeal.Skeleton
public import proofs.«01_k».proof.Proof.Gen.ReferenceQIdeal.Launch
public import proofs.«01_k».proof.Proof.Gen.ReferenceQIdeal.Points
public import proofs.«01_k».proof.Proof.Gen.ReferenceQIdeal.Frame
public import proofs.«01_k».proof.Proof.Gen.ReferenceQIdeal.Value
public import proofs.«01_k».proof.Proof.Whole
public import proofs.«01_k».proof.Proof.BitsWhole
public import proofs.«01_k».proof.Proof.Widen
public import proofs.«01_k».proof.Proof.Final
public import proofs.«01_k».proof.Proof.QFinal
public import proofs.«01_k».proof.Proof.KVFinal
public import proofs.«01_k».proof.Proof.TameKV
public import Idealize.ShloMosaic.Adequacy
public import Idealize.ShloMosaic.Init

@[expose] public section

noncomputable section

namespace Cert.Proof

open Idealize.ShloMosaic Idealize.SL.Sem Cert.Kernel

set_option maxRecDepth 16384 in
/-- The reference's result over the kernel's arguments. -/
theorem reference_result (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v37 m c
      = Cert.KernelIdeal.Value.REF (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) := by
  unfold Cert.ReferenceIdeal.Value.res_main_v37
  rw [Cert.ReferenceIdeal.Attention.widened_q, Cert.ReferenceIdeal.Attention.widened_k, Cert.ReferenceIdeal.Attention.widened_v]
  rfl

/-- The kernel and the reference end with the same result. -/
theorem algebraic : Cert.algebraic_KernelIdeal_ReferenceIdeal_pre_tame (hKernelIdeal := Cert.KernelIdeal.Gen.facts)
    (hReferenceIdeal := Cert.ReferenceIdeal.Gen.facts) (hPre_tame := Cert.Pre_tame.Use.facts) := by
  pair_intro
  · run_from Cert.KernelIdeal.Body.run_main m g
  · run_from Cert.ReferenceIdeal.Value.run m' g'
    obtain ⟨h0, h1, h2, h3, h4, h5⟩ := hagree c
    rw [reference_result, h0, h1, h2, h3, h4, h5]
    exact (@Cert.KernelIdeal.Value.final m c Cert.Pre_tame.Use.facts (hpre c)).symm

set_option maxRecDepth 16384 in
/-- The query quantiser and its reference end with the same codes and scales. -/
theorem algebraic_q : Cert.algebraic_KernelQIdeal_ReferenceQIdeal (hKernelQIdeal := Cert.KernelQIdeal.Gen.facts)
    (hReferenceQIdeal := Cert.ReferenceQIdeal.Gen.facts) := by
  pair_intro
  · run_from Cert.KernelQIdeal.Value.run_blocks m g
  · refine (θ_run Cert.ReferenceQIdeal.defs _ _).mono (fun r h c => ?_) (Cert.ReferenceQIdeal.Row.run m' g')
    obtain ⟨h0, h1, h2⟩ := h c
    have e0 := (congrArg (fun A => Cert.ReferenceQIdeal.Gen.k0_pay1 (F := Ideal) (Cert.ReferenceQIdeal.Row.quotients A)) (hagree c)).trans
        (Cert.KernelQIdeal.Row.final_codes m c).symm
    have e1 := (congrArg Cert.ReferenceQIdeal.Row.scalesT (hagree c)).trans (Cert.KernelQIdeal.Row.final_scales m c).symm
    exact ⟨h0.trans e0, h1.trans e1, h2⟩

set_option maxRecDepth 16384 in
/-- The key/value quantiser and its reference end with the same codes and scales. -/
theorem algebraic_kv : Cert.algebraic_KernelKVIdeal_ReferenceKVIdeal_pre_tame_kv (hKernelKVIdeal := Cert.KernelKVIdeal.Gen.facts)
    (hReferenceKVIdeal := Cert.ReferenceKVIdeal.Gen.facts) (hPre_tame_kv := Cert.Pre_tame_kv.Use.facts) := by
  pair_intro
  · run_from Cert.KernelKVIdeal.Value.run_blocks m g
  · refine (θ_run Cert.ReferenceKVIdeal.defs _ _).mono (fun r h c => ?_) (Cert.ReferenceKVIdeal.Row.run m' g')
    obtain ⟨h0, h1, h2, h3, h4, h5, h6⟩ := h c
    obtain ⟨a0, a1⟩ := hagree c
    have hT := @Cert.Pre_tame_kv.Use.read Cert.Pre_tame_kv.Use.facts _ _ (hpre c)
    have e0 := (congrArg (fun A => Cert.ReferenceKVIdeal.Gen.k0_pay1 (F := Ideal) (Cert.ReferenceKVIdeal.Row.quotients A)) a0).trans
        (Cert.KernelKVIdeal.Row.final_keyCodes m c).symm
    have e1 := (congrArg Cert.ReferenceKVIdeal.Row.scalesT a0).trans (Cert.KernelKVIdeal.Row.final_keyScales m c).symm
    have e2 := (congrArg (fun A => Cert.ReferenceKVIdeal.Gen.k0_pay2 (F := Ideal) (Cert.ReferenceKVIdeal.Row.scaled A)) a1).trans
        (Cert.KernelKVIdeal.Row.final_valueCodes m c hT).symm
    have e3 := (congrArg Cert.ReferenceKVIdeal.Row.chanScales a1).trans (Cert.KernelKVIdeal.Row.final_valueScales m c hT).symm
    have e4 := (congrArg (fun A => Cert.ReferenceKVIdeal.Gen.k0_pay3 (F := Ideal) (Cert.ReferenceKVIdeal.Row.turned A)) a1).trans
        (Cert.KernelKVIdeal.Row.final_valueTurned m c hT).symm
    exact ⟨h0.trans e0, h1.trans e1, h2.trans e2, h3.trans e3, h4.trans e4, h5, h6⟩

theorem claim : Cert.Claim := ⟨Cert.Kernel.Gen.facts, Cert.KernelIdeal.Gen.facts, Cert.ReferenceIdeal.Gen.facts,
  Cert.KernelQ.Gen.facts, Cert.KernelQIdeal.Gen.facts, Cert.ReferenceQIdeal.Gen.facts,
  Cert.KernelKV.Gen.facts, Cert.KernelKVIdeal.Gen.facts, Cert.ReferenceKVIdeal.Gen.facts, Cert.Pre_tame.Use.facts, Cert.Pre_tame_kv.Use.facts,
  fun m ρ _ => Cert.Kernel.Body.frame m ρ, fun m ρ _ => Cert.KernelIdeal.Body.frame m ρ, fun m ρ _ => Cert.KernelIdeal.Body.frame m ρ,
  fun m ρ _ => Cert.ReferenceIdeal.Gen.frame m ρ, fun m ρ _ => Cert.ReferenceIdeal.Gen.frame m ρ,
  fun m ρ _ => Cert.KernelQ.Gen.frame m ρ, fun m ρ _ => Cert.KernelQIdeal.Gen.frame m ρ, fun m ρ _ => Cert.ReferenceQIdeal.Gen.frame m ρ,
  fun m ρ _ => Cert.KernelKV.Gen.frame m ρ, fun m ρ _ => Cert.KernelKVIdeal.Gen.frame m ρ, fun m ρ _ => Cert.KernelKVIdeal.Gen.frame m ρ,
  fun m ρ _ => Cert.ReferenceKVIdeal.Gen.frame m ρ, fun m ρ _ => Cert.ReferenceKVIdeal.Gen.frame m ρ,
  IdealRules.named_const.statement Cert.KernelIdeal.κ "log2e" .f32 0x3FB8AA3B#32 (((Real.log 2)⁻¹ : ℝ) : EReal) rfl, algebraic,
  trivial, algebraic_q, trivial, algebraic_kv⟩

end Cert.Proof

end
